-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v82_0)) (v1 : (c : Dev Cert.KernelIdeal.nD) → Buf (Elt Ideal) ((c.tc : Thread Cert.KernelIdeal.nD Cert.KernelIdeal.τ).loc Cert.KernelIdeal.main_v82_1)) (v2 : (c : Dev Cert.KernelIdeal.nD) → Buf (Elt Ideal) ((c.tc : Thread Cert.KernelIdeal.nD Cert.KernelIdeal.τ).loc Cert.KernelIdeal.main_v82_2)) (v3 : (c : Dev Cert.KernelIdeal.nD) → Buf (Elt Ideal) ((c.tc : Thread Cert.KernelIdeal.nD Cert.KernelIdeal.τ).loc Cert.KernelIdeal.main_v82_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82_0) = v0 c
          ∧ r.2.mem ((c.tc : Thread Cert.KernelIdeal.nD Cert.KernelIdeal.τ).loc Cert.KernelIdeal.main_v82_1) = v1 c
          ∧ r.2.mem ((c.tc : Thread Cert.KernelIdeal.nD Cert.KernelIdeal.τ).loc Cert.KernelIdeal.main_v82_2) = v2 c
          ∧ r.2.mem ((c.tc : Thread Cert.KernelIdeal.nD Cert.KernelIdeal.τ).loc Cert.KernelIdeal.main_v82_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v68) = v0 c
          ∧ r.2.mem ((c.tc : Thread Cert.Reference7Ideal.nD Cert.Reference7Ideal.τ).loc Cert.Reference7Ideal.main_v51) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_v18) = v2 c
          ∧ r.2.mem ((c.tc : Thread Cert.Reference8Ideal.nD Cert.Reference8Ideal.τ).loc Cert.Reference8Ideal.main_v19) = v3 c
          ∧ r.2.mem ((c.tc : Thread Cert.Reference8Ideal.nD Cert.Reference8Ideal.τ).loc Cert.Reference8Ideal.main_v20) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v3) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v7) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x16x64 : Shape := ⟨3, ![8192, 16, 64]⟩
abbrev S8192x16 : Shape := ⟨2, ![8192, 16]⟩
abbrev S_ : Shape := ⟨0, ![]⟩

class Facts : Prop where
  bcast_S_S8192x16x64 : S_.BroadcastsInDim S8192x16x64 (![] : Fin 0 → Fin S8192x16x64.rank)
  reducesTo_S8192x16x64_S_d0_1_2 : S8192x16x64.ReducesTo [0, 1, 2] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x16x64 .f32) (main_v13 : IVec S_ 1) (main_v16 : IVec S8192x16 1) : IVec S_ 1 :=
  let main_c_5 : IVec S_ 1 := constantI S_ 1 1#1
  let main_v17 : IVec S_ 1 := (fun x v => Host.reduce IntOp.andi x v reducesTo_S8192x16_S_d0_1 h_S_) main_v16 main_c_5
  let main_v18 : IVec S_ 1 := andi main_v13 main_v17
  let main_v19 : FVec F S8192x16x64 .f32 := Host.absf main_arg4
  let main_cst_6 : FVec F S_ .f32 := constant S_ .f32 0x7F800000#32
  let main_v20 : FVec F S8192x16x64 .f32 := broadcastInDim S8192x16x64 ![] bcast_S_S8192x16x64 main_cst_6
  let main_v21 : IVec S8192x16x64 1 := cmpf .olt main_v19 main_v20
  let main_c_7 : IVec S_ 1 := constantI S_ 1 1#1
  let main_v22 : IVec S_ 1 := (fun x v => Host.reduce IntOp.andi x v reducesTo_S8192x16x64_S_d0_1_2 h_S_) main_v21 main_c_7
  let main_v23 : IVec S_ 1 := andi main_v18 main_v22
  main_v23

def fn {F : FTy → Type} [FloatOps F] (main_arg0 : FVec F S8192x16x64 .f32) (main_arg1 : FVec F S8192x16x64 .f32) (main_arg2 : FVec F S8192x16x64 .f32) (main_arg3 : FVec F S8192x16 .f32) (main_arg4 : FVec F S8192x16x64 .f32) : IVec S_ 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_c : IVec S_ 1 := constantI S_ 1 1#1
  let main_v3 : IVec S_ 1 := (fun x v => Host.reduce IntOp.andi x v reducesTo_S8192x16x64_S_d0_1_2 h_S_) main_v2 main_c
  let main_v4 : FVec F S8192x16x64 .f32 := Host.absf main_arg1
  let main_cst_0 : FVec F S_ .f32 := constant S_ .f32 0x7F800000#32
  let main_v5 : FVec F S8192x16x64 .f32 := broadcastInDim S8192x16x64 ![] bcast_S_S8192x16x64 main_cst_0
  let main_v6 : IVec S8192x16x64 1 := cmpf .olt main_v4 main_v5
  let main_c_1 : IVec S_ 1 := constantI S_ 1 1#1
  let main_v7 : IVec S_ 1 := (fun x v => Host.reduce IntOp.andi x v reducesTo_S8192x16x64_S_d0_1_2 h_S_) main_v6 main_c_1
  let main_v8 : IVec S_ 1 := andi main_v3 main_v7
  let main_v9 : FVec F S8192x16x64 .f32 := Host.absf main_arg2
  let main_cst_2 : FVec F S_ .f32 := constant S_ .f32 0x7F800000#32
  let main_v10 : FVec F S8192x16x64 .f32 := broadcastInDim S8192x16x64 ![] bcast_S_S8192x16x64 main_cst_2
  let main_v11 : IVec S8192x16x64 1 := cmpf .olt main_v9 main_v10
  let main_c_3 : IVec S_ 1 := constantI S_ 1 1#1
  let main_v12 : IVec S_ 1 := (fun x v => Host.reduce IntOp.andi x v reducesTo_S8192x16x64_S_d0_1_2 h_S_) main_v11 main_c_3
  let main_v13 : IVec S_ 1 := andi main_v8 main_v12
  let main_v14 : FVec F S8192x16 .f32 := Host.absf main_arg3
  let main_cst_4 : FVec F S_ .f32 := constant S_ .f32 0x7F800000#32
  let main_v15 : FVec F S8192x16 .f32 := broadcastInDim S8192x16 ![] bcast_S_S8192x16 main_cst_4
  let main_v16 : IVec S8192x16 1 := cmpf .olt main_v14 main_v15
  fn_part1 (F := F) main_arg4 main_v13 main_v16
-- ==== Kernel.lean ====
abbrev S8192x16x64 : Shape := ⟨3, ![8192, 16, 64]⟩
abbrev S8192x16 : Shape := ⟨2, ![8192, 16]⟩
abbrev S16x8192x64 : Shape := ⟨3, ![16, 8192, 64]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192x3 : Shape := ⟨3, ![16, 8192, 3]⟩
abbrev S16x8192x58 : Shape := ⟨3, ![16, 8192, 58]⟩
abbrev S16x8192x128 : Shape := ⟨3, ![16, 8192, 128]⟩
abbrev S16x8192x61 : Shape := ⟨3, ![16, 8192, 61]⟩
abbrev S16x16 : Shape := ⟨2, ![16, 16]⟩
abbrev S8192x1024 : Shape := ⟨2, ![8192, 1024]⟩
abbrev S8192x128 : Shape := ⟨2, ![8192, 128]⟩
abbrev S2x8192x128 : Shape := ⟨3, ![2, 8192, 128]⟩
abbrev S2x512x128 : Shape := ⟨3, ![2, 512, 128]⟩
abbrev S512x128 : Shape := ⟨2, ![512, 128]⟩
abbrev S1x1 : Shape := ⟨2, ![1, 1]⟩
abbrev S1x512x128 : Shape := ⟨3, ![1, 512, 128]⟩
abbrev S512x512 : Shape := ⟨2, ![512, 512]⟩
abbrev S512x1 : Shape := ⟨2, ![512, 1]⟩

abbrev nBuf : Space → Nat
  | .hbm => 102
  | .vmem => 18
  | .smem => 1
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S8192x16x64, .f32⟩
  | .hbm, ⟨3, _⟩ => ⟨S8192x16, .f32⟩
  | .hbm, ⟨4, _⟩ => ⟨S8192x16x64, .f32⟩
  | .hbm, ⟨5, _⟩ => ⟨S16x8192x64, .f32⟩
  | .hbm, ⟨6, _⟩ => ⟨S16x8192x64, .f32⟩
  | .hbm, ⟨7, _⟩ => ⟨S16x8192x64, .f32⟩
  | .hbm, ⟨8, _⟩ => ⟨S16x8192x64, .f32⟩
  | .hbm, ⟨9, _⟩ => ⟨S16x8192, .f32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S16x8192x1, .f32⟩
  | .hbm, ⟨15, _⟩ => ⟨S16x8192x8192, .f32⟩
  | .hbm, ⟨16, _⟩ => ⟨S16x8192x8192, .f32⟩
  | .hbm, ⟨17, _⟩ => ⟨S16x1x8192, .f32⟩
  | .hbm, ⟨18, _⟩ => ⟨S16x8192x8192, .f32⟩
  | .hbm, ⟨19, _⟩ => ⟨S16x8192x8192, .f32⟩
  | .hbm, ⟨20, _⟩ => ⟨S8192, .i32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S16x8192x8192, .i1⟩
  | .hbm, ⟨27, _⟩ => ⟨S_, .f32⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S16x8192x1, .f32⟩
  | .hbm, ⟨39, _⟩ => ⟨S16x8192x8192, .f32⟩
  | .hbm, ⟨40, _⟩ => ⟨S16x8192x8192, .f32⟩
  | .hbm, ⟨41, _⟩ => ⟨S16x8192x64, .f32⟩
  | .hbm, ⟨42, _⟩ => ⟨S16x8192x64, .f32⟩
  | .hbm, ⟨43, _⟩ => ⟨S_, .f32⟩
  | .hbm, ⟨44, _⟩ => ⟨S16x8192, .f32⟩
  | .hbm, ⟨45, _⟩ => ⟨S16x8192x1, .f32⟩
  | .hbm, ⟨46, _⟩ => ⟨S16x8192x1, .f32⟩
  | .hbm, ⟨47, _⟩ => ⟨S16x8192x1, .f32⟩
  | .hbm, ⟨48, _⟩ => ⟨S16x8192x1, .f32⟩
  | .hbm, ⟨49, _⟩ => ⟨S_, .f32⟩
  | .hbm, ⟨50, _⟩ => ⟨S16x8192x3, .f32⟩
  | .hbm, ⟨51, _⟩ => ⟨S_, .f32⟩
  | .hbm, ⟨52, _⟩ => ⟨S16x8192x64, .f32⟩
  | .hbm, ⟨53, _⟩ => ⟨S16x8192x64, .f32⟩
  | .hbm, ⟨54, _⟩ => ⟨S16x8192x1, .f32⟩
  | .hbm, ⟨55, _⟩ => ⟨S16x8192x1, .bf16⟩
  | .hbm, ⟨56, _⟩ => ⟨S16x8192x1, .f32⟩
  | .hbm, ⟨57, _⟩ => ⟨S16x8192x1, .f32⟩
  | .hbm, ⟨58, _⟩ => ⟨S16x8192x1, .bf16⟩
  | .hbm, ⟨59, _⟩ => ⟨S16x8192x1, .f32⟩
  | .hbm, ⟨60, _⟩ => ⟨S16x8192x1, .f32⟩
  | .hbm, ⟨61, _⟩ => ⟨S16x8192x1, .bf16⟩
  | .hbm, ⟨62, _⟩ => ⟨S16x8192x1, .f32⟩
  | .hbm, ⟨63, _⟩ => ⟨S_, .f32⟩
  | .hbm, ⟨64, _⟩ => ⟨S16x8192x58, .f32⟩
  | .hbm, ⟨65, _⟩ => ⟨S16x8192x128, .f32⟩
  | .hbm, ⟨66, _⟩ => ⟨S16x8192x128, .bf16⟩
  | .hbm, ⟨67, _⟩ => ⟨S16x8192x1, .f32⟩
  | .hbm, ⟨68, _⟩ => ⟨S16x8192x1, .bf16⟩
  | .hbm, ⟨69, _⟩ => ⟨S16x8192x1, .f32⟩
  | .hbm, ⟨70, _⟩ => ⟨S16x8192x1, .f32⟩
  | .hbm, ⟨71, _⟩ => ⟨S16x8192x1, .bf16⟩
  | .hbm, ⟨72, _⟩ => ⟨S16x8192x1, .f32⟩
  | .hbm, ⟨73, _⟩ => ⟨S16x8192x1, .f32⟩
  | .hbm, ⟨74, _⟩ => ⟨S16x8192x1, .bf16⟩
  | .hbm, ⟨75, _⟩ => ⟨S16x8192x1, .f32⟩
  | .hbm, ⟨76, _⟩ => ⟨S_, .f32⟩
  | .hbm, ⟨77, _⟩ => ⟨S16x8192x58, .f32⟩
  | .hbm, ⟨78, _⟩ => ⟨S16x8192x128, .f32⟩
  | .hbm, ⟨79, _⟩ => ⟨S16x8192x128, .bf16⟩
  | .hbm, ⟨80, _⟩ => ⟨S_, .f32⟩
  | .hbm, ⟨81, _⟩ => ⟨S16x8192x61, .f32⟩
  | .hbm, ⟨82, _⟩ => ⟨S16x8192x128, .f32⟩
  | .hbm, ⟨83, _⟩ => ⟨S16x8192x128, .bf16⟩
  | .hbm, ⟨84, _⟩ => ⟨S16x8192x1, .f32⟩
  | .hbm, ⟨85, _⟩ => ⟨S16x8192x1, .bf16⟩
  | .hbm, ⟨86, _⟩ => ⟨S16x8192x1, .f32⟩
  | .hbm, ⟨87, _⟩ => ⟨S16x8192x1, .f32⟩
  | .hbm, ⟨88, _⟩ => ⟨S16x8192x1, .bf16⟩
  | .hbm, ⟨89, _⟩ => ⟨S16x8192x1, .f32⟩
  | .hbm, ⟨90, _⟩ => ⟨S16x8192x1, .f32⟩
  | .hbm, ⟨91, _⟩ => ⟨S16x8192x1, .bf16⟩
  | .hbm, ⟨92, _⟩ => ⟨S16x8192x1, .f32⟩
  | .hbm, ⟨93, _⟩ => ⟨S_, .f32⟩
  | .hbm, ⟨94, _⟩ => ⟨S16x8192x61, .f32⟩
  | .hbm, ⟨95, _⟩ => ⟨S16x8192x128, .f32⟩
  | .hbm, ⟨96, _⟩ => ⟨S16x8192x128, .bf16⟩
  | .hbm, ⟨97, _⟩ => ⟨S_, .i32⟩
  | .hbm, ⟨98, _⟩ => ⟨S8192x1024, .bf16⟩
  | .hbm, ⟨99, _⟩ => ⟨S8192x1024, .bf16⟩
  | .hbm, ⟨100, _⟩ => ⟨S8192x1024, .bf16⟩
  | .hbm, ⟨101, _⟩ => ⟨S8192x128, .f32⟩
  | .local _ .vmem, ⟨0, _⟩ => ⟨S2x8192x128, .bf16⟩
  | .local _ .vmem, ⟨1, _⟩ => ⟨S2x8192x128, .bf16⟩
  | .local _ .vmem, ⟨2, _⟩ => ⟨S2x8192x128, .bf16⟩
  | .local _ .vmem, ⟨3, _⟩ => ⟨S2x8192x128, .bf16⟩
  | .local _ .vmem, ⟨4, _⟩ => ⟨S2x512x128, .bf16⟩
  | .local _ .vmem, ⟨5, _⟩ => ⟨S2x512x128, .bf16⟩
  | .local _ .vmem, ⟨6, _⟩ => ⟨S2x512x128, .bf16⟩
  | .local _ .vmem, ⟨7, _⟩ => ⟨S2x512x128, .bf16⟩
  | .local _ .vmem, ⟨8, _⟩ => ⟨S8192x128, .bf16⟩
  | .local _ .vmem, ⟨9, _⟩ => ⟨S8192x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S8192x128, .f32⟩
  | .local _ .vmem, ⟨15, _⟩ => ⟨S2x8192x128, .f32⟩
  | .local _ .vmem, ⟨16, _⟩ => ⟨S2x512x128, .f32⟩
  | .local _ .vmem, ⟨17, _⟩ => ⟨S2x512x128, .f32⟩
  | .local _ .smem, ⟨0, _⟩ => ⟨S16x16, .i32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_9 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_c : Ref sig .tc := ⟨.hbm, 97, rfl⟩
abbrev main_v82_0 : Ref sig .tc := ⟨.hbm, 98, rfl⟩
abbrev main_v82_1 : Ref sig .tc := ⟨.hbm, 99, rfl⟩
abbrev main_v82_2 : Ref sig .tc := ⟨.hbm, 100, rfl⟩
abbrev main_v82_3 : Ref sig .tc := ⟨.hbm, 101, rfl⟩
abbrev main_v81 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_v81.idx], fun | 0 => main_v81.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_10 : BitVec 32) : Fin 2 → Nat :=
  let c2_i32 : BitVec 32 := 2#32
  let arg0 : BitVec 32 := BitVec.ofNat 32 (i 0).val
  let v16 : BitVec 32 := Scalar.muli c2_i32 arg0
  let v17 : BitVec 32 := Scalar.addi v16 c0_i32_10
  let v18 : Index := Scalar.indexCast v17
  let arg1 : BitVec 32 := BitVec.ofNat 32 (i 1).val
  let v19 : Index := Scalar.indexCast arg1
  ![v18.toNat, v19.toNat]
def k0_mult1 (i : grid0.Coords) : BitVec 32 :=
  let arg1 : BitVec 32 := BitVec.ofNat 32 (i 1).val
  let c0_i32_15 : BitVec 32 := 0#32
  let v30 : BitVec 1 := Scalar.cmpi .sgt arg1 c0_i32_15
  let v31 : BitVec 32 := Scalar.extui v30
  let c0_i32_16 : BitVec 32 := 0#32
  let v32 : BitVec 1 := Scalar.cmpi .slt arg1 c0_i32_16
  let v33 : BitVec 32 := Scalar.extui v32
  let v34 : BitVec 32 := Scalar.subi v31 v33
  let c1_i32_14 : BitVec 32 := 1#32
  let c0_i32_17 : BitVec 32 := 0#32
  let v35 : BitVec 1 := Scalar.cmpi .sgt c1_i32_14 c0_i32_17
  let v36 : BitVec 32 := Scalar.extui v35
  let c0_i32_18 : BitVec 32 := 0#32
  let v37 : BitVec 1 := Scalar.cmpi .slt c1_i32_14 c0_i32_18
  let v38 : BitVec 32 := Scalar.extui v37
  let v39 : BitVec 32 := Scalar.subi v36 v38
  let v40 : BitVec 1 := Scalar.cmpi .ne v34 v39
  let v41 : BitVec 32 := Scalar.remsi arg1 c1_i32_14
  let c0_i32_19 : BitVec 32 := 0#32
  let v42 : BitVec 1 := Scalar.cmpi .ne v41 c0_i32_19
  let v43 : BitVec 1 := Scalar.andi v40 v42
  let v29 : BitVec 32 := Scalar.divsi arg1 c1_i32_14
  let c1_i32_20 : BitVec 32 := 1#32
  let v44 : BitVec 32 := Scalar.subi v29 c1_i32_20
  let v45 : BitVec 32 := Scalar.select v43 v44 v29
  let c512_i32 : BitVec 32 := 512#32
  let v46 : BitVec 32 := Scalar.muli v45 c512_i32
  v46
def k0_off2 (i : grid0.Coords) : Fin 3 → Nat :=
  let c0_21 : Index := 0#32
  let arg1 : BitVec 32 := BitVec.ofNat 32 (i 1).val
  let c0_i32_15 : BitVec 32 := 0#32
  let v30 : BitVec 1 := Scalar.cmpi .sgt arg1 c0_i32_15
  let v31 : BitVec 32 := Scalar.extui v30
  let c0_i32_16 : BitVec 32 := 0#32
  let v32 : BitVec 1 := Scalar.cmpi .slt arg1 c0_i32_16
  let v33 : BitVec 32 := Scalar.extui v32
  let v34 : BitVec 32 := Scalar.subi v31 v33
  let c1_i32_14 : BitVec 32 := 1#32
  let c0_i32_17 : BitVec 32 := 0#32
  let v35 : BitVec 1 := Scalar.cmpi .sgt c1_i32_14 c0_i32_17
  let v36 : BitVec 32 := Scalar.extui v35
  let c0_i32_18 : BitVec 32 := 0#32
  let v37 : BitVec 1 := Scalar.cmpi .slt c1_i32_14 c0_i32_18
  let v38 : BitVec 32 := Scalar.extui v37
  let v39 : BitVec 32 := Scalar.subi v36 v38
  let v40 : BitVec 1 := Scalar.cmpi .ne v34 v39
  let v41 : BitVec 32 := Scalar.remsi arg1 c1_i32_14
  let c0_i32_19 : BitVec 32 := 0#32
  let v42 : BitVec 1 := Scalar.cmpi .ne v41 c0_i32_19
  let v43 : BitVec 1 := Scalar.andi v40 v42
  let v29 : BitVec 32 := Scalar.divsi arg1 c1_i32_14
  let c1_i32_20 : BitVec 32 := 1#32
  let v44 : BitVec 32 := Scalar.subi v29 c1_i32_20
  let v45 : BitVec 32 := Scalar.select v43 v44 v29
  let c512_i32 : BitVec 32 := 512#32
  let v46 : BitVec 32 := Scalar.muli v45 c512_i32
  let v47 : BitVec 32 := v46
  let v48 : Index := Scalar.indexCast v47
  let c0_22 : Index := 0#32
  ![0, v48.toNat, 0]
def k0_off3 (i : grid0.Coords) : Fin 3 → Nat :=
  let c1 : Index := 1#32
  let arg1 : BitVec 32 := BitVec.ofNat 32 (i 1).val
  let c0_i32_15 : BitVec 32 := 0#32
  let v30 : BitVec 1 := Scalar.cmpi .sgt arg1 c0_i32_15
  let v31 : BitVec 32 := Scalar.extui v30
  let c0_i32_16 : BitVec 32 := 0#32
  let v32 : BitVec 1 := Scalar.cmpi .slt arg1 c0_i32_16
  let v33 : BitVec 32 := Scalar.extui v32
  let v34 : BitVec 32 := Scalar.subi v31 v33
  let c1_i32_14 : BitVec 32 := 1#32
  let c0_i32_17 : BitVec 32 := 0#32
  let v35 : BitVec 1 := Scalar.cmpi .sgt c1_i32_14 c0_i32_17
  let v36 : BitVec 32 := Scalar.extui v35
  let c0_i32_18 : BitVec 32 := 0#32
  let v37 : BitVec 1 := Scalar.cmpi .slt c1_i32_14 c0_i32_18
  let v38 : BitVec 32 := Scalar.extui v37
  let v39 : BitVec 32 := Scalar.subi v36 v38
  let v40 : BitVec 1 := Scalar.cmpi .ne v34 v39
  let v41 : BitVec 32 := Scalar.remsi arg1 c1_i32_14
  let c0_i32_19 : BitVec 32 := 0#32
  let v42 : BitVec 1 := Scalar.cmpi .ne v41 c0_i32_19
  let v43 : BitVec 1 := Scalar.andi v40 v42
  let v29 : BitVec 32 := Scalar.divsi arg1 c1_i32_14
  let c1_i32_20 : BitVec 32 := 1#32
  let v44 : BitVec 32 := Scalar.subi v29 c1_i32_20
  let v45 : BitVec 32 := Scalar.select v43 v44 v29
  let c512_i32 : BitVec 32 := 512#32
  let v46 : BitVec 32 := Scalar.muli v45 c512_i32
  let v47 : BitVec 32 := v46
  let v54 : Index := Scalar.indexCast v47
  let c0_27 : Index := 0#32
  ![1, v54.toNat, 0]
@[reducible] def k0_t1_loop (i : grid0.Coords) (v20 : BitVec 32) (v26 : BitVec 32) : Scf.Loop 32 :=
  let arg1 : BitVec 32 := BitVec.ofNat 32 (i 1).val
  let c0_i32_15 : BitVec 32 := 0#32
  let v30 : BitVec 1 := Scalar.cmpi .sgt arg1 c0_i32_15
  let v31 : BitVec 32 := Scalar.extui v30
  let c0_i32_16 : BitVec 32 := 0#32
  let v32 : BitVec 1 := Scalar.cmpi .slt arg1 c0_i32_16
  let v33 : BitVec 32 := Scalar.extui v32
  let v34 : BitVec 32 := Scalar.subi v31 v33
  let c1_i32_14 : BitVec 32 := 1#32
  let c0_i32_17 : BitVec 32 := 0#32
  let v35 : BitVec 1 := Scalar.cmpi .sgt c1_i32_14 c0_i32_17
  let v36 : BitVec 32 := Scalar.extui v35
  let c0_i32_18 : BitVec 32 := 0#32
  let v37 : BitVec 1 := Scalar.cmpi .slt c1_i32_14 c0_i32_18
  let v38 : BitVec 32 := Scalar.extui v37
  let v39 : BitVec 32 := Scalar.subi v36 v38
  let v40 : BitVec 1 := Scalar.cmpi .ne v34 v39
  let v41 : BitVec 32 := Scalar.remsi arg1 c1_i32_14
  let c0_i32_19 : BitVec 32 := 0#32
  let v42 : BitVec 1 := Scalar.cmpi .ne v41 c0_i32_19
  let v43 : BitVec 1 := Scalar.andi v40 v42
  let v29 : BitVec 32 := Scalar.divsi arg1 c1_i32_14
  let c1_i32_20 : BitVec 32 := 1#32
  let v44 : BitVec 32 := Scalar.subi v29 c1_i32_20
  let v45 : BitVec 32 := Scalar.select v43 v44 v29
  let c1_i32_102 : BitVec 32 := 1#32
  let v162 : BitVec 32 := Scalar.addi v45 c1_i32_102
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v163 : BitVec 32 := Scalar.subi v28 v162
  let c1_i32_104 : BitVec 32 := 1#32
  let v165 : BitVec 32 := Scalar.divsi v163 c1_i32_104
  let v166 : BitVec 32 := Scalar.muli v165 c1_i32_104
  let v167 : BitVec 32 := Scalar.addi v162 v166
  let c1_i32_105 : BitVec 32 := 1#32
  ⟨v162, v167, c1_i32_105⟩

def k0_mult2 (i : grid0.Coords) (v20 : BitVec 32) (v26 : BitVec 32) (k0_t1 : Fin (k0_t1_loop i v20 v26).trips) : BitVec 32 :=
  let arg1 : BitVec 32 := BitVec.ofNat 32 (i 1).val
  let c0_i32_15 : BitVec 32 := 0#32
  let v30 : BitVec 1 := Scalar.cmpi .sgt arg1 c0_i32_15
  let v31 : BitVec 32 := Scalar.extui v30
  let c0_i32_16 : BitVec 32 := 0#32
  let v32 : BitVec 1 := Scalar.cmpi .slt arg1 c0_i32_16
  let v33 : BitVec 32 := Scalar.extui v32
  let v34 : BitVec 32 := Scalar.subi v31 v33
  let c1_i32_14 : BitVec 32 := 1#32
  let c0_i32_17 : BitVec 32 := 0#32
  let v35 : BitVec 1 := Scalar.cmpi .sgt c1_i32_14 c0_i32_17
  let v36 : BitVec 32 := Scalar.extui v35
  let c0_i32_18 : BitVec 32 := 0#32
  let v37 : BitVec 1 := Scalar.cmpi .slt c1_i32_14 c0_i32_18
  let v38 : BitVec 32 := Scalar.extui v37
  let v39 : BitVec 32 := Scalar.subi v36 v38
  let v40 : BitVec 1 := Scalar.cmpi .ne v34 v39
  let v41 : BitVec 32 := Scalar.remsi arg1 c1_i32_14
  let c0_i32_19 : BitVec 32 := 0#32
  let v42 : BitVec 1 := Scalar.cmpi .ne v41 c0_i32_19
  let v43 : BitVec 1 := Scalar.andi v40 v42
  let v29 : BitVec 32 := Scalar.divsi arg1 c1_i32_14
  let c1_i32_20 : BitVec 32 := 1#32
  let v44 : BitVec 32 := Scalar.subi v29 c1_i32_20
  let v45 : BitVec 32 := Scalar.select v43 v44 v29
  let c1_i32_102 : BitVec 32 := 1#32
  let v162 : BitVec 32 := Scalar.addi v45 c1_i32_102
  let c1_i32_105 : BitVec 32 := 1#32
  let arg14 : BitVec 32 := Scf.iv v162 c1_i32_105 k0_t1
  let c512_i32_150 : BitVec 32 := 512#32
  let v234 : BitVec 32 := Scalar.muli arg14 c512_i32_150
  v234
def k0_off4 (i : grid0.Coords) (v20 : BitVec 32) (v26 : BitVec 32) (k0_t1 : Fin (k0_t1_loop i v20 v26).trips) : Fin 3 → Nat :=
  let c0_151 : Index := 0#32
  let arg1 : BitVec 32 := BitVec.ofNat 32 (i 1).val
  let c0_i32_15 : BitVec 32 := 0#32
  let v30 : BitVec 1 := Scalar.cmpi .sgt arg1 c0_i32_15
  let v31 : BitVec 32 := Scalar.extui v30
  let c0_i32_16 : BitVec 32 := 0#32
  let v32 : BitVec 1 := Scalar.cmpi .slt arg1 c0_i32_16
  let v33 : BitVec 32 := Scalar.extui v32
  let v34 : BitVec 32 := Scalar.subi v31 v33
  let c1_i32_14 : BitVec 32 := 1#32
  let c0_i32_17 : BitVec 32 := 0#32
  let v35 : BitVec 1 := Scalar.cmpi .sgt c1_i32_14 c0_i32_17
  let v36 : BitVec 32 := Scalar.extui v35
  let c0_i32_18 : BitVec 32 := 0#32
  let v37 : BitVec 1 := Scalar.cmpi .slt c1_i32_14 c0_i32_18
  let v38 : BitVec 32 := Scalar.extui v37
  let v39 : BitVec 32 := Scalar.subi v36 v38
  let v40 : BitVec 1 := Scalar.cmpi .ne v34 v39
  let v41 : BitVec 32 := Scalar.remsi arg1 c1_i32_14
  let c0_i32_19 : BitVec 32 := 0#32
  let v42 : BitVec 1 := Scalar.cmpi .ne v41 c0_i32_19
  let v43 : BitVec 1 := Scalar.andi v40 v42
  let v29 : BitVec 32 := Scalar.divsi arg1 c1_i32_14
  let c1_i32_20 : BitVec 32 := 1#32
  let v44 : BitVec 32 := Scalar.subi v29 c1_i32_20
  let v45 : BitVec 32 := Scalar.select v43 v44 v29
  let c1_i32_102 : BitVec 32 := 1#32
  let v162 : BitVec 32 := Scalar.addi v45 c1_i32_102
  let c1_i32_105 : BitVec 32 := 1#32
  let arg14 : BitVec 32 := Scf.iv v162 c1_i32_105 k0_t1
  let c512_i32_150 : BitVec 32 := 512#32
  let v234 : BitVec 32 := Scalar.muli arg14 c512_i32_150
  let v235 : BitVec 32 := v234
  let v236 : Index := Scalar.indexCast v235
  let c0_152 : Index := 0#32
  ![0, v236.toNat, 0]
def k0_off5 (i : grid0.Coords) (v20 : BitVec 32) (v26 : BitVec 32) (k0_t1 : Fin (k0_t1_loop i v20 v26).trips) : Fin 3 → Nat :=
  let c1_157 : Index := 1#32
  let arg1 : BitVec 32 := BitVec.ofNat 32 (i 1).val
  let c0_i32_15 : BitVec 32 := 0#32
  let v30 : BitVec 1 := Scalar.cmpi .sgt arg1 c0_i32_15
  let v31 : BitVec 32 := Scalar.extui v30
  let c0_i32_16 : BitVec 32 := 0#32
  let v32 : BitVec 1 := Scalar.cmpi .slt arg1 c0_i32_16
  let v33 : BitVec 32 := Scalar.extui v32
  let v34 : BitVec 32 := Scalar.subi v31 v33
  let c1_i32_14 : BitVec 32 := 1#32
  let c0_i32_17 : BitVec 32 := 0#32
  let v35 : BitVec 1 := Scalar.cmpi .sgt c1_i32_14 c0_i32_17
  let v36 : BitVec 32 := Scalar.extui v35
  let c0_i32_18 : BitVec 32 := 0#32
  let v37 : BitVec 1 := Scalar.cmpi .slt c1_i32_14 c0_i32_18
  let v38 : BitVec 32 := Scalar.extui v37
  let v39 : BitVec 32 := Scalar.subi v36 v38
  let v40 : BitVec 1 := Scalar.cmpi .ne v34 v39
  let v41 : BitVec 32 := Scalar.remsi arg1 c1_i32_14
  let c0_i32_19 : BitVec 32 := 0#32
  let v42 : BitVec 1 := Scalar.cmpi .ne v41 c0_i32_19
  let v43 : BitVec 1 := Scalar.andi v40 v42
  let v29 : BitVec 32 := Scalar.divsi arg1 c1_i32_14
  let c1_i32_20 : BitVec 32 := 1#32
  let v44 : BitVec 32 := Scalar.subi v29 c1_i32_20
  let v45 : BitVec 32 := Scalar.select v43 v44 v29
  let c1_i32_102 : BitVec 32 := 1#32
  let v162 : BitVec 32 := Scalar.addi v45 c1_i32_102
  let c1_i32_105 : BitVec 32 := 1#32
  let arg14 : BitVec 32 := Scf.iv v162 c1_i32_105 k0_t1
  let c512_i32_150 : BitVec 32 := 512#32
  let v234 : BitVec 32 := Scalar.muli arg14 c512_i32_150
  let v235 : BitVec 32 := v234
  let v242 : Index := Scalar.indexCast v235
  let c0_158 : Index := 0#32
  ![1, v242.toNat, 0]
@[reducible] def k0_t2_loop (i : grid0.Coords) (v20 : BitVec 32) (v26 : BitVec 32) : Scf.Loop 32 :=
  let arg1 : BitVec 32 := BitVec.ofNat 32 (i 1).val
  let c0_i32_15 : BitVec 32 := 0#32
  let v30 : BitVec 1 := Scalar.cmpi .sgt arg1 c0_i32_15
  let v31 : BitVec 32 := Scalar.extui v30
  let c0_i32_16 : BitVec 32 := 0#32
  let v32 : BitVec 1 := Scalar.cmpi .slt arg1 c0_i32_16
  let v33 : BitVec 32 := Scalar.extui v32
  let v34 : BitVec 32 := Scalar.subi v31 v33
  let c1_i32_14 : BitVec 32 := 1#32
  let c0_i32_17 : BitVec 32 := 0#32
  let v35 : BitVec 1 := Scalar.cmpi .sgt c1_i32_14 c0_i32_17
  let v36 : BitVec 32 := Scalar.extui v35
  let c0_i32_18 : BitVec 32 := 0#32
  let v37 : BitVec 1 := Scalar.cmpi .slt c1_i32_14 c0_i32_18
  let v38 : BitVec 32 := Scalar.extui v37
  let v39 : BitVec 32 := Scalar.subi v36 v38
  let v40 : BitVec 1 := Scalar.cmpi .ne v34 v39
  let v41 : BitVec 32 := Scalar.remsi arg1 c1_i32_14
  let c0_i32_19 : BitVec 32 := 0#32
  let v42 : BitVec 1 := Scalar.cmpi .ne v41 c0_i32_19
  let v43 : BitVec 1 := Scalar.andi v40 v42
  let v29 : BitVec 32 := Scalar.divsi arg1 c1_i32_14
  let c1_i32_20 : BitVec 32 := 1#32
  let v44 : BitVec 32 := Scalar.subi v29 c1_i32_20
  let v45 : BitVec 32 := Scalar.select v43 v44 v29
  let c1_i32_102 : BitVec 32 := 1#32
  let v162 : BitVec 32 := Scalar.addi v45 c1_i32_102
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v163 : BitVec 32 := Scalar.subi v28 v162
  let c1_i32_104 : BitVec 32 := 1#32
  let v165 : BitVec 32 := Scalar.divsi v163 c1_i32_104
  let v166 : BitVec 32 := Scalar.muli v165 c1_i32_104
  let v167 : BitVec 32 := Scalar.addi v162 v166
  let v164 : BitVec 32 := Scalar.addi v162 v163
  let c1_i32_106 : BitVec 32 := 1#32
  ⟨v167, v164, c1_i32_106⟩
def k0_mult3 (i : grid0.Coords) (v20 : BitVec 32) (v26 : BitVec 32) (k0_t2 : Fin (k0_t2_loop i v20 v26).trips) : BitVec 32 :=
  let arg1 : BitVec 32 := BitVec.ofNat 32 (i 1).val
  let c0_i32_15 : BitVec 32 := 0#32
  let v30 : BitVec 1 := Scalar.cmpi .sgt arg1 c0_i32_15
  let v31 : BitVec 32 := Scalar.extui v30
  let c0_i32_16 : BitVec 32 := 0#32
  let v32 : BitVec 1 := Scalar.cmpi .slt arg1 c0_i32_16
  let v33 : BitVec 32 := Scalar.extui v32
  let v34 : BitVec 32 := Scalar.subi v31 v33
  let c1_i32_14 : BitVec 32 := 1#32
  let c0_i32_17 : BitVec 32 := 0#32
  let v35 : BitVec 1 := Scalar.cmpi .sgt c1_i32_14 c0_i32_17
  let v36 : BitVec 32 := Scalar.extui v35
  let c0_i32_18 : BitVec 32 := 0#32
  let v37 : BitVec 1 := Scalar.cmpi .slt c1_i32_14 c0_i32_18
  let v38 : BitVec 32 := Scalar.extui v37
  let v39 : BitVec 32 := Scalar.subi v36 v38
  let v40 : BitVec 1 := Scalar.cmpi .ne v34 v39
  let v41 : BitVec 32 := Scalar.remsi arg1 c1_i32_14
  let c0_i32_19 : BitVec 32 := 0#32
  let v42 : BitVec 1 := Scalar.cmpi .ne v41 c0_i32_19
  let v43 : BitVec 1 := Scalar.andi v40 v42
  let v29 : BitVec 32 := Scalar.divsi arg1 c1_i32_14
  let c1_i32_20 : BitVec 32 := 1#32
  let v44 : BitVec 32 := Scalar.subi v29 c1_i32_20
  let v45 : BitVec 32 := Scalar.select v43 v44 v29
  let c1_i32_102 : BitVec 32 := 1#32
  let v162 : BitVec 32 := Scalar.addi v45 c1_i32_102
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v163 : BitVec 32 := Scalar.subi v28 v162
  let c1_i32_104 : BitVec 32 := 1#32
  let v165 : BitVec 32 := Scalar.divsi v163 c1_i32_104
  let v166 : BitVec 32 := Scalar.muli v165 c1_i32_104
  let v167 : BitVec 32 := Scalar.addi v162 v166
  let c1_i32_106 : BitVec 32 := 1#32
  let arg14 : BitVec 32 := Scf.iv v167 c1_i32_106 k0_t2
  let c512_i32_150 : BitVec 32 := 512#32
  let v234 : BitVec 32 := Scalar.muli arg14 c512_i32_150
  v234
def k0_off6 (i : grid0.Coords) (v20 : BitVec 32) (v26 : BitVec 32) (k0_t2 : Fin (k0_t2_loop i v20 v26).trips) : Fin 3 → Nat :=
  let c0_151 : Index := 0#32
  let arg1 : BitVec 32 := BitVec.ofNat 32 (i 1).val
  let c0_i32_15 : BitVec 32 := 0#32
  let v30 : BitVec 1 := Scalar.cmpi .sgt arg1 c0_i32_15
  let v31 : BitVec 32 := Scalar.extui v30
  let c0_i32_16 : BitVec 32 := 0#32
  let v32 : BitVec 1 := Scalar.cmpi .slt arg1 c0_i32_16
  let v33 : BitVec 32 := Scalar.extui v32
  let v34 : BitVec 32 := Scalar.subi v31 v33
  let c1_i32_14 : BitVec 32 := 1#32
  let c0_i32_17 : BitVec 32 := 0#32
  let v35 : BitVec 1 := Scalar.cmpi .sgt c1_i32_14 c0_i32_17
  let v36 : BitVec 32 := Scalar.extui v35
  let c0_i32_18 : BitVec 32 := 0#32
  let v37 : BitVec 1 := Scalar.cmpi .slt c1_i32_14 c0_i32_18
  let v38 : BitVec 32 := Scalar.extui v37
  let v39 : BitVec 32 := Scalar.subi v36 v38
  let v40 : BitVec 1 := Scalar.cmpi .ne v34 v39
  let v41 : BitVec 32 := Scalar.remsi arg1 c1_i32_14
  let c0_i32_19 : BitVec 32 := 0#32
  let v42 : BitVec 1 := Scalar.cmpi .ne v41 c0_i32_19
  let v43 : BitVec 1 := Scalar.andi v40 v42
  let v29 : BitVec 32 := Scalar.divsi arg1 c1_i32_14
  let c1_i32_20 : BitVec 32 := 1#32
  let v44 : BitVec 32 := Scalar.subi v29 c1_i32_20
  let v45 : BitVec 32 := Scalar.select v43 v44 v29
  let c1_i32_102 : BitVec 32 := 1#32
  let v162 : BitVec 32 := Scalar.addi v45 c1_i32_102
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v163 : BitVec 32 := Scalar.subi v28 v162
  let c1_i32_104 : BitVec 32 := 1#32
  let v165 : BitVec 32 := Scalar.divsi v163 c1_i32_104
  let v166 : BitVec 32 := Scalar.muli v165 c1_i32_104
  let v167 : BitVec 32 := Scalar.addi v162 v166
  let c1_i32_106 : BitVec 32 := 1#32
  let arg14 : BitVec 32 := Scf.iv v167 c1_i32_106 k0_t2
  let c512_i32_150 : BitVec 32 := 512#32
  let v234 : BitVec 32 := Scalar.muli arg14 c512_i32_150
  let v235 : BitVec 32 := v234
  let v236 : Index := Scalar.indexCast v235
  let c0_152 : Index := 0#32
  ![0, v236.toNat, 0]
def k0_off7 (i : grid0.Coords) (v20 : BitVec 32) (v26 : BitVec 32) (k0_t2 : Fin (k0_t2_loop i v20 v26).trips) : Fin 3 → Nat :=
  let c1_157 : Index := 1#32
  let arg1 : BitVec 32 := BitVec.ofNat 32 (i 1).val
  let c0_i32_15 : BitVec 32 := 0#32
  let v30 : BitVec 1 := Scalar.cmpi .sgt arg1 c0_i32_15
  let v31 : BitVec 32 := Scalar.extui v30
  let c0_i32_16 : BitVec 32 := 0#32
  let v32 : BitVec 1 := Scalar.cmpi .slt arg1 c0_i32_16
  let v33 : BitVec 32 := Scalar.extui v32
  let v34 : BitVec 32 := Scalar.subi v31 v33
  let c1_i32_14 : BitVec 32 := 1#32
  let c0_i32_17 : BitVec 32 := 0#32
  let v35 : BitVec 1 := Scalar.cmpi .sgt c1_i32_14 c0_i32_17
  let v36 : BitVec 32 := Scalar.extui v35
  let c0_i32_18 : BitVec 32 := 0#32
  let v37 : BitVec 1 := Scalar.cmpi .slt c1_i32_14 c0_i32_18
  let v38 : BitVec 32 := Scalar.extui v37
  let v39 : BitVec 32 := Scalar.subi v36 v38
  let v40 : BitVec 1 := Scalar.cmpi .ne v34 v39
  let v41 : BitVec 32 := Scalar.remsi arg1 c1_i32_14
  let c0_i32_19 : BitVec 32 := 0#32
  let v42 : BitVec 1 := Scalar.cmpi .ne v41 c0_i32_19
  let v43 : BitVec 1 := Scalar.andi v40 v42
  let v29 : BitVec 32 := Scalar.divsi arg1 c1_i32_14
  let c1_i32_20 : BitVec 32 := 1#32
  let v44 : BitVec 32 := Scalar.subi v29 c1_i32_20
  let v45 : BitVec 32 := Scalar.select v43 v44 v29
  let c1_i32_102 : BitVec 32 := 1#32
  let v162 : BitVec 32 := Scalar.addi v45 c1_i32_102
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v163 : BitVec 32 := Scalar.subi v28 v162
  let c1_i32_104 : BitVec 32 := 1#32
  let v165 : BitVec 32 := Scalar.divsi v163 c1_i32_104
  let v166 : BitVec 32 := Scalar.muli v165 c1_i32_104
  let v167 : BitVec 32 := Scalar.addi v162 v166
  let c1_i32_106 : BitVec 32 := 1#32
  let arg14 : BitVec 32 := Scf.iv v167 c1_i32_106 k0_t2
  let c512_i32_150 : BitVec 32 := 512#32
  let v234 : BitVec 32 := Scalar.muli arg14 c512_i32_150
  let v235 : BitVec 32 := v234
  let v242 : Index := Scalar.indexCast v235
  let c0_158 : Index := 0#32
  ![1, v242.toNat, 0]
@[reducible] def k0_t3_loop (v20 : BitVec 32) (v26 : BitVec 32) : Scf.Loop 32 :=
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v168 : BitVec 32 := Scalar.subi v21 v28
  let c1_i32_108 : BitVec 32 := 1#32
  let v170 : BitVec 32 := Scalar.divsi v168 c1_i32_108
  let v171 : BitVec 32 := Scalar.muli v170 c1_i32_108
  let v172 : BitVec 32 := Scalar.addi v28 v171
  let c1_i32_109 : BitVec 32 := 1#32
  ⟨v28, v172, c1_i32_109⟩
def k0_mult4 (v20 : BitVec 32) (v26 : BitVec 32) (k0_t3 : Fin (k0_t3_loop v20 v26).trips) : BitVec 32 :=
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let c1_i32_109 : BitVec 32 := 1#32
  let arg14 : BitVec 32 := Scf.iv v28 c1_i32_109 k0_t3
  let c512_i32_150 : BitVec 32 := 512#32
  let v234 : BitVec 32 := Scalar.muli arg14 c512_i32_150
  v234
def k0_off8 (v20 : BitVec 32) (v26 : BitVec 32) (k0_t3 : Fin (k0_t3_loop v20 v26).trips) : Fin 3 → Nat :=
  let c0_151 : Index := 0#32
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let c1_i32_109 : BitVec 32 := 1#32
  let arg14 : BitVec 32 := Scf.iv v28 c1_i32_109 k0_t3
  let c512_i32_150 : BitVec 32 := 512#32
  let v234 : BitVec 32 := Scalar.muli arg14 c512_i32_150
  let v235 : BitVec 32 := v234
  let v236 : Index := Scalar.indexCast v235
  let c0_152 : Index := 0#32
  ![0, v236.toNat, 0]
@[reducible] def k0_t4_loop (v20 : BitVec 32) (v26 : BitVec 32) : Scf.Loop 32 :=
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v168 : BitVec 32 := Scalar.subi v21 v28
  let c1_i32_108 : BitVec 32 := 1#32
  let v170 : BitVec 32 := Scalar.divsi v168 c1_i32_108
  let v171 : BitVec 32 := Scalar.muli v170 c1_i32_108
  let v172 : BitVec 32 := Scalar.addi v28 v171
  let v169 : BitVec 32 := Scalar.addi v28 v168
  let c1_i32_110 : BitVec 32 := 1#32
  ⟨v172, v169, c1_i32_110⟩
def k0_mult5 (v20 : BitVec 32) (v26 : BitVec 32) (k0_t4 : Fin (k0_t4_loop v20 v26).trips) : BitVec 32 :=
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v168 : BitVec 32 := Scalar.subi v21 v28
  let c1_i32_108 : BitVec 32 := 1#32
  let v170 : BitVec 32 := Scalar.divsi v168 c1_i32_108
  let v171 : BitVec 32 := Scalar.muli v170 c1_i32_108
  let v172 : BitVec 32 := Scalar.addi v28 v171
  let c1_i32_110 : BitVec 32 := 1#32
  let arg14 : BitVec 32 := Scf.iv v172 c1_i32_110 k0_t4
  let c512_i32_150 : BitVec 32 := 512#32
  let v234 : BitVec 32 := Scalar.muli arg14 c512_i32_150
  v234
def k0_off9 (v20 : BitVec 32) (v26 : BitVec 32) (k0_t4 : Fin (k0_t4_loop v20 v26).trips) : Fin 3 → Nat :=
  let c0_151 : Index := 0#32
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v168 : BitVec 32 := Scalar.subi v21 v28
  let c1_i32_108 : BitVec 32 := 1#32
  let v170 : BitVec 32 := Scalar.divsi v168 c1_i32_108
  let v171 : BitVec 32 := Scalar.muli v170 c1_i32_108
  let v172 : BitVec 32 := Scalar.addi v28 v171
  let c1_i32_110 : BitVec 32 := 1#32
  let arg14 : BitVec 32 := Scf.iv v172 c1_i32_110 k0_t4
  let c512_i32_150 : BitVec 32 := 512#32
  let v234 : BitVec 32 := Scalar.muli arg14 c512_i32_150
  let v235 : BitVec 32 := v234
  let v236 : Index := Scalar.indexCast v235
  let c0_152 : Index := 0#32
  ![0, v236.toNat, 0]
@[reducible] def k0_t5_loop (v20 : BitVec 32) (v26 : BitVec 32) : Scf.Loop 32 :=
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v173 : BitVec 32 := Scalar.subi v27 v28
  let c1_i32_112 : BitVec 32 := 1#32
  let v175 : BitVec 32 := Scalar.divsi v173 c1_i32_112
  let v176 : BitVec 32 := Scalar.muli v175 c1_i32_112
  let v177 : BitVec 32 := Scalar.addi v28 v176
  let c1_i32_113 : BitVec 32 := 1#32
  ⟨v28, v177, c1_i32_113⟩
def k0_mult6 (v20 : BitVec 32) (v26 : BitVec 32) (k0_t5 : Fin (k0_t5_loop v20 v26).trips) : BitVec 32 :=
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let c1_i32_113 : BitVec 32 := 1#32
  let arg14 : BitVec 32 := Scf.iv v28 c1_i32_113 k0_t5
  let c512_i32_150 : BitVec 32 := 512#32
  let v234 : BitVec 32 := Scalar.muli arg14 c512_i32_150
  v234
def k0_off10 (v20 : BitVec 32) (v26 : BitVec 32) (k0_t5 : Fin (k0_t5_loop v20 v26).trips) : Fin 3 → Nat :=
  let c1_151 : Index := 1#32
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let c1_i32_113 : BitVec 32 := 1#32
  let arg14 : BitVec 32 := Scf.iv v28 c1_i32_113 k0_t5
  let c512_i32_150 : BitVec 32 := 512#32
  let v234 : BitVec 32 := Scalar.muli arg14 c512_i32_150
  let v235 : BitVec 32 := v234
  let v236 : Index := Scalar.indexCast v235
  let c0_152 : Index := 0#32
  ![1, v236.toNat, 0]
@[reducible] def k0_t6_loop (v20 : BitVec 32) (v26 : BitVec 32) : Scf.Loop 32 :=
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v173 : BitVec 32 := Scalar.subi v27 v28
  let c1_i32_112 : BitVec 32 := 1#32
  let v175 : BitVec 32 := Scalar.divsi v173 c1_i32_112
  let v176 : BitVec 32 := Scalar.muli v175 c1_i32_112
  let v177 : BitVec 32 := Scalar.addi v28 v176
  let v174 : BitVec 32 := Scalar.addi v28 v173
  let c1_i32_114 : BitVec 32 := 1#32
  ⟨v177, v174, c1_i32_114⟩
def k0_mult7 (v20 : BitVec 32) (v26 : BitVec 32) (k0_t6 : Fin (k0_t6_loop v20 v26).trips) : BitVec 32 :=
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v173 : BitVec 32 := Scalar.subi v27 v28
  let c1_i32_112 : BitVec 32 := 1#32
  let v175 : BitVec 32 := Scalar.divsi v173 c1_i32_112
  let v176 : BitVec 32 := Scalar.muli v175 c1_i32_112
  let v177 : BitVec 32 := Scalar.addi v28 v176
  let c1_i32_114 : BitVec 32 := 1#32
  let arg14 : BitVec 32 := Scf.iv v177 c1_i32_114 k0_t6
  let c512_i32_150 : BitVec 32 := 512#32
  let v234 : BitVec 32 := Scalar.muli arg14 c512_i32_150
  v234
def k0_off11 (v20 : BitVec 32) (v26 : BitVec 32) (k0_t6 : Fin (k0_t6_loop v20 v26).trips) : Fin 3 → Nat :=
  let c1_151 : Index := 1#32
  let c1_i32 : BitVec 32 := 1#32
  let v21 : BitVec 32 := Scalar.addi v20 c1_i32
  let c1_i32_13 : BitVec 32 := 1#32
  let v27 : BitVec 32 := Scalar.addi v26 c1_i32_13
  let v28 : BitVec 32 := Scalar.minsi v21 v27
  let v173 : BitVec 32 := Scalar.subi v27 v28
  let c1_i32_112 : BitVec 32 := 1#32
  let v175 : BitVec 32 := Scalar.divsi v173 c1_i32_112
  let v176 : BitVec 32 := Scalar.muli v175 c1_i32_112
  let v177 : BitVec 32 := Scalar.addi v28 v176
  let c1_i32_114 : BitVec 32 := 1#32
  let arg14 : BitVec 32 := Scf.iv v177 c1_i32_114 k0_t6
  let c512_i32_150 : BitVec 32 := 512#32
  let v234 : BitVec 32 := Scalar.muli arg14 c512_i32_150
  let v235 : BitVec 32 := v234
  let v236 : Index := Scalar.indexCast v235
  let c0_152 : Index := 0#32
  ![1, v236.toNat, 0]

def k0_chk1 (i : grid0.Coords) (v20 : BitVec 32) (v26 : BitVec 32) : Prop :=
  ((k0_t1_loop i v20 v26).OK) ∧
  (∀ k0_t1 : Fin (k0_t1_loop i v20 v26).trips, 512 ∣ (k0_mult2 i v20 v26 k0_t1).toNat) ∧
  (∀ k0_t1 : Fin (k0_t1_loop i v20 v26).trips, ∀ a, (k0_off4 i v20 v26 k0_t1) a + S1x512x128.size a ≤ S2x8192x128.size a) ∧
  (∀ k0_t1 : Fin (k0_t1_loop i v20 v26).trips, ∀ a, (k0_off5 i v20 v26 k0_t1) a + S1x512x128.size a ≤ S2x8192x128.size a) ∧
  ((k0_t2_loop i v20 v26).OK) ∧
  (∀ k0_t2 : Fin (k0_t2_loop i v20 v26).trips, 512 ∣ (k0_mult3 i v20 v26 k0_t2).toNat) ∧
  (∀ k0_t2 : Fin (k0_t2_loop i v20 v26).trips, ∀ a, (k0_off6 i v20 v26 k0_t2) a + S1x512x128.size a ≤ S2x8192x128.size a) ∧
  (∀ k0_t2 : Fin (k0_t2_loop i v20 v26).trips, ∀ a, (k0_off7 i v20 v26 k0_t2) a + S1x512x128.size a ≤ S2x8192x128.size a) ∧
  ((k0_t3_loop v20 v26).OK) ∧
  (∀ k0_t3 : Fin (k0_t3_loop v20 v26).trips, 512 ∣ (k0_mult4 v20 v26 k0_t3).toNat) ∧
  (∀ k0_t3 : Fin (k0_t3_loop v20 v26).trips, ∀ a, (k0_off8 v20 v26 k0_t3) a + S1x512x128.size a ≤ S2x8192x128.size a) ∧
  ((k0_t4_loop v20 v26).OK) ∧
  (∀ k0_t4 : Fin (k0_t4_loop v20 v26).trips, 512 ∣ (k0_mult5 v20 v26 k0_t4).toNat) ∧
  (∀ k0_t4 : Fin (k0_t4_loop v20 v26).trips, ∀ a, (k0_off9 v20 v26 k0_t4) a + S1x512x128.size a ≤ S2x8192x128.size a) ∧
  ((k0_t5_loop v20 v26).OK) ∧
  (∀ k0_t5 : Fin (k0_t5_loop v20 v26).trips, 512 ∣ (k0_mult6 v20 v26 k0_t5).toNat) ∧
  (∀ k0_t5 : Fin (k0_t5_loop v20 v26).trips, ∀ a, (k0_off10 v20 v26 k0_t5) a + S1x512x128.size a ≤ S2x8192x128.size a) ∧
  ((k0_t6_loop v20 v26).OK) ∧
  (∀ k0_t6 : Fin (k0_t6_loop v20 v26).trips, 512 ∣ (k0_mult7 v20 v26 k0_t6).toNat) ∧
  (∀ k0_t6 : Fin (k0_t6_loop v20 v26).trips, ∀ a, (k0_off11 v20 v26 k0_t6) a + S1x512x128.size a ≤ S2x8192x128.size a)
theorem k0_t1_ok : ∀ (i : grid0.Coords) (v20 : BitVec 32) (v26 : BitVec 32) (k0_hw1 : k0_chk1 i v20 v26), (k0_t1_loop i v20 v26).OK := fun i v20 v26 k0_hw1 => k0_hw1.1
theorem k0_mult2_dvd : ∀ (i : grid0.Coords) (v20 : BitVec 32) (v26 : BitVec 32) (k0_hw1 : k0_chk1 i v20 v26) (k0_t1 : Fin (k0_t1_loop i v20 v26).trips), 512 ∣ (k0_mult2 i v20 v26 k0_t1).toNat := fun i v20 v26 k0_hw1 k0_t1 => k0_hw1.2.1 k0_t1
theorem k0_off4_inb : ∀ (i : grid0.Coords) (v20 : BitVec 32) (v26 : BitVec 32) (k0_hw1 : k0_chk1 i v20 v26) (k0_t1 : Fin (k0_t1_loop i v20 v26).trips), ∀ a, (k0_off4 i v20 v26 k0_t1) a + S1x512x128.size a ≤ S2x8192x128.size a := fun i v20 v26 k0_hw1 k0_t1 => k0_hw1.2.2.1 k0_t1
theorem k0_off5_inb : ∀ (i : grid0.Coords) (v20 : BitVec 32) (v26 : BitVec 32) (k0_hw1 : k0_chk1 i v20 v26) (k0_t1 : Fin (k0_t1_loop i v20 v26).trips), ∀ a, (k0_off5 i v20 v26 k0_t1) a + S1x512x128.size a ≤ S2x8192x128.size a := fun i v20 v26 k0_hw1 k0_t1 => k0_hw1.2.2.2.1 k0_t1
theorem k0_t2_ok : ∀ (i : grid0.Coords) (v20 : BitVec 32) (v26 : BitVec 32) (k0_hw1 : k0_chk1 i v20 v26), (k0_t2_loop i v20 v26).OK := fun i v20 v26 k0_hw1 => k0_hw1.2.2.2.2.1
theorem k0_mult3_dvd : ∀ (i : grid0.Coords) (v20 : BitVec 32) (v26 : BitVec 32) (k0_hw1 : k0_chk1 i v20 v26) (k0_t2 : Fin (k0_t2_loop i v20 v26).trips), 512 ∣ (k0_mult3 i v20 v26 k0_t2).toNat := fun i v20 v26 k0_hw1 k0_t2 => k0_hw1.2.2.2.2.2.1 k0_t2
theorem k0_off6_inb : ∀ (i : grid0.Coords) (v20 : BitVec 32) (v26 : BitVec 32) (k0_hw1 : k0_chk1 i v20 v26) (k0_t2 : Fin (k0_t2_loop i v20 v26).trips), ∀ a, (k0_off6 i v20 v26 k0_t2) a + S1x512x128.size a ≤ S2x8192x128.size a := fun i v20 v26 k0_hw1 k0_t2 => k0_hw1.2.2.2.2.2.2.1 k0_t2
theorem k0_off7_inb : ∀ (i : grid0.Coords) (v20 : BitVec 32) (v26 : BitVec 32) (k0_hw1 : k0_chk1 i v20 v26) (k0_t2 : Fin (k0_t2_loop i v20 v26).trips), ∀ a, (k0_off7 i v20 v26 k0_t2) a + S1x512x128.size a ≤ S2x8192x128.size a := fun i v20 v26 k0_hw1 k0_t2 => k0_hw1.2.2.2.2.2.2.2.1 k0_t2
theorem k0_t3_ok : ∀ (i : grid0.Coords) (v20 : BitVec 32) (v26 : BitVec 32) (k0_hw1 : k0_chk1 i v20 v26), (k0_t3_loop v20 v26).OK := fun i v20 v26 k0_hw1 => k0_hw1.2.2.2.2.2.2.2.2.1
theorem k0_mult4_dvd : ∀ (i : grid0.Coords) (v20 : BitVec 32) (v26 : BitVec 32) (k0_hw1 : k0_chk1 i v20 v26) (k0_t3 : Fin (k0_t3_loop v20 v26).trips), 512 ∣ (k0_mult4 v20 v26 k0_t3).toNat := fun i v20 v26 k0_hw1 k0_t3 => k0_hw1.2.2.2.2.2.2.2.2.2.1 k0_t3
theorem k0_off8_inb : ∀ (i : grid0.Coords) (v20 : BitVec 32) (v26 : BitVec 32) (k0_hw1 : k0_chk1 i v20 v26) (k0_t3 : Fin (k0_t3_loop v20 v26).trips), ∀ a, (k0_off8 v20 v26 k0_t3) a + S1x512x128.size a ≤ S2x8192x128.size a := fun i v20 v26 k0_hw1 k0_t3 => k0_hw1.2.2.2.2.2.2.2.2.2.2.1 k0_t3
theorem k0_t4_ok : ∀ (i : grid0.Coords) (v20 : BitVec 32) (v26 : BitVec 32) (k0_hw1 : k0_chk1 i v20 v26), (k0_t4_loop v20 v26).OK := fun i v20 v26 k0_hw1 => k0_hw1.2.2.2.2.2.2.2.2.2.2.2.1
theorem k0_mult5_dvd : ∀ (i : grid0.Coords) (v20 : BitVec 32) (v26 : BitVec 32) (k0_hw1 : k0_chk1 i v20 v26) (k0_t4 : Fin (k0_t4_loop v20 v26).trips), 512 ∣ (k0_mult5 v20 v26 k0_t4).toNat := fun i v20 v26 k0_hw1 k0_t4 => k0_hw1.2.2.2.2.2.2.2.2.2.2.2.2.1 k0_t4
theorem k0_off9_inb : ∀ (i : grid0.Coords) (v20 : BitVec 32) (v26 : BitVec 32) (k0_hw1 : k0_chk1 i v20 v26) (k0_t4 : Fin (k0_t4_loop v20 v26).trips), ∀ a, (k0_off9 v20 v26 k0_t4) a + S1x512x128.size a ≤ S2x8192x128.size a := fun i v20 v26 k0_hw1 k0_t4 => k0_hw1.2.2.2.2.2.2.2.2.2.2.2.2.2.1 k0_t4
theorem k0_t5_ok : ∀ (i : grid0.Coords) (v20 : BitVec 32) (v26 : BitVec 32) (k0_hw1 : k0_chk1 i v20 v26), (k0_t5_loop v20 v26).OK := fun i v20 v26 k0_hw1 => k0_hw1.2.2.2.2.2.2.2.2.2.2.2.2.2.2.1
theorem k0_mult6_dvd : ∀ (i : grid0.Coords) (v20 : BitVec 32) (v26 : BitVec 32) (k0_hw1 : k0_chk1 i v20 v26) (k0_t5 : Fin (k0_t5_loop v20 v26).trips), 512 ∣ (k0_mult6 v20 v26 k0_t5).toNat := fun i v20 v26 k0_hw1 k0_t5 => k0_hw1.2.2.2.2.2.2.2.2.2.2.2.2.2.2.2.1 k0_t5
theorem k0_off10_inb : ∀ (i : grid0.Coords) (v20 : BitVec 32) (v26 : BitVec 32) (k0_hw1 : k0_chk1 i v20 v26) (k0_t5 : Fin (k0_t5_loop v20 v26).trips), ∀ a, (k0_off10 v20 v26 k0_t5) a + S1x512x128.size a ≤ S2x8192x128.size a := fun i v20 v26 k0_hw1 k0_t5 => k0_hw1.2.2.2.2.2.2.2.2.2.2.2.2.2.2.2.2.1 k0_t5
theorem k0_t6_ok : ∀ (i : grid0.Coords) (v20 : BitVec 32) (v26 : BitVec 32) (k0_hw1 : k0_chk1 i v20 v26), (k0_t6_loop v20 v26).OK := fun i v20 v26 k0_hw1 => k0_hw1.2.2.2.2.2.2.2.2.2.2.2.2.2.2.2.2.2.1
theorem k0_mult7_dvd : ∀ (i : grid0.Coords) (v20 : BitVec 32) (v26 : BitVec 32) (k0_hw1 : k0_chk1 i v20 v26) (k0_t6 : Fin (k0_t6_loop v20 v26).trips), 512 ∣ (k0_mult7 v20 v26 k0_t6).toNat := fun i v20 v26 k0_hw1 k0_t6 => k0_hw1.2.2.2.2.2.2.2.2.2.2.2.2.2.2.2.2.2.2.1 k0_t6
theorem k0_off11_inb : ∀ (i : grid0.Coords) (v20 : BitVec 32) (v26 : BitVec 32) (k0_hw1 : k0_chk1 i v20 v26) (k0_t6 : Fin (k0_t6_loop v20 v26).trips), ∀ a, (k0_off11 v20 v26 k0_t6) a + S1x512x128.size a ≤ S2x8192x128.size a := fun i v20 v26 k0_hw1 k0_t6 => k0_hw1.2.2.2.2.2.2.2.2.2.2.2.2.2.2.2.2.2.2.2 k0_t6

def k0_mult8 (i : grid0.Coords) : BitVec 32 :=
  let arg1 : BitVec 32 := BitVec.ofNat 32 (i 1).val
  let c512_i32_134 : BitVec 32 := 512#32
  let v199 : BitVec 32 := Scalar.muli arg1 c512_i32_134
  v199
def k0_off12 (i : grid0.Coords) : Fin 2 → Nat :=
  let arg1 : BitVec 32 := BitVec.ofNat 32 (i 1).val
  let c512_i32_134 : BitVec 32 := 512#32
  let v199 : BitVec 32 := Scalar.muli arg1 c512_i32_134
  let v200 : BitVec 32 := v199
  let v201 : Index := Scalar.indexCast v200
  let c0_135 : Index := 0#32
  ![v201.toNat, 0]
def k0_cond3 (i : grid0.Coords) : BitVec 1 :=
  let arg1 : BitVec 32 := BitVec.ofNat 32 (i 1).val
  let c15_i32 : BitVec 32 := 15#32
  let v231 : BitVec 1 := Scalar.cmpi .eq arg1 c15_i32
  let v232 : BitVec 32 := Scalar.extui v231
  let c0_i32_149 : BitVec 32 := 0#32
  let v233 : BitVec 1 := Scalar.cmpi .ne v232 c0_i32_149
  v233

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S8192x16x64 : Shape := ⟨3, ![8192, 16, 64]⟩
abbrev S8192x16 : Shape := ⟨2, ![8192, 16]⟩
abbrev S16x8192x64 : Shape := ⟨3, ![16, 8192, 64]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x64x8192 : Shape := ⟨3, ![16, 64, 8192]⟩
abbrev S8192x1024 : Shape := ⟨2, ![8192, 1024]⟩
abbrev S8192x128 : Shape := ⟨2, ![8192, 128]⟩

abbrev nBuf : Space → Nat
  | .hbm => 121
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S8192x16x64, .f32⟩
  | .hbm, ⟨3, _⟩ => ⟨S8192x16, .f32⟩
  | .hbm, ⟨4, _⟩ => ⟨S8192x16x64, .f32⟩
  | .hbm, ⟨5, _⟩ => ⟨S16x8192x64, .f32⟩
  | .hbm, ⟨6, _⟩ => ⟨S16x8192x64, .f32⟩
  | .hbm, ⟨7, _⟩ => ⟨S16x8192x64, .f32⟩
  | .hbm, ⟨8, _⟩ => ⟨S16x8192, .f32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S16x8192x1, .f32⟩
  | .hbm, ⟨14, _⟩ => ⟨S16x8192x8192, .f32⟩
  | .hbm, ⟨15, _⟩ => ⟨S16x8192x8192, .f32⟩
  | .hbm, ⟨16, _⟩ => ⟨S16x1x8192, .f32⟩
  | .hbm, ⟨17, _⟩ => ⟨S16x8192x8192, .f32⟩
  | .hbm, ⟨18, _⟩ => ⟨S16x8192x8192, .f32⟩
  | .hbm, ⟨19, _⟩ => ⟨S8192, .i32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S16x8192x8192, .i1⟩
  | .hbm, ⟨26, _⟩ => ⟨S_, .f32⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S16x8192x1, .f32⟩
  | .hbm, ⟨34, _⟩ => ⟨S16x8192x8192, .f32⟩
  | .hbm, ⟨35, _⟩ => ⟨S16x8192x8192, .i1⟩
  | .hbm, ⟨36, _⟩ => ⟨S16x8192x8192, .f32⟩
  | .hbm, ⟨37, _⟩ => ⟨S_, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .f32⟩
  | .hbm, ⟨42, _⟩ => ⟨S_, .f32⟩
  | .hbm, ⟨43, _⟩ => ⟨S16x8192, .f32⟩
  | .hbm, ⟨44, _⟩ => ⟨S16x8192, .i1⟩
  | .hbm, ⟨45, _⟩ => ⟨S_, .f32⟩
  | .hbm, ⟨46, _⟩ => ⟨S16x8192, .f32⟩
  | .hbm, ⟨47, _⟩ => ⟨S16x8192, .i1⟩
  | .hbm, ⟨48, _⟩ => ⟨S_, .f32⟩
  | .hbm, ⟨49, _⟩ => ⟨S16x8192, .f32⟩
  | .hbm, ⟨50, _⟩ => ⟨S_, .f32⟩
  | .hbm, ⟨51, _⟩ => ⟨S16x8192, .f32⟩
  | .hbm, ⟨52, _⟩ => ⟨S_, .f32⟩
  | .hbm, ⟨53, _⟩ => ⟨S16x8192, .f32⟩
  | .hbm, ⟨54, _⟩ => ⟨S16x8192, .f32⟩
  | .hbm, ⟨55, _⟩ => ⟨S16x8192, .f32⟩
  | .hbm, ⟨56, _⟩ => ⟨S16x8192x1, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S_, .f32⟩
  | .hbm, ⟨61, _⟩ => ⟨S16x8192, .f32⟩
  | .hbm, ⟨62, _⟩ => ⟨S16x8192x1, .f32⟩
  | .hbm, ⟨63, _⟩ => ⟨S16x8192x8192, .f32⟩
  | .hbm, ⟨64, _⟩ => ⟨S16x8192x8192, .f32⟩
  | .hbm, ⟨65, _⟩ => ⟨S16x8192x1, .f32⟩
  | .hbm, ⟨66, _⟩ => ⟨S_, .f32⟩
  | .hbm, ⟨67, _⟩ => ⟨S16x8192x1, .f32⟩
  | .hbm, ⟨68, _⟩ => ⟨S16x8192x1, .f32⟩
  | .hbm, ⟨69, _⟩ => ⟨S16x8192x64, .f32⟩
  | .hbm, ⟨70, _⟩ => ⟨S8192x16x64, .f32⟩
  | .hbm, ⟨71, _⟩ => ⟨S16x8192x64, .f32⟩
  | .hbm, ⟨72, _⟩ => ⟨S16x64x8192, .f32⟩
  | .hbm, ⟨73, _⟩ => ⟨S16x8192x64, .f32⟩
  | .hbm, ⟨74, _⟩ => ⟨S16x8192x8192, .f32⟩
  | .hbm, ⟨75, _⟩ => ⟨S16x8192x8192, .f32⟩
  | .hbm, ⟨76, _⟩ => ⟨S16x8192x8192, .f32⟩
  | .hbm, ⟨77, _⟩ => ⟨S16x8192x8192, .f32⟩
  | .hbm, ⟨78, _⟩ => ⟨S_, .f32⟩
  | .hbm, ⟨79, _⟩ => ⟨S16x8192, .f32⟩
  | .hbm, ⟨80, _⟩ => ⟨S16x8192x1, .f32⟩
  | .hbm, ⟨81, _⟩ => ⟨S16x8192x1, .f32⟩
  | .hbm, ⟨82, _⟩ => ⟨S16x8192x8192, .f32⟩
  | .hbm, ⟨83, _⟩ => ⟨S16x8192x8192, .f32⟩
  | .hbm, ⟨84, _⟩ => ⟨S_, .f32⟩
  | .hbm, ⟨85, _⟩ => ⟨S16x8192, .f32⟩
  | .hbm, ⟨86, _⟩ => ⟨S16x8192x8192, .f32⟩
  | .hbm, ⟨87, _⟩ => ⟨S16x8192x8192, .f32⟩
  | .hbm, ⟨88, _⟩ => ⟨S16x8192x8192, .f32⟩
  | .hbm, ⟨89, _⟩ => ⟨S_, .f32⟩
  | .hbm, ⟨90, _⟩ => ⟨S16x8192x8192, .f32⟩
  | .hbm, ⟨91, _⟩ => ⟨S16x8192x8192, .f32⟩
  | .hbm, ⟨92, _⟩ => ⟨S16x8192x8192, .f32⟩
  | .hbm, ⟨93, _⟩ => ⟨S_, .f32⟩
  | .hbm, ⟨94, _⟩ => ⟨S16x8192, .f32⟩
  | .hbm, ⟨95, _⟩ => ⟨S16x1x8192, .f32⟩
  | .hbm, ⟨96, _⟩ => ⟨S_, .f32⟩
  | .hbm, ⟨97, _⟩ => ⟨S16x8192, .f32⟩
  | .hbm, ⟨98, _⟩ => ⟨S_, .f32⟩
  | .hbm, ⟨99, _⟩ => ⟨S16x8192, .f32⟩
  | .hbm, ⟨100, _⟩ => ⟨S16x8192x1, .f32⟩
  | .hbm, ⟨101, _⟩ => ⟨S_, .f32⟩
  | .hbm, ⟨102, _⟩ => ⟨S16x8192, .f32⟩
  | .hbm, ⟨103, _⟩ => ⟨S16x8192, .f32⟩
  | .hbm, ⟨104, _⟩ => ⟨S_, .f32⟩
  | .hbm, ⟨105, _⟩ => ⟨S16x8192x8192, .f32⟩
  | .hbm, ⟨106, _⟩ => ⟨S16x8192x8192, .f32⟩
  | .hbm, ⟨107, _⟩ => ⟨S16x8192x64, .f32⟩
  | .hbm, ⟨108, _⟩ => ⟨S16x8192x64, .f32⟩
  | .hbm, ⟨109, _⟩ => ⟨S8192x16, .f32⟩
  | .hbm, ⟨110, _⟩ => ⟨S8192x16x64, .f32⟩
  | .hbm, ⟨111, _⟩ => ⟨S8192x16x64, .f32⟩
  | .hbm, ⟨112, _⟩ => ⟨S8192x16x64, .f32⟩
  | .hbm, ⟨113, _⟩ => ⟨S8192x1024, .f32⟩
  | .hbm, ⟨114, _⟩ => ⟨S8192x1024, .bf16⟩
  | .hbm, ⟨115, _⟩ => ⟨S8192x1024, .f32⟩
  | .hbm, ⟨116, _⟩ => ⟨S8192x1024, .bf16⟩
  | .hbm, ⟨117, _⟩ => ⟨S8192x1024, .f32⟩
  | .hbm, ⟨118, _⟩ => ⟨S8192x1024, .bf16⟩
  | .hbm, ⟨119, _⟩ => ⟨S_, .f32⟩
  | .hbm, ⟨120, _⟩ => ⟨S8192x128, .f32⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_15 : Ref sig .tc := ⟨.hbm, 93, rfl⟩
abbrev main_v72 : Ref sig .tc := ⟨.hbm, 94, rfl⟩
abbrev main_v73 : Ref sig .tc := ⟨.hbm, 95, rfl⟩
abbrev main_cst_16 : Ref sig .tc := ⟨.hbm, 96, rfl⟩
abbrev main_v74 : Ref sig .tc := ⟨.hbm, 97, rfl⟩
abbrev main_cst_17 : Ref sig .tc := ⟨.hbm, 98, rfl⟩
abbrev main_v75 : Ref sig .tc := ⟨.hbm, 99, rfl⟩
abbrev main_v76 : Ref sig .tc := ⟨.hbm, 100, rfl⟩
abbrev main_cst_18 : Ref sig .tc := ⟨.hbm, 101, rfl⟩
abbrev main_v77 : Ref sig .tc := ⟨.hbm, 102, rfl⟩
abbrev main_v78 : Ref sig .tc := ⟨.hbm, 103, rfl⟩
abbrev main_cst_19 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_20 : Ref sig .tc := ⟨.hbm, 119, rfl⟩
abbrev main_v93 : Ref sig .tc := ⟨.hbm, 120, rfl⟩

abbrev nD : Nat := 1
abbrev τ : Topo := Topo.v7x

variable {F : FTy → Type} [FloatOps F]
-- ==== Kernel2.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Kernel2Ideal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S2048x1024 : Shape := ⟨2, ![2048, 1024]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel3Ideal.lean ====
abbrev S8192x2048 : Shape := ⟨2, ![8192, 2048]⟩
abbrev S8192x1024 : Shape := ⟨2, ![8192, 1024]⟩
abbrev S2048x1024 : Shape := ⟨2, ![2048, 1024]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel4Ideal.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1024, .f32⟩
  | .hbm, ⟨3, _⟩ => ⟨S8192x1536, .f32⟩
  | .hbm, ⟨4, _⟩ => ⟨S_, .f32⟩
  | .hbm, ⟨5, _⟩ => ⟨S1024x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Kernel5Ideal.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S8192x256, .f32⟩
  | .hbm, ⟨3, _⟩ => ⟨S8192x1024, .f32⟩
  | .hbm, ⟨4, _⟩ => ⟨S_, .f32⟩
  | .hbm, ⟨5, _⟩ => ⟨S256x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x1024, .f32⟩
  | .hbm, ⟨3, _⟩ => ⟨S8192x128, .f32⟩
  | .hbm, ⟨4, _⟩ => ⟨S_, .f32⟩
  | .hbm, ⟨5, _⟩ => ⟨S1024x128, .f32⟩
  | .hbm, ⟨6, _⟩ => ⟨S8192x128, .f32⟩
  | .hbm, ⟨7, _⟩ => ⟨S128x1024, .f32⟩
  | .hbm, ⟨8, _⟩ => ⟨S1024x128, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S8192x1536 : Shape := ⟨2, ![8192, 1536]⟩
abbrev S8192x128 : Shape := ⟨2, ![8192, 128]⟩
abbrev S1024x1024 : Shape := ⟨2, ![1024, 1024]⟩
abbrev S1024x1536 : Shape := ⟨2, ![1024, 1536]⟩
abbrev S1024x128 : Shape := ⟨2, ![1024, 128]⟩
abbrev S1x1024 : Shape := ⟨2, ![1, 1024]⟩
abbrev S512x1024 : Shape := ⟨2, ![512, 1024]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 19
  | .vmem => 29
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x128, .bf16⟩
  | .hbm, ⟨7, _⟩ => ⟨S1024x1024, .bf16⟩
  | .hbm, ⟨8, _⟩ => ⟨S1024x1536, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x128, .bf16⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .bf16⟩
  | .local _ .vmem, ⟨13, _⟩ => ⟨S512x128, .bf16⟩
  | .local _ .vmem, ⟨14, _⟩ => ⟨S1024x1024, .bf16⟩
  | .local _ .vmem, ⟨15, _⟩ => ⟨S1024x1536, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x128, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference7Ideal.lean ====
abbrev S8192x1024 : Shape := ⟨2, ![8192, 1024]⟩
abbrev S8192x1536 : Shape := ⟨2, ![8192, 1536]⟩
abbrev S8192x128 : Shape := ⟨2, ![8192, 128]⟩
abbrev S1024x1024 : Shape := ⟨2, ![1024, 1024]⟩
abbrev S1024x1536 : Shape := ⟨2, ![1024, 1536]⟩
abbrev S1024x128 : Shape := ⟨2, ![1024, 128]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x128, .bf16⟩
  | .hbm, ⟨7, _⟩ => ⟨S1024x1024, .bf16⟩
  | .hbm, ⟨8, _⟩ => ⟨S1024x1536, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x128, .bf16⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1536, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x128, .f32⟩
  | .hbm, ⟨24, _⟩ => ⟨S1024x1024, .f32⟩
  | .hbm, ⟨25, _⟩ => ⟨S1024x1536, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x128, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1536, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x128, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_3 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_4 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_5 : Ref sig .tc := ⟨.hbm, 84, rfl⟩
abbrev main_v61 : Ref sig .tc := ⟨.hbm, 85, rfl⟩
abbrev main_v62 : Ref sig .tc := ⟨.hbm, 86, rfl⟩
abbrev main_cst_6 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x1024 : Shape := ⟨2, ![1024, 1024]⟩
abbrev S1024x1536 : Shape := ⟨2, ![1024, 1536]⟩
abbrev S1024x128 : Shape := ⟨2, ![1024, 128]⟩
abbrev S8192x1536 : Shape := ⟨2, ![8192, 1536]⟩
abbrev S8192x128 : Shape := ⟨2, ![8192, 128]⟩
abbrev S512x1024 : Shape := ⟨2, ![512, 1024]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S1024x1536, .bf16⟩
  | .hbm, ⟨4, _⟩ => ⟨S1024x1024, .bf16⟩
  | .hbm, ⟨5, _⟩ => ⟨S1024x128, .bf16⟩
  | .hbm, ⟨6, _⟩ => ⟨S8192x1024, .bf16⟩
  | .hbm, ⟨7, _⟩ => ⟨S8192x1024, .f32⟩
  | .hbm, ⟨8, _⟩ => ⟨S8192x1536, .f32⟩
  | .hbm, ⟨9, _⟩ => ⟨S8192x1024, .f32⟩
  | .hbm, ⟨10, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1536, .bf16⟩
  | .local _ .vmem, ⟨5, _⟩ => ⟨S1024x1024, .bf16⟩
  | .local _ .vmem, ⟨6, _⟩ => ⟨S1024x128, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1536, .f32⟩
  | .local _ .vmem, ⟨12, _⟩ => ⟨S512x1536, .f32⟩
  | .local _ .vmem, ⟨13, _⟩ => ⟨S512x1024, .f32⟩
  | .local _ .vmem, ⟨14, _⟩ => ⟨S512x1024, .f32⟩
  | .local _ .vmem, ⟨15, _⟩ => ⟨S512x128, .f32⟩
  | .local _ .vmem, ⟨16, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference8Ideal.lean ====
abbrev S8192x1024 : Shape := ⟨2, ![8192, 1024]⟩
abbrev S1x1024 : Shape := ⟨2, ![1, 1024]⟩
abbrev S1024x1024 : Shape := ⟨2, ![1024, 1024]⟩
abbrev S1024x1536 : Shape := ⟨2, ![1024, 1536]⟩
abbrev S1024x128 : Shape := ⟨2, ![1024, 128]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S8192x128 : Shape := ⟨2, ![8192, 128]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S1024x1536, .bf16⟩
  | .hbm, ⟨4, _⟩ => ⟨S1024x1024, .bf16⟩
  | .hbm, ⟨5, _⟩ => ⟨S1024x128, .bf16⟩
  | .hbm, ⟨6, _⟩ => ⟨S1024x1024, .f32⟩
  | .hbm, ⟨7, _⟩ => ⟨S1024x1536, .f32⟩
  | .hbm, ⟨8, _⟩ => ⟨S1024x1024, .f32⟩
  | .hbm, ⟨9, _⟩ => ⟨S1024x128, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S8192x1536, .f32⟩
  | .hbm, ⟨28, _⟩ => ⟨S8192x1024, .f32⟩
  | .hbm, ⟨29, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel9.lean ====
abbrev S8192x128 : Shape := ⟨2, ![8192, 128]⟩
abbrev S1x128 : Shape := ⟨2, ![1, 128]⟩
abbrev S512x128 : Shape := ⟨2, ![512, 128]⟩
abbrev S8x128 : Shape := ⟨2, ![8, 128]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S8x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x128 : Shape := ⟨2, ![8192, 128]⟩
abbrev S1x128 : Shape := ⟨2, ![1, 128]⟩
abbrev S8192x16 : Shape := ⟨2, ![8192, 16]⟩
abbrev S1x16 : Shape := ⟨2, ![1, 16]⟩
abbrev S16 : Shape := ⟨1, ![16]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S8192x16, .f32⟩
  | .hbm, ⟨3, _⟩ => ⟨S1x16, .f32⟩
  | .hbm, ⟨4, _⟩ => ⟨S16, .f32⟩
  | .hbm, ⟨5, _⟩ => ⟨S1x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S_, .f32⟩
  | .hbm, ⟨10, _⟩ => ⟨S8192x16, .f32⟩
  | .hbm, ⟨11, _⟩ => ⟨S8192x16, .f32⟩
  | .hbm, ⟨12, _⟩ => ⟨S8192x16, .f32⟩
  | .hbm, ⟨13, _⟩ => ⟨S8192x16, .f32⟩
  | .hbm, ⟨14, _⟩ => ⟨S8192x16, .i1⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S8192x16, .f32⟩
  | .hbm, ⟨24, _⟩ => ⟨S_, .f32⟩
  | .hbm, ⟨25, _⟩ => ⟨S_, .f32⟩
  | .hbm, ⟨26, _⟩ => ⟨S8192x16, .f32⟩
  | .hbm, ⟨27, _⟩ => ⟨S_, .f32⟩
  | .hbm, ⟨28, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩
abbrev main_call1_call0_cst : Ref sig .tc := ⟨.hbm, 24, rfl⟩
abbrev main_call1_call0_v0 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== Kernel10.lean ====
abbrev S8192x128 : Shape := ⟨2, ![8192, 128]⟩
abbrev S1x128 : Shape := ⟨2, ![1, 128]⟩
abbrev S512x128 : Shape := ⟨2, ![512, 128]⟩
abbrev S128x128 : Shape := ⟨2, ![128, 128]⟩
abbrev S128x512 : Shape := ⟨2, ![128, 512]⟩
abbrev S512x512 : Shape := ⟨2, ![512, 512]⟩
abbrev S128x1 : Shape := ⟨2, ![128, 1]⟩
abbrev S128 : Shape := ⟨1, ![128]⟩

abbrev nBuf : Space → Nat
  | .hbm => 6
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S1x128, .f32⟩
  | .hbm, ⟨4, _⟩ => ⟨S8192x128, .bf16⟩
  | .hbm, ⟨5, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x128, .bf16⟩
  | .local _ .vmem, ⟨8, _⟩ => ⟨S512x128, .bf16⟩
  | .local _ .vmem, ⟨9, _⟩ => ⟨S1x128, .f32⟩
  | .local _ .vmem, ⟨10, _⟩ => ⟨S128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference10Ideal.lean ====
abbrev S8192x128 : Shape := ⟨2, ![8192, 128]⟩
abbrev S1x128 : Shape := ⟨2, ![1, 128]⟩
abbrev S8192x16 : Shape := ⟨2, ![8192, 16]⟩
abbrev S1x16 : Shape := ⟨2, ![1, 16]⟩
abbrev S16 : Shape := ⟨1, ![16]⟩
abbrev S_ : Shape := ⟨0, ![]⟩

abbrev nBuf : Space → Nat
  | .hbm => 80
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S1x128, .f32⟩
  | .hbm, ⟨4, _⟩ => ⟨S8192x16, .f32⟩
  | .hbm, ⟨5, _⟩ => ⟨S1x16, .f32⟩
  | .hbm, ⟨6, _⟩ => ⟨S16, .f32⟩
  | .hbm, ⟨7, _⟩ => ⟨S1x16, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S_, .f32⟩
  | .hbm, ⟨12, _⟩ => ⟨S8192x16, .f32⟩
  | .hbm, ⟨13, _⟩ => ⟨S8192x16, .f32⟩
  | .hbm, ⟨14, _⟩ => ⟨S8192x16, .f32⟩
  | .hbm, ⟨15, _⟩ => ⟨S8192x16, .f32⟩
  | .hbm, ⟨16, _⟩ => ⟨S8192x16, .i1⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S_, .f32⟩
  | .hbm, ⟨26, _⟩ => ⟨S8192x16, .f32⟩
  | .hbm, ⟨27, _⟩ => ⟨S8192x16, .i1⟩
  | .hbm, ⟨28, _⟩ => ⟨S_, .f32⟩
  | .hbm, ⟨29, _⟩ => ⟨S8192x16, .f32⟩
  | .hbm, ⟨30, _⟩ => ⟨S8192x16, .f32⟩
  | .hbm, ⟨31, _⟩ => ⟨S_, .f32⟩
  | .hbm, ⟨32, _⟩ => ⟨S8192x16, .f32⟩
  | .hbm, ⟨33, _⟩ => ⟨S8192x16, .i1⟩
  | .hbm, ⟨34, _⟩ => ⟨S_, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192x16, .f32⟩
  | .hbm, ⟨47, _⟩ => ⟨S8192x16, .i1⟩
  | .hbm, ⟨48, _⟩ => ⟨S_, .f32⟩
  | .hbm, ⟨49, _⟩ => ⟨S8192x16, .f32⟩
  | .hbm, ⟨50, _⟩ => ⟨S8192x16, .f32⟩
  | .hbm, ⟨51, _⟩ => ⟨S8192x16, .f32⟩
  | .hbm, ⟨52, _⟩ => ⟨S8192x16, .f32⟩
  | .hbm, ⟨53, _⟩ => ⟨S8192x16, .f32⟩
  | .hbm, ⟨54, _⟩ => ⟨S_, .f32⟩
  | .hbm, ⟨55, _⟩ => ⟨S8192x16, .f32⟩
  | .hbm, ⟨56, _⟩ => ⟨S8192x16, .f32⟩
  | .hbm, ⟨57, _⟩ => ⟨S8192x16, .f32⟩
  | .hbm, ⟨58, _⟩ => ⟨S_, .f32⟩
  | .hbm, ⟨59, _⟩ => ⟨S_, .f32⟩
  | .hbm, ⟨60, _⟩ => ⟨S8192x16, .f32⟩
  | .hbm, ⟨61, _⟩ => ⟨S8192x16, .f32⟩
  | .hbm, ⟨62, _⟩ => ⟨S_, .f32⟩
  | .hbm, ⟨63, _⟩ => ⟨S_, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S_, .f32⟩
  | .hbm, ⟨69, _⟩ => ⟨S16, .f32⟩
  | .hbm, ⟨70, _⟩ => ⟨S1x16, .f32⟩
  | .hbm, ⟨71, _⟩ => ⟨S_, .f32⟩
  | .hbm, ⟨72, _⟩ => ⟨S16, .f32⟩
  | .hbm, ⟨73, _⟩ => ⟨S_, .f32⟩
  | .hbm, ⟨74, _⟩ => ⟨S8192x128, .f32⟩
  | .hbm, ⟨75, _⟩ => ⟨S8192x128, .f32⟩
  | .hbm, ⟨76, _⟩ => ⟨S8192x128, .bf16⟩
  | .hbm, ⟨77, _⟩ => ⟨S1x16, .f32⟩
  | .hbm, ⟨78, _⟩ => ⟨S_, .f32⟩
  | .hbm, ⟨79, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1_0 : Ref sig .tc := ⟨.hbm, 24, rfl⟩
abbrev main_call0_call0_cst_0 : Ref sig .tc := ⟨.hbm, 25, rfl⟩
abbrev main_call0_call0_v13 : Ref sig .tc := ⟨.hbm, 26, rfl⟩
abbrev main_call0_call0_v14 : Ref sig .tc := ⟨.hbm, 27, rfl⟩
abbrev main_call0_call0_cst_1 : Ref sig .tc := ⟨.hbm, 28, rfl⟩
abbrev main_call0_call0_v15 : Ref sig .tc := ⟨.hbm, 29, rfl⟩
abbrev main_call0_call0_v16 : Ref sig .tc := ⟨.hbm, 30, rfl⟩
abbrev main_call0_call0_cst_2 : Ref sig .tc := ⟨.hbm, 31, rfl⟩
abbrev main_call0_call0_v17 : Ref sig .tc := ⟨.hbm, 32, rfl⟩
abbrev main_call0_call0_v18 : Ref sig .tc := ⟨.hbm, 33, rfl⟩
abbrev main_call0_call0_cst_3 : Ref sig .tc := ⟨.hbm, 34, rfl⟩
abbrev main_call0_call0_v19 : Ref sig .tc := ⟨.hbm, 35, rfl⟩
abbrev main_call0_call0_v20 : Ref sig .tc := ⟨.hbm, 36, rfl⟩
abbrev main_call0_call0_v21 : Ref sig .tc := ⟨.hbm, 37, rfl⟩
abbrev main_v6_1 : Ref sig .tc := ⟨.hbm, 38, rfl⟩
abbrev main_call0_call0_cst_4 : Ref sig .tc := ⟨.hbm, 39, rfl⟩
abbrev main_call0_call0_cst_5 : Ref sig .tc := ⟨.hbm, 40, rfl⟩
abbrev main_call0_call0_v23 : Ref sig .tc := ⟨.hbm, 41, rfl⟩
abbrev main_call0_call0_cst_6 : Ref sig .tc := ⟨.hbm, 42, rfl⟩
abbrev main_call0_call0_cst_7 : Ref sig .tc := ⟨.hbm, 43, rfl⟩
abbrev main_call0_call0_v24 : Ref sig .tc := ⟨.hbm, 44, rfl⟩
abbrev main_call0_call0_cst_8 : Ref sig .tc := ⟨.hbm, 45, rfl⟩
abbrev main_call0_call0_v25 : Ref sig .tc := ⟨.hbm, 46, rfl⟩
abbrev main_call0_call0_v26 : Ref sig .tc := ⟨.hbm, 47, rfl⟩
abbrev main_call0_call0_cst_9 : Ref sig .tc := ⟨.hbm, 48, rfl⟩
abbrev main_call0_call0_v27 : Ref sig .tc := ⟨.hbm, 49, rfl⟩
abbrev main_call0_call0_v28 : Ref sig .tc := ⟨.hbm, 50, rfl⟩
abbrev main_call0_call0_v29 : Ref sig .tc := ⟨.hbm, 51, rfl⟩
abbrev main_call0_call0_v30 : Ref sig .tc := ⟨.hbm, 52, rfl⟩
abbrev main_call0_call0_v31 : Ref sig .tc := ⟨.hbm, 53, rfl⟩
abbrev main_call0_call0_cst_10 : Ref sig .tc := ⟨.hbm, 54, rfl⟩
abbrev main_call0_call0_v32 : Ref sig .tc := ⟨.hbm, 55, rfl⟩
abbrev main_v6_2 : Ref sig .tc := ⟨.hbm, 56, rfl⟩
abbrev main_v6_0 : Ref sig .tc := ⟨.hbm, 57, rfl⟩
abbrev main_call1_call0_cst : Ref sig .tc := ⟨.hbm, 58, rfl⟩
abbrev main_call1_call0_v0 : Ref sig .tc := ⟨.hbm, 59, rfl⟩
abbrev main_v7 : Ref sig .tc := ⟨.hbm, 60, rfl⟩
abbrev main_v8 : Ref sig .tc := ⟨.hbm, 61, rfl⟩
abbrev main_call2_call0_cst : Ref sig .tc := ⟨.hbm, 62, rfl⟩
abbrev main_call2_call0_v0 : Ref sig .tc := ⟨.hbm, 63, rfl⟩
abbrev main_v9 : Ref sig .tc := ⟨.hbm, 64, rfl⟩
abbrev main_call3_v0 : Ref sig .tc := ⟨.hbm, 65, rfl⟩
abbrev main_call3_v1 : Ref sig .tc := ⟨.hbm, 66, rfl⟩
abbrev main_v10 : Ref sig .tc := ⟨.hbm, 67, rfl⟩
abbrev main_cst : Ref sig .tc := ⟨.hbm, 68, rfl⟩
abbrev main_v11 : Ref sig .tc := ⟨.hbm, 69, rfl⟩
abbrev main_v12 : Ref sig .tc := ⟨.hbm, 70, rfl⟩
abbrev main_cst_0 : Ref sig .tc := ⟨.hbm, 71, rfl⟩
abbrev main_v13 : Ref sig .tc := ⟨.hbm, 72, rfl⟩
abbrev main_cst_1 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_cst_2 : Ref sig .tc := ⟨.hbm, 78, rfl⟩
abbrev main_v18 : Ref sig .tc := ⟨.hbm, 79, rfl⟩

abbrev nD : Nat := 1
abbrev τ : Topo := Topo.v7x

variable {F : FTy → Type} [FloatOps F]
-- ==== Kernel11.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference11Ideal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S8x96x128 : Shape := ⟨3, ![8, 96, 128]⟩
abbrev S96x128 : Shape := ⟨2, ![96, 128]⟩
abbrev S1x96x128 : Shape := ⟨3, ![1, 96, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S96x128, .f32⟩
  | .hbm, ⟨5, _⟩ => ⟨S96x128, .f32⟩
  | .hbm, ⟨6, _⟩ => ⟨S96x128, .f32⟩
  | .hbm, ⟨7, _⟩ => ⟨S96x128, .f32⟩
  | .local _ .vmem, ⟨0, _⟩ => ⟨S8x96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | .local _ .vmem, ⟨7, _⟩ => ⟨S96x128, .f32⟩
  | _, _ => ⟨S8x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference12Ideal.lean ====
abbrev S8x96x128 : Shape := ⟨3, ![8, 96, 128]⟩
abbrev S96x128 : Shape := ⟨2, ![96, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S_, .f32⟩
  | .hbm, ⟨5, _⟩ => ⟨S96x128, .f32⟩
  | .hbm, ⟨6, _⟩ => ⟨S_, .f32⟩
  | .hbm, ⟨7, _⟩ => ⟨S96x128, .f32⟩
  | .hbm, ⟨8, _⟩ => ⟨S96x128, .f32⟩
  | .hbm, ⟨9, _⟩ => ⟨S_, .f32⟩
  | .hbm, ⟨10, _⟩ => ⟨S96x128, .f32⟩
  | .hbm, ⟨11, _⟩ => ⟨S96x128, .f32⟩
  | .hbm, ⟨12, _⟩ => ⟨S96x128, .f32⟩
  | .hbm, ⟨13, _⟩ => ⟨S_, .f32⟩
  | .hbm, ⟨14, _⟩ => ⟨S96x128, .f32⟩
  | .hbm, ⟨15, _⟩ => ⟨S96x128, .f32⟩
  | .hbm, ⟨16, _⟩ => ⟨S96x128, .f32⟩
  | .hbm, ⟨17, _⟩ => ⟨S_, .f32⟩
  | .hbm, ⟨18, _⟩ => ⟨S96x128, .f32⟩
  | .hbm, ⟨19, _⟩ => ⟨S96x128, .f32⟩
  | .hbm, ⟨20, _⟩ => ⟨S96x128, .f32⟩
  | .hbm, ⟨21, _⟩ => ⟨S_, .f32⟩
  | .hbm, ⟨22, _⟩ => ⟨S96x128, .f32⟩
  | .hbm, ⟨23, _⟩ => ⟨S96x128, .f32⟩
  | .hbm, ⟨24, _⟩ => ⟨S_, .f32⟩
  | .hbm, ⟨25, _⟩ => ⟨S96x128, .f32⟩
  | .hbm, ⟨26, _⟩ => ⟨S96x128, .f32⟩
  | .hbm, ⟨27, _⟩ => ⟨S96x128, .f32⟩
  | .hbm, ⟨28, _⟩ => ⟨S_, .f32⟩
  | .hbm, ⟨29, _⟩ => ⟨S96x128, .f32⟩
  | .hbm, ⟨30, _⟩ => ⟨S96x128, .f32⟩
  | .hbm, ⟨31, _⟩ => ⟨S96x128, .f32⟩
  | .hbm, ⟨32, _⟩ => ⟨S_, .f32⟩
  | .hbm, ⟨33, _⟩ => ⟨S96x128, .f32⟩
  | .hbm, ⟨34, _⟩ => ⟨S96x128, .f32⟩
  | .hbm, ⟨35, _⟩ => ⟨S96x128, .f32⟩
  | .hbm, ⟨36, _⟩ => ⟨S_, .f32⟩
  | .hbm, ⟨37, _⟩ => ⟨S96x128, .f32⟩
  | .hbm, ⟨38, _⟩ => ⟨S96x128, .f32⟩
  | _, _ => ⟨S8x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel13.lean ====
abbrev S4x512x1672 : Shape := ⟨3, ![4, 512, 1672]⟩
abbrev S4x256x1024 : Shape := ⟨3, ![4, 256, 1024]⟩
abbrev S4x128x1024 : Shape := ⟨3, ![4, 128, 1024]⟩
abbrev S4x128x256 : Shape := ⟨3, ![4, 128, 256]⟩
abbrev S512x1672 : Shape := ⟨2, ![512, 1672]⟩
abbrev S256x1024 : Shape := ⟨2, ![256, 1024]⟩
abbrev S128x1024 : Shape := ⟨2, ![128, 1024]⟩
abbrev S128x256 : Shape := ⟨2, ![128, 256]⟩
abbrev S4x64x1672 : Shape := ⟨3, ![4, 64, 1672]⟩
abbrev S4x32x1024 : Shape := ⟨3, ![4, 32, 1024]⟩
abbrev S4x16x1024 : Shape := ⟨3, ![4, 16, 1024]⟩
abbrev S4x16x256 : Shape := ⟨3, ![4, 16, 256]⟩
abbrev S64x1672 : Shape := ⟨2, ![64, 1672]⟩
abbrev S32x1024 : Shape := ⟨2, ![32, 1024]⟩
abbrev S16x1024 : Shape := ⟨2, ![16, 1024]⟩
abbrev S16x256 : Shape := ⟨2, ![16, 256]⟩
abbrev S1x64x1672 : Shape := ⟨3, ![1, 64, 1672]⟩
abbrev S1x32x1024 : Shape := ⟨3, ![1, 32, 1024]⟩
abbrev S1x16x1024 : Shape := ⟨3, ![1, 16, 1024]⟩
abbrev S1x16x256 : Shape := ⟨3, ![1, 16, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x512x1672, .bf16⟩
  | .hbm, ⟨1, _⟩ => ⟨S4x256x1024, .bf16⟩
  | .hbm, ⟨2, _⟩ => ⟨S4x128x1024, .bf16⟩
  | .hbm, ⟨3, _⟩ => ⟨S4x128x256, .bf16⟩
  | .hbm, ⟨4, _⟩ => ⟨S512x1672, .f32⟩
  | .hbm, ⟨5, _⟩ => ⟨S256x1024, .f32⟩
  | .hbm, ⟨6, _⟩ => ⟨S128x1024, .f32⟩
  | .hbm, ⟨7, _⟩ => ⟨S128x256, .f32⟩
  | .local _ .vmem, ⟨0, _⟩ => ⟨S4x64x1672, .bf16⟩
  | .local _ .vmem, ⟨1, _⟩ => ⟨S4x64x1672, .bf16⟩
  | .local _ .vmem, ⟨2, _⟩ => ⟨S4x32x1024, .bf16⟩
  | .local _ .vmem, ⟨3, _⟩ => ⟨S4x32x1024, .bf16⟩
  | .local _ .vmem, ⟨4, _⟩ => ⟨S4x16x1024, .bf16⟩
  | .local _ .vmem, ⟨5, _⟩ => ⟨S4x16x1024, .bf16⟩
  | .local _ .vmem, ⟨6, _⟩ => ⟨S4x16x256, .bf16⟩
  | .local _ .vmem, ⟨7, _⟩ => ⟨S4x16x256, .bf16⟩
  | .local _ .vmem, ⟨8, _⟩ => ⟨S64x1672, .f32⟩
  | .local _ .vmem, ⟨9, _⟩ => ⟨S64x1672, .f32⟩
  | .local _ .vmem, ⟨10, _⟩ => ⟨S32x1024, .f32⟩
  | .local _ .vmem, ⟨11, _⟩ => ⟨S32x1024, .f32⟩
  | .local _ .vmem, ⟨12, _⟩ => ⟨S16x1024, .f32⟩
  | .local _ .vmem, ⟨13, _⟩ => ⟨S16x1024, .f32⟩
  | .local _ .vmem, ⟨14, _⟩ => ⟨S16x256, .f32⟩
  | .local _ .vmem, ⟨15, _⟩ => ⟨S16x256, .f32⟩
  | _, _ => ⟨S4x512x1672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1672 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S4x512x1672 : Shape := ⟨3, ![4, 512, 1672]⟩
abbrev S4x256x1024 : Shape := ⟨3, ![4, 256, 1024]⟩
abbrev S4x128x1024 : Shape := ⟨3, ![4, 128, 1024]⟩
abbrev S4x128x256 : Shape := ⟨3, ![4, 128, 256]⟩
abbrev S_ : Shape := ⟨0, ![]⟩
abbrev S512x1672 : Shape := ⟨2, ![512, 1672]⟩
abbrev S256x1024 : Shape := ⟨2, ![256, 1024]⟩
abbrev S128x1024 : Shape := ⟨2, ![128, 1024]⟩
abbrev S128x256 : Shape := ⟨2, ![128, 256]⟩

abbrev nBuf : Space → Nat
  | .hbm => 16
  | .vmem => 0
  | .smem => 0
  | _ => 0

abbrev bufTy : (tb : Table) → Fin (tcTables nBuf tb) → BufTy
  | .hbm, ⟨0, _⟩ => ⟨S4x512x1672, .bf16⟩
  | .hbm, ⟨1, _⟩ => ⟨S4x256x1024, .bf16⟩
  | .hbm, ⟨2, _⟩ => ⟨S4x128x1024, .bf16⟩
  | .hbm, ⟨3, _⟩ => ⟨S4x128x256, .bf16⟩
  | .hbm, ⟨4, _⟩ => ⟨S4x512x1672, .f32⟩
  | .hbm, ⟨5, _⟩ => ⟨S_, .f32⟩
  | .hbm, ⟨6, _⟩ => ⟨S512x1672, .f32⟩
  | .hbm, ⟨7, _⟩ => ⟨S4x256x1024, .f32⟩
  | .hbm, ⟨8, _⟩ => ⟨S_, .f32⟩
  | .hbm, ⟨9, _⟩ => ⟨S256x1024, .f32⟩
  | .hbm, ⟨10, _⟩ => ⟨S4x128x1024, .f32⟩
  | .hbm, ⟨11, _⟩ => ⟨S_, .f32⟩
  | .hbm, ⟨12, _⟩ => ⟨S128x1024, .f32⟩
  | .hbm, ⟨13, _⟩ => ⟨S4x128x256, .f32⟩
  | .hbm, ⟨14, _⟩ => ⟨S_, .f32⟩
  | .hbm, ⟨15, _⟩ => ⟨S128x256, .f32⟩
  | _, _ => ⟨S4x512x1672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Proof.Kernel.FrameRun.lean ====
/- The body at any point of the grid: it runs, handing back the blocks it reads as they were and the buffers it
   writes at some contents. -/
module

public import proofs.«01_k».proof.Proof.Kernel.Setup
public import proofs.«01_k».proof.Proof.Gen.Kernel.Loops

@[expose] public section

set_option maxRecDepth 16384

noncomputable section

namespace Cert.Kernel.Att

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at point `t`, whatever its output and scratch buffers hold. -/
theorem run_frame (c : Dev nD) (t : Fin grid0.N) (arg3 : Memref sig .tc .vmem S2x8192x128 .bf16) (harg3 : arg3.IsWhole) (arg4 : Memref sig .tc .vmem S2x8192x128 .bf16) (harg4 : arg4.IsWhole) (arg5 : Memref sig .tc .vmem S2x512x128 .bf16) (harg5 : arg5.IsWhole) (arg6 : Memref sig .tc .vmem S2x512x128 .bf16) (harg6 : arg6.IsWhole) (arg7 : Memref sig .tc .vmem S8192x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S2x8192x128 .f32) (harg11 : arg11.IsWhole) (arg12 : Memref sig .tc .vmem S2x512x128 .f32) (harg12 : arg12.IsWhole) (arg13 : Memref sig .tc .vmem S2x512x128 .f32) (harg13 : arg13.IsWhole)
    (x0 : Vec F S2x8192x128 .bf16) (x1 : Vec F S2x8192x128 .bf16) (x2 : Vec F S2x512x128 .bf16) (x3 : Vec F S2x512x128 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt (F := F) c tbM (fun _ => 15#32)
            ∗ (iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt (F := F) c tbM (fun _ => 15#32)) -∗ K ⟨⟩))
          ⊢ wp frame (wpE (defs₀ (F := F)) Variants.none c none) E (cc0_attention_bwd (grid0.coords t) tbM htbM arg3 harg3 arg4 harg4 arg5 harg5 arg6 harg6 arg7 harg7 arg8 harg8 arg9 harg9 arg10 harg10 arg11 harg11 arg12 harg12 arg13 harg13) K := by
  intro E K
  simp only [cc0_attention_bwd_eq_skeleton]; unfold cc0_attention_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, HT0, Hk⟩
  obtain rfl := harg3.eq_unread hf0; obtain rfl := harg4.eq_unread hf1; obtain rfl := harg5.eq_unread hf2; obtain rfl := harg6.eq_unread hf3
  have hw := hchk t
  have hc : (condZ (grid0.coords t) ∧ condF (grid0.coords t) ∧ ¬ condL (grid0.coords t)) ∨ (¬ condZ (grid0.coords t) ∧ condF (grid0.coords t) ∧ ¬ condL (grid0.coords t))
      ∨ (¬ condZ (grid0.coords t) ∧ ¬ condF (grid0.coords t) ∧ condL (grid0.coords t)) ∨ (¬ condZ (grid0.coords t) ∧ ¬ condF (grid0.coords t) ∧ ¬ condL (grid0.coords t)) := by
    rw [hcondZ, hcondF, hcondL]; omega
  rcases hc with ⟨hcZ, hcF, hcL⟩ | ⟨hcZ, hcF, hcL⟩ | ⟨hcZ, hcF, hcL⟩ | ⟨hcZ, hcF, hcL⟩
  all_goals
    sl_exec (disch := first | sl_exact hcZ | sl_exact hcF | sl_exact hcL | sl_exact hw)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HT0

end Cert.Kernel.Att

end
-- ==== Proof.Kernel.Frame.lean ====
/- The frame of the call: every execution of `@main` ends, its arguments unchanged and its counters at zero. -/
module

public import proofs.«01_k».proof.Proof.Kernel.FrameRun

@[expose] public section

set_option maxRecDepth 16384

noncomputable section

namespace Cert.Kernel.Att

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows this certificate FORGETS (4, 5, 6, 7): nothing reads what the kernel leaves in them, so nothing
    of it is named (Lib/Pipeline/Dat.lean `Dat.toRForget`). -/
def forgets0 : Fin 8 → Bool := fun w => w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := (cfgM m)) ⟨4, h⟩ t
    | ⟨5, h⟩ => Pipeline.Dat.unnamed (cfg := (cfgM m)) ⟨5, h⟩ t
    | ⟨6, h⟩ => Pipeline.Dat.unnamed (cfg := (cfgM m)) ⟨6, h⟩ t
    | ⟨7, h⟩ => Pipeline.Dat.unnamed (cfg := (cfgM m)) ⟨7, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (c : Dev nD) (w : Fin (cfgM m).W) : (dats m 0 c).A w = V m c (Pipeline.arrRef spec0 w) := by
  dsimp only [dats]

/-- What the body leaves, window by window (the proof data's `match` reduced by `dsimp`). -/
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl

/-- Each input's staging buffer holds its block at every point, fetched there or not. -/
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgM m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgM m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation, at a generic point -/

/-- What the body is called with at point `t` (Lib/Pipeline.lean `BodyObligation`'s precondition, the windows one by one), -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare d)
    ∗ (∃ d, owns (c : Thread nD τ) (ms5 m t) fullShare d)
    ∗ (∃ d, owns (c : Thread nD τ) (ms6 m t) fullShare d)
    ∗ (∃ d, owns (c : Thread nD τ) (ms7 m t) fullShare d))

/-- and what it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms4 m t) fullShare d)
    ∗ (∃ d, owns (c : Thread nD τ) (ms5 m t) fullShare d)
    ∗ (∃ d, owns (c : Thread nD τ) (ms6 m t) fullShare d)
    ∗ (∃ d, owns (c : Thread nD τ) (ms7 m t) fullShare d))

/-- A window that is live at a point leaves its buffer at what the body left there. -/
theorem leaves_owns (c : Dev nD) (t : Fin (cfgM m).N) (w : Fin (cfgM m).W) (h : (cfgM m).idle w ((cfgM m).grid.coords t) = false) :
    (dats m 0 c).leavesExact w t
      = owns (c : Thread nD τ) (((cfgM m).win w).stage ((cfgM m).slots t w)) fullShare ((dats m 0 c).after w t) := by
  unfold Dat.leavesExact; rw [h]

set_option maxHeartbeats 3200000 in
/-- The body at any point: the inputs' buffers hold their blocks, the table its words, the other buffers anything. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = iprop(Pipeline.ΦA spec0 c ∗ Pipeline.ΦT pre0 (tbl m) c) from rfl, PhiT_eq, PhiA_eq, tbl_eq]
  rw [show (dats m 0 c).leavesExact 0 t = owns (c : Thread nD τ) (ms0 m t) fullShare ((dats m 0 c).after 0 t) from
    leaves_owns m c t 0 (liveAt0 m t 0 (by decide)), after0_0]
  rw [show (dats m 0 c).leavesExact 1 t = owns (c : Thread nD τ) (ms1 m t) fullShare ((dats m 0 c).after 1 t) from
    leaves_owns m c t 1 (liveAt0 m t 1 (by decide)), after0_1]
  rw [show (dats m 0 c).leavesExact 2 t = owns (c : Thread nD τ) (ms2 m t) fullShare ((dats m 0 c).after 2 t) from
    leaves_owns m c t 2 (liveAt0 m t 2 (by decide)), after0_2]
  rw [show (dats m 0 c).leavesExact 3 t = owns (c : Thread nD τ) (ms3 m t) fullShare ((dats m 0 c).after 3 t) from
    leaves_owns m c t 3 (liveAt0 m t 3 (by decide)), after0_3]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_frame c t (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) sc0 (Memref.isWhole_whole _) sc1 (Memref.isWhole_whole _) sc2 (Memref.isWhole_whole _) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HT0]; · iexact HT0
  iintro ⟨H0, H1, H2, H3, H4, H5, H6, H7, HS0, HS1, HS2, HT0⟩
  isplitl [HS0 HS1 HS2 Hg HT0]
  · isplitl [HS0 HS1 HS2 Hg]
    · isplitl [HS0 HS1 HS2]
      · isplitl [HS0]
        · iexact HS0
        isplitl [HS1]
        · iexact HS1
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin (cfgM m).N) :
    defs₀ (F := F) .tc (cfgM m).body ((cfgM m).bodyArgs t ((cfgM m).slots t)) = bodyAt m t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row m]
  exact triple_restated (sound_body m c t) rfl .rfl fun _ => .rfl

/-! ## The run and the frame -/

set_option maxHeartbeats 4000000 in
-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost ((Pipeline.pin pcfgs fun _ => adm m) 0) (fun c => (dats m 0 c).toRForget forgets0) (V m)) r ∧ r.2.sem = fun _ => 0) :=
  Pipeline.θ_run_frameP_forget (Q' := _) pcfgs (fun _ => adm m) (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- At any values and from any memory with zero counters, every weakly fair execution of `@main` ends. -/
theorem run_main : θ_run defs (onTc (τ := τ) (main (F := F))) (s₀ m ρ) (Pipeline.RDat.FramePost ((Pipeline.pin pcfgs fun _ => adm m) 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_arg0 m c),
      ((h c).2 main_arg1 (by decide : main_arg1 ∈ Pipeline.restRefs sig spec0)).trans (V_arg1 m c),
      ((h c).2 main_arg2 (by decide : main_arg2 ∈ Pipeline.restRefs sig spec0)).trans (V_arg2 m c),
      ((h c).2 main_arg3 (by decide : main_arg3 ∈ Pipeline.restRefs sig spec0)).trans (V_arg3 m c),
      ((h c).2 main_arg4 (by decide : main_arg4 ∈ Pipeline.restRefs sig spec0)).trans (V_arg4 m c)⟩) (run_main m ρ)

/-- The frame: every execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Att

end
-- ==== Proof.KernelIdeal.Setup.lean ====
/- What the region of `@main` finds: the host operations before it, the table of last query blocks (every word
   15: no block is passed over), the branch conditions of the body in closed form over the grid, and the buffers
   the body is handed at a point. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of core `c` as the region finds them: the launch memory after the host operations. -/
abbrev V (c : Dev nD) (b : Ref sig .tc) : Buf (Elt F) ((c : Thread nD τ).loc b) :=
  StableHlo.after hostOps0 (fun b => m (c, b)) b

theorem ops_fresh : (hostOps0 : List (HloOp τ sig (Elt F))).Forall fun op => op.fresh = ∅ := by
  simp only [List.Forall]; repeat' constructor

set_option maxHeartbeats 800000 in
/-- `@main` up to the region is its host operations. -/
theorem hmain (𝒱₀ : Variants) : Pipeline.HMainP (Ix := Unit) (Name := ℕ) (U := UR sig nD τ) (Lvl := ℕ) pcfgs 0 defs₀ 𝒱₀ m
    (main (F := F)) (V m) :=
  Pipeline.hmainP_prefix pcfgs 0 defs₀ 𝒱₀ m main hostOps0 hostOps0_sub ops_fresh main_chain

/-- No host operation writes an argument array. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- The table's contents as the region finds them. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every word of the table is 15. -/
theorem tbl_eq : tbl m 0 = fun _ => 15#32 := by
  have h : V m 0 main_v81 = broadcastInDim S16x16 ![] bcast_S_S16x16 (constantI S_ 32 15#32) := by
    unfold_abbrev_sides
    after_results
  exact h.trans rfl

/-- No window's index map reads the table, so its contents are admissible. -/
theorem ok : ok0 (F := F) (tbl m) := trivial

abbrev adm : (pcfg0 (F := F)).Adm := ⟨tbl m, ok m⟩
abbrev cfgM : Pipeline.Cfg sig Λ₀ := cfg0 (adm m)

/-- The table as the body is handed it. -/
abbrev tbM : Memref sig .tc .smem S16x16 .i32 := Memref.whole main_v81
abbrev htbM : tbM.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The three conditions of the body. -/
abbrev condZ (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
abbrev condF (i : grid0.Coords) : Prop :=
  (Scalar.cmpi .ne (Scalar.extui (Scalar.cmpi .eq (BitVec.ofNat 32 (i 1).val) 0#32)) 0#32) = 1#1
abbrev condL (i : grid0.Coords) : Prop := k0_cond3 i = 1#1

theorem coord0 (t : Fin grid0.N) : (grid0.coords t 0).val = t.val / 16 := by
  have ht : t.val < 128 := Nat.lt_of_lt_of_eq t.isLt N_0
  have e : (grid0.coords t 0).val = t.val / 16 % 8 := Pipeline.Grid.coords_val t 0 (by decide) rfl
  omega
theorem coord1 (t : Fin grid0.N) : (grid0.coords t 1).val = t.val % 16 := by
  have e : (grid0.coords t 1).val = t.val / 1 % 16 := Pipeline.Grid.coords_val t 1 (by decide) rfl
  omega

theorem hcondZ (t : Fin grid0.N) : condZ (grid0.coords t) ↔ t.val = 0 := by
  have ht : t.val < 128 := Nat.lt_of_lt_of_eq t.isLt N_0
  simp only [condZ, coord0, coord1]
  word_cmp
theorem hcondF (t : Fin grid0.N) : condF (grid0.coords t) ↔ t.val % 16 = 0 := by
  have ht : t.val < 128 := Nat.lt_of_lt_of_eq t.isLt N_0
  simp only [condF, coord1]
  word_cmp
theorem hcondL (t : Fin grid0.N) : condL (grid0.coords t) ↔ t.val % 16 = 15 := by
  have ht : t.val < 128 := Nat.lt_of_lt_of_eq t.isLt N_0
  simp only [condL, k0_cond3, coord1]
  word_cmp

/-- The side condition of the loops' bounds and rows, with every word of the table 15. -/
theorem hchk : ∀ t : Fin grid0.N, k0_chk1 (grid0.coords t) 15#32 15#32 := by
  decide +kernel

/-- The staging buffers of the windows at a point, and the scratch. -/
abbrev ms0 (t : Fin (cfgM m).N) : Memref sig .tc .vmem S2x8192x128 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S2x8192x128 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S2x512x128 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S2x512x128 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S8192x128 .bf16 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S512x128 .bf16 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S512x128 .bf16 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S8192x128 .f32 := spec0_7.stage ((cfgM m).slots t 7)
abbrev hs7 (t : Fin (cfgM m).N) : (ms7 m t).IsWhole := hstage0_7 (((cfgM m).slots t 7).cast nbuf0_7)
abbrev sc0 : Memref sig .tc .vmem S2x8192x128 .f32 := Memref.whole cc0_scratch0
abbrev sc1 : Memref sig .tc .vmem S2x512x128 .f32 := Memref.whole cc0_scratch1
abbrev sc2 : Memref sig .tc .vmem S2x512x128 .f32 := Memref.whole cc0_scratch2

/-- The body as the pipeline calls it at a point. -/
abbrev bodyAt (t : Fin (cfgM m).N) : Prog (TpuEff nD τ sig (Elt F) Λ₀ .tc) PUnit :=
  cc0_attention_bwd (grid0.coords t) tbM htbM (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) sc0 (Memref.isWhole_whole _) sc1 (Memref.isWhole_whole _) sc2 (Memref.isWhole_whole _)

/-- The windows of the inputs are never idle. -/
theorem liveAt0 (t : Fin (cfgM m).N) : ∀ w : Fin 8, w.val < 4 → (cfgM m).idle w ((cfgM m).grid.coords t) = false
  | ⟨0, _⟩, _ => (fun _ => rfl : ∀ t : Fin grid0.N, idle0 0 (grid0.coords t) = false) t
  | ⟨1, _⟩, _ => (fun _ => rfl : ∀ t : Fin grid0.N, idle0 1 (grid0.coords t) = false) t
  | ⟨2, _⟩, _ => (fun _ => rfl : ∀ t : Fin grid0.N, idle0 2 (grid0.coords t) = false) t
  | ⟨3, _⟩, _ => (fun _ => rfl : ∀ t : Fin grid0.N, idle0 3 (grid0.coords t) = false) t
  | ⟨n + 4, _⟩, h => absurd h (Nat.not_lt.mpr (Nat.le_add_left 4 n))

theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

end Cert.KernelIdeal.Att

end
-- ==== Proof.KernelIdeal.Trip.lean ====
/- One trip of the loop over the later row blocks: what it leaves in the three accumulators. -/
module

public import proofs.«01_k».proof.Proof.KernelIdeal.Setup
public import Idealize.ShloMosaic.Lib.VecWindow
public import Idealize.ShloMosaic.Lib.ValueIdx

@[expose] public section

set_option maxRecDepth 16384

noncomputable section

namespace Cert.KernelIdeal.Att

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem trips1 : ∀ t : Fin grid0.N, (k0_t1_loop (grid0.coords t) 15#32 15#32).trips = 15 - t.val % 16 := by
  decide +kernel

theorem off4_eq : ∀ (t : Fin grid0.N) (k : Fin (k0_t1_loop (grid0.coords t) 15#32 15#32).trips),
    k0_off4 (grid0.coords t) 15#32 15#32 k = ![0, 512 * (t.val % 16 + 1 + k.val), 0] := by
  decide +kernel

theorem off5_eq : ∀ (t : Fin grid0.N) (k : Fin (k0_t1_loop (grid0.coords t) 15#32 15#32).trips),
    k0_off5 (grid0.coords t) 15#32 15#32 k = ![1, 512 * (t.val % 16 + 1 + k.val), 0] := by
  decide +kernel

instance closedOff4 (t : Fin grid0.N) (k : Fin (k0_t1_loop (grid0.coords t) 15#32 15#32).trips) : ClosedOff (k0_off4 (grid0.coords t) 15#32 15#32 k) :=
  ⟨![0, 512 * (t.val % 16 + 1 + k.val), 0], off4_eq t k⟩
instance closedOff5 (t : Fin grid0.N) (k : Fin (k0_t1_loop (grid0.coords t) 15#32 15#32).trips) : ClosedOff (k0_off5 (grid0.coords t) 15#32 15#32 k) :=
  ⟨![1, 512 * (t.val % 16 + 1 + k.val), 0], off5_eq t k⟩

/-- The 512 rows from `r` on of head `e` of a buffer of two heads of 8192 rows. -/
def blk {α : Type} (x : S2x8192x128.Idx → α) (e : Fin 2) (r : ℕ) : S1x512x128.Idx → α :=
  fun y => x (ix3 e ⟨(r + (y 1).val) % 8192, Nat.mod_lt _ (by decide)⟩ (y 2))

/-- Head `e` of a buffer of two heads of 512 rows. -/
def hd {α : Type} (x : S2x512x128.Idx → α) (e : Fin 2) : S1x512x128.Idx → α :=
  fun y => x (ix3 e (y 1) (y 2))

theorem readAt_blk {κ : Kind} {sp : Space} {e : EltTy} {v : View sig κ sp S2x8192x128 e} {f : v.ty.Contents (Elt F)} {x : S2x8192x128.Idx → Elt F e}
    (hf : v.read (Elt F) f = x) {off : Fin 3 → ℕ} (inb : ∀ a, off a + S1x512x128.size a ≤ S2x8192x128.size a) (e' : Fin 2) (r : ℕ)
    (h : off = ![e'.val, r, 0]) (hr : r + 512 ≤ 8192) :
    v.readAt (Elt F) (Rect.unit (s := S2x8192x128) off S1x512x128.size inb).toLoadRect f = blk x e' r := by
  subst hf; subst h; funext y
  refine congrArg (v.read (Elt F) f) (funext fun a => Fin.ext ?_)
  have h1 : (y 1).val < 512 := (y 1).isLt
  have h0 : (y 0).val < 1 := (y 0).isLt
  match a with
  | ⟨0, _⟩ => show e'.val + 1 * (y 0).val = e'.val; omega
  | ⟨1, _⟩ => show r + 1 * (y 1).val = (r + (y 1).val) % 8192; omega
  | ⟨2, _⟩ => show 0 + 1 * (y 2).val = (y 2).val; omega

theorem readAt_hd {κ : Kind} {sp : Space} {e : EltTy} {v : View sig κ sp S2x512x128 e} {f : v.ty.Contents (Elt F)} {x : S2x512x128.Idx → Elt F e}
    (hf : v.read (Elt F) f = x) {off : Fin 3 → ℕ} (inb : ∀ a, off a + S1x512x128.size a ≤ S2x512x128.size a) (e' : Fin 2)
    (h : off = ![e'.val, 0, 0]) :
    v.readAt (Elt F) (Rect.unit (s := S2x512x128) off S1x512x128.size inb).toLoadRect f = hd x e' := by
  subst hf; subst h; funext y
  refine congrArg (v.read (Elt F) f) (funext fun a => Fin.ext ?_)
  have h0 : (y 0).val < 1 := (y 0).isLt
  match a with
  | ⟨0, _⟩ => show e'.val + 1 * (y 0).val = e'.val; omega
  | ⟨1, _⟩ => show 0 + 1 * (y 1).val = (y 1).val; omega
  | ⟨2, _⟩ => show 0 + 1 * (y 2).val = (y 2).val; omega

/-- Head `e`'s rows from `r` on replaced. -/
def setBlk {α : Type} (x : S2x8192x128.Idx → α) (e : Fin 2) (r : ℕ) (w : S1x512x128.Idx → α) : S2x8192x128.Idx → α :=
  VecWindow.put (s := S2x8192x128) x ![e.val, r, 0] S1x512x128.size w

/-- Head `e` replaced. -/
def setHd {α : Type} (x : S2x512x128.Idx → α) (e : Fin 2) (w : S1x512x128.Idx → α) : S2x512x128.Idx → α :=
  VecWindow.put (s := S2x512x128) x ![e.val, 0, 0] S1x512x128.size w

/-- What a trip over the row block from `r` on makes of the accumulated query gradients, -/
def tripQ (x0 x1 : Vec F S2x8192x128 .bf16) (x2 x3 : Vec F S2x512x128 .bf16) (r : ℕ) (X : Vec F S2x8192x128 .f32) : Vec F S2x8192x128 .f32 :=
  setBlk (setBlk X 0 r (k0_pay10 (k0_pay1 (blk x0 0 r) (hd x2 0)) (k0_pay3 (blk x1 0 r) (hd x3 0)) (blk X 0 r) (hd x2 0)))
    1 r (k0_pay15 (k0_pay2 (blk x0 1 r) (hd x2 1)) (k0_pay4 (blk x1 1 r) (hd x3 1)) (blk X 1 r) (hd x2 1))

/-- of the accumulated key gradients, -/
def tripK (x0 x1 : Vec F S2x8192x128 .bf16) (x2 x3 : Vec F S2x512x128 .bf16) (r : ℕ) (X : Vec F S2x512x128 .f32) : Vec F S2x512x128 .f32 :=
  setHd (setHd X 0 (k0_pay9 (k0_pay1 (blk x0 0 r) (hd x2 0)) (k0_pay3 (blk x1 0 r) (hd x3 0)) (k0_pay5 (blk x0 0 r)) (hd X 0)))
    1 (k0_pay14 (k0_pay2 (blk x0 1 r) (hd x2 1)) (k0_pay4 (blk x1 1 r) (hd x3 1)) (blk x0 1 r) (hd X 1))

/-- and of the accumulated value gradients. -/
def tripV (x0 x1 : Vec F S2x8192x128 .bf16) (x2 : Vec F S2x512x128 .bf16) (r : ℕ) (X : Vec F S2x512x128 .f32) : Vec F S2x512x128 .f32 :=
  setHd (setHd X 0 (k0_pay8 (k0_pay1 (blk x0 0 r) (hd x2 0)) (blk x1 0 r) (hd X 0)))
    1 (k0_pay13 (k0_pay2 (blk x0 1 r) (hd x2 1)) (blk x1 1 r) (hd X 1))

set_option maxHeartbeats 4000000 in
theorem trip (c : Dev nD) (t : Fin grid0.N) (k : Fin (k0_t1_loop (grid0.coords t) 15#32 15#32).trips) (hw : k0_chk1 (grid0.coords t) 15#32 15#32)
    (arg3 : Memref sig .tc .vmem S2x8192x128 .bf16) (harg3 : arg3.IsWhole) (arg4 : Memref sig .tc .vmem S2x8192x128 .bf16) (harg4 : arg4.IsWhole) (arg5 : Memref sig .tc .vmem S2x512x128 .bf16) (harg5 : arg5.IsWhole) (arg6 : Memref sig .tc .vmem S2x512x128 .bf16) (harg6 : arg6.IsWhole) (arg7 : Memref sig .tc .vmem S8192x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S2x8192x128 .f32) (harg11 : arg11.IsWhole) (arg12 : Memref sig .tc .vmem S2x512x128 .f32) (harg12 : arg12.IsWhole) (arg13 : Memref sig .tc .vmem S2x512x128 .f32) (harg13 : arg13.IsWhole)
    (x0 : Vec F S2x8192x128 .bf16) (x1 : Vec F S2x8192x128 .bf16) (x2 : Vec F S2x512x128 .bf16) (x3 : Vec F S2x512x128 .bf16)
    (X11 : Vec F S2x8192x128 .f32) (X12 X13 : Vec F S2x512x128 .f32)
    (v21 v28 v45 v47 : BitVec 32) (v119 v122 : FVec F S512x128 .bf16) (v135 : FVec F S512x512 .bf16) (v137 : FVec F S512x128 .f32) (v138 : FVec F S512x512 .bf16) (cst_83 : FVec F S512x128 .f32) (v162 : BitVec 32) :
      ∀ (E : Set ℕ) (K : Unit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg11 fullShare X11 ∗ owns (c : Thread nD τ) arg12 fullShare X12 ∗ owns (c : Thread nD τ) arg13 fullShare X13
            ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg11 fullShare (tripQ x0 x1 x2 x3 (512 * (t.val % 16 + 1 + k.val)) X11) ∗ owns (c : Thread nD τ) arg12 fullShare (tripK x0 x1 x2 x3 (512 * (t.val % 16 + 1 + k.val)) X12) ∗ owns (c : Thread nD τ) arg13 fullShare (tripV x0 x1 x2 (512 * (t.val % 16 + 1 + k.val)) X13)) -∗ K ()))
          ⊢ wp frame (wpE (defs₀ (F := F)) Variants.none c none) E (k0_t1_body (grid0.coords t) tbM htbM arg3 harg3 arg4 harg4 arg5 harg5 arg6 harg6 arg7 harg7 arg8 harg8 arg9 harg9 arg10 harg10 arg11 harg11 arg12 harg12 arg13 harg13 15#32 v21 15#32 hw v28 v45 v47 v119 v122 v135 v137 v138 cst_83 v162 k ()) K := by
  intro E K
  unfold k0_t1_body
  unfold owns
  iintro ⟨⟨%f0, %hf0, H0⟩, ⟨%f1, %hf1, H1⟩, ⟨%f2, %hf2, H2⟩, ⟨%f3, %hf3, H3⟩, ⟨%g1, %hg1, HS0⟩, ⟨%g2, %hg2, HS1⟩, ⟨%g3, %hg3, HS2⟩, Hk⟩
  have hr : 512 * (t.val % 16 + 1 + k.val) + 512 ≤ 8192 := by
    have h1 := lt_of_lt_of_eq k.isLt (trips1 t); omega
  have o4 := off4_eq t k
  have o5 := off5_eq t k
  have i4 := k0_off4_inb (grid0.coords t) 15#32 15#32 hw k
  have i5 := k0_off5_inb (grid0.coords t) 15#32 15#32 hw k
  have j0 : ∀ a, (![0, 0, 0] : Fin 3 → ℕ) a + S1x512x128.size a ≤ S2x512x128.size a := by decide
  have j1 : ∀ a, (![1, 0, 0] : Fin 3 → ℕ) a + S1x512x128.size a ≤ S2x512x128.size a := by decide
  sl_exec
  rw [wp_ret]; imodintro
  iapply Hk
  isplitl [H0]; · iexists f0; isplitl []; · ipureintro; exact hf0
                  iexact H0
  isplitl [H1]; · iexists f1; isplitl []; · ipureintro; exact hf1
                  iexact H1
  isplitl [H2]; · iexists f2; isplitl []; · ipureintro; exact hf2
                  iexact H2
  isplitl [H3]; · iexists f3; isplitl []; · ipureintro; exact hf3
                  iexact H3
  isplitl [HS0]
  · iexists _; isplitl []
    rotate_left
    · iexact HS0
    ipureintro
    refine (View.read_writes_cons_put _ _ _ _ _ o5).trans ?_
    rw [View.read_writes_cons_put _ _ _ _ _ o4, View.writes_nil, hg1]
    unfold tripQ setBlk
    rw [← readAt_blk hf0 i4 0 _ o4 hr, ← readAt_blk hf0 i5 1 _ o5 hr, ← readAt_blk hf1 i4 0 _ o4 hr, ← readAt_blk hf1 i5 1 _ o5 hr, ← readAt_hd hf2 j0 0 rfl, ← readAt_hd hf2 j1 1 rfl, ← readAt_hd hf3 j0 0 rfl, ← readAt_hd hf3 j1 1 rfl, ← readAt_blk hg1 i4 0 _ o4 hr, ← readAt_blk hg1 i5 1 _ o5 hr]
    rfl
  isplitl [HS1]
  · iexists _; isplitl []
    rotate_left
    · iexact HS1
    ipureintro
    refine (View.read_writes_cons_put _ _ _ _ _ rfl).trans ?_
    rw [View.read_writes_cons_put _ _ _ _ _ rfl, View.writes_nil, hg2]
    unfold tripK setHd
    rw [← readAt_blk hf0 i4 0 _ o4 hr, ← readAt_blk hf0 i5 1 _ o5 hr, ← readAt_blk hf1 i4 0 _ o4 hr, ← readAt_blk hf1 i5 1 _ o5 hr, ← readAt_hd hf2 j0 0 rfl, ← readAt_hd hf2 j1 1 rfl, ← readAt_hd hf3 j0 0 rfl, ← readAt_hd hf3 j1 1 rfl, ← readAt_hd hg2 j0 0 rfl, ← readAt_hd hg2 j1 1 rfl]
    rfl
  · iexists _; isplitl []
    rotate_left
    · iexact HS2
    ipureintro
    refine (View.read_writes_cons_put _ _ _ _ _ rfl).trans ?_
    rw [View.read_writes_cons_put _ _ _ _ _ rfl, View.writes_nil, hg3]
    unfold tripV setHd
    rw [← readAt_blk hf0 i4 0 _ o4 hr, ← readAt_blk hf0 i5 1 _ o5 hr, ← readAt_blk hf1 i4 0 _ o4 hr, ← readAt_blk hf1 i5 1 _ o5 hr, ← readAt_hd hf2 j0 0 rfl, ← readAt_hd hf2 j1 1 rfl, ← readAt_hd hg3 j0 0 rfl, ← readAt_hd hg3 j1 1 rfl]
    rfl

end Cert.KernelIdeal.Att

end
-- ==== Proof.KernelIdeal.Body.lean ====
/- One trip of the loop over the later row blocks: what it leaves in the three accumulators. -/
module

public import proofs.«01_k».proof.Proof.KernelIdeal.Trip
public import Idealize.ShloMosaic.Lib.VecWindow
public import Idealize.ShloMosaic.Lib.ValueIdx

@[expose] public section

set_option maxRecDepth 16384

noncomputable section

namespace Cert.KernelIdeal.Att

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem blk_setBlk {α : Type} (x : S2x8192x128.Idx → α) (r : ℕ) (hr : r + 512 ≤ 8192) (w : S1x512x128.Idx → α) :
    blk (setBlk x 0 r w) 1 r = blk x 1 r := by
  funext y
  unfold blk setBlk VecWindow.put
  rw [dif_neg]
  intro h
  have := (h 0).2
  have h1 : (0 : ℕ) + 1 = S2x8192x128.size 0 - 1 := rfl
  exact absurd this (by show ¬ (1 : ℕ) < 0 + 1; omega)

theorem hd_setHd {α : Type} (x : S2x512x128.Idx → α) (w : S1x512x128.Idx → α) :
    hd (setHd x 0 w) 1 = hd x 1 := by
  funext y
  unfold hd setHd VecWindow.put
  rw [dif_neg]
  intro h
  have := (h 0).2
  exact absurd this (by show ¬ (1 : ℕ) < 0 + 1; omega)

theorem read_setHd {κ : Kind} {sp : Space} {e : EltTy} (v : View sig κ sp S2x512x128 e) (f : v.ty.Contents (Elt F)) {off : Fin 3 → ℕ} (inb : ∀ a, off a + S1x512x128.size a ≤ S2x512x128.size a)
    (w : S1x512x128.Idx → Elt F e) (L : List (View.Piece (Elt F) S2x512x128 e)) (x : S2x512x128.Idx → Elt F e) (e' : Fin 2) (h : off = ![e'.val, 0, 0]) (hx : v.read (Elt F) (v.writes (Elt F) f L) = x) :
    v.read (Elt F) (v.writes (Elt F) f (⟨Rect.unit (s := S2x512x128) off S1x512x128.size inb, w⟩ :: L)) = setHd x e' w := by
  subst hx; exact View.read_writes_cons_put v f inb w L h

theorem read_setBlk {κ : Kind} {sp : Space} {e : EltTy} (v : View sig κ sp S2x8192x128 e) (f : v.ty.Contents (Elt F)) {off : Fin 3 → ℕ} (inb : ∀ a, off a + S1x512x128.size a ≤ S2x8192x128.size a)
    (w : S1x512x128.Idx → Elt F e) (L : List (View.Piece (Elt F) S2x8192x128 e)) (x : S2x8192x128.Idx → Elt F e) (e' : Fin 2) (r : ℕ) (h : off = ![e'.val, r, 0]) (hx : v.read (Elt F) (v.writes (Elt F) f L) = x) :
    v.read (Elt F) (v.writes (Elt F) f (⟨Rect.unit (s := S2x8192x128) off S1x512x128.size inb, w⟩ :: L)) = setBlk x e' r w := by
  subst hx; exact View.read_writes_cons_put v f inb w L h

/-- The word of the diagonal block's number that the body computes from its own grid coordinate. -/
def w45 (i : grid0.Coords) : BitVec 32 :=
  Scalar.select (0#1) (Scalar.subi (Scalar.divsi (BitVec.ofNat 32 (i 1).val) 1#32) 1#32) (Scalar.divsi (BitVec.ofNat 32 (i 1).val) 1#32)

theorem w45_eq : ∀ t : Fin grid0.N, w45 (grid0.coords t) = BitVec.ofNat 32 (t.val % 16) := by decide +kernel

section Diag
variable (i : grid0.Coords) (x0 x1 : Vec F S2x8192x128 .bf16) (x2 x3 : Vec F S2x512x128 .bf16) (r : ℕ)

/-- What the diagonal tile, over the row block from `r` on, makes of the accumulated query gradients, -/
def diagQ (X : Vec F S2x8192x128 .f32) : Vec F S2x8192x128 .f32 :=
  setBlk (setBlk X 0 r (k0_pay124 (k0_pay120 (BitVec.ofNat 32 (i 1).val) (w45 i) (k0_pay115 (blk x0 0 r) (hd x2 0)) (k0_pay117 (blk x1 0 r) (hd x3 0))) (blk X 0 r) (hd x2 0)))
    1 r (k0_pay133 (k0_pay128 (BitVec.ofNat 32 (i 1).val) (w45 i) (k0_pay116 (blk x0 1 r) (hd x2 1)) (k0_pay118 (blk x1 1 r) (hd x3 1))) (blk X 1 r) (hd x2 1))

/-- of the accumulated key gradients, which it finds zero, -/
def diagK : Vec F S2x512x128 .f32 :=
  setHd (setHd k0_pay113 0 (k0_pay123 (k0_pay122 (BitVec.ofNat 32 (i 1).val) (w45 i) (k0_pay115 (blk x0 0 r) (hd x2 0)) (k0_pay117 (blk x1 0 r) (hd x3 0)) (blk x0 0 r) (hd k0_pay113 0))))
    1 (k0_pay132 (k0_pay125 (blk x0 1 r)) (k0_pay128 (BitVec.ofNat 32 (i 1).val) (w45 i) (k0_pay116 (blk x0 1 r) (hd x2 1)) (k0_pay118 (blk x1 1 r) (hd x3 1))) (hd k0_pay113 1))

/-- and of the accumulated value gradients, which it finds zero too. -/
def diagV : Vec F S2x512x128 .f32 :=
  setHd (setHd k0_pay114 0 (k0_pay121 (BitVec.ofNat 32 (i 1).val) (w45 i) (k0_pay115 (blk x0 0 r) (hd x2 0)) (blk x1 0 r) (hd k0_pay114 0)))
    1 (k0_pay131 (k0_pay126 (blk x1 1 r)) (k0_pay129 (hd k0_pay114 1)) (k0_pay130 (BitVec.ofNat 32 (i 1).val) (w45 i) (k0_pay116 (blk x0 1 r) (hd x2 1))) (constant S512x128 .f32 0x00000000#32))
end Diag

section Trips
variable (x0 x1 : Vec F S2x8192x128 .bf16) (x2 x3 : Vec F S2x512x128 .bf16) (m : ℕ)
/-- The accumulated query gradients after `n` trips from row block `m` on, -/
def tripsQ (X : Vec F S2x8192x128 .f32) : ℕ → Vec F S2x8192x128 .f32
  | 0 => X
  | n + 1 => tripQ x0 x1 x2 x3 (512 * (m + n)) (tripsQ X n)
/-- the accumulated key gradients, -/
def tripsK (X : Vec F S2x512x128 .f32) : ℕ → Vec F S2x512x128 .f32
  | 0 => X
  | n + 1 => tripK x0 x1 x2 x3 (512 * (m + n)) (tripsK X n)
/-- and the accumulated value gradients. -/
def tripsV (X : Vec F S2x512x128 .f32) : ℕ → Vec F S2x512x128 .f32
  | 0 => X
  | n + 1 => tripV x0 x1 x2 (512 * (m + n)) (tripsV X n)
end Trips

theorem trips2 : ∀ t : Fin grid0.N, (k0_t2_loop (grid0.coords t) 15#32 15#32).trips = 0 := by decide +kernel
theorem trips3 : (k0_t3_loop 15#32 15#32).trips = 0 := by decide +kernel
theorem trips4 : (k0_t4_loop 15#32 15#32).trips = 0 := by decide +kernel
theorem trips5 : (k0_t5_loop 15#32 15#32).trips = 0 := by decide +kernel
theorem trips6 : (k0_t6_loop 15#32 15#32).trips = 0 := by decide +kernel
theorem off2_eq : ∀ t : Fin grid0.N, k0_off2 (grid0.coords t) = ![0, 512 * (t.val % 16), 0] := by decide +kernel
theorem off3_eq : ∀ t : Fin grid0.N, k0_off3 (grid0.coords t) = ![1, 512 * (t.val % 16), 0] := by decide +kernel
theorem off12_eq : ∀ t : Fin grid0.N, k0_off12 (grid0.coords t) = ![512 * (t.val % 16), 0] := by decide +kernel

section Out
variable (i : grid0.Coords) (ki : ℕ) (x0 x1 : Vec F S2x8192x128 .bf16) (x2 x3 : Vec F S2x512x128 .bf16)
/-- The query gradients, key gradients and value gradients after all row blocks of a point. -/
def finQ (X : Vec F S2x8192x128 .f32) : Vec F S2x8192x128 .f32 :=
  tripsQ x0 x1 x2 x3 (ki + 1) (diagQ i x0 x1 x2 x3 (512 * ki) X) (15 - ki)
def finK : Vec F S2x512x128 .f32 := tripsK x0 x1 x2 x3 (ki + 1) (diagK i x0 x1 x2 x3 (512 * ki)) (15 - ki)
def finV : Vec F S2x512x128 .f32 := tripsV x0 x1 x2 (ki + 1) (diagV i x0 x1 x2 (512 * ki)) (15 - ki)

end Out

/-- The rows from `r` on of the column gradients. -/
def rows {α : Type} (x : S8192x128.Idx → α) (r : ℕ) : S512x128.Idx → α :=
  fun y => x (ix2 ⟨(r + (y 0).val) % 8192, Nat.mod_lt _ (by decide)⟩ (y 1))

theorem readAt_rows {κ : Kind} {sp : Space} {e : EltTy} {v : View sig κ sp S8192x128 e} {f : v.ty.Contents (Elt F)} {x : S8192x128.Idx → Elt F e}
    (hf : v.read (Elt F) f = x) {off : Fin 2 → ℕ} (inb : ∀ a, off a + S512x128.size a ≤ S8192x128.size a) (r : ℕ)
    (h : off = ![r, 0]) (hr : r + 512 ≤ 8192) :
    v.readAt (Elt F) (Rect.unit (s := S8192x128) off S512x128.size inb).toLoadRect f = rows x r := by
  subst hf; subst h; funext y
  refine congrArg (v.read (Elt F) f) (funext fun a => Fin.ext ?_)
  have h0 : (y 0).val < 512 := (y 0).isLt
  match a with
  | ⟨0, _⟩ => show r + 1 * (y 0).val = (r + (y 0).val) % 8192; omega
  | ⟨1, _⟩ => show 0 + 1 * (y 1).val = (y 1).val; omega

/-- The column gradients after a point's key block. -/
def midC (i : grid0.Coords) (ki : ℕ) (X : Vec F S8192x128 .f32) (K : Vec F S2x512x128 .f32) : Vec F S8192x128 .f32 :=
  VecWindow.put (s := S8192x128) X ![512 * ki, 0] S512x128.size
    (k0_pay144 (BitVec.ofNat 32 (i 0).val) (iota .tc S512x128 32 [1] iota_S512x128_d1_w32) (rows X (512 * ki)) (hd K 0) (hd K 1))

/-- The packed query gradients of a pair of heads. -/
def outQ (Q : Vec F S2x8192x128 .f32) : Vec F S8192x128 .bf16 :=
  fun y => k0_pay49 (iota .tc S512x128 32 [1] iota_S512x128_d1_w32) (blk Q 0 (512 * ((y 0).val / 512))) (blk Q 1 (512 * ((y 0).val / 512)))
    (ix2 ⟨(y 0).val % 512, Nat.mod_lt _ (by decide)⟩ (y 1))

/-- The column gradients after the last key block of a pair of heads. -/
def endC (i : grid0.Coords) (Q : Vec F S2x8192x128 .f32) (X : Vec F S8192x128 .f32) : Vec F S8192x128 .f32 :=
  fun y => k0_pay50 (BitVec.ofNat 32 (i 0).val) (iota .tc S512x128 32 [1] iota_S512x128_d1_w32) (blk Q 0 (512 * ((y 0).val / 512))) (blk Q 1 (512 * ((y 0).val / 512)))
    (rows X (512 * ((y 0).val / 512))) (ix2 ⟨(y 0).val % 512, Nat.mod_lt _ (by decide)⟩ (y 1))

/-- `G` on the first `b` blocks of 512 rows and `X` on the others. -/
def upto {α : Type} (G X : S8192x128.Idx → α) (b : ℕ) : S8192x128.Idx → α := fun y => if (y 0).val < 512 * b then G y else X y

theorem upto_zero {α : Type} (G X : S8192x128.Idx → α) : upto G X 0 = X := by funext y; exact if_neg (by omega)

theorem upto_all {α : Type} (G X : S8192x128.Idx → α) : upto G X 16 = G := by
  funext y; exact if_pos (by have h : (y 0).val < 8192 := (y 0).isLt; omega)

theorem rows_upto {α : Type} (G X : S8192x128.Idx → α) (b : ℕ) (hb : b < 16) : rows (upto G X b) (512 * b) = rows X (512 * b) := by
  funext z
  have h0 : (z 0).val < 512 := (z 0).isLt
  exact if_neg (by show ¬ (512 * b + (z 0).val) % 8192 < 512 * b; omega)

/-- Storing block `b` of `G` carries the blocks of `G` one further. -/
theorem read_upto {κ : Kind} {sp : Space} {e : EltTy} (v : View sig κ sp S8192x128 e) (f : v.ty.Contents (Elt F)) {off : Fin 2 → ℕ} (inb : ∀ a, off a + S512x128.size a ≤ S8192x128.size a)
    (w : S512x128.Idx → Elt F e) (L : List (View.Piece (Elt F) S8192x128 e)) (G X : S8192x128.Idx → Elt F e) (b : ℕ) (hb : b < 16) (h : off = ![512 * b, 0])
    (hw : ∀ y : S8192x128.Idx, (y 0).val / 512 = b → G y = w (ix2 ⟨(y 0).val % 512, Nat.mod_lt _ (by decide)⟩ (y 1)))
    (hx : v.read (Elt F) (v.writes (Elt F) f L) = upto G X b) :
    v.read (Elt F) (v.writes (Elt F) f (⟨Rect.unit (s := S8192x128) off S512x128.size inb, w⟩ :: L)) = upto G X (b + 1) := by
  funext y
  have hy : (y 0).val < 8192 := (y 0).isLt
  by_cases h1 : (y 0).val / 512 = b
  · refine (View.read_writes_cons_unit_of_mem v f inb w L y (ix2 ⟨(y 0).val % 512, Nat.mod_lt _ (by decide)⟩ (y 1)) h ?_).trans ?_
    · intro a
      match a with
      | ⟨0, _⟩ => show (y 0).val = 512 * b + (y 0).val % 512; omega
      | ⟨1, _⟩ => show (y 1).val = 0 + (y 1).val; omega
    · exact (hw y h1).symm.trans (if_pos (by omega)).symm
  · refine (View.read_writes_cons_unit_of_not_mem v f inb w L y h 0 ?_).trans ?_
    · show (y 0).val < 512 * b ∨ 512 * b + 512 ≤ (y 0).val; omega
    · rw [hx]
      unfold upto
      by_cases h2 : (y 0).val < 512 * b
      · rw [if_pos h2, if_pos (by omega)]
      · rw [if_neg h2, if_neg (by omega)]

/-- Block `b` of the packed query gradients stored. -/
theorem read_outQ {κ : Kind} {sp : Space} (v : View sig κ sp S8192x128 .bf16) (f : v.ty.Contents (Elt F)) {off : Fin 2 → ℕ} (inb : ∀ a, off a + S512x128.size a ≤ S8192x128.size a)
    (A B : S1x512x128.Idx → Elt F .f32) (L : List (View.Piece (Elt F) S8192x128 .bf16)) (Q : Vec F S2x8192x128 .f32) (X : Vec F S8192x128 .bf16) (b : ℕ) (hb : b < 16) (h : off = ![512 * b, 0])
    (hA : A = blk Q 0 (512 * b)) (hB : B = blk Q 1 (512 * b)) (hx : v.read (Elt F) (v.writes (Elt F) f L) = upto (outQ Q) X b) :
    v.read (Elt F) (v.writes (Elt F) f (⟨Rect.unit (s := S8192x128) off S512x128.size inb, k0_pay49 (iota .tc S512x128 32 [1] iota_S512x128_d1_w32) A B⟩ :: L)) = upto (outQ Q) X (b + 1) := by
  subst hA; subst hB
  refine read_upto v f inb _ L _ X b hb h (fun y hy => ?_) hx
  subst hy; rfl

/-- Block `b` of the column gradients stored. -/
theorem read_endC {κ : Kind} {sp : Space} (v : View sig κ sp S8192x128 .f32) (f : v.ty.Contents (Elt F)) {off : Fin 2 → ℕ} (inb inb' : ∀ a, off a + S512x128.size a ≤ S8192x128.size a)
    (A B : S1x512x128.Idx → Elt F .f32) (L : List (View.Piece (Elt F) S8192x128 .f32)) (i : grid0.Coords) (Q : Vec F S2x8192x128 .f32) (X : Vec F S8192x128 .f32) (b : ℕ) (hb : b < 16) (h : off = ![512 * b, 0])
    (hA : A = blk Q 0 (512 * b)) (hB : B = blk Q 1 (512 * b)) (hx : v.read (Elt F) (v.writes (Elt F) f L) = upto (endC i Q X) X b) :
    v.read (Elt F) (v.writes (Elt F) f (⟨Rect.unit (s := S8192x128) off S512x128.size inb, k0_pay50 (BitVec.ofNat 32 (i 0).val) (iota .tc S512x128 32 [1] iota_S512x128_d1_w32) A B
      (v.readAt (Elt F) (Rect.unit (s := S8192x128) off S512x128.size inb').toLoadRect (v.writes (Elt F) f L))⟩ :: L)) = upto (endC i Q X) X (b + 1) := by
  subst hA; subst hB
  refine read_upto v f inb _ L _ X b hb h (fun y hy => ?_) hx
  rw [readAt_rows hx inb' (512 * b) h (by omega), rows_upto _ _ b hb]
  subst hy; rfl

/-- The blocks and accumulators before trip `n`. -/
def loopI (c : Dev nD) (arg3 arg4 : Memref sig .tc .vmem S2x8192x128 .bf16) (arg5 arg6 : Memref sig .tc .vmem S2x512x128 .bf16) (arg11 : Memref sig .tc .vmem S2x8192x128 .f32) (arg12 arg13 : Memref sig .tc .vmem S2x512x128 .f32)
    (x0 x1 : Vec F S2x8192x128 .bf16) (x2 x3 : Vec F S2x512x128 .bf16) (m : ℕ) (XQ : Vec F S2x8192x128 .f32) (XK XV : Vec F S2x512x128 .f32) (n : ℕ) (_ : Unit) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3
    ∗ owns (c : Thread nD τ) arg11 fullShare (tripsQ x0 x1 x2 x3 m XQ n) ∗ owns (c : Thread nD τ) arg12 fullShare (tripsK x0 x1 x2 x3 m XK n) ∗ owns (c : Thread nD τ) arg13 fullShare (tripsV x0 x1 x2 m XV n))

theorem trip_inv (c : Dev nD) (t : Fin grid0.N) (k : Fin (k0_t1_loop (grid0.coords t) 15#32 15#32).trips) (hw : k0_chk1 (grid0.coords t) 15#32 15#32)
    (arg3 : Memref sig .tc .vmem S2x8192x128 .bf16) (harg3 : arg3.IsWhole) (arg4 : Memref sig .tc .vmem S2x8192x128 .bf16) (harg4 : arg4.IsWhole) (arg5 : Memref sig .tc .vmem S2x512x128 .bf16) (harg5 : arg5.IsWhole) (arg6 : Memref sig .tc .vmem S2x512x128 .bf16) (harg6 : arg6.IsWhole) (arg7 : Memref sig .tc .vmem S8192x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S2x8192x128 .f32) (harg11 : arg11.IsWhole) (arg12 : Memref sig .tc .vmem S2x512x128 .f32) (harg12 : arg12.IsWhole) (arg13 : Memref sig .tc .vmem S2x512x128 .f32) (harg13 : arg13.IsWhole)
    (x0 x1 : Vec F S2x8192x128 .bf16) (x2 x3 : Vec F S2x512x128 .bf16) (XQ : Vec F S2x8192x128 .f32) (XK XV : Vec F S2x512x128 .f32)
    (v21 v28 v45 v47 : BitVec 32) (v119 v122 : FVec F S512x128 .bf16) (v135 : FVec F S512x512 .bf16) (v137 : FVec F S512x128 .f32) (v138 : FVec F S512x512 .bf16) (cst_83 : FVec F S512x128 .f32) (v162 : BitVec 32) (E : Set ℕ) :
    loopI c arg3 arg4 arg5 arg6 arg11 arg12 arg13 x0 x1 x2 x3 (t.val % 16 + 1) XQ XK XV k.val ()
      ⊢ wp frame (wpE (defs₀ (F := F)) Variants.none c none) E (k0_t1_body (grid0.coords t) tbM htbM arg3 harg3 arg4 harg4 arg5 harg5 arg6 harg6 arg7 harg7 arg8 harg8 arg9 harg9 arg10 harg10 arg11 harg11 arg12 harg12 arg13 harg13 15#32 v21 15#32 hw v28 v45 v47 v119 v122 v135 v137 v138 cst_83 v162 k ())
        (loopI c arg3 arg4 arg5 arg6 arg11 arg12 arg13 x0 x1 x2 x3 (t.val % 16 + 1) XQ XK XV (k.val + 1)) := by
  unfold loopI
  iintro ⟨H0, H1, H2, H3, HS0, HS1, HS2⟩
  iapply (trip c t k hw arg3 harg3 arg4 harg4 arg5 harg5 arg6 harg6 arg7 harg7 arg8 harg8 arg9 harg9 arg10 harg10 arg11 harg11 arg12 harg12 arg13 harg13 x0 x1 x2 x3 _ _ _ v21 v28 v45 v47 v119 v122 v135 v137 v138 cst_83 v162 E _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [H0]; · iexact H0
  isplitl [H1]; · iexact H1
  isplitl [H2]; · iexact H2
  isplitl [H3]; · iexact H3
  isplitl [HS0]; · iexact HS0
  isplitl [HS1]; · iexact HS1
  iexact HS2

end Cert.KernelIdeal.Att

end
-- ==== Proof.KernelIdeal.RunBase.lean ====
/- What the accumulators hold before each point and what each point writes. -/
module

public import proofs.«01_k».proof.Proof.KernelIdeal.Body

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The point numbered `n`. -/
def pt (n : ℕ) : Fin grid0.N := ⟨n % 128, Nat.lt_of_lt_of_eq (Nat.mod_lt _ (by decide)) N_0.symm⟩

theorem pt_val (t : Fin grid0.N) : pt t.val = t :=
  Fin.ext (Nat.mod_eq_of_lt (Nat.lt_of_lt_of_eq t.isLt N_0))

/-- The accumulated query gradients before point `n`, meaningful after the first point of a pair of heads. -/
@[irreducible] def acQ (c : Dev nD) : ℕ → Vec F S2x8192x128 .f32
  | 0 => k0_pay112
  | n + 1 => finQ (grid0.coords (pt n)) (n % 16) (iblk m c 0 (pt n)) (iblk m c 1 (pt n)) (iblk m c 2 (pt n)) (iblk m c 3 (pt n)) (if n % 16 = 0 then k0_pay112 else acQ c n)

/-- The accumulated key gradients and value gradients of point `n`. -/
def acK (c : Dev nD) (n : ℕ) : Vec F S2x512x128 .f32 := finK (grid0.coords (pt n)) (n % 16) (iblk m c 0 (pt n)) (iblk m c 1 (pt n)) (iblk m c 2 (pt n)) (iblk m c 3 (pt n))
def acV (c : Dev nD) (n : ℕ) : Vec F S2x512x128 .f32 := finV (grid0.coords (pt n)) (n % 16) (iblk m c 0 (pt n)) (iblk m c 1 (pt n)) (iblk m c 2 (pt n))

/-- The column gradients before point `n`. -/
@[irreducible] def acC (c : Dev nD) : ℕ → Vec F S8192x128 .f32
  | 0 => k0_pay111
  | n + 1 => if n % 16 = 15 then endC (grid0.coords (pt n)) (acQ m c (n + 1)) (midC (grid0.coords (pt n)) (n % 16) (acC c n) (acK m c n))
      else midC (grid0.coords (pt n)) (n % 16) (acC c n) (acK m c n)

theorem acQ_succ (c : Dev nD) (n : ℕ) : acQ m c (n + 1) = finQ (grid0.coords (pt n)) (n % 16) (iblk m c 0 (pt n)) (iblk m c 1 (pt n)) (iblk m c 2 (pt n)) (iblk m c 3 (pt n)) (if n % 16 = 0 then k0_pay112 else acQ m c n) := by
  with_unfolding_all rfl
theorem acC_zero (c : Dev nD) : acC m c 0 = k0_pay111 := by with_unfolding_all rfl
theorem acC_succ (c : Dev nD) (n : ℕ) : acC m c (n + 1) = if n % 16 = 15 then endC (grid0.coords (pt n)) (acQ m c (n + 1)) (midC (grid0.coords (pt n)) (n % 16) (acC m c n) (acK m c n))
      else midC (grid0.coords (pt n)) (n % 16) (acC m c n) (acK m c n) := by
  with_unfolding_all rfl

/-- The key gradients and value gradients that point `n` writes. -/
def outK (c : Dev nD) (n : ℕ) : Vec F S512x128 .bf16 := k0_pay142 (hd (acK m c n) 0) (hd (acK m c n) 1)
def outV (c : Dev nD) (n : ℕ) : Vec F S512x128 .bf16 := k0_pay143 (hd (acV m c n) 0) (hd (acV m c n) 1)

/-- The query gradients' scratch before point `n`. -/
def scrQ (c : Dev nD) (n : ℕ) : sProp 𝕄 :=
  iprop(∃ d : Vec F S2x8192x128 .f32, ⌜n % 16 ≠ 0 → d = acQ m c n⌝ ∗ owns (c : Thread nD τ) sc0 fullShare d)

/-- The proof data of the pipeline on core `c`: the arrays as the region finds them, what each point leaves in every
    window's buffer, and the scratch carried between points. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outQ (acQ m c (t.val + 1))
    | ⟨5, _⟩ => outK m c t.val
    | ⟨6, _⟩ => outV m c t.val
    | ⟨7, _⟩ => acC m c (t.val + 1)
  Φ t := iprop((scrQ m c t.val ∗ (∃ d, owns (c : Thread nD τ) sc1 fullShare d) ∗ (∃ d, owns (c : Thread nD τ) sc2 fullShare d)) ∗ (∃ r, prngReg c r) ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (c : Dev nD) (w : Fin (cfgM m).W) : (dats m 0 c).A w = V m c (Pipeline.arrRef spec0 w) := by
  dsimp only [dats]

/-- What the body leaves, window by window (the proof data's `match` reduced by `dsimp`). -/
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl

theorem after0_4 (c : Dev nD) (t : Fin (cfgM m).N) : (dats m 0 c).after 4 t = outQ (acQ m c (t.val + 1)) := by dsimp only [dats]; try rfl
theorem after0_5 (c : Dev nD) (t : Fin (cfgM m).N) : (dats m 0 c).after 5 t = outK m c t.val := by dsimp only [dats]; try rfl
theorem after0_6 (c : Dev nD) (t : Fin (cfgM m).N) : (dats m 0 c).after 6 t = outV m c t.val := by dsimp only [dats]; try rfl
theorem after0_7 (c : Dev nD) (t : Fin (cfgM m).N) : (dats m 0 c).after 7 t = acC m c (t.val + 1) := by dsimp only [dats]; try rfl

/-- Each input's staging buffer holds its block at every point, fetched there or not. -/
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgM m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgM m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- The query gradients are written back after the last key block of a pair of heads, the column gradients after the last point. -/
theorem flush4 : ∀ t : Fin (cfgM m).N, ((cfgM m).win 4).flush t = true ↔ t.val % 16 = 15 :=
  (fun t => Pipeline.Window.flushOf_reads cc0_transform_4 reads0_4 hreads0_4 0 (by decide) (by decide) (Pipeline.Window.sep_of_coord cc0_transform_4 0 1 (fun _ => rfl) (by decide)) (P := 16) (m := 15) (by decide) rfl t : ∀ t : Fin grid0.N, Pipeline.Window.flushOf grid0 true cc0_transform_4 t = true ↔ t.val % 16 = 15)
theorem flush7 : ∀ t : Fin (cfgM m).N, ((cfgM m).win 7).flush t = true ↔ t.val % 128 = 127 :=
  (fun t => Pipeline.Window.flushOf_const cc0_transform_7 (fun _ _ => rfl) (n := 128) (by decide) rfl t : ∀ t : Fin grid0.N, Pipeline.Window.flushOf grid0 true cc0_transform_7 t = true ↔ t.val % 128 = 127)

/-- The column gradients' buffer holds what the point before left. -/
theorem before7 (c : Dev nD) (t : Fin (cfgM m).N) (ht : t.val ≠ 0) (d) : (dats m 0 c).before 7 t d = acC m c t.val := by
  have hN : t.val < 128 := Nat.lt_of_lt_of_eq t.isLt N_0
  rw [(dats m 0 c).before_out_kept 7 rfl t ht (by
    rw [← Bool.not_eq_true, flush7]; show ¬ (t.val - 1) % 128 = 127; omega) (fun _ => rfl) (fun _ _ => rfl) d, after0_7]
  show acC m c (t.val - 1 + 1) = _
  rw [Nat.sub_add_cancel (Nat.pos_of_ne_zero ht)]

/-- A point that is no last one writes no query gradients. -/
theorem idle4 (t : Fin (cfgM m).N) : (cfgM m).idle 4 ((cfgM m).grid.coords t) = !(k0_cond3 (grid0.coords t) == 1#1) := rfl

/-! ## The body at a point -/

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d)))

/-- and what it returns. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- A window that is live at a point leaves its buffer at what the body left there. -/
theorem leaves_owns (c : Dev nD) (t : Fin (cfgM m).N) (w : Fin (cfgM m).W) (h : (cfgM m).idle w ((cfgM m).grid.coords t) = false) :
    (dats m 0 c).leavesExact w t
      = owns (c : Thread nD τ) (((cfgM m).win w).stage ((cfgM m).slots t w)) fullShare ((dats m 0 c).after w t) := by
  unfold Dat.leavesExact; rw [h]

theorem Phi_eq (c : Dev nD) (t : Fin ((cfgM m).N + 1)) : (dats m 0 c).Φ t
    = iprop((scrQ m c t.val ∗ (∃ d, owns (c : Thread nD τ) sc1 fullShare d) ∗ (∃ d, owns (c : Thread nD τ) sc2 fullShare d)) ∗ (∃ r, prngReg c r) ∗ tbPt c tbM (fun _ => 15#32)) := by
  rw [show (dats m 0 c).Φ t = iprop((scrQ m c t.val ∗ (∃ d, owns (c : Thread nD τ) sc1 fullShare d) ∗ (∃ d, owns (c : Thread nD τ) sc2 fullShare d)) ∗ (∃ r, prngReg c r) ∗ Pipeline.ΦT pre0 (tbl m) c) from rfl, PhiT_eq, tbl_eq]

theorem Phi_before (c : Dev nD) (t : Fin (cfgM m).N) : (dats m 0 c).Φ t.castSucc = iprop((scrQ m c t.val ∗ (∃ d, owns (c : Thread nD τ) sc1 fullShare d) ∗ (∃ d, owns (c : Thread nD τ) sc2 fullShare d)) ∗ (∃ r, prngReg c r) ∗ tbPt c tbM (fun _ => 15#32)) := by
  rw [Phi_eq, Fin.val_castSucc]
theorem Phi_after (c : Dev nD) (t : Fin (cfgM m).N) : (dats m 0 c).Φ t.succ = iprop((scrQ m c (t.val + 1) ∗ (∃ d, owns (c : Thread nD τ) sc1 fullShare d) ∗ (∃ d, owns (c : Thread nD τ) sc2 fullShare d)) ∗ (∃ r, prngReg c r) ∗ tbPt c tbM (fun _ => 15#32)) := by
  rw [Phi_eq, Fin.val_succ]

end Cert.KernelIdeal.Att
-- ==== Proof.KernelIdeal.BodyA.lean ====
/- The body at a point: what it leaves in its output and scratch buffers. -/
module

public import proofs.«01_k».proof.Proof.KernelIdeal.Body

@[expose] public section

set_option maxRecDepth 16384

noncomputable section

namespace Cert.KernelIdeal.Att

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the first point: the column gradients and the query gradients start at zero. -/
theorem run_zero (c : Dev nD) (t : Fin grid0.N) (arg3 : Memref sig .tc .vmem S2x8192x128 .bf16) (harg3 : arg3.IsWhole) (arg4 : Memref sig .tc .vmem S2x8192x128 .bf16) (harg4 : arg4.IsWhole) (arg5 : Memref sig .tc .vmem S2x512x128 .bf16) (harg5 : arg5.IsWhole) (arg6 : Memref sig .tc .vmem S2x512x128 .bf16) (harg6 : arg6.IsWhole) (arg7 : Memref sig .tc .vmem S8192x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S2x8192x128 .f32) (harg11 : arg11.IsWhole) (arg12 : Memref sig .tc .vmem S2x512x128 .f32) (harg12 : arg12.IsWhole) (arg13 : Memref sig .tc .vmem S2x512x128 .f32) (harg13 : arg13.IsWhole)
    (x0 : Vec F S2x8192x128 .bf16) (x1 : Vec F S2x8192x128 .bf16) (x2 : Vec F S2x512x128 .bf16) (x3 : Vec F S2x512x128 .bf16)
    (X7 : Vec F S8192x128 .bf16) (X10 : Vec F S8192x128 .f32) (X11 : Vec F S2x8192x128 .f32) (hcZ : condZ (grid0.coords t)) (hcF : condF (grid0.coords t)) (hcL : ¬ condL (grid0.coords t)) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare X7 ∗ (∃ d, owns (c : Thread nD τ) arg8 fullShare d) ∗ (∃ d, owns (c : Thread nD τ) arg9 fullShare d) ∗ owns (c : Thread nD τ) arg10 fullShare X10 ∗ owns (c : Thread nD τ) arg11 fullShare X11 ∗ (∃ d, owns (c : Thread nD τ) arg12 fullShare d) ∗ (∃ d, owns (c : Thread nD τ) arg13 fullShare d) ∗ tbPt (F := F) c tbM (fun _ => 15#32)
            ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare X7 ∗ owns (c : Thread nD τ) arg8 fullShare (k0_pay142 (hd (finK (grid0.coords t) (t.val % 16) x0 x1 x2 x3) 0) (hd (finK (grid0.coords t) (t.val % 16) x0 x1 x2 x3) 1)) ∗ owns (c : Thread nD τ) arg9 fullShare (k0_pay143 (hd (finV (grid0.coords t) (t.val % 16) x0 x1 x2) 0) (hd (finV (grid0.coords t) (t.val % 16) x0 x1 x2) 1)) ∗ owns (c : Thread nD τ) arg10 fullShare (midC (grid0.coords t) (t.val % 16) k0_pay111 (finK (grid0.coords t) (t.val % 16) x0 x1 x2 x3)) ∗ owns (c : Thread nD τ) arg11 fullShare (finQ (grid0.coords t) (t.val % 16) x0 x1 x2 x3 k0_pay112) ∗ (∃ d, owns (c : Thread nD τ) arg12 fullShare d) ∗ (∃ d, owns (c : Thread nD τ) arg13 fullShare d) ∗ tbPt (F := F) c tbM (fun _ => 15#32)) -∗ K ⟨⟩))
          ⊢ wp frame (wpE (defs₀ (F := F)) Variants.none c none) E (cc0_attention_bwd (grid0.coords t) tbM htbM arg3 harg3 arg4 harg4 arg5 harg5 arg6 harg6 arg7 harg7 arg8 harg8 arg9 harg9 arg10 harg10 arg11 harg11 arg12 harg12 arg13 harg13) K := by
  intro E K
  simp only [cc0_attention_bwd_eq_skeleton]; unfold cc0_attention_bwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%g1, %hg1, HS0⟩, ⟨%ds1, %g2, -, HS1⟩, ⟨%ds2, %g3, -, HS2⟩, HT0, Hk⟩
  have hw := hchk t
  have ht : t.val < 128 := Nat.lt_of_lt_of_eq t.isLt N_0
  have hr : 512 * (t.val % 16) + 512 ≤ 8192 := by omega
  have o2 := off2_eq t
  have o3 := off3_eq t
  have o12 := off12_eq t
  have i2 := k0_off2_inb (grid0.coords t)
  have i3 := k0_off3_inb (grid0.coords t)
  have i12 := k0_off12_inb (grid0.coords t)
  have j0 : ∀ a, (![0, 0, 0] : Fin 3 → ℕ) a + S1x512x128.size a ≤ S2x512x128.size a := by decide
  have j1 : ∀ a, (![1, 0, 0] : Fin 3 → ℕ) a + S1x512x128.size a ≤ S2x512x128.size a := by decide
  sl_exec (disch := first | sl_exact hcZ | sl_exact hcF | sl_exact hcL | sl_exact hw)
  have hB : View.read (Elt F) arg11.view (arg11.view.writes (Elt F) arg11.view.junk run_zero.sl.HS0_1) = k0_pay112 := View.read_writes_full _ _ _ _ _
  have hK0 : View.read (Elt F) arg12.view (arg12.view.writes (Elt F) arg12.view.junk run_zero.sl.HS2_1) = k0_pay113 := View.read_writes_full _ _ _ _ _
  have hV0 : View.read (Elt F) arg13.view (arg13.view.writes (Elt F) arg13.view.junk run_zero.sl.HS2_1) = k0_pay114 := View.read_writes_full _ _ _ _ _
  have h7 : View.read (Elt F) arg10.view (arg10.view.writes (Elt F) arg10.view.junk run_zero.sl.H7_1) = k0_pay111 := View.read_writes_full _ _ _ _ _
  obtain ⟨wK, hK1⟩ : ∃ wK, View.read (Elt F) arg12.view (arg12.view.writes (Elt F) arg12.view.junk (run_zero.sl.HS1_2 c t arg3 arg4 arg5 arg6 arg12 f0 f1 f2 f3)) = setHd k0_pay113 0 wK :=
    ⟨_, read_setHd _ _ _ _ _ _ 0 rfl hK0⟩
  obtain ⟨wV, hV1⟩ : ∃ wV, View.read (Elt F) arg13.view (arg13.view.writes (Elt F) arg13.view.junk (run_zero.sl.HS2_2 c t arg3 arg4 arg5 arg13 f0 f1 f2)) = setHd k0_pay114 0 wV :=
    ⟨_, read_setHd _ _ _ _ _ _ 0 rfl hV0⟩
  obtain ⟨wQ, hQ1⟩ : ∃ wQ, View.read (Elt F) arg11.view (arg11.view.writes (Elt F) arg11.view.junk (run_zero.sl.HS0_2 c t arg3 arg4 arg5 arg6 arg11 f0 f1 f2 f3)) = setBlk k0_pay112 0 (512 * (t.val % 16)) wQ :=
    ⟨_, read_setBlk _ _ _ _ _ _ 0 _ o2 hB⟩
  have eQ : blk k0_pay112 1 (512 * (t.val % 16)) = _ := (blk_setBlk _ _ hr wQ).symm.trans (readAt_blk hQ1 i3 1 _ o3 hr).symm
  have h45 : run_zero.sl.v45 t = w45 (grid0.coords t) := rfl
  have eK : hd k0_pay113 1 = _ := (hd_setHd _ wK).symm.trans (readAt_hd hK1 j1 1 rfl).symm
  have eV : hd k0_pay114 1 = _ := (hd_setHd _ wV).symm.trans (readAt_hd hV1 j1 1 rfl).symm
  sl_for (loopI c arg3 arg4 arg5 arg6 arg11 arg12 arg13 x0 x1 x2 x3 (t.val % 16 + 1) (diagQ (grid0.coords t) x0 x1 x2 x3 (512 * (t.val % 16)) k0_pay112) (diagK (grid0.coords t) x0 x1 x2 x3 (512 * (t.val % 16))) (diagV (grid0.coords t) x0 x1 x2 (512 * (t.val % 16)))) $$ [H0 H1 H2 H3 HS0 HS1 HS2]
  · intro k acc
    exact trip_inv c t k hw arg3 harg3 arg4 harg4 arg5 harg5 arg6 harg6 arg7 harg7 arg8 harg8 arg9 harg9 arg10 harg10 arg11 harg11 arg12 harg12 arg13 harg13 x0 x1 x2 x3 _ _ _ 0#32 0#32 0#32 0#32 (constant S512x128 .bf16 0#16) (constant S512x128 .bf16 0#16) (constant S512x512 .bf16 0#16) (constant S512x128 .f32 0#32) (constant S512x512 .bf16 0#16) (constant S512x128 .f32 0#32) (run_zero.sl.v162 t) E
  · unfold loopI owns
    isplitl [H0]; · iexists f0; isplitl []; · ipureintro; exact hf0
                    iexact H0
    isplitl [H1]; · iexists f1; isplitl []; · ipureintro; exact hf1
                    iexact H1
    isplitl [H2]; · iexists f2; isplitl []; · ipureintro; exact hf2
                    iexact H2
    isplitl [H3]; · iexists f3; isplitl []; · ipureintro; exact hf3
                    iexact H3
    isplitl [HS0]
    · iexists _; isplitl []
      rotate_left
      · iexact HS0
      ipureintro
      refine (read_setBlk _ _ _ _ _ _ 1 _ o3 (read_setBlk _ _ _ _ _ _ 0 _ o2 hB)).trans ?_
      show _ = diagQ _ _ _ _ _ _ _
      unfold diagQ
      rw [← readAt_blk hf0 i2 0 _ o2 hr, ← readAt_blk hf0 i3 1 _ o3 hr, ← readAt_blk hf1 i2 0 _ o2 hr, ← readAt_blk hf1 i3 1 _ o3 hr, ← readAt_hd hf2 j0 0 rfl, ← readAt_hd hf2 j1 1 rfl, ← readAt_hd hf3 j0 0 rfl, ← readAt_hd hf3 j1 1 rfl, ← readAt_blk hB i2 0 _ o2 hr, eQ]
      delta run_zero.sl.v46 run_zero.sl.v48 run_zero.sl.v50 run_zero.sl.v52 run_zero.sl.v53 run_zero.sl.v56 run_zero.sl.v58 run_zero.sl.v59 run_zero.sl.v62 run_zero.sl.v64 run_zero.sl.v65 run_zero.sl.v91 run_zero.sl.v99 run_zero.sl.v136 run_zero.sl.v139 run_zero.sl.v140 run_zero.sl.v141 run_zero.sl.v142 run_zero.sl.v143 run_zero.sl.v144 run_zero.sl.v145 run_zero.sl.v146 run_zero.sl.v147 run_zero.sl.v150 run_zero.sl.v152 run_zero.sl.v153 run_zero.sl.v156 run_zero.sl.v157 run_zero.sl.v161 run_zero.sl.r_2 run_zero.sl.r_3 run_zero.sl.r_4 run_zero.sl.r_5 run_zero.sl.r_6 run_zero.sl.r_7 run_zero.sl.r_8 run_zero.sl.r_9 run_zero.sl.cst_26 run_zero.sl.cst_83
      delta k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
      first | (rw [h45]; done) | (rw [h45]; rfl)
    isplitl [HS1]
    · iexists _; isplitl []
      rotate_left
      · iexact HS1
      ipureintro
      refine (read_setHd _ _ _ _ _ _ 1 rfl (read_setHd _ _ _ _ _ _ 0 rfl hK0)).trans ?_
      show _ = diagK _ _ _ _ _ _
      unfold diagK
      rw [← readAt_blk hf0 i2 0 _ o2 hr, ← readAt_blk hf0 i3 1 _ o3 hr, ← readAt_blk hf1 i2 0 _ o2 hr, ← readAt_blk hf1 i3 1 _ o3 hr, ← readAt_hd hf2 j0 0 rfl, ← readAt_hd hf2 j1 1 rfl, ← readAt_hd hf3 j0 0 rfl, ← readAt_hd hf3 j1 1 rfl, ← readAt_hd hK0 j0 0 rfl, eK]
      delta run_zero.sl.v46 run_zero.sl.v48 run_zero.sl.v50 run_zero.sl.v52 run_zero.sl.v53 run_zero.sl.v56 run_zero.sl.v58 run_zero.sl.v59 run_zero.sl.v62 run_zero.sl.v64 run_zero.sl.v65 run_zero.sl.v91 run_zero.sl.v99 run_zero.sl.v136 run_zero.sl.v139 run_zero.sl.v140 run_zero.sl.v141 run_zero.sl.v142 run_zero.sl.v143 run_zero.sl.v144 run_zero.sl.v145 run_zero.sl.v146 run_zero.sl.v147 run_zero.sl.v150 run_zero.sl.v152 run_zero.sl.v153 run_zero.sl.v156 run_zero.sl.v157 run_zero.sl.v161 run_zero.sl.r_2 run_zero.sl.r_3 run_zero.sl.r_4 run_zero.sl.r_5 run_zero.sl.r_6 run_zero.sl.r_7 run_zero.sl.r_8 run_zero.sl.r_9 run_zero.sl.cst_26 run_zero.sl.cst_83
      delta k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
      first | (rw [h45]; done) | (rw [h45]; rfl)
    · iexists _; isplitl []
      rotate_left
      · iexact HS2
      ipureintro
      refine (read_setHd _ _ _ _ _ _ 1 rfl (read_setHd _ _ _ _ _ _ 0 rfl hV0)).trans ?_
      show _ = diagV _ _ _ _ _
      unfold diagV
      rw [← readAt_blk hf0 i2 0 _ o2 hr, ← readAt_blk hf0 i3 1 _ o3 hr, ← readAt_blk hf1 i2 0 _ o2 hr, ← readAt_blk hf1 i3 1 _ o3 hr, ← readAt_hd hf2 j0 0 rfl, ← readAt_hd hf2 j1 1 rfl, ← readAt_hd hV0 j0 0 rfl, eV]
      delta run_zero.sl.v46 run_zero.sl.v48 run_zero.sl.v50 run_zero.sl.v52 run_zero.sl.v53 run_zero.sl.v56 run_zero.sl.v58 run_zero.sl.v59 run_zero.sl.v62 run_zero.sl.v64 run_zero.sl.v65 run_zero.sl.v91 run_zero.sl.v99 run_zero.sl.v136 run_zero.sl.v139 run_zero.sl.v140 run_zero.sl.v141 run_zero.sl.v142 run_zero.sl.v143 run_zero.sl.v144 run_zero.sl.v145 run_zero.sl.v146 run_zero.sl.v147 run_zero.sl.v150 run_zero.sl.v152 run_zero.sl.v153 run_zero.sl.v156 run_zero.sl.v157 run_zero.sl.v161 run_zero.sl.r_2 run_zero.sl.r_3 run_zero.sl.r_4 run_zero.sl.r_5 run_zero.sl.r_6 run_zero.sl.r_7 run_zero.sl.r_8 run_zero.sl.r_9 run_zero.sl.cst_26 run_zero.sl.cst_83
      delta k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
      first | (rw [h45]; done) | (rw [h45]; rfl)
  · iintro %acc HI
    have hr0 : run_zero.sl.r (F := F) c t = 15#32 := rfl
    have hr1 : run_zero.sl.r_1 (F := F) c t = 15#32 := rfl
    have ht1 : (k0_t1_loop (grid0.coords t) (run_zero.sl.r (F := F) c t) (run_zero.sl.r_1 (F := F) c t)).trips = 15 - t.val % 16 := by rw [hr0, hr1]; exact trips1 t
    have ht2 : (k0_t2_loop (grid0.coords t) (run_zero.sl.r (F := F) c t) (run_zero.sl.r_1 (F := F) c t)).trips = 0 := by rw [hr0, hr1]; exact trips2 t
    rw [show Scf.trips (k0_t1_loop (grid0.coords t) (run_zero.sl.r (F := F) c t) (run_zero.sl.r_1 (F := F) c t)).lb (k0_t1_loop (grid0.coords t) (run_zero.sl.r (F := F) c t) (run_zero.sl.r_1 (F := F) c t)).ub (k0_t1_loop (grid0.coords t) (run_zero.sl.r (F := F) c t) (run_zero.sl.r_1 (F := F) c t)).st = 15 - t.val % 16 from ht1]
    unfold loopI owns
    icases HI with ⟨⟨%f0', %hf0', H0⟩, ⟨%f1', %hf1', H1⟩, ⟨%f2', %hf2', H2⟩, ⟨%f3', %hf3', H3⟩, ⟨%g1', %hg1', HS0⟩, ⟨%g2', %hg2', HS1⟩, ⟨%g3', %hg3', HS2⟩⟩
    have hq1 : View.read (Elt F) arg11.view g1' = finQ (grid0.coords t) (t.val % 16) x0 x1 x2 x3 k0_pay112 := hg1'
    have hq2 : View.read (Elt F) arg12.view g2' = finK (grid0.coords t) (t.val % 16) x0 x1 x2 x3 := hg2'
    have hq3 : View.read (Elt F) arg13.view g3' = finV (grid0.coords t) (t.val % 16) x0 x1 x2 := hg3'
    have ht3 : (k0_t3_loop (run_zero.sl.r (F := F) c t) (run_zero.sl.r_1 (F := F) c t)).trips = 0 := by rw [hr0, hr1]; exact trips3
    have ht4 : (k0_t4_loop (run_zero.sl.r (F := F) c t) (run_zero.sl.r_1 (F := F) c t)).trips = 0 := by rw [hr0, hr1]; exact trips4
    have ht5 : (k0_t5_loop (run_zero.sl.r (F := F) c t) (run_zero.sl.r_1 (F := F) c t)).trips = 0 := by rw [hr0, hr1]; exact trips5
    have ht6 : (k0_t6_loop (run_zero.sl.r (F := F) c t) (run_zero.sl.r_1 (F := F) c t)).trips = 0 := by rw [hr0, hr1]; exact trips6
    sl_exec (disch := first | sl_exact hcL)
    rw [wp_ret]; imodintro
    iapply Hk
    isplitl [H0]; · iexists f0'; isplitl []; · ipureintro; exact hf0'
                    iexact H0
    isplitl [H1]; · iexists f1'; isplitl []; · ipureintro; exact hf1'
                    iexact H1
    isplitl [H2]; · iexists f2'; isplitl []; · ipureintro; exact hf2'
                    iexact H2
    isplitl [H3]; · iexists f3'; isplitl []; · ipureintro; exact hf3'
                    iexact H3
    isplitl [H4]
    · iexists _; isplitl []
      rotate_left
      · iexact H4
      ipureintro
      exact hf4
    isplitl [H5]
    · iexists _; isplitl []
      rotate_left
      · iexact H5
      ipureintro
      refine (View.read_writes_full _ _ _ _ _).trans ?_
      rw [← readAt_hd hq2 j0 0 rfl, ← readAt_hd hq2 j1 1 rfl]
      rfl
    isplitl [H6]
    · iexists _; isplitl []
      rotate_left
      · iexact H6
      ipureintro
      refine (View.read_writes_full _ _ _ _ _).trans ?_
      rw [← readAt_hd hq3 j0 0 rfl, ← readAt_hd hq3 j1 1 rfl]
      rfl
    isplitl [H7]
    · iexists _; isplitl []
      rotate_left
      · iexact H7
      ipureintro
      refine (View.read_writes_cons_put _ _ _ _ _ o12).trans ?_
      unfold midC
      rw [← readAt_hd hq2 j0 0 rfl, ← readAt_hd hq2 j1 1 rfl, ← readAt_rows h7 i12 _ o12 hr, ← h7]
      rfl
    isplitl [HS0]; · iexists g1'; isplitl []; · ipureintro; exact hg1'
                     iexact HS0
    isplitl [HS1]; · iexists _, g2'; isplitl []; · ipureintro; rfl
                     iexact HS1
    isplitl [HS2]; · iexists _, g3'; isplitl []; · ipureintro; rfl
                     iexact HS2
    iexact HT0

end Cert.KernelIdeal.Att

end
-- ==== Proof.KernelIdeal.RunA.lean ====
/- The body's obligation at the first point. -/
module

public import proofs.«01_k».proof.Proof.KernelIdeal.RunBase
public import proofs.«01_k».proof.Proof.KernelIdeal.BodyA

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the first point. -/
theorem sound_zero (c : Dev nD) (t : Fin (cfgM m).N) (h0 : t.val = 0) :
    bodyPre m c t ⊢ wp frame (wpE (defs₀ (F := F)) Variants.none c none) Set.univ (bodyAt m t) (fun _ => bodyPost m c t) := by
  have hF : t.val % 16 = 0 := by omega
  have hL : t.val % 16 ≠ 15 := by omega
  have ept : pt t.val = t := pt_val t
  have eQ : acQ m c (t.val + 1) = finQ (grid0.coords t) (t.val % 16) (iblk m c 0 t) (iblk m c 1 t) (iblk m c 2 t) (iblk m c 3 t) k0_pay112 := by
    rw [acQ_succ, ept]; exact congrArg (finQ _ _ _ _ _ _) (if_pos hF)
  have eK : acK m c t.val = finK (grid0.coords t) (t.val % 16) (iblk m c 0 t) (iblk m c 1 t) (iblk m c 2 t) (iblk m c 3 t) := by rw [acK, ept]
  have eV : acV m c t.val = finV (grid0.coords t) (t.val % 16) (iblk m c 0 t) (iblk m c 1 t) (iblk m c 2 t) := by rw [acV, ept]
  have eC : acC m c (t.val + 1) = midC (grid0.coords t) (t.val % 16) k0_pay111 (finK (grid0.coords t) (t.val % 16) (iblk m c 0 t) (iblk m c 1 t) (iblk m c 2 t) (iblk m c 3 t)) := by
    rw [acC_succ, if_neg hL, eK, ept]; rw [show acC m c t.val = k0_pay111 from by rw [h0, acC_zero]]
  unfold bodyPre bodyPost bodyAt
  simp only [before0_0, before0_1, before0_2, before0_3]
  rw [Phi_before, Phi_after, show (dats m 0 c).owesAt () t.succ = (dats m 0 c).owesAt () t.castSucc from rfl]
  rw [show (dats m 0 c).leavesExact 0 t = owns (c : Thread nD τ) (ms0 m t) fullShare ((dats m 0 c).after 0 t) from
    leaves_owns m c t 0 (liveAt0 m t 0 (by decide)), after0_0]
  rw [show (dats m 0 c).leavesExact 1 t = owns (c : Thread nD τ) (ms1 m t) fullShare ((dats m 0 c).after 1 t) from
    leaves_owns m c t 1 (liveAt0 m t 1 (by decide)), after0_1]
  rw [show (dats m 0 c).leavesExact 2 t = owns (c : Thread nD τ) (ms2 m t) fullShare ((dats m 0 c).after 2 t) from
    leaves_owns m c t 2 (liveAt0 m t 2 (by decide)), after0_2]
  rw [show (dats m 0 c).leavesExact 3 t = owns (c : Thread nD τ) (ms3 m t) fullShare ((dats m 0 c).after 3 t) from
    leaves_owns m c t 3 (liveAt0 m t 3 (by decide)), after0_3]
  rw [show (dats m 0 c).leavesExact 4 t = iprop(∃ d, owns (c : Thread nD τ) (ms4 m t) fullShare ((dats m 0 c).before 4 t d)) from
    (dats m 0 c).leavesExact_idle 4 t (by rw [idle4]; simpa [condL] using (fun h : k0_cond3 (grid0.coords t) = 1#1 => hL ((hcondL t).mp h))) (by rw [← Bool.not_eq_true, flush4]; exact hL)]
  rw [show (dats m 0 c).leavesExact 5 t = owns (c : Thread nD τ) (ms5 m t) fullShare ((dats m 0 c).after 5 t) from
    leaves_owns m c t 5 rfl, after0_5]
  rw [show (dats m 0 c).leavesExact 6 t = owns (c : Thread nD τ) (ms6 m t) fullShare ((dats m 0 c).after 6 t) from
    leaves_owns m c t 6 rfl, after0_6]
  rw [show (dats m 0 c).leavesExact 7 t = owns (c : Thread nD τ) (ms7 m t) fullShare ((dats m 0 c).after 7 t) from
    leaves_owns m c t 7 rfl, after0_7]
  rw [eC, outK, outV, eK, eV]
  unfold scrQ
  iintro ⟨⟨⟨⟨%q, %hq, HS0⟩, HS1, HS2⟩, Hg, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_zero c t (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) sc0 (Memref.isWhole_whole _) sc1 (Memref.isWhole_whole _) sc2 (Memref.isWhole_whole _) (iblk m c 0 t) (iblk m c 1 t) (iblk m c 2 t) (iblk m c 3 t) _ _ _ ((hcondZ t).mpr h0) ((hcondF t).mpr hF) (fun h => hL ((hcondL t).mp h)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS0]; · iexact HS0
  isplitl [HS1]; · iexact HS1
  isplitl [HS2]; · iexact HS2
  isplitl [HT0]; · iexact HT0
  iintro ⟨H0, H1, H2, H3, H4, H5, H6, H7, HS0, HS1, HS2, HT0⟩
  isplitl [HS0 HS1 HS2 Hg HT0]
  · isplitl [HS0 HS1 HS2]
    · isplitl [HS0]
      · iexists _; isplitl []; rotate_left
        · iexact HS0
        ipureintro; exact fun _ => eQ.symm
      isplitl [HS1]
      · iexact HS1
      iexact HS2
    isplitl [Hg]; · iexact Hg
    iexact HT0
  isplitl [Ho]; · iexact Ho
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  iexact H7

end Cert.KernelIdeal.Att
-- ==== Proof.KernelIdeal.BodyB.lean ====
/- The body at a point: what it leaves in its output and scratch buffers. -/
module

public import proofs.«01_k».proof.Proof.KernelIdeal.Body

@[expose] public section

set_option maxRecDepth 16384

noncomputable section

namespace Cert.KernelIdeal.Att

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the first key block of a later pair of heads: the query gradients start at zero. -/
theorem run_first (c : Dev nD) (t : Fin grid0.N) (arg3 : Memref sig .tc .vmem S2x8192x128 .bf16) (harg3 : arg3.IsWhole) (arg4 : Memref sig .tc .vmem S2x8192x128 .bf16) (harg4 : arg4.IsWhole) (arg5 : Memref sig .tc .vmem S2x512x128 .bf16) (harg5 : arg5.IsWhole) (arg6 : Memref sig .tc .vmem S2x512x128 .bf16) (harg6 : arg6.IsWhole) (arg7 : Memref sig .tc .vmem S8192x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S2x8192x128 .f32) (harg11 : arg11.IsWhole) (arg12 : Memref sig .tc .vmem S2x512x128 .f32) (harg12 : arg12.IsWhole) (arg13 : Memref sig .tc .vmem S2x512x128 .f32) (harg13 : arg13.IsWhole)
    (x0 : Vec F S2x8192x128 .bf16) (x1 : Vec F S2x8192x128 .bf16) (x2 : Vec F S2x512x128 .bf16) (x3 : Vec F S2x512x128 .bf16)
    (X7 : Vec F S8192x128 .bf16) (X10 : Vec F S8192x128 .f32) (X11 : Vec F S2x8192x128 .f32) (hcZ : ¬ condZ (grid0.coords t)) (hcF : condF (grid0.coords t)) (hcL : ¬ condL (grid0.coords t)) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare X7 ∗ (∃ d, owns (c : Thread nD τ) arg8 fullShare d) ∗ (∃ d, owns (c : Thread nD τ) arg9 fullShare d) ∗ owns (c : Thread nD τ) arg10 fullShare X10 ∗ owns (c : Thread nD τ) arg11 fullShare X11 ∗ (∃ d, owns (c : Thread nD τ) arg12 fullShare d) ∗ (∃ d, owns (c : Thread nD τ) arg13 fullShare d) ∗ tbPt (F := F) c tbM (fun _ => 15#32)
            ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare X7 ∗ owns (c : Thread nD τ) arg8 fullShare (k0_pay142 (hd (finK (grid0.coords t) (t.val % 16) x0 x1 x2 x3) 0) (hd (finK (grid0.coords t) (t.val % 16) x0 x1 x2 x3) 1)) ∗ owns (c : Thread nD τ) arg9 fullShare (k0_pay143 (hd (finV (grid0.coords t) (t.val % 16) x0 x1 x2) 0) (hd (finV (grid0.coords t) (t.val % 16) x0 x1 x2) 1)) ∗ owns (c : Thread nD τ) arg10 fullShare (midC (grid0.coords t) (t.val % 16) X10 (finK (grid0.coords t) (t.val % 16) x0 x1 x2 x3)) ∗ owns (c : Thread nD τ) arg11 fullShare (finQ (grid0.coords t) (t.val % 16) x0 x1 x2 x3 k0_pay112) ∗ (∃ d, owns (c : Thread nD τ) arg12 fullShare d) ∗ (∃ d, owns (c : Thread nD τ) arg13 fullShare d) ∗ tbPt (F := F) c tbM (fun _ => 15#32)) -∗ K ⟨⟩))
          ⊢ wp frame (wpE (defs₀ (F := F)) Variants.none c none) E (cc0_attention_bwd (grid0.coords t) tbM htbM arg3 harg3 arg4 harg4 arg5 harg5 arg6 harg6 arg7 harg7 arg8 harg8 arg9 harg9 arg10 harg10 arg11 harg11 arg12 harg12 arg13 harg13) K := by
  intro E K
  simp only [cc0_attention_bwd_eq_skeleton]; unfold cc0_attention_bwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%g1, %hg1, HS0⟩, ⟨%ds1, %g2, -, HS1⟩, ⟨%ds2, %g3, -, HS2⟩, HT0, Hk⟩
  have hw := hchk t
  have ht : t.val < 128 := Nat.lt_of_lt_of_eq t.isLt N_0
  have hr : 512 * (t.val % 16) + 512 ≤ 8192 := by omega
  have o2 := off2_eq t
  have o3 := off3_eq t
  have o12 := off12_eq t
  have i2 := k0_off2_inb (grid0.coords t)
  have i3 := k0_off3_inb (grid0.coords t)
  have i12 := k0_off12_inb (grid0.coords t)
  have j0 : ∀ a, (![0, 0, 0] : Fin 3 → ℕ) a + S1x512x128.size a ≤ S2x512x128.size a := by decide
  have j1 : ∀ a, (![1, 0, 0] : Fin 3 → ℕ) a + S1x512x128.size a ≤ S2x512x128.size a := by decide
  sl_exec (disch := first | sl_exact hcZ | sl_exact hcF | sl_exact hcL | sl_exact hw)
  have hB : View.read (Elt F) arg11.view (arg11.view.writes (Elt F) arg11.view.junk run_first.sl.HS0_1) = k0_pay112 := View.read_writes_full _ _ _ _ _
  have hK0 : View.read (Elt F) arg12.view (arg12.view.writes (Elt F) arg12.view.junk run_first.sl.HS2_1) = k0_pay113 := View.read_writes_full _ _ _ _ _
  have hV0 : View.read (Elt F) arg13.view (arg13.view.writes (Elt F) arg13.view.junk run_first.sl.HS2_1) = k0_pay114 := View.read_writes_full _ _ _ _ _
  have h7 : View.read (Elt F) arg10.view (f7) = X10 := hf7
  obtain ⟨wK, hK1⟩ : ∃ wK, View.read (Elt F) arg12.view (arg12.view.writes (Elt F) arg12.view.junk (run_first.sl.HS1_2 c t arg3 arg4 arg5 arg6 arg12 f0 f1 f2 f3)) = setHd k0_pay113 0 wK :=
    ⟨_, read_setHd _ _ _ _ _ _ 0 rfl hK0⟩
  obtain ⟨wV, hV1⟩ : ∃ wV, View.read (Elt F) arg13.view (arg13.view.writes (Elt F) arg13.view.junk (run_first.sl.HS2_2 c t arg3 arg4 arg5 arg13 f0 f1 f2)) = setHd k0_pay114 0 wV :=
    ⟨_, read_setHd _ _ _ _ _ _ 0 rfl hV0⟩
  obtain ⟨wQ, hQ1⟩ : ∃ wQ, View.read (Elt F) arg11.view (arg11.view.writes (Elt F) arg11.view.junk (run_first.sl.HS0_2 c t arg3 arg4 arg5 arg6 arg11 f0 f1 f2 f3)) = setBlk k0_pay112 0 (512 * (t.val % 16)) wQ :=
    ⟨_, read_setBlk _ _ _ _ _ _ 0 _ o2 hB⟩
  have eQ : blk k0_pay112 1 (512 * (t.val % 16)) = _ := (blk_setBlk _ _ hr wQ).symm.trans (readAt_blk hQ1 i3 1 _ o3 hr).symm
  have h45 : run_first.sl.v45 t = w45 (grid0.coords t) := rfl
  have eK : hd k0_pay113 1 = _ := (hd_setHd _ wK).symm.trans (readAt_hd hK1 j1 1 rfl).symm
  have eV : hd k0_pay114 1 = _ := (hd_setHd _ wV).symm.trans (readAt_hd hV1 j1 1 rfl).symm
  sl_for (loopI c arg3 arg4 arg5 arg6 arg11 arg12 arg13 x0 x1 x2 x3 (t.val % 16 + 1) (diagQ (grid0.coords t) x0 x1 x2 x3 (512 * (t.val % 16)) k0_pay112) (diagK (grid0.coords t) x0 x1 x2 x3 (512 * (t.val % 16))) (diagV (grid0.coords t) x0 x1 x2 (512 * (t.val % 16)))) $$ [H0 H1 H2 H3 HS0 HS1 HS2]
  · intro k acc
    exact trip_inv c t k hw arg3 harg3 arg4 harg4 arg5 harg5 arg6 harg6 arg7 harg7 arg8 harg8 arg9 harg9 arg10 harg10 arg11 harg11 arg12 harg12 arg13 harg13 x0 x1 x2 x3 _ _ _ 0#32 0#32 0#32 0#32 (constant S512x128 .bf16 0#16) (constant S512x128 .bf16 0#16) (constant S512x512 .bf16 0#16) (constant S512x128 .f32 0#32) (constant S512x512 .bf16 0#16) (constant S512x128 .f32 0#32) (run_first.sl.v162 t) E
  · unfold loopI owns
    isplitl [H0]; · iexists f0; isplitl []; · ipureintro; exact hf0
                    iexact H0
    isplitl [H1]; · iexists f1; isplitl []; · ipureintro; exact hf1
                    iexact H1
    isplitl [H2]; · iexists f2; isplitl []; · ipureintro; exact hf2
                    iexact H2
    isplitl [H3]; · iexists f3; isplitl []; · ipureintro; exact hf3
                    iexact H3
    isplitl [HS0]
    · iexists _; isplitl []
      rotate_left
      · iexact HS0
      ipureintro
      refine (read_setBlk _ _ _ _ _ _ 1 _ o3 (read_setBlk _ _ _ _ _ _ 0 _ o2 hB)).trans ?_
      show _ = diagQ _ _ _ _ _ _ _
      unfold diagQ
      rw [← readAt_blk hf0 i2 0 _ o2 hr, ← readAt_blk hf0 i3 1 _ o3 hr, ← readAt_blk hf1 i2 0 _ o2 hr, ← readAt_blk hf1 i3 1 _ o3 hr, ← readAt_hd hf2 j0 0 rfl, ← readAt_hd hf2 j1 1 rfl, ← readAt_hd hf3 j0 0 rfl, ← readAt_hd hf3 j1 1 rfl, ← readAt_blk hB i2 0 _ o2 hr, eQ]
      delta run_first.sl.v46 run_first.sl.v48 run_first.sl.v50 run_first.sl.v52 run_first.sl.v53 run_first.sl.v56 run_first.sl.v58 run_first.sl.v59 run_first.sl.v62 run_first.sl.v64 run_first.sl.v65 run_first.sl.v91 run_first.sl.v99 run_first.sl.v136 run_first.sl.v139 run_first.sl.v140 run_first.sl.v141 run_first.sl.v142 run_first.sl.v143 run_first.sl.v144 run_first.sl.v145 run_first.sl.v146 run_first.sl.v147 run_first.sl.v150 run_first.sl.v152 run_first.sl.v153 run_first.sl.v156 run_first.sl.v157 run_first.sl.v161 run_first.sl.r_2 run_first.sl.r_3 run_first.sl.r_4 run_first.sl.r_5 run_first.sl.r_6 run_first.sl.r_7 run_first.sl.r_8 run_first.sl.r_9 run_first.sl.cst_26 run_first.sl.cst_83
      delta k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
      first | (rw [h45]; done) | (rw [h45]; rfl)
    isplitl [HS1]
    · iexists _; isplitl []
      rotate_left
      · iexact HS1
      ipureintro
      refine (read_setHd _ _ _ _ _ _ 1 rfl (read_setHd _ _ _ _ _ _ 0 rfl hK0)).trans ?_
      show _ = diagK _ _ _ _ _ _
      unfold diagK
      rw [← readAt_blk hf0 i2 0 _ o2 hr, ← readAt_blk hf0 i3 1 _ o3 hr, ← readAt_blk hf1 i2 0 _ o2 hr, ← readAt_blk hf1 i3 1 _ o3 hr, ← readAt_hd hf2 j0 0 rfl, ← readAt_hd hf2 j1 1 rfl, ← readAt_hd hf3 j0 0 rfl, ← readAt_hd hf3 j1 1 rfl, ← readAt_hd hK0 j0 0 rfl, eK]
      delta run_first.sl.v46 run_first.sl.v48 run_first.sl.v50 run_first.sl.v52 run_first.sl.v53 run_first.sl.v56 run_first.sl.v58 run_first.sl.v59 run_first.sl.v62 run_first.sl.v64 run_first.sl.v65 run_first.sl.v91 run_first.sl.v99 run_first.sl.v136 run_first.sl.v139 run_first.sl.v140 run_first.sl.v141 run_first.sl.v142 run_first.sl.v143 run_first.sl.v144 run_first.sl.v145 run_first.sl.v146 run_first.sl.v147 run_first.sl.v150 run_first.sl.v152 run_first.sl.v153 run_first.sl.v156 run_first.sl.v157 run_first.sl.v161 run_first.sl.r_2 run_first.sl.r_3 run_first.sl.r_4 run_first.sl.r_5 run_first.sl.r_6 run_first.sl.r_7 run_first.sl.r_8 run_first.sl.r_9 run_first.sl.cst_26 run_first.sl.cst_83
      delta k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
      first | (rw [h45]; done) | (rw [h45]; rfl)
    · iexists _; isplitl []
      rotate_left
      · iexact HS2
      ipureintro
      refine (read_setHd _ _ _ _ _ _ 1 rfl (read_setHd _ _ _ _ _ _ 0 rfl hV0)).trans ?_
      show _ = diagV _ _ _ _ _
      unfold diagV
      rw [← readAt_blk hf0 i2 0 _ o2 hr, ← readAt_blk hf0 i3 1 _ o3 hr, ← readAt_blk hf1 i2 0 _ o2 hr, ← readAt_blk hf1 i3 1 _ o3 hr, ← readAt_hd hf2 j0 0 rfl, ← readAt_hd hf2 j1 1 rfl, ← readAt_hd hV0 j0 0 rfl, eV]
      delta run_first.sl.v46 run_first.sl.v48 run_first.sl.v50 run_first.sl.v52 run_first.sl.v53 run_first.sl.v56 run_first.sl.v58 run_first.sl.v59 run_first.sl.v62 run_first.sl.v64 run_first.sl.v65 run_first.sl.v91 run_first.sl.v99 run_first.sl.v136 run_first.sl.v139 run_first.sl.v140 run_first.sl.v141 run_first.sl.v142 run_first.sl.v143 run_first.sl.v144 run_first.sl.v145 run_first.sl.v146 run_first.sl.v147 run_first.sl.v150 run_first.sl.v152 run_first.sl.v153 run_first.sl.v156 run_first.sl.v157 run_first.sl.v161 run_first.sl.r_2 run_first.sl.r_3 run_first.sl.r_4 run_first.sl.r_5 run_first.sl.r_6 run_first.sl.r_7 run_first.sl.r_8 run_first.sl.r_9 run_first.sl.cst_26 run_first.sl.cst_83
      delta k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
      first | (rw [h45]; done) | (rw [h45]; rfl)
  · iintro %acc HI
    have hr0 : run_first.sl.r (F := F) c t = 15#32 := rfl
    have hr1 : run_first.sl.r_1 (F := F) c t = 15#32 := rfl
    have ht1 : (k0_t1_loop (grid0.coords t) (run_first.sl.r (F := F) c t) (run_first.sl.r_1 (F := F) c t)).trips = 15 - t.val % 16 := by rw [hr0, hr1]; exact trips1 t
    have ht2 : (k0_t2_loop (grid0.coords t) (run_first.sl.r (F := F) c t) (run_first.sl.r_1 (F := F) c t)).trips = 0 := by rw [hr0, hr1]; exact trips2 t
    rw [show Scf.trips (k0_t1_loop (grid0.coords t) (run_first.sl.r (F := F) c t) (run_first.sl.r_1 (F := F) c t)).lb (k0_t1_loop (grid0.coords t) (run_first.sl.r (F := F) c t) (run_first.sl.r_1 (F := F) c t)).ub (k0_t1_loop (grid0.coords t) (run_first.sl.r (F := F) c t) (run_first.sl.r_1 (F := F) c t)).st = 15 - t.val % 16 from ht1]
    unfold loopI owns
    icases HI with ⟨⟨%f0', %hf0', H0⟩, ⟨%f1', %hf1', H1⟩, ⟨%f2', %hf2', H2⟩, ⟨%f3', %hf3', H3⟩, ⟨%g1', %hg1', HS0⟩, ⟨%g2', %hg2', HS1⟩, ⟨%g3', %hg3', HS2⟩⟩
    have hq1 : View.read (Elt F) arg11.view g1' = finQ (grid0.coords t) (t.val % 16) x0 x1 x2 x3 k0_pay112 := hg1'
    have hq2 : View.read (Elt F) arg12.view g2' = finK (grid0.coords t) (t.val % 16) x0 x1 x2 x3 := hg2'
    have hq3 : View.read (Elt F) arg13.view g3' = finV (grid0.coords t) (t.val % 16) x0 x1 x2 := hg3'
    have ht3 : (k0_t3_loop (run_first.sl.r (F := F) c t) (run_first.sl.r_1 (F := F) c t)).trips = 0 := by rw [hr0, hr1]; exact trips3
    have ht4 : (k0_t4_loop (run_first.sl.r (F := F) c t) (run_first.sl.r_1 (F := F) c t)).trips = 0 := by rw [hr0, hr1]; exact trips4
    have ht5 : (k0_t5_loop (run_first.sl.r (F := F) c t) (run_first.sl.r_1 (F := F) c t)).trips = 0 := by rw [hr0, hr1]; exact trips5
    have ht6 : (k0_t6_loop (run_first.sl.r (F := F) c t) (run_first.sl.r_1 (F := F) c t)).trips = 0 := by rw [hr0, hr1]; exact trips6
    sl_exec (disch := first | sl_exact hcL)
    rw [wp_ret]; imodintro
    iapply Hk
    isplitl [H0]; · iexists f0'; isplitl []; · ipureintro; exact hf0'
                    iexact H0
    isplitl [H1]; · iexists f1'; isplitl []; · ipureintro; exact hf1'
                    iexact H1
    isplitl [H2]; · iexists f2'; isplitl []; · ipureintro; exact hf2'
                    iexact H2
    isplitl [H3]; · iexists f3'; isplitl []; · ipureintro; exact hf3'
                    iexact H3
    isplitl [H4]
    · iexists _; isplitl []
      rotate_left
      · iexact H4
      ipureintro
      exact hf4
    isplitl [H5]
    · iexists _; isplitl []
      rotate_left
      · iexact H5
      ipureintro
      refine (View.read_writes_full _ _ _ _ _).trans ?_
      rw [← readAt_hd hq2 j0 0 rfl, ← readAt_hd hq2 j1 1 rfl]
      rfl
    isplitl [H6]
    · iexists _; isplitl []
      rotate_left
      · iexact H6
      ipureintro
      refine (View.read_writes_full _ _ _ _ _).trans ?_
      rw [← readAt_hd hq3 j0 0 rfl, ← readAt_hd hq3 j1 1 rfl]
      rfl
    isplitl [H7]
    · iexists _; isplitl []
      rotate_left
      · iexact H7
      ipureintro
      refine (View.read_writes_cons_put _ _ _ _ _ o12).trans ?_
      unfold midC
      rw [← readAt_hd hq2 j0 0 rfl, ← readAt_hd hq2 j1 1 rfl, ← readAt_rows h7 i12 _ o12 hr, ← h7]
      rfl
    isplitl [HS0]; · iexists g1'; isplitl []; · ipureintro; exact hg1'
                     iexact HS0
    isplitl [HS1]; · iexists _, g2'; isplitl []; · ipureintro; rfl
                     iexact HS1
    isplitl [HS2]; · iexists _, g3'; isplitl []; · ipureintro; rfl
                     iexact HS2
    iexact HT0

end Cert.KernelIdeal.Att

end
-- ==== Proof.KernelIdeal.RunB.lean ====
/- The body's obligation at the first key block of a later pair of heads. -/
module

public import proofs.«01_k».proof.Proof.KernelIdeal.RunBase
public import proofs.«01_k».proof.Proof.KernelIdeal.BodyB

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the first key block of a later pair of heads. -/
theorem sound_first (c : Dev nD) (t : Fin (cfgM m).N) (hF : t.val % 16 = 0) (h0 : t.val ≠ 0) :
    bodyPre m c t ⊢ wp frame (wpE (defs₀ (F := F)) Variants.none c none) Set.univ (bodyAt m t) (fun _ => bodyPost m c t) := by
  have hL : t.val % 16 ≠ 15 := by omega
  have ept : pt t.val = t := pt_val t
  have eQ : acQ m c (t.val + 1) = finQ (grid0.coords t) (t.val % 16) (iblk m c 0 t) (iblk m c 1 t) (iblk m c 2 t) (iblk m c 3 t) k0_pay112 := by
    rw [acQ_succ, ept]; exact congrArg (finQ _ _ _ _ _ _) (if_pos hF)
  have eK : acK m c t.val = finK (grid0.coords t) (t.val % 16) (iblk m c 0 t) (iblk m c 1 t) (iblk m c 2 t) (iblk m c 3 t) := by rw [acK, ept]
  have eV : acV m c t.val = finV (grid0.coords t) (t.val % 16) (iblk m c 0 t) (iblk m c 1 t) (iblk m c 2 t) := by rw [acV, ept]
  have eC : acC m c (t.val + 1) = midC (grid0.coords t) (t.val % 16) (acC m c t.val) (finK (grid0.coords t) (t.val % 16) (iblk m c 0 t) (iblk m c 1 t) (iblk m c 2 t) (iblk m c 3 t)) := by
    rw [acC_succ, if_neg hL, eK, ept]
  unfold bodyPre bodyPost bodyAt
  simp only [before0_0, before0_1, before0_2, before0_3]
  rw [Phi_before, Phi_after, show (dats m 0 c).owesAt () t.succ = (dats m 0 c).owesAt () t.castSucc from rfl]
  rw [show (dats m 0 c).leavesExact 0 t = owns (c : Thread nD τ) (ms0 m t) fullShare ((dats m 0 c).after 0 t) from
    leaves_owns m c t 0 (liveAt0 m t 0 (by decide)), after0_0]
  rw [show (dats m 0 c).leavesExact 1 t = owns (c : Thread nD τ) (ms1 m t) fullShare ((dats m 0 c).after 1 t) from
    leaves_owns m c t 1 (liveAt0 m t 1 (by decide)), after0_1]
  rw [show (dats m 0 c).leavesExact 2 t = owns (c : Thread nD τ) (ms2 m t) fullShare ((dats m 0 c).after 2 t) from
    leaves_owns m c t 2 (liveAt0 m t 2 (by decide)), after0_2]
  rw [show (dats m 0 c).leavesExact 3 t = owns (c : Thread nD τ) (ms3 m t) fullShare ((dats m 0 c).after 3 t) from
    leaves_owns m c t 3 (liveAt0 m t 3 (by decide)), after0_3]
  rw [show (dats m 0 c).leavesExact 4 t = iprop(∃ d, owns (c : Thread nD τ) (ms4 m t) fullShare ((dats m 0 c).before 4 t d)) from
    (dats m 0 c).leavesExact_idle 4 t (by rw [idle4]; simpa [condL] using (fun h : k0_cond3 (grid0.coords t) = 1#1 => hL ((hcondL t).mp h))) (by rw [← Bool.not_eq_true, flush4]; exact hL)]
  rw [show (dats m 0 c).leavesExact 5 t = owns (c : Thread nD τ) (ms5 m t) fullShare ((dats m 0 c).after 5 t) from
    leaves_owns m c t 5 rfl, after0_5]
  rw [show (dats m 0 c).leavesExact 6 t = owns (c : Thread nD τ) (ms6 m t) fullShare ((dats m 0 c).after 6 t) from
    leaves_owns m c t 6 rfl, after0_6]
  rw [show (dats m 0 c).leavesExact 7 t = owns (c : Thread nD τ) (ms7 m t) fullShare ((dats m 0 c).after 7 t) from
    leaves_owns m c t 7 rfl, after0_7]
  rw [eC, outK, outV, eK, eV]
  simp only [before7 m c t h0]
  unfold scrQ
  iintro ⟨⟨⟨⟨%q, %hq, HS0⟩, HS1, HS2⟩, Hg, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c t (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) sc0 (Memref.isWhole_whole _) sc1 (Memref.isWhole_whole _) sc2 (Memref.isWhole_whole _) (iblk m c 0 t) (iblk m c 1 t) (iblk m c 2 t) (iblk m c 3 t) _ (acC m c t.val) _ (fun h => h0 ((hcondZ t).mp h)) ((hcondF t).mpr hF) (fun h => hL ((hcondL t).mp h)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS0]; · iexact HS0
  isplitl [HS1]; · iexact HS1
  isplitl [HS2]; · iexact HS2
  isplitl [HT0]; · iexact HT0
  iintro ⟨H0, H1, H2, H3, H4, H5, H6, H7, HS0, HS1, HS2, HT0⟩
  isplitl [HS0 HS1 HS2 Hg HT0]
  · isplitl [HS0 HS1 HS2]
    · isplitl [HS0]
      · iexists _; isplitl []; rotate_left
        · iexact HS0
        ipureintro; exact fun _ => eQ.symm
      isplitl [HS1]
      · iexact HS1
      iexact HS2
    isplitl [Hg]; · iexact Hg
    iexact HT0
  isplitl [Ho]; · iexact Ho
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  iexact H7

end Cert.KernelIdeal.Att
-- ==== Proof.KernelIdeal.BodyC.lean ====
/- The body at a point: what it leaves in its output and scratch buffers. -/
module

public import proofs.«01_k».proof.Proof.KernelIdeal.Body

@[expose] public section

set_option maxRecDepth 16384

noncomputable section

namespace Cert.KernelIdeal.Att

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the last key block of a pair of heads: the query gradients go out. -/
theorem run_last (c : Dev nD) (t : Fin grid0.N) (arg3 : Memref sig .tc .vmem S2x8192x128 .bf16) (harg3 : arg3.IsWhole) (arg4 : Memref sig .tc .vmem S2x8192x128 .bf16) (harg4 : arg4.IsWhole) (arg5 : Memref sig .tc .vmem S2x512x128 .bf16) (harg5 : arg5.IsWhole) (arg6 : Memref sig .tc .vmem S2x512x128 .bf16) (harg6 : arg6.IsWhole) (arg7 : Memref sig .tc .vmem S8192x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S2x8192x128 .f32) (harg11 : arg11.IsWhole) (arg12 : Memref sig .tc .vmem S2x512x128 .f32) (harg12 : arg12.IsWhole) (arg13 : Memref sig .tc .vmem S2x512x128 .f32) (harg13 : arg13.IsWhole)
    (x0 : Vec F S2x8192x128 .bf16) (x1 : Vec F S2x8192x128 .bf16) (x2 : Vec F S2x512x128 .bf16) (x3 : Vec F S2x512x128 .bf16)
    (X7 : Vec F S8192x128 .bf16) (X10 : Vec F S8192x128 .f32) (X11 : Vec F S2x8192x128 .f32) (hcZ : ¬ condZ (grid0.coords t)) (hcF : ¬ condF (grid0.coords t)) (hcL : condL (grid0.coords t)) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare X7 ∗ (∃ d, owns (c : Thread nD τ) arg8 fullShare d) ∗ (∃ d, owns (c : Thread nD τ) arg9 fullShare d) ∗ owns (c : Thread nD τ) arg10 fullShare X10 ∗ owns (c : Thread nD τ) arg11 fullShare X11 ∗ (∃ d, owns (c : Thread nD τ) arg12 fullShare d) ∗ (∃ d, owns (c : Thread nD τ) arg13 fullShare d) ∗ tbPt (F := F) c tbM (fun _ => 15#32)
            ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (outQ (finQ (grid0.coords t) (t.val % 16) x0 x1 x2 x3 X11)) ∗ owns (c : Thread nD τ) arg8 fullShare (k0_pay142 (hd (finK (grid0.coords t) (t.val % 16) x0 x1 x2 x3) 0) (hd (finK (grid0.coords t) (t.val % 16) x0 x1 x2 x3) 1)) ∗ owns (c : Thread nD τ) arg9 fullShare (k0_pay143 (hd (finV (grid0.coords t) (t.val % 16) x0 x1 x2) 0) (hd (finV (grid0.coords t) (t.val % 16) x0 x1 x2) 1)) ∗ owns (c : Thread nD τ) arg10 fullShare (endC (grid0.coords t) (finQ (grid0.coords t) (t.val % 16) x0 x1 x2 x3 X11) (midC (grid0.coords t) (t.val % 16) X10 (finK (grid0.coords t) (t.val % 16) x0 x1 x2 x3))) ∗ owns (c : Thread nD τ) arg11 fullShare (finQ (grid0.coords t) (t.val % 16) x0 x1 x2 x3 X11) ∗ (∃ d, owns (c : Thread nD τ) arg12 fullShare d) ∗ (∃ d, owns (c : Thread nD τ) arg13 fullShare d) ∗ tbPt (F := F) c tbM (fun _ => 15#32)) -∗ K ⟨⟩))
          ⊢ wp frame (wpE (defs₀ (F := F)) Variants.none c none) E (cc0_attention_bwd (grid0.coords t) tbM htbM arg3 harg3 arg4 harg4 arg5 harg5 arg6 harg6 arg7 harg7 arg8 harg8 arg9 harg9 arg10 harg10 arg11 harg11 arg12 harg12 arg13 harg13) K := by
  intro E K
  simp only [cc0_attention_bwd_eq_skeleton]; unfold cc0_attention_bwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%g1, %hg1, HS0⟩, ⟨%ds1, %g2, -, HS1⟩, ⟨%ds2, %g3, -, HS2⟩, HT0, Hk⟩
  have hw := hchk t
  have ht : t.val < 128 := Nat.lt_of_lt_of_eq t.isLt N_0
  have hr : 512 * (t.val % 16) + 512 ≤ 8192 := by omega
  have o2 := off2_eq t
  have o3 := off3_eq t
  have o12 := off12_eq t
  have i2 := k0_off2_inb (grid0.coords t)
  have i3 := k0_off3_inb (grid0.coords t)
  have i12 := k0_off12_inb (grid0.coords t)
  have j0 : ∀ a, (![0, 0, 0] : Fin 3 → ℕ) a + S1x512x128.size a ≤ S2x512x128.size a := by decide
  have j1 : ∀ a, (![1, 0, 0] : Fin 3 → ℕ) a + S1x512x128.size a ≤ S2x512x128.size a := by decide
  sl_exec (disch := first | sl_exact hcZ | sl_exact hcF | sl_exact hcL | sl_exact hw)
  have hB : View.read (Elt F) arg11.view (g1) = X11 := hg1
  have hK0 : View.read (Elt F) arg12.view (arg12.view.writes (Elt F) arg12.view.junk run_last.sl.HS2_1) = k0_pay113 := View.read_writes_full _ _ _ _ _
  have hV0 : View.read (Elt F) arg13.view (arg13.view.writes (Elt F) arg13.view.junk run_last.sl.HS2_1) = k0_pay114 := View.read_writes_full _ _ _ _ _
  have h7 : View.read (Elt F) arg10.view (f7) = X10 := hf7
  obtain ⟨wK, hK1⟩ : ∃ wK, View.read (Elt F) arg12.view (arg12.view.writes (Elt F) arg12.view.junk (run_last.sl.HS1_2 c t arg3 arg4 arg5 arg6 arg12 f0 f1 f2 f3)) = setHd k0_pay113 0 wK :=
    ⟨_, read_setHd _ _ _ _ _ _ 0 rfl hK0⟩
  obtain ⟨wV, hV1⟩ : ∃ wV, View.read (Elt F) arg13.view (arg13.view.writes (Elt F) arg13.view.junk (run_last.sl.HS2_2 c t arg3 arg4 arg5 arg13 f0 f1 f2)) = setHd k0_pay114 0 wV :=
    ⟨_, read_setHd _ _ _ _ _ _ 0 rfl hV0⟩
  have h45 : run_last.sl.v45 t = w45 (grid0.coords t) := rfl
  have eK : hd k0_pay113 1 = _ := (hd_setHd _ wK).symm.trans (readAt_hd hK1 j1 1 rfl).symm
  have eV : hd k0_pay114 1 = _ := (hd_setHd _ wV).symm.trans (readAt_hd hV1 j1 1 rfl).symm
  sl_for (loopI c arg3 arg4 arg5 arg6 arg11 arg12 arg13 x0 x1 x2 x3 (t.val % 16 + 1) (diagQ (grid0.coords t) x0 x1 x2 x3 (512 * (t.val % 16)) X11) (diagK (grid0.coords t) x0 x1 x2 x3 (512 * (t.val % 16))) (diagV (grid0.coords t) x0 x1 x2 (512 * (t.val % 16)))) $$ [H0 H1 H2 H3 HS0 HS1 HS2]
  · intro k acc
    exact trip_inv c t k hw arg3 harg3 arg4 harg4 arg5 harg5 arg6 harg6 arg7 harg7 arg8 harg8 arg9 harg9 arg10 harg10 arg11 harg11 arg12 harg12 arg13 harg13 x0 x1 x2 x3 _ _ _ 0#32 0#32 0#32 0#32 (constant S512x128 .bf16 0#16) (constant S512x128 .bf16 0#16) (constant S512x512 .bf16 0#16) (constant S512x128 .f32 0#32) (constant S512x512 .bf16 0#16) (constant S512x128 .f32 0#32) (run_last.sl.v162 t) E
  · unfold loopI owns
    isplitl [H0]; · iexists f0; isplitl []; · ipureintro; exact hf0
                    iexact H0
    isplitl [H1]; · iexists f1; isplitl []; · ipureintro; exact hf1
                    iexact H1
    isplitl [H2]; · iexists f2; isplitl []; · ipureintro; exact hf2
                    iexact H2
    isplitl [H3]; · iexists f3; isplitl []; · ipureintro; exact hf3
                    iexact H3
    isplitl [HS0]
    · iexists _; isplitl []
      rotate_left
      · iexact HS0
      ipureintro
      refine (read_setBlk _ _ _ _ _ _ 1 _ o3 (read_setBlk _ _ _ _ _ _ 0 _ o2 hB)).trans ?_
      show _ = diagQ _ _ _ _ _ _ _
      unfold diagQ
      rw [← readAt_blk hf0 i2 0 _ o2 hr, ← readAt_blk hf0 i3 1 _ o3 hr, ← readAt_blk hf1 i2 0 _ o2 hr, ← readAt_blk hf1 i3 1 _ o3 hr, ← readAt_hd hf2 j0 0 rfl, ← readAt_hd hf2 j1 1 rfl, ← readAt_hd hf3 j0 0 rfl, ← readAt_hd hf3 j1 1 rfl, ← readAt_blk hB i2 0 _ o2 hr, ← readAt_blk hB i3 1 _ o3 hr]
      delta run_last.sl.v46 run_last.sl.v48 run_last.sl.v50 run_last.sl.v52 run_last.sl.v53 run_last.sl.v56 run_last.sl.v58 run_last.sl.v59 run_last.sl.v62 run_last.sl.v64 run_last.sl.v65 run_last.sl.v91 run_last.sl.v99 run_last.sl.v136 run_last.sl.v139 run_last.sl.v140 run_last.sl.v141 run_last.sl.v142 run_last.sl.v143 run_last.sl.v144 run_last.sl.v145 run_last.sl.v146 run_last.sl.v147 run_last.sl.v150 run_last.sl.v152 run_last.sl.v153 run_last.sl.v156 run_last.sl.v157 run_last.sl.v161 run_last.sl.r_2 run_last.sl.r_3 run_last.sl.r_4 run_last.sl.r_5 run_last.sl.r_6 run_last.sl.r_7 run_last.sl.r_8 run_last.sl.r_9 run_last.sl.cst_26 run_last.sl.cst_83
      delta k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
      first | (rw [h45]; done) | (rw [h45]; rfl)
    isplitl [HS1]
    · iexists _; isplitl []
      rotate_left
      · iexact HS1
      ipureintro
      refine (read_setHd _ _ _ _ _ _ 1 rfl (read_setHd _ _ _ _ _ _ 0 rfl hK0)).trans ?_
      show _ = diagK _ _ _ _ _ _
      unfold diagK
      rw [← readAt_blk hf0 i2 0 _ o2 hr, ← readAt_blk hf0 i3 1 _ o3 hr, ← readAt_blk hf1 i2 0 _ o2 hr, ← readAt_blk hf1 i3 1 _ o3 hr, ← readAt_hd hf2 j0 0 rfl, ← readAt_hd hf2 j1 1 rfl, ← readAt_hd hf3 j0 0 rfl, ← readAt_hd hf3 j1 1 rfl, ← readAt_hd hK0 j0 0 rfl, eK]
      delta run_last.sl.v46 run_last.sl.v48 run_last.sl.v50 run_last.sl.v52 run_last.sl.v53 run_last.sl.v56 run_last.sl.v58 run_last.sl.v59 run_last.sl.v62 run_last.sl.v64 run_last.sl.v65 run_last.sl.v91 run_last.sl.v99 run_last.sl.v136 run_last.sl.v139 run_last.sl.v140 run_last.sl.v141 run_last.sl.v142 run_last.sl.v143 run_last.sl.v144 run_last.sl.v145 run_last.sl.v146 run_last.sl.v147 run_last.sl.v150 run_last.sl.v152 run_last.sl.v153 run_last.sl.v156 run_last.sl.v157 run_last.sl.v161 run_last.sl.r_2 run_last.sl.r_3 run_last.sl.r_4 run_last.sl.r_5 run_last.sl.r_6 run_last.sl.r_7 run_last.sl.r_8 run_last.sl.r_9 run_last.sl.cst_26 run_last.sl.cst_83
      delta k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
      first | (rw [h45]; done) | (rw [h45]; rfl)
    · iexists _; isplitl []
      rotate_left
      · iexact HS2
      ipureintro
      refine (read_setHd _ _ _ _ _ _ 1 rfl (read_setHd _ _ _ _ _ _ 0 rfl hV0)).trans ?_
      show _ = diagV _ _ _ _ _
      unfold diagV
      rw [← readAt_blk hf0 i2 0 _ o2 hr, ← readAt_blk hf0 i3 1 _ o3 hr, ← readAt_blk hf1 i2 0 _ o2 hr, ← readAt_blk hf1 i3 1 _ o3 hr, ← readAt_hd hf2 j0 0 rfl, ← readAt_hd hf2 j1 1 rfl, ← readAt_hd hV0 j0 0 rfl, eV]
      delta run_last.sl.v46 run_last.sl.v48 run_last.sl.v50 run_last.sl.v52 run_last.sl.v53 run_last.sl.v56 run_last.sl.v58 run_last.sl.v59 run_last.sl.v62 run_last.sl.v64 run_last.sl.v65 run_last.sl.v91 run_last.sl.v99 run_last.sl.v136 run_last.sl.v139 run_last.sl.v140 run_last.sl.v141 run_last.sl.v142 run_last.sl.v143 run_last.sl.v144 run_last.sl.v145 run_last.sl.v146 run_last.sl.v147 run_last.sl.v150 run_last.sl.v152 run_last.sl.v153 run_last.sl.v156 run_last.sl.v157 run_last.sl.v161 run_last.sl.r_2 run_last.sl.r_3 run_last.sl.r_4 run_last.sl.r_5 run_last.sl.r_6 run_last.sl.r_7 run_last.sl.r_8 run_last.sl.r_9 run_last.sl.cst_26 run_last.sl.cst_83
      delta k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
      first | (rw [h45]; done) | (rw [h45]; rfl)
  · iintro %acc HI
    have hr0 : run_last.sl.r (F := F) c t = 15#32 := rfl
    have hr1 : run_last.sl.r_1 (F := F) c t = 15#32 := rfl
    have ht1 : (k0_t1_loop (grid0.coords t) (run_last.sl.r (F := F) c t) (run_last.sl.r_1 (F := F) c t)).trips = 15 - t.val % 16 := by rw [hr0, hr1]; exact trips1 t
    have ht2 : (k0_t2_loop (grid0.coords t) (run_last.sl.r (F := F) c t) (run_last.sl.r_1 (F := F) c t)).trips = 0 := by rw [hr0, hr1]; exact trips2 t
    rw [show Scf.trips (k0_t1_loop (grid0.coords t) (run_last.sl.r (F := F) c t) (run_last.sl.r_1 (F := F) c t)).lb (k0_t1_loop (grid0.coords t) (run_last.sl.r (F := F) c t) (run_last.sl.r_1 (F := F) c t)).ub (k0_t1_loop (grid0.coords t) (run_last.sl.r (F := F) c t) (run_last.sl.r_1 (F := F) c t)).st = 15 - t.val % 16 from ht1]
    unfold loopI owns
    icases HI with ⟨⟨%f0', %hf0', H0⟩, ⟨%f1', %hf1', H1⟩, ⟨%f2', %hf2', H2⟩, ⟨%f3', %hf3', H3⟩, ⟨%g1', %hg1', HS0⟩, ⟨%g2', %hg2', HS1⟩, ⟨%g3', %hg3', HS2⟩⟩
    have hq1 : View.read (Elt F) arg11.view g1' = finQ (grid0.coords t) (t.val % 16) x0 x1 x2 x3 X11 := hg1'
    have hq2 : View.read (Elt F) arg12.view g2' = finK (grid0.coords t) (t.val % 16) x0 x1 x2 x3 := hg2'
    have hq3 : View.read (Elt F) arg13.view g3' = finV (grid0.coords t) (t.val % 16) x0 x1 x2 := hg3'
    have ht3 : (k0_t3_loop (run_last.sl.r (F := F) c t) (run_last.sl.r_1 (F := F) c t)).trips = 0 := by rw [hr0, hr1]; exact trips3
    have ht4 : (k0_t4_loop (run_last.sl.r (F := F) c t) (run_last.sl.r_1 (F := F) c t)).trips = 0 := by rw [hr0, hr1]; exact trips4
    have ht5 : (k0_t5_loop (run_last.sl.r (F := F) c t) (run_last.sl.r_1 (F := F) c t)).trips = 0 := by rw [hr0, hr1]; exact trips5
    have ht6 : (k0_t6_loop (run_last.sl.r (F := F) c t) (run_last.sl.r_1 (F := F) c t)).trips = 0 := by rw [hr0, hr1]; exact trips6
    sl_exec (disch := first | sl_exact hcL)
    rw [wp_ret]; imodintro
    iapply Hk
    isplitl [H0]; · iexists f0'; isplitl []; · ipureintro; exact hf0'
                    iexact H0
    isplitl [H1]; · iexists f1'; isplitl []; · ipureintro; exact hf1'
                    iexact H1
    isplitl [H2]; · iexists f2'; isplitl []; · ipureintro; exact hf2'
                    iexact H2
    isplitl [H3]; · iexists f3'; isplitl []; · ipureintro; exact hf3'
                    iexact H3
    isplitl [H4]
    · iexists _; isplitl []
      rotate_left
      · iexact H4
      ipureintro
      have e00 := readAt_blk hq1 (off := ![0, 0, 0]) (by decide) 0 0 rfl (by decide)
      have e01 := readAt_blk hq1 (off := ![1, 0, 0]) (by decide) 1 0 rfl (by decide)
      have e10 := readAt_blk hq1 (off := ![0, 512, 0]) (by decide) 0 512 rfl (by decide)
      have e11 := readAt_blk hq1 (off := ![1, 512, 0]) (by decide) 1 512 rfl (by decide)
      have e20 := readAt_blk hq1 (off := ![0, 1024, 0]) (by decide) 0 1024 rfl (by decide)
      have e21 := readAt_blk hq1 (off := ![1, 1024, 0]) (by decide) 1 1024 rfl (by decide)
      have e30 := readAt_blk hq1 (off := ![0, 1536, 0]) (by decide) 0 1536 rfl (by decide)
      have e31 := readAt_blk hq1 (off := ![1, 1536, 0]) (by decide) 1 1536 rfl (by decide)
      have e40 := readAt_blk hq1 (off := ![0, 2048, 0]) (by decide) 0 2048 rfl (by decide)
      have e41 := readAt_blk hq1 (off := ![1, 2048, 0]) (by decide) 1 2048 rfl (by decide)
      have e50 := readAt_blk hq1 (off := ![0, 2560, 0]) (by decide) 0 2560 rfl (by decide)
      have e51 := readAt_blk hq1 (off := ![1, 2560, 0]) (by decide) 1 2560 rfl (by decide)
      have e60 := readAt_blk hq1 (off := ![0, 3072, 0]) (by decide) 0 3072 rfl (by decide)
      have e61 := readAt_blk hq1 (off := ![1, 3072, 0]) (by decide) 1 3072 rfl (by decide)
      have e70 := readAt_blk hq1 (off := ![0, 3584, 0]) (by decide) 0 3584 rfl (by decide)
      have e71 := readAt_blk hq1 (off := ![1, 3584, 0]) (by decide) 1 3584 rfl (by decide)
      have e80 := readAt_blk hq1 (off := ![0, 4096, 0]) (by decide) 0 4096 rfl (by decide)
      have e81 := readAt_blk hq1 (off := ![1, 4096, 0]) (by decide) 1 4096 rfl (by decide)
      have e90 := readAt_blk hq1 (off := ![0, 4608, 0]) (by decide) 0 4608 rfl (by decide)
      have e91 := readAt_blk hq1 (off := ![1, 4608, 0]) (by decide) 1 4608 rfl (by decide)
      have e100 := readAt_blk hq1 (off := ![0, 5120, 0]) (by decide) 0 5120 rfl (by decide)
      have e101 := readAt_blk hq1 (off := ![1, 5120, 0]) (by decide) 1 5120 rfl (by decide)
      have e110 := readAt_blk hq1 (off := ![0, 5632, 0]) (by decide) 0 5632 rfl (by decide)
      have e111 := readAt_blk hq1 (off := ![1, 5632, 0]) (by decide) 1 5632 rfl (by decide)
      have e120 := readAt_blk hq1 (off := ![0, 6144, 0]) (by decide) 0 6144 rfl (by decide)
      have e121 := readAt_blk hq1 (off := ![1, 6144, 0]) (by decide) 1 6144 rfl (by decide)
      have e130 := readAt_blk hq1 (off := ![0, 6656, 0]) (by decide) 0 6656 rfl (by decide)
      have e131 := readAt_blk hq1 (off := ![1, 6656, 0]) (by decide) 1 6656 rfl (by decide)
      have e140 := readAt_blk hq1 (off := ![0, 7168, 0]) (by decide) 0 7168 rfl (by decide)
      have e141 := readAt_blk hq1 (off := ![1, 7168, 0]) (by decide) 1 7168 rfl (by decide)
      have e150 := readAt_blk hq1 (off := ![0, 7680, 0]) (by decide) 0 7680 rfl (by decide)
      have e151 := readAt_blk hq1 (off := ![1, 7680, 0]) (by decide) 1 7680 rfl (by decide)
      have u0 : View.read (Elt F) arg7.view (arg7.view.writes (Elt F) f4 []) = upto (outQ (finQ (grid0.coords t) (t.val % 16) x0 x1 x2 x3 X11)) X7 0 := by rw [View.writes_nil, upto_zero]; exact hf4
      have u1 := read_outQ arg7.view f4 (off := ![0, 0]) (by decide) _ _ _ _ _ 0 (by decide) rfl e00 e01 u0
      have u2 := read_outQ arg7.view f4 (off := ![512, 0]) (by decide) _ _ _ _ _ 1 (by decide) rfl e10 e11 u1
      have u3 := read_outQ arg7.view f4 (off := ![1024, 0]) (by decide) _ _ _ _ _ 2 (by decide) rfl e20 e21 u2
      have u4 := read_outQ arg7.view f4 (off := ![1536, 0]) (by decide) _ _ _ _ _ 3 (by decide) rfl e30 e31 u3
      have u5 := read_outQ arg7.view f4 (off := ![2048, 0]) (by decide) _ _ _ _ _ 4 (by decide) rfl e40 e41 u4
      have u6 := read_outQ arg7.view f4 (off := ![2560, 0]) (by decide) _ _ _ _ _ 5 (by decide) rfl e50 e51 u5
      have u7 := read_outQ arg7.view f4 (off := ![3072, 0]) (by decide) _ _ _ _ _ 6 (by decide) rfl e60 e61 u6
      have u8 := read_outQ arg7.view f4 (off := ![3584, 0]) (by decide) _ _ _ _ _ 7 (by decide) rfl e70 e71 u7
      have u9 := read_outQ arg7.view f4 (off := ![4096, 0]) (by decide) _ _ _ _ _ 8 (by decide) rfl e80 e81 u8
      have u10 := read_outQ arg7.view f4 (off := ![4608, 0]) (by decide) _ _ _ _ _ 9 (by decide) rfl e90 e91 u9
      have u11 := read_outQ arg7.view f4 (off := ![5120, 0]) (by decide) _ _ _ _ _ 10 (by decide) rfl e100 e101 u10
      have u12 := read_outQ arg7.view f4 (off := ![5632, 0]) (by decide) _ _ _ _ _ 11 (by decide) rfl e110 e111 u11
      have u13 := read_outQ arg7.view f4 (off := ![6144, 0]) (by decide) _ _ _ _ _ 12 (by decide) rfl e120 e121 u12
      have u14 := read_outQ arg7.view f4 (off := ![6656, 0]) (by decide) _ _ _ _ _ 13 (by decide) rfl e130 e131 u13
      have u15 := read_outQ arg7.view f4 (off := ![7168, 0]) (by decide) _ _ _ _ _ 14 (by decide) rfl e140 e141 u14
      have u16 := read_outQ arg7.view f4 (off := ![7680, 0]) (by decide) _ _ _ _ _ 15 (by decide) rfl e150 e151 u15
      exact u16.trans (upto_all _ _)
    isplitl [H5]
    · iexists _; isplitl []
      rotate_left
      · iexact H5
      ipureintro
      refine (View.read_writes_full _ _ _ _ _).trans ?_
      rw [← readAt_hd hq2 j0 0 rfl, ← readAt_hd hq2 j1 1 rfl]
      rfl
    isplitl [H6]
    · iexists _; isplitl []
      rotate_left
      · iexact H6
      ipureintro
      refine (View.read_writes_full _ _ _ _ _).trans ?_
      rw [← readAt_hd hq3 j0 0 rfl, ← readAt_hd hq3 j1 1 rfl]
      rfl
    isplitl [H7]
    · iexists _; isplitl []
      rotate_left
      · iexact H7
      ipureintro
      have e00 := readAt_blk hq1 (off := ![0, 0, 0]) (by decide) 0 0 rfl (by decide)
      have e01 := readAt_blk hq1 (off := ![1, 0, 0]) (by decide) 1 0 rfl (by decide)
      have e10 := readAt_blk hq1 (off := ![0, 512, 0]) (by decide) 0 512 rfl (by decide)
      have e11 := readAt_blk hq1 (off := ![1, 512, 0]) (by decide) 1 512 rfl (by decide)
      have e20 := readAt_blk hq1 (off := ![0, 1024, 0]) (by decide) 0 1024 rfl (by decide)
      have e21 := readAt_blk hq1 (off := ![1, 1024, 0]) (by decide) 1 1024 rfl (by decide)
      have e30 := readAt_blk hq1 (off := ![0, 1536, 0]) (by decide) 0 1536 rfl (by decide)
      have e31 := readAt_blk hq1 (off := ![1, 1536, 0]) (by decide) 1 1536 rfl (by decide)
      have e40 := readAt_blk hq1 (off := ![0, 2048, 0]) (by decide) 0 2048 rfl (by decide)
      have e41 := readAt_blk hq1 (off := ![1, 2048, 0]) (by decide) 1 2048 rfl (by decide)
      have e50 := readAt_blk hq1 (off := ![0, 2560, 0]) (by decide) 0 2560 rfl (by decide)
      have e51 := readAt_blk hq1 (off := ![1, 2560, 0]) (by decide) 1 2560 rfl (by decide)
      have e60 := readAt_blk hq1 (off := ![0, 3072, 0]) (by decide) 0 3072 rfl (by decide)
      have e61 := readAt_blk hq1 (off := ![1, 3072, 0]) (by decide) 1 3072 rfl (by decide)
      have e70 := readAt_blk hq1 (off := ![0, 3584, 0]) (by decide) 0 3584 rfl (by decide)
      have e71 := readAt_blk hq1 (off := ![1, 3584, 0]) (by decide) 1 3584 rfl (by decide)
      have e80 := readAt_blk hq1 (off := ![0, 4096, 0]) (by decide) 0 4096 rfl (by decide)
      have e81 := readAt_blk hq1 (off := ![1, 4096, 0]) (by decide) 1 4096 rfl (by decide)
      have e90 := readAt_blk hq1 (off := ![0, 4608, 0]) (by decide) 0 4608 rfl (by decide)
      have e91 := readAt_blk hq1 (off := ![1, 4608, 0]) (by decide) 1 4608 rfl (by decide)
      have e100 := readAt_blk hq1 (off := ![0, 5120, 0]) (by decide) 0 5120 rfl (by decide)
      have e101 := readAt_blk hq1 (off := ![1, 5120, 0]) (by decide) 1 5120 rfl (by decide)
      have e110 := readAt_blk hq1 (off := ![0, 5632, 0]) (by decide) 0 5632 rfl (by decide)
      have e111 := readAt_blk hq1 (off := ![1, 5632, 0]) (by decide) 1 5632 rfl (by decide)
      have e120 := readAt_blk hq1 (off := ![0, 6144, 0]) (by decide) 0 6144 rfl (by decide)
      have e121 := readAt_blk hq1 (off := ![1, 6144, 0]) (by decide) 1 6144 rfl (by decide)
      have e130 := readAt_blk hq1 (off := ![0, 6656, 0]) (by decide) 0 6656 rfl (by decide)
      have e131 := readAt_blk hq1 (off := ![1, 6656, 0]) (by decide) 1 6656 rfl (by decide)
      have e140 := readAt_blk hq1 (off := ![0, 7168, 0]) (by decide) 0 7168 rfl (by decide)
      have e141 := readAt_blk hq1 (off := ![1, 7168, 0]) (by decide) 1 7168 rfl (by decide)
      have e150 := readAt_blk hq1 (off := ![0, 7680, 0]) (by decide) 0 7680 rfl (by decide)
      have e151 := readAt_blk hq1 (off := ![1, 7680, 0]) (by decide) 1 7680 rfl (by decide)
      have u0 : View.read (Elt F) arg10.view (arg10.view.writes (Elt F) f7 (run_last.sl.H7_1 c t arg10 arg12 f7 g2')) = midC (grid0.coords t) (t.val % 16) X10 (finK (grid0.coords t) (t.val % 16) x0 x1 x2 x3) := by
        refine (View.read_writes_cons_put _ _ _ _ _ o12).trans ?_
        unfold midC
        rw [← readAt_hd hq2 j0 0 rfl, ← readAt_hd hq2 j1 1 rfl, ← readAt_rows hf7 i12 _ o12 hr, View.writes_nil, hf7]
        rfl
      rw [← upto_zero (endC (grid0.coords t) (finQ (grid0.coords t) (t.val % 16) x0 x1 x2 x3 X11) (midC (grid0.coords t) (t.val % 16) X10 (finK (grid0.coords t) (t.val % 16) x0 x1 x2 x3))) (midC _ _ _ _)] at u0
      have u1 : View.read (Elt F) arg10.view (arg10.view.writes (Elt F) f7 (run_last.sl.H7_2 c t arg10 arg11 arg12 f7 g1' g2')) = _ := read_endC arg10.view f7 (off := ![0, 0]) (by decide) (by decide) _ _ _ _ _ _ 0 (by decide) rfl e00 e01 u0
      have u2 : View.read (Elt F) arg10.view (arg10.view.writes (Elt F) f7 (run_last.sl.H7_3 c t arg10 arg11 arg12 f7 g1' g2')) = _ := read_endC arg10.view f7 (off := ![512, 0]) (by decide) (by decide) _ _ _ _ _ _ 1 (by decide) rfl e10 e11 u1
      have u3 : View.read (Elt F) arg10.view (arg10.view.writes (Elt F) f7 (run_last.sl.H7_4 c t arg10 arg11 arg12 f7 g1' g2')) = _ := read_endC arg10.view f7 (off := ![1024, 0]) (by decide) (by decide) _ _ _ _ _ _ 2 (by decide) rfl e20 e21 u2
      have u4 : View.read (Elt F) arg10.view (arg10.view.writes (Elt F) f7 (run_last.sl.H7_5 c t arg10 arg11 arg12 f7 g1' g2')) = _ := read_endC arg10.view f7 (off := ![1536, 0]) (by decide) (by decide) _ _ _ _ _ _ 3 (by decide) rfl e30 e31 u3
      have u5 : View.read (Elt F) arg10.view (arg10.view.writes (Elt F) f7 (run_last.sl.H7_6 c t arg10 arg11 arg12 f7 g1' g2')) = _ := read_endC arg10.view f7 (off := ![2048, 0]) (by decide) (by decide) _ _ _ _ _ _ 4 (by decide) rfl e40 e41 u4
      have u6 : View.read (Elt F) arg10.view (arg10.view.writes (Elt F) f7 (run_last.sl.H7_7 c t arg10 arg11 arg12 f7 g1' g2')) = _ := read_endC arg10.view f7 (off := ![2560, 0]) (by decide) (by decide) _ _ _ _ _ _ 5 (by decide) rfl e50 e51 u5
      have u7 : View.read (Elt F) arg10.view (arg10.view.writes (Elt F) f7 (run_last.sl.H7_8 c t arg10 arg11 arg12 f7 g1' g2')) = _ := read_endC arg10.view f7 (off := ![3072, 0]) (by decide) (by decide) _ _ _ _ _ _ 6 (by decide) rfl e60 e61 u6
      have u8 : View.read (Elt F) arg10.view (arg10.view.writes (Elt F) f7 (run_last.sl.H7_9 c t arg10 arg11 arg12 f7 g1' g2')) = _ := read_endC arg10.view f7 (off := ![3584, 0]) (by decide) (by decide) _ _ _ _ _ _ 7 (by decide) rfl e70 e71 u7
      have u9 : View.read (Elt F) arg10.view (arg10.view.writes (Elt F) f7 (run_last.sl.H7_10 c t arg10 arg11 arg12 f7 g1' g2')) = _ := read_endC arg10.view f7 (off := ![4096, 0]) (by decide) (by decide) _ _ _ _ _ _ 8 (by decide) rfl e80 e81 u8
      have u10 : View.read (Elt F) arg10.view (arg10.view.writes (Elt F) f7 (run_last.sl.H7_11 c t arg10 arg11 arg12 f7 g1' g2')) = _ := read_endC arg10.view f7 (off := ![4608, 0]) (by decide) (by decide) _ _ _ _ _ _ 9 (by decide) rfl e90 e91 u9
      have u11 : View.read (Elt F) arg10.view (arg10.view.writes (Elt F) f7 (run_last.sl.H7_12 c t arg10 arg11 arg12 f7 g1' g2')) = _ := read_endC arg10.view f7 (off := ![5120, 0]) (by decide) (by decide) _ _ _ _ _ _ 10 (by decide) rfl e100 e101 u10
      have u12 : View.read (Elt F) arg10.view (arg10.view.writes (Elt F) f7 (run_last.sl.H7_13 c t arg10 arg11 arg12 f7 g1' g2')) = _ := read_endC arg10.view f7 (off := ![5632, 0]) (by decide) (by decide) _ _ _ _ _ _ 11 (by decide) rfl e110 e111 u11
      have u13 : View.read (Elt F) arg10.view (arg10.view.writes (Elt F) f7 (run_last.sl.H7_14 c t arg10 arg11 arg12 f7 g1' g2')) = _ := read_endC arg10.view f7 (off := ![6144, 0]) (by decide) (by decide) _ _ _ _ _ _ 12 (by decide) rfl e120 e121 u12
      have u14 : View.read (Elt F) arg10.view (arg10.view.writes (Elt F) f7 (run_last.sl.H7_15 c t arg10 arg11 arg12 f7 g1' g2')) = _ := read_endC arg10.view f7 (off := ![6656, 0]) (by decide) (by decide) _ _ _ _ _ _ 13 (by decide) rfl e130 e131 u13
      have u15 : View.read (Elt F) arg10.view (arg10.view.writes (Elt F) f7 (run_last.sl.H7_16 c t arg10 arg11 arg12 f7 g1' g2')) = _ := read_endC arg10.view f7 (off := ![7168, 0]) (by decide) (by decide) _ _ _ _ _ _ 14 (by decide) rfl e140 e141 u14
      exact (read_endC arg10.view f7 (off := ![7680, 0]) (by decide) (by decide) _ _ _ _ _ _ 15 (by decide) rfl e150 e151 u15).trans (upto_all _ _)
    isplitl [HS0]; · iexists g1'; isplitl []; · ipureintro; exact hg1'
                     iexact HS0
    isplitl [HS1]; · iexists _, g2'; isplitl []; · ipureintro; rfl
                     iexact HS1
    isplitl [HS2]; · iexists _, g3'; isplitl []; · ipureintro; rfl
                     iexact HS2
    iexact HT0

end Cert.KernelIdeal.Att

end
-- ==== Proof.KernelIdeal.RunC.lean ====
/- The body's obligation at the last key block of a pair of heads. -/
module

public import proofs.«01_k».proof.Proof.KernelIdeal.RunBase
public import proofs.«01_k».proof.Proof.KernelIdeal.BodyC

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the last key block of a pair of heads. -/
theorem sound_last (c : Dev nD) (t : Fin (cfgM m).N) (hL : t.val % 16 = 15) :
    bodyPre m c t ⊢ wp frame (wpE (defs₀ (F := F)) Variants.none c none) Set.univ (bodyAt m t) (fun _ => bodyPost m c t) := by
  have hF : t.val % 16 ≠ 0 := by omega
  have h0 : t.val ≠ 0 := by omega
  have ept : pt t.val = t := pt_val t
  have eQ : acQ m c (t.val + 1) = finQ (grid0.coords t) (t.val % 16) (iblk m c 0 t) (iblk m c 1 t) (iblk m c 2 t) (iblk m c 3 t) (acQ m c t.val) := by
    rw [acQ_succ, ept]; exact congrArg (finQ _ _ _ _ _ _) (if_neg hF)
  have eK : acK m c t.val = finK (grid0.coords t) (t.val % 16) (iblk m c 0 t) (iblk m c 1 t) (iblk m c 2 t) (iblk m c 3 t) := by rw [acK, ept]
  have eV : acV m c t.val = finV (grid0.coords t) (t.val % 16) (iblk m c 0 t) (iblk m c 1 t) (iblk m c 2 t) := by rw [acV, ept]
  have eC : acC m c (t.val + 1) = endC (grid0.coords t) (finQ (grid0.coords t) (t.val % 16) (iblk m c 0 t) (iblk m c 1 t) (iblk m c 2 t) (iblk m c 3 t) (acQ m c t.val)) (midC (grid0.coords t) (t.val % 16) (acC m c t.val) (finK (grid0.coords t) (t.val % 16) (iblk m c 0 t) (iblk m c 1 t) (iblk m c 2 t) (iblk m c 3 t))) := by
    rw [acC_succ, if_pos hL, eQ, eK, ept]
  unfold bodyPre bodyPost bodyAt
  simp only [before0_0, before0_1, before0_2, before0_3]
  rw [Phi_before, Phi_after, show (dats m 0 c).owesAt () t.succ = (dats m 0 c).owesAt () t.castSucc from rfl]
  rw [show (dats m 0 c).leavesExact 0 t = owns (c : Thread nD τ) (ms0 m t) fullShare ((dats m 0 c).after 0 t) from
    leaves_owns m c t 0 (liveAt0 m t 0 (by decide)), after0_0]
  rw [show (dats m 0 c).leavesExact 1 t = owns (c : Thread nD τ) (ms1 m t) fullShare ((dats m 0 c).after 1 t) from
    leaves_owns m c t 1 (liveAt0 m t 1 (by decide)), after0_1]
  rw [show (dats m 0 c).leavesExact 2 t = owns (c : Thread nD τ) (ms2 m t) fullShare ((dats m 0 c).after 2 t) from
    leaves_owns m c t 2 (liveAt0 m t 2 (by decide)), after0_2]
  rw [show (dats m 0 c).leavesExact 3 t = owns (c : Thread nD τ) (ms3 m t) fullShare ((dats m 0 c).after 3 t) from
    leaves_owns m c t 3 (liveAt0 m t 3 (by decide)), after0_3]
  rw [show (dats m 0 c).leavesExact 4 t = owns (c : Thread nD τ) (ms4 m t) fullShare ((dats m 0 c).after 4 t) from
    leaves_owns m c t 4 (by rw [idle4]; simpa [condL] using (hcondL t).mpr hL), after0_4]
  rw [show (dats m 0 c).leavesExact 5 t = owns (c : Thread nD τ) (ms5 m t) fullShare ((dats m 0 c).after 5 t) from
    leaves_owns m c t 5 rfl, after0_5]
  rw [show (dats m 0 c).leavesExact 6 t = owns (c : Thread nD τ) (ms6 m t) fullShare ((dats m 0 c).after 6 t) from
    leaves_owns m c t 6 rfl, after0_6]
  rw [show (dats m 0 c).leavesExact 7 t = owns (c : Thread nD τ) (ms7 m t) fullShare ((dats m 0 c).after 7 t) from
    leaves_owns m c t 7 rfl, after0_7]
  rw [eC, outK, outV, eK, eV, eQ]
  simp only [before7 m c t h0]
  unfold scrQ
  iintro ⟨⟨⟨⟨%q, %hq, HS0⟩, HS1, HS2⟩, Hg, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hq' : q = acQ m c t.val := hq hF
  subst hq'
  iapply (run_last c t (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) sc0 (Memref.isWhole_whole _) sc1 (Memref.isWhole_whole _) sc2 (Memref.isWhole_whole _) (iblk m c 0 t) (iblk m c 1 t) (iblk m c 2 t) (iblk m c 3 t) _ (acC m c t.val) (acQ m c t.val) (fun h => h0 ((hcondZ t).mp h)) (fun h => hF ((hcondF t).mp h)) ((hcondL t).mpr hL) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS0]; · iexact HS0
  isplitl [HS1]; · iexact HS1
  isplitl [HS2]; · iexact HS2
  isplitl [HT0]; · iexact HT0
  iintro ⟨H0, H1, H2, H3, H4, H5, H6, H7, HS0, HS1, HS2, HT0⟩
  isplitl [HS0 HS1 HS2 Hg HT0]
  · isplitl [HS0 HS1 HS2]
    · isplitl [HS0]
      · iexists _; isplitl []; rotate_left
        · iexact HS0
        ipureintro; exact fun _ => eQ.symm
      isplitl [HS1]
      · iexact HS1
      iexact HS2
    isplitl [Hg]; · iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Att
-- ==== Proof.KernelIdeal.BodyD.lean ====
/- The body at a point: what it leaves in its output and scratch buffers. -/
module

public import proofs.«01_k».proof.Proof.KernelIdeal.Body

@[expose] public section

set_option maxRecDepth 16384

noncomputable section

namespace Cert.KernelIdeal.Att

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at any other point. -/
theorem run_mid (c : Dev nD) (t : Fin grid0.N) (arg3 : Memref sig .tc .vmem S2x8192x128 .bf16) (harg3 : arg3.IsWhole) (arg4 : Memref sig .tc .vmem S2x8192x128 .bf16) (harg4 : arg4.IsWhole) (arg5 : Memref sig .tc .vmem S2x512x128 .bf16) (harg5 : arg5.IsWhole) (arg6 : Memref sig .tc .vmem S2x512x128 .bf16) (harg6 : arg6.IsWhole) (arg7 : Memref sig .tc .vmem S8192x128 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S8192x128 .f32) (harg10 : arg10.IsWhole) (arg11 : Memref sig .tc .vmem S2x8192x128 .f32) (harg11 : arg11.IsWhole) (arg12 : Memref sig .tc .vmem S2x512x128 .f32) (harg12 : arg12.IsWhole) (arg13 : Memref sig .tc .vmem S2x512x128 .f32) (harg13 : arg13.IsWhole)
    (x0 : Vec F S2x8192x128 .bf16) (x1 : Vec F S2x8192x128 .bf16) (x2 : Vec F S2x512x128 .bf16) (x3 : Vec F S2x512x128 .bf16)
    (X7 : Vec F S8192x128 .bf16) (X10 : Vec F S8192x128 .f32) (X11 : Vec F S2x8192x128 .f32) (hcZ : ¬ condZ (grid0.coords t)) (hcF : ¬ condF (grid0.coords t)) (hcL : ¬ condL (grid0.coords t)) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare X7 ∗ (∃ d, owns (c : Thread nD τ) arg8 fullShare d) ∗ (∃ d, owns (c : Thread nD τ) arg9 fullShare d) ∗ owns (c : Thread nD τ) arg10 fullShare X10 ∗ owns (c : Thread nD τ) arg11 fullShare X11 ∗ (∃ d, owns (c : Thread nD τ) arg12 fullShare d) ∗ (∃ d, owns (c : Thread nD τ) arg13 fullShare d) ∗ tbPt (F := F) c tbM (fun _ => 15#32)
            ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare X7 ∗ owns (c : Thread nD τ) arg8 fullShare (k0_pay142 (hd (finK (grid0.coords t) (t.val % 16) x0 x1 x2 x3) 0) (hd (finK (grid0.coords t) (t.val % 16) x0 x1 x2 x3) 1)) ∗ owns (c : Thread nD τ) arg9 fullShare (k0_pay143 (hd (finV (grid0.coords t) (t.val % 16) x0 x1 x2) 0) (hd (finV (grid0.coords t) (t.val % 16) x0 x1 x2) 1)) ∗ owns (c : Thread nD τ) arg10 fullShare (midC (grid0.coords t) (t.val % 16) X10 (finK (grid0.coords t) (t.val % 16) x0 x1 x2 x3)) ∗ owns (c : Thread nD τ) arg11 fullShare (finQ (grid0.coords t) (t.val % 16) x0 x1 x2 x3 X11) ∗ (∃ d, owns (c : Thread nD τ) arg12 fullShare d) ∗ (∃ d, owns (c : Thread nD τ) arg13 fullShare d) ∗ tbPt (F := F) c tbM (fun _ => 15#32)) -∗ K ⟨⟩))
          ⊢ wp frame (wpE (defs₀ (F := F)) Variants.none c none) E (cc0_attention_bwd (grid0.coords t) tbM htbM arg3 harg3 arg4 harg4 arg5 harg5 arg6 harg6 arg7 harg7 arg8 harg8 arg9 harg9 arg10 harg10 arg11 harg11 arg12 harg12 arg13 harg13) K := by
  intro E K
  simp only [cc0_attention_bwd_eq_skeleton]; unfold cc0_attention_bwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%g1, %hg1, HS0⟩, ⟨%ds1, %g2, -, HS1⟩, ⟨%ds2, %g3, -, HS2⟩, HT0, Hk⟩
  have hw := hchk t
  have ht : t.val < 128 := Nat.lt_of_lt_of_eq t.isLt N_0
  have hr : 512 * (t.val % 16) + 512 ≤ 8192 := by omega
  have o2 := off2_eq t
  have o3 := off3_eq t
  have o12 := off12_eq t
  have i2 := k0_off2_inb (grid0.coords t)
  have i3 := k0_off3_inb (grid0.coords t)
  have i12 := k0_off12_inb (grid0.coords t)
  have j0 : ∀ a, (![0, 0, 0] : Fin 3 → ℕ) a + S1x512x128.size a ≤ S2x512x128.size a := by decide
  have j1 : ∀ a, (![1, 0, 0] : Fin 3 → ℕ) a + S1x512x128.size a ≤ S2x512x128.size a := by decide
  sl_exec (disch := first | sl_exact hcZ | sl_exact hcF | sl_exact hcL | sl_exact hw)
  have hB : View.read (Elt F) arg11.view (g1) = X11 := hg1
  have hK0 : View.read (Elt F) arg12.view (arg12.view.writes (Elt F) arg12.view.junk run_mid.sl.HS2_1) = k0_pay113 := View.read_writes_full _ _ _ _ _
  have hV0 : View.read (Elt F) arg13.view (arg13.view.writes (Elt F) arg13.view.junk run_mid.sl.HS2_1) = k0_pay114 := View.read_writes_full _ _ _ _ _
  have h7 : View.read (Elt F) arg10.view (f7) = X10 := hf7
  obtain ⟨wK, hK1⟩ : ∃ wK, View.read (Elt F) arg12.view (arg12.view.writes (Elt F) arg12.view.junk (run_mid.sl.HS1_2 c t arg3 arg4 arg5 arg6 arg12 f0 f1 f2 f3)) = setHd k0_pay113 0 wK :=
    ⟨_, read_setHd _ _ _ _ _ _ 0 rfl hK0⟩
  obtain ⟨wV, hV1⟩ : ∃ wV, View.read (Elt F) arg13.view (arg13.view.writes (Elt F) arg13.view.junk (run_mid.sl.HS2_2 c t arg3 arg4 arg5 arg13 f0 f1 f2)) = setHd k0_pay114 0 wV :=
    ⟨_, read_setHd _ _ _ _ _ _ 0 rfl hV0⟩
  have h45 : run_mid.sl.v45 t = w45 (grid0.coords t) := rfl
  have eK : hd k0_pay113 1 = _ := (hd_setHd _ wK).symm.trans (readAt_hd hK1 j1 1 rfl).symm
  have eV : hd k0_pay114 1 = _ := (hd_setHd _ wV).symm.trans (readAt_hd hV1 j1 1 rfl).symm
  sl_for (loopI c arg3 arg4 arg5 arg6 arg11 arg12 arg13 x0 x1 x2 x3 (t.val % 16 + 1) (diagQ (grid0.coords t) x0 x1 x2 x3 (512 * (t.val % 16)) X11) (diagK (grid0.coords t) x0 x1 x2 x3 (512 * (t.val % 16))) (diagV (grid0.coords t) x0 x1 x2 (512 * (t.val % 16)))) $$ [H0 H1 H2 H3 HS0 HS1 HS2]
  · intro k acc
    exact trip_inv c t k hw arg3 harg3 arg4 harg4 arg5 harg5 arg6 harg6 arg7 harg7 arg8 harg8 arg9 harg9 arg10 harg10 arg11 harg11 arg12 harg12 arg13 harg13 x0 x1 x2 x3 _ _ _ 0#32 0#32 0#32 0#32 (constant S512x128 .bf16 0#16) (constant S512x128 .bf16 0#16) (constant S512x512 .bf16 0#16) (constant S512x128 .f32 0#32) (constant S512x512 .bf16 0#16) (constant S512x128 .f32 0#32) (run_mid.sl.v162 t) E
  · unfold loopI owns
    isplitl [H0]; · iexists f0; isplitl []; · ipureintro; exact hf0
                    iexact H0
    isplitl [H1]; · iexists f1; isplitl []; · ipureintro; exact hf1
                    iexact H1
    isplitl [H2]; · iexists f2; isplitl []; · ipureintro; exact hf2
                    iexact H2
    isplitl [H3]; · iexists f3; isplitl []; · ipureintro; exact hf3
                    iexact H3
    isplitl [HS0]
    · iexists _; isplitl []
      rotate_left
      · iexact HS0
      ipureintro
      refine (read_setBlk _ _ _ _ _ _ 1 _ o3 (read_setBlk _ _ _ _ _ _ 0 _ o2 hB)).trans ?_
      show _ = diagQ _ _ _ _ _ _ _
      unfold diagQ
      rw [← readAt_blk hf0 i2 0 _ o2 hr, ← readAt_blk hf0 i3 1 _ o3 hr, ← readAt_blk hf1 i2 0 _ o2 hr, ← readAt_blk hf1 i3 1 _ o3 hr, ← readAt_hd hf2 j0 0 rfl, ← readAt_hd hf2 j1 1 rfl, ← readAt_hd hf3 j0 0 rfl, ← readAt_hd hf3 j1 1 rfl, ← readAt_blk hB i2 0 _ o2 hr, ← readAt_blk hB i3 1 _ o3 hr]
      delta run_mid.sl.v46 run_mid.sl.v48 run_mid.sl.v50 run_mid.sl.v52 run_mid.sl.v53 run_mid.sl.v56 run_mid.sl.v58 run_mid.sl.v59 run_mid.sl.v62 run_mid.sl.v64 run_mid.sl.v65 run_mid.sl.v91 run_mid.sl.v99 run_mid.sl.v136 run_mid.sl.v139 run_mid.sl.v140 run_mid.sl.v141 run_mid.sl.v142 run_mid.sl.v143 run_mid.sl.v144 run_mid.sl.v145 run_mid.sl.v146 run_mid.sl.v147 run_mid.sl.v150 run_mid.sl.v152 run_mid.sl.v153 run_mid.sl.v156 run_mid.sl.v157 run_mid.sl.v161 run_mid.sl.r_2 run_mid.sl.r_3 run_mid.sl.r_4 run_mid.sl.r_5 run_mid.sl.r_6 run_mid.sl.r_7 run_mid.sl.r_8 run_mid.sl.r_9 run_mid.sl.cst_26 run_mid.sl.cst_83
      delta k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
      first | (rw [h45]; done) | (rw [h45]; rfl)
    isplitl [HS1]
    · iexists _; isplitl []
      rotate_left
      · iexact HS1
      ipureintro
      refine (read_setHd _ _ _ _ _ _ 1 rfl (read_setHd _ _ _ _ _ _ 0 rfl hK0)).trans ?_
      show _ = diagK _ _ _ _ _ _
      unfold diagK
      rw [← readAt_blk hf0 i2 0 _ o2 hr, ← readAt_blk hf0 i3 1 _ o3 hr, ← readAt_blk hf1 i2 0 _ o2 hr, ← readAt_blk hf1 i3 1 _ o3 hr, ← readAt_hd hf2 j0 0 rfl, ← readAt_hd hf2 j1 1 rfl, ← readAt_hd hf3 j0 0 rfl, ← readAt_hd hf3 j1 1 rfl, ← readAt_hd hK0 j0 0 rfl, eK]
      delta run_mid.sl.v46 run_mid.sl.v48 run_mid.sl.v50 run_mid.sl.v52 run_mid.sl.v53 run_mid.sl.v56 run_mid.sl.v58 run_mid.sl.v59 run_mid.sl.v62 run_mid.sl.v64 run_mid.sl.v65 run_mid.sl.v91 run_mid.sl.v99 run_mid.sl.v136 run_mid.sl.v139 run_mid.sl.v140 run_mid.sl.v141 run_mid.sl.v142 run_mid.sl.v143 run_mid.sl.v144 run_mid.sl.v145 run_mid.sl.v146 run_mid.sl.v147 run_mid.sl.v150 run_mid.sl.v152 run_mid.sl.v153 run_mid.sl.v156 run_mid.sl.v157 run_mid.sl.v161 run_mid.sl.r_2 run_mid.sl.r_3 run_mid.sl.r_4 run_mid.sl.r_5 run_mid.sl.r_6 run_mid.sl.r_7 run_mid.sl.r_8 run_mid.sl.r_9 run_mid.sl.cst_26 run_mid.sl.cst_83
      delta k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
      first | (rw [h45]; done) | (rw [h45]; rfl)
    · iexists _; isplitl []
      rotate_left
      · iexact HS2
      ipureintro
      refine (read_setHd _ _ _ _ _ _ 1 rfl (read_setHd _ _ _ _ _ _ 0 rfl hV0)).trans ?_
      show _ = diagV _ _ _ _ _
      unfold diagV
      rw [← readAt_blk hf0 i2 0 _ o2 hr, ← readAt_blk hf0 i3 1 _ o3 hr, ← readAt_blk hf1 i2 0 _ o2 hr, ← readAt_blk hf1 i3 1 _ o3 hr, ← readAt_hd hf2 j0 0 rfl, ← readAt_hd hf2 j1 1 rfl, ← readAt_hd hV0 j0 0 rfl, eV]
      delta run_mid.sl.v46 run_mid.sl.v48 run_mid.sl.v50 run_mid.sl.v52 run_mid.sl.v53 run_mid.sl.v56 run_mid.sl.v58 run_mid.sl.v59 run_mid.sl.v62 run_mid.sl.v64 run_mid.sl.v65 run_mid.sl.v91 run_mid.sl.v99 run_mid.sl.v136 run_mid.sl.v139 run_mid.sl.v140 run_mid.sl.v141 run_mid.sl.v142 run_mid.sl.v143 run_mid.sl.v144 run_mid.sl.v145 run_mid.sl.v146 run_mid.sl.v147 run_mid.sl.v150 run_mid.sl.v152 run_mid.sl.v153 run_mid.sl.v156 run_mid.sl.v157 run_mid.sl.v161 run_mid.sl.r_2 run_mid.sl.r_3 run_mid.sl.r_4 run_mid.sl.r_5 run_mid.sl.r_6 run_mid.sl.r_7 run_mid.sl.r_8 run_mid.sl.r_9 run_mid.sl.cst_26 run_mid.sl.cst_83
      delta k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133
      first | (rw [h45]; done) | (rw [h45]; rfl)
  · iintro %acc HI
    have hr0 : run_mid.sl.r (F := F) c t = 15#32 := rfl
    have hr1 : run_mid.sl.r_1 (F := F) c t = 15#32 := rfl
    have ht1 : (k0_t1_loop (grid0.coords t) (run_mid.sl.r (F := F) c t) (run_mid.sl.r_1 (F := F) c t)).trips = 15 - t.val % 16 := by rw [hr0, hr1]; exact trips1 t
    have ht2 : (k0_t2_loop (grid0.coords t) (run_mid.sl.r (F := F) c t) (run_mid.sl.r_1 (F := F) c t)).trips = 0 := by rw [hr0, hr1]; exact trips2 t
    rw [show Scf.trips (k0_t1_loop (grid0.coords t) (run_mid.sl.r (F := F) c t) (run_mid.sl.r_1 (F := F) c t)).lb (k0_t1_loop (grid0.coords t) (run_mid.sl.r (F := F) c t) (run_mid.sl.r_1 (F := F) c t)).ub (k0_t1_loop (grid0.coords t) (run_mid.sl.r (F := F) c t) (run_mid.sl.r_1 (F := F) c t)).st = 15 - t.val % 16 from ht1]
    unfold loopI owns
    icases HI with ⟨⟨%f0', %hf0', H0⟩, ⟨%f1', %hf1', H1⟩, ⟨%f2', %hf2', H2⟩, ⟨%f3', %hf3', H3⟩, ⟨%g1', %hg1', HS0⟩, ⟨%g2', %hg2', HS1⟩, ⟨%g3', %hg3', HS2⟩⟩
    have hq1 : View.read (Elt F) arg11.view g1' = finQ (grid0.coords t) (t.val % 16) x0 x1 x2 x3 X11 := hg1'
    have hq2 : View.read (Elt F) arg12.view g2' = finK (grid0.coords t) (t.val % 16) x0 x1 x2 x3 := hg2'
    have hq3 : View.read (Elt F) arg13.view g3' = finV (grid0.coords t) (t.val % 16) x0 x1 x2 := hg3'
    have ht3 : (k0_t3_loop (run_mid.sl.r (F := F) c t) (run_mid.sl.r_1 (F := F) c t)).trips = 0 := by rw [hr0, hr1]; exact trips3
    have ht4 : (k0_t4_loop (run_mid.sl.r (F := F) c t) (run_mid.sl.r_1 (F := F) c t)).trips = 0 := by rw [hr0, hr1]; exact trips4
    have ht5 : (k0_t5_loop (run_mid.sl.r (F := F) c t) (run_mid.sl.r_1 (F := F) c t)).trips = 0 := by rw [hr0, hr1]; exact trips5
    have ht6 : (k0_t6_loop (run_mid.sl.r (F := F) c t) (run_mid.sl.r_1 (F := F) c t)).trips = 0 := by rw [hr0, hr1]; exact trips6
    sl_exec (disch := first | sl_exact hcL)
    rw [wp_ret]; imodintro
    iapply Hk
    isplitl [H0]; · iexists f0'; isplitl []; · ipureintro; exact hf0'
                    iexact H0
    isplitl [H1]; · iexists f1'; isplitl []; · ipureintro; exact hf1'
                    iexact H1
    isplitl [H2]; · iexists f2'; isplitl []; · ipureintro; exact hf2'
                    iexact H2
    isplitl [H3]; · iexists f3'; isplitl []; · ipureintro; exact hf3'
                    iexact H3
    isplitl [H4]
    · iexists _; isplitl []
      rotate_left
      · iexact H4
      ipureintro
      exact hf4
    isplitl [H5]
    · iexists _; isplitl []
      rotate_left
      · iexact H5
      ipureintro
      refine (View.read_writes_full _ _ _ _ _).trans ?_
      rw [← readAt_hd hq2 j0 0 rfl, ← readAt_hd hq2 j1 1 rfl]
      rfl
    isplitl [H6]
    · iexists _; isplitl []
      rotate_left
      · iexact H6
      ipureintro
      refine (View.read_writes_full _ _ _ _ _).trans ?_
      rw [← readAt_hd hq3 j0 0 rfl, ← readAt_hd hq3 j1 1 rfl]
      rfl
    isplitl [H7]
    · iexists _; isplitl []
      rotate_left
      · iexact H7
      ipureintro
      refine (View.read_writes_cons_put _ _ _ _ _ o12).trans ?_
      unfold midC
      rw [← readAt_hd hq2 j0 0 rfl, ← readAt_hd hq2 j1 1 rfl, ← readAt_rows h7 i12 _ o12 hr, ← h7]
      rfl
    isplitl [HS0]; · iexists g1'; isplitl []; · ipureintro; exact hg1'
                     iexact HS0
    isplitl [HS1]; · iexists _, g2'; isplitl []; · ipureintro; rfl
                     iexact HS1
    isplitl [HS2]; · iexists _, g3'; isplitl []; · ipureintro; rfl
                     iexact HS2
    iexact HT0

end Cert.KernelIdeal.Att

end
-- ==== Proof.KernelIdeal.RunD.lean ====
/- The body's obligation at the other points. -/
module

public import proofs.«01_k».proof.Proof.KernelIdeal.RunBase
public import proofs.«01_k».proof.Proof.KernelIdeal.BodyD

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at any other point. -/
theorem sound_mid (c : Dev nD) (t : Fin (cfgM m).N) (hF : t.val % 16 ≠ 0) (hL : t.val % 16 ≠ 15) :
    bodyPre m c t ⊢ wp frame (wpE (defs₀ (F := F)) Variants.none c none) Set.univ (bodyAt m t) (fun _ => bodyPost m c t) := by
  have h0 : t.val ≠ 0 := by omega
  have ept : pt t.val = t := pt_val t
  have eQ : acQ m c (t.val + 1) = finQ (grid0.coords t) (t.val % 16) (iblk m c 0 t) (iblk m c 1 t) (iblk m c 2 t) (iblk m c 3 t) (acQ m c t.val) := by
    rw [acQ_succ, ept]; exact congrArg (finQ _ _ _ _ _ _) (if_neg hF)
  have eK : acK m c t.val = finK (grid0.coords t) (t.val % 16) (iblk m c 0 t) (iblk m c 1 t) (iblk m c 2 t) (iblk m c 3 t) := by rw [acK, ept]
  have eV : acV m c t.val = finV (grid0.coords t) (t.val % 16) (iblk m c 0 t) (iblk m c 1 t) (iblk m c 2 t) := by rw [acV, ept]
  have eC : acC m c (t.val + 1) = midC (grid0.coords t) (t.val % 16) (acC m c t.val) (finK (grid0.coords t) (t.val % 16) (iblk m c 0 t) (iblk m c 1 t) (iblk m c 2 t) (iblk m c 3 t)) := by
    rw [acC_succ, if_neg hL, eK, ept]
  unfold bodyPre bodyPost bodyAt
  simp only [before0_0, before0_1, before0_2, before0_3]
  rw [Phi_before, Phi_after, show (dats m 0 c).owesAt () t.succ = (dats m 0 c).owesAt () t.castSucc from rfl]
  rw [show (dats m 0 c).leavesExact 0 t = owns (c : Thread nD τ) (ms0 m t) fullShare ((dats m 0 c).after 0 t) from
    leaves_owns m c t 0 (liveAt0 m t 0 (by decide)), after0_0]
  rw [show (dats m 0 c).leavesExact 1 t = owns (c : Thread nD τ) (ms1 m t) fullShare ((dats m 0 c).after 1 t) from
    leaves_owns m c t 1 (liveAt0 m t 1 (by decide)), after0_1]
  rw [show (dats m 0 c).leavesExact 2 t = owns (c : Thread nD τ) (ms2 m t) fullShare ((dats m 0 c).after 2 t) from
    leaves_owns m c t 2 (liveAt0 m t 2 (by decide)), after0_2]
  rw [show (dats m 0 c).leavesExact 3 t = owns (c : Thread nD τ) (ms3 m t) fullShare ((dats m 0 c).after 3 t) from
    leaves_owns m c t 3 (liveAt0 m t 3 (by decide)), after0_3]
  rw [show (dats m 0 c).leavesExact 4 t = iprop(∃ d, owns (c : Thread nD τ) (ms4 m t) fullShare ((dats m 0 c).before 4 t d)) from
    (dats m 0 c).leavesExact_idle 4 t (by rw [idle4]; simpa [condL] using (fun h : k0_cond3 (grid0.coords t) = 1#1 => hL ((hcondL t).mp h))) (by rw [← Bool.not_eq_true, flush4]; exact hL)]
  rw [show (dats m 0 c).leavesExact 5 t = owns (c : Thread nD τ) (ms5 m t) fullShare ((dats m 0 c).after 5 t) from
    leaves_owns m c t 5 rfl, after0_5]
  rw [show (dats m 0 c).leavesExact 6 t = owns (c : Thread nD τ) (ms6 m t) fullShare ((dats m 0 c).after 6 t) from
    leaves_owns m c t 6 rfl, after0_6]
  rw [show (dats m 0 c).leavesExact 7 t = owns (c : Thread nD τ) (ms7 m t) fullShare ((dats m 0 c).after 7 t) from
    leaves_owns m c t 7 rfl, after0_7]
  rw [eC, outK, outV, eK, eV]
  simp only [before7 m c t h0]
  unfold scrQ
  iintro ⟨⟨⟨⟨%q, %hq, HS0⟩, HS1, HS2⟩, Hg, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hq' : q = acQ m c t.val := hq hF
  subst hq'
  iapply (run_mid c t (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) sc0 (Memref.isWhole_whole _) sc1 (Memref.isWhole_whole _) sc2 (Memref.isWhole_whole _) (iblk m c 0 t) (iblk m c 1 t) (iblk m c 2 t) (iblk m c 3 t) _ (acC m c t.val) (acQ m c t.val) (fun h => h0 ((hcondZ t).mp h)) (fun h => hF ((hcondF t).mp h)) (fun h => hL ((hcondL t).mp h)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS0]; · iexact HS0
  isplitl [HS1]; · iexact HS1
  isplitl [HS2]; · iexact HS2
  isplitl [HT0]; · iexact HT0
  iintro ⟨H0, H1, H2, H3, H4, H5, H6, H7, HS0, HS1, HS2, HT0⟩
  isplitl [HS0 HS1 HS2 Hg HT0]
  · isplitl [HS0 HS1 HS2]
    · isplitl [HS0]
      · iexists _; isplitl []; rotate_left
        · iexact HS0
        ipureintro; exact fun _ => eQ.symm
      isplitl [HS1]
      · iexact HS1
      iexact HS2
    isplitl [Hg]; · iexact Hg
    iexact HT0
  isplitl [Ho]; · iexact Ho
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  iexact H7

end Cert.KernelIdeal.Att
-- ==== Proof.KernelIdeal.Run.lean ====
/- The run of the call: what the accumulators hold before each point, what each point writes, and that every execution
   ends with the result arrays assembled of those blocks, the arguments unchanged and the counters at zero. -/
module

public import proofs.«01_k».proof.Proof.KernelIdeal.RunA
public import proofs.«01_k».proof.Proof.KernelIdeal.RunB
public import proofs.«01_k».proof.Proof.KernelIdeal.RunC
public import proofs.«01_k».proof.Proof.KernelIdeal.RunD

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin (cfgM m).N) :
    bodyPre m c t ⊢ wp frame (wpE (defs₀ (F := F)) Variants.none c none) Set.univ (bodyAt m t) (fun _ => bodyPost m c t) := by
  by_cases h0 : t.val = 0
  · exact sound_zero m c t h0
  by_cases hF : t.val % 16 = 0
  · exact sound_first m c t hF h0
  by_cases hL : t.val % 16 = 15
  · exact sound_last m c t hL
  · exact sound_mid m c t hF hL

/-- The body table's row at point `t`'s slots is the body as `bodyAt` spells it. -/
theorem defs₀_row (t : Fin (cfgM m).N) :
    defs₀ (F := F) .tc (cfgM m).body ((cfgM m).bodyArgs t ((cfgM m).slots t)) = bodyAt m t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The run -/

set_option maxHeartbeats 4000000 in
set_option backward.isDefEq.respectTransparency.types false in
/-- Every execution ends, the arrays assembled of the blocks the points left, every semaphore counter at zero. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := fun c => by
      rw [PhiT_eq, PhiA_eq, Phi_eq, tbl_eq]; unfold scrQ
      iintro ⟨⟨⟨⟨%q, HS0⟩, HS1, HS2⟩, Hg⟩, HT0⟩
      isplitl [HS0 HS1 HS2]
      · isplitl [HS0]
        · iexists q; isplitl []
          · ipureintro; exact fun h => absurd rfl h
          iexact HS0
        isplitl [HS1]
        · iexact HS1
        iexact HS2
      isplitl [Hg]; · iexact Hg
      iexact HT0)
    (hout := fun c => by
      rw [PhiA_eq, Phi_eq]; unfold scrQ
      iintro ⟨⟨⟨%q, -, HS0⟩, HS1, HS2⟩, Hg, HT0⟩
      isplitl [HS0 HS1 HS2]
      · isplitl [HS0]
        · iexists q; iexact HS0
        isplitl [HS1]
        · iexact HS1
        iexact HS2
      iexact Hg)

/-- The frame: every execution ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (by decide : main_arg0 ∈ Pipeline.restRefs sig spec0)).trans (V_arg0 m c), ((h.1 c).2 main_arg1 (by decide : main_arg1 ∈ Pipeline.restRefs sig spec0)).trans (V_arg1 m c), ((h.1 c).2 main_arg2 (by decide : main_arg2 ∈ Pipeline.restRefs sig spec0)).trans (V_arg2 m c), ((h.1 c).2 main_arg3 (by decide : main_arg3 ∈ Pipeline.restRefs sig spec0)).trans (V_arg3 m c), ((h.1 c).2 main_arg4 (by decide : main_arg4 ∈ Pipeline.restRefs sig spec0)).trans (V_arg4 m c)⟩, h.2⟩) (run_main m ρ)

end Cert.KernelIdeal.Att

end
-- ==== Proof.Ref.Base.lean ====
/- The reference's own run, and the closed form of each of its buffers. -/
module

public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent

@[expose] public section

namespace Cert.ReferenceIdeal.Att

open Cert.ReferenceIdeal.Gen
open Idealize.ShloMosaic Idealize.ShloMosaic.TcCoe Idealize.SL.Sem

variable {F : FTy → Type} [FloatOps F]

/-- The frame of the reference: every execution ends, the arguments unchanged; the program has no semaphore at all. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2.2, sem_eq_zero_of_no_sems rfl r.2⟩) (Value.run m ρ)

end Cert.ReferenceIdeal.Att

end
-- ==== Proof.KernelIdeal.Tile.lean ====
/- One tile at the ideal values: the products, the weights, and what a row block adds to the accumulators. -/
module

public import proofs.«01_k».proof.Proof.KernelIdeal.Body
public import Idealize.ShloMosaic.Lib.Pipeline.Value
public import Idealize.ShloMosaic.PureOps.Ideal.Laws
public import Idealize.ShloMosaic.Lib.KernelVsHost
public import Idealize.ShloMosaic.Lib.WordCmp

@[expose] public section

set_option maxRecDepth 16384

noncomputable section

namespace Cert.KernelIdeal.Att

open Cert.KernelIdeal.Gen
open Idealize.ShloMosaic Idealize.ShloMosaic.TcCoe Idealize.ShloMosaic.ValueIdx
open scoped BigOperators

/-! ## The three products of a tile -/

/-- Rows by rows. -/
theorem mm1 (a b : FVec Ideal S512x128 .bf16) (q s : Fin 512) :
    matmul dot_S512x128_S512x128_S512x512_1_1_0_0_n_n none a b (constant S512x512 .f32 0x00000000#32) (ix2 q s) = ∑ d : Fin 128, a (ix2 q d) * b (ix2 s d) := by
  show FloatOps.matmul dot_S512x128_S512x128_S512x512_1_1_0_0_n_n none a b (constant S512x512 .f32 0x00000000#32) (ix2 q s) = _
  rw [Ideal.matmul_apply, ← Equiv.sum_comp (contrEquiv1 dot_S512x128_S512x128_S512x512_1_1_0_0_n_n 128 rfl rfl).symm, constant_apply, Ideal.ofBits_zero_f32, zero_add]
  refine Finset.sum_congr rfl fun d _ => ?_
  have hk := contrEquiv1_symm_val dot_S512x128_S512x128_S512x512_1_1_0_0_n_n 128 rfl rfl d
  refine congrArg₂ (· * ·) (congrArg a ?_) (congrArg b ?_)
  · funext x; apply Fin.ext
    match x with
    | ⟨0, _⟩ => rfl
    | ⟨1, _⟩ => exact hk
  · funext x; apply Fin.ext
    match x with
    | ⟨0, _⟩ => rfl
    | ⟨1, _⟩ => exact hk

/-- Columns by columns. -/
theorem mm2 (a : FVec Ideal S512x512 .bf16) (b : FVec Ideal S512x128 .bf16) (s : Fin 512) (l : Fin 128) :
    matmul dot_S512x512_S512x128_S512x128_0_0_1_1_n_n none a b (constant S512x128 .f32 0x00000000#32) (ix2 s l) = ∑ q : Fin 512, a (ix2 q s) * b (ix2 q l) := by
  show FloatOps.matmul dot_S512x512_S512x128_S512x128_0_0_1_1_n_n none a b (constant S512x128 .f32 0x00000000#32) (ix2 s l) = _
  rw [Ideal.matmul_apply, ← Equiv.sum_comp (contrEquiv1 dot_S512x512_S512x128_S512x128_0_0_1_1_n_n 512 rfl rfl).symm, constant_apply, Ideal.ofBits_zero_f32, zero_add]
  refine Finset.sum_congr rfl fun d _ => ?_
  have hk := contrEquiv1_symm_val dot_S512x512_S512x128_S512x128_0_0_1_1_n_n 512 rfl rfl d
  refine congrArg₂ (· * ·) (congrArg a ?_) (congrArg b ?_)
  · funext x; apply Fin.ext
    match x with
    | ⟨0, _⟩ => exact hk
    | ⟨1, _⟩ => rfl
  · funext x; apply Fin.ext
    match x with
    | ⟨0, _⟩ => exact hk
    | ⟨1, _⟩ => rfl

/-- Rows by columns. -/
theorem mm3 (a : FVec Ideal S512x512 .bf16) (b : FVec Ideal S512x128 .bf16) (q : Fin 512) (l : Fin 128) :
    matmul dot_S512x512_S512x128_S512x128_1_0_0_1_n_n none a b (constant S512x128 .f32 0x00000000#32) (ix2 q l) = ∑ s : Fin 512, a (ix2 q s) * b (ix2 s l) := by
  show FloatOps.matmul dot_S512x512_S512x128_S512x128_1_0_0_1_n_n none a b (constant S512x128 .f32 0x00000000#32) (ix2 q l) = _
  rw [Ideal.matmul_apply, ← Equiv.sum_comp (contrEquiv1 dot_S512x512_S512x128_S512x128_1_0_0_1_n_n 512 rfl rfl).symm, constant_apply, Ideal.ofBits_zero_f32, zero_add]
  refine Finset.sum_congr rfl fun d _ => ?_
  have hk := contrEquiv1_symm_val dot_S512x512_S512x128_S512x128_1_0_0_1_n_n 512 rfl rfl d
  refine congrArg₂ (· * ·) (congrArg a ?_) (congrArg b ?_)
  · funext x; apply Fin.ext
    match x with
    | ⟨0, _⟩ => rfl
    | ⟨1, _⟩ => exact hk
  · funext x; apply Fin.ext
    match x with
    | ⟨0, _⟩ => exact hk
    | ⟨1, _⟩ => rfl

/-! ## A unit axis dropped and added -/

theorem drop1 {α : Type} (v : S1x512x128.Idx → α) (a : Fin 512) (l : Fin 128) :
    shapeCast S512x128 v shapeCasts_S1x512x128_S512x128 (ix2 a l) = v (ix3 0 a l) := by
  refine (shapeCast_dropUnit_apply ![512, 128] v shapeCasts_S1x512x128_S512x128 (ix2 a l)).trans (congrArg v ?_)
  funext x
  match x with
  | ⟨0, _⟩ => rfl
  | ⟨1, _⟩ => rfl
  | ⟨2, _⟩ => rfl

theorem add1 {α : Type} (v : S512x128.Idx → α) (a : Fin 512) (l : Fin 128) :
    shapeCast S1x512x128 v shapeCasts_S512x128_S1x512x128 (ix3 0 a l) = v (ix2 a l) := by
  refine (shapeCast_addUnit_apply ![512, 128] v shapeCasts_S512x128_S1x512x128 (ix3 0 a l)).trans (congrArg v ?_)
  funext x
  match x with
  | ⟨0, _⟩ => rfl
  | ⟨1, _⟩ => rfl

/-! ## The payloads at an index -/

section Pay
variable (Q K : Vec Ideal S1x512x128 .bf16) (S D : FVec Ideal S512x512 .f32) (W : FVec Ideal S512x512 .bf16) (A : Vec Ideal S1x512x128 .f32) (a s : Fin 512) (l : Fin 128)

theorem p1 : k0_pay1 Q K (ix2 a s) = ∑ d : Fin 128, Q (ix3 0 a d) * K (ix3 0 s d) := by
  unfold k0_pay1; (try dsimp only); rw [mm1]; simp only [drop1]
theorem p2 : k0_pay2 Q K (ix2 a s) = ∑ d : Fin 128, Q (ix3 0 a d) * K (ix3 0 s d) := by
  unfold k0_pay2; (try dsimp only); rw [mm1]; simp only [drop1]
theorem p3 : k0_pay3 Q K (ix2 a s) = ∑ d : Fin 128, Q (ix3 0 a d) * K (ix3 0 s d) := by
  unfold k0_pay3; (try dsimp only); rw [mm1]; simp only [drop1]
theorem p4 : k0_pay4 Q K (ix2 a s) = ∑ d : Fin 128, Q (ix3 0 a d) * K (ix3 0 s d) := by
  unfold k0_pay4; (try dsimp only); rw [mm1]; simp only [drop1]
theorem p115 : k0_pay115 Q K (ix2 a s) = ∑ d : Fin 128, Q (ix3 0 a d) * K (ix3 0 s d) := by
  unfold k0_pay115; (try dsimp only); rw [mm1]; simp only [drop1]
theorem p116 : k0_pay116 Q K (ix2 a s) = ∑ d : Fin 128, Q (ix3 0 a d) * K (ix3 0 s d) := by
  unfold k0_pay116; (try dsimp only); rw [mm1]; simp only [drop1]
theorem p117 : k0_pay117 Q K (ix2 a s) = ∑ d : Fin 128, Q (ix3 0 a d) * K (ix3 0 s d) := by
  unfold k0_pay117; (try dsimp only); rw [mm1]; simp only [drop1]
theorem p118 : k0_pay118 Q K (ix2 a s) = ∑ d : Fin 128, Q (ix3 0 a d) * K (ix3 0 s d) := by
  unfold k0_pay118; (try dsimp only); rw [mm1]; simp only [drop1]
theorem p7 : k0_pay7 S D (ix2 a s) = Ideal.exp (S (ix2 a s)) * D (ix2 a s) := rfl
theorem p12 : k0_pay12 S D (ix2 a s) = Ideal.exp (S (ix2 a s)) * D (ix2 a s) := rfl

theorem p8 : k0_pay8 S Q A (ix3 0 s l) = A (ix3 0 s l) + ∑ q : Fin 512, Ideal.exp (S (ix2 q s)) * Q (ix3 0 q l) := by
  unfold k0_pay8; (try dsimp only); rw [add1, addf_apply, mm2, drop1]; simp only [drop1]; rfl
theorem p13 : k0_pay13 S Q A (ix3 0 s l) = A (ix3 0 s l) + ∑ q : Fin 512, Ideal.exp (S (ix2 q s)) * Q (ix3 0 q l) := by
  unfold k0_pay13; (try dsimp only); rw [add1, addf_apply, mm2, drop1]; simp only [drop1]; rfl
theorem p9 : k0_pay9 S D (k0_pay5 Q) A (ix3 0 s l) = A (ix3 0 s l) + ∑ q : Fin 512, (Ideal.exp (S (ix2 q s)) * D (ix2 q s)) * Q (ix3 0 q l) := by
  unfold k0_pay9 k0_pay5; (try dsimp only); rw [add1, addf_apply, mm2, drop1]; simp only [drop1, p7]
theorem p14 : k0_pay14 S D Q A (ix3 0 s l) = A (ix3 0 s l) + ∑ q : Fin 512, (Ideal.exp (S (ix2 q s)) * D (ix2 q s)) * Q (ix3 0 q l) := by
  unfold k0_pay14; (try dsimp only); rw [add1, addf_apply, mm2, drop1]; simp only [drop1, p12]
theorem p10 : k0_pay10 S D A K (ix3 0 a l) = A (ix3 0 a l) + ∑ s : Fin 512, (Ideal.exp (S (ix2 a s)) * D (ix2 a s)) * K (ix3 0 s l) := by
  unfold k0_pay10; (try dsimp only); rw [add1, addf_apply, mm3, drop1]; simp only [drop1, p7]
theorem p15 : k0_pay15 S D A K (ix3 0 a l) = A (ix3 0 a l) + ∑ s : Fin 512, (Ideal.exp (S (ix2 a s)) * D (ix2 a s)) * K (ix3 0 s l) := by
  unfold k0_pay15; (try dsimp only); rw [add1, addf_apply, mm3, drop1]; simp only [drop1, p12]

/-! The diagonal tile: `E` are its masked weights. -/
variable (w w' : BitVec 32) (E : Fin 512 → Fin 512 → EReal)

theorem p120 (hE : k0_pay119 w w' S (ix2 a s) = E a s) : k0_pay120 w w' S D (ix2 a s) = E a s * D (ix2 a s) := congrArg (· * D (ix2 a s)) hE
theorem p128 (hE : k0_pay127 w w' S (ix2 a s) = E a s) : k0_pay128 w w' S D (ix2 a s) = E a s * D (ix2 a s) := congrArg (· * D (ix2 a s)) hE

theorem p121 (hE : ∀ a s, k0_pay119 w w' S (ix2 a s) = E a s) : k0_pay121 w w' S Q A (ix3 0 s l) = A (ix3 0 s l) + ∑ q : Fin 512, E q s * Q (ix3 0 q l) := by
  unfold k0_pay121; (try dsimp only); rw [add1, addf_apply, mm2, drop1]; simp only [drop1, truncf_apply, hE]
theorem p131 (hE : ∀ a s, k0_pay127 w w' S (ix2 a s) = E a s) :
    k0_pay131 (k0_pay126 Q) (k0_pay129 A) (k0_pay130 w w' S) (constant S512x128 .f32 0x00000000#32) (ix3 0 s l) = A (ix3 0 s l) + ∑ q : Fin 512, E q s * Q (ix3 0 q l) := by
  unfold k0_pay131 k0_pay126 k0_pay129 k0_pay130; (try dsimp only); rw [add1, addf_apply, mm2, drop1]; simp only [drop1, truncf_apply, hE]
theorem p123 (hE : ∀ a s, k0_pay119 w w' S (ix2 a s) = E a s) :
    k0_pay123 (k0_pay122 w w' S D Q A) (ix3 0 s l) = A (ix3 0 s l) + ∑ q : Fin 512, (E q s * D (ix2 q s)) * Q (ix3 0 q l) := by
  unfold k0_pay123 k0_pay122; (try dsimp only); rw [add1, addf_apply, mm2, drop1]; simp only [drop1, fun a s => p120 S D a s w w' E (hE a s)]
theorem p132 (hE : ∀ a s, k0_pay127 w w' S (ix2 a s) = E a s) :
    k0_pay132 (k0_pay125 Q) (k0_pay128 w w' S D) A (ix3 0 s l) = A (ix3 0 s l) + ∑ q : Fin 512, (E q s * D (ix2 q s)) * Q (ix3 0 q l) := by
  unfold k0_pay132 k0_pay125; (try dsimp only); rw [add1, addf_apply, mm2, drop1]; simp only [drop1, fun a s => p128 S D a s w w' E (hE a s)]
theorem p124 (hE : ∀ a s, k0_pay119 w w' S (ix2 a s) = E a s) :
    k0_pay124 (k0_pay120 w w' S D) A K (ix3 0 a l) = A (ix3 0 a l) + ∑ s : Fin 512, (E a s * D (ix2 a s)) * K (ix3 0 s l) := by
  unfold k0_pay124; (try dsimp only); rw [add1, addf_apply, mm3, drop1]; simp only [drop1, fun a s => p120 S D a s w w' E (hE a s)]
theorem p133 (hE : ∀ a s, k0_pay127 w w' S (ix2 a s) = E a s) :
    k0_pay133 (k0_pay128 w w' S D) A K (ix3 0 a l) = A (ix3 0 a l) + ∑ s : Fin 512, (E a s * D (ix2 a s)) * K (ix3 0 s l) := by
  unfold k0_pay133; (try dsimp only); rw [add1, addf_apply, mm3, drop1]; simp only [drop1, fun a s => p128 S D a s w w' E (hE a s)]
end Pay

theorem sge_diff (a s : Fin 512) (w : BitVec 32) :
    IntOp.cmpi .sge (BitVec.ofNat 32 a.val - BitVec.ofNat 32 s.val) (w - w) = if s.val ≤ a.val then 1#1 else 0#1 := by
  have ha := a.isLt
  have hs := s.isLt
  rw [BitVec.sub_self, WordCmp.cmpi_sge_zero, BitVec.toNat_sub, BitVec.toNat_ofNat, BitVec.toNat_ofNat]
  by_cases h : s.val ≤ a.val
  · rw [if_pos h, decide_eq_true (by omega)]; rfl
  · rw [if_neg h, decide_eq_false (by omega)]; rfl

/-- The diagonal tile's mask: a key no later than the query keeps its score, a later key weighs nothing. -/
theorem p119 (w : BitVec 32) (S : FVec Ideal S512x512 .f32) (a s : Fin 512) :
    k0_pay119 w w S (ix2 a s) = if s.val ≤ a.val then Ideal.exp (S (ix2 a s)) else 0 := by
  have h : k0_pay119 w w S (ix2 a s) = Ideal.exp (Scalar.select (IntOp.cmpi .sge (BitVec.ofNat 32 a.val - BitVec.ofNat 32 s.val) (w * 512#32 - w * 512#32)) (S (ix2 a s)) (Named.named κ "mask" 0xF149F2CA#32 : Ideal .f32)) := by
    unfold k0_pay119
    show Ideal.exp (Scalar.select (IntOp.cmpi .sge (iota .tc S512x512 32 [0] iota_S512x512_d0_w32 (ix2 a s) - iota .tc S512x512 32 [1] iota_S512x512_d1_w32 (ix2 a s)) (w * 512#32 - w * 512#32)) (S (ix2 a s)) (Named.named κ "mask" 0xF149F2CA#32 : Ideal .f32)) = _
    rw [iota_single_apply, iota_single_apply]
  rw [h, sge_diff]
  by_cases hc : s.val ≤ a.val
  · rw [if_pos hc, if_pos hc]; rfl
  · rw [if_neg hc, if_neg hc]
    show Ideal.exp (Named.named κ "mask" 0xF149F2CA#32 : Ideal .f32) = 0
    rw [IdealRules.named_const.ideal_named_scalar _ _ _ _ rfl, Ideal.exp_bot]
theorem p127 (w : BitVec 32) (S : FVec Ideal S512x512 .f32) (a s : Fin 512) :
    k0_pay127 w w S (ix2 a s) = if s.val ≤ a.val then Ideal.exp (S (ix2 a s)) else 0 := p119 w S a s

end Cert.KernelIdeal.Att

end
-- ==== Proof.KernelIdeal.Acc.lean ====
/- The accumulators of a point at the ideal values, as sums over all queries and over the point's keys. -/
module

public import proofs.«01_k».proof.Proof.KernelIdeal.Tile

@[expose] public section

set_option maxRecDepth 16384

noncomputable section

namespace Cert.KernelIdeal.Att

open Cert.KernelIdeal.Gen
open Idealize.ShloMosaic Idealize.ShloMosaic.TcCoe Idealize.ShloMosaic.ValueIdx
open scoped BigOperators

/-! ## Reading a buffer after a store -/

theorem setHd_same {α : Type} (x : S2x512x128.Idx → α) (e : Fin 2) (w : S1x512x128.Idx → α) (s : Fin 512) (l : Fin 128) :
    setHd x e w (ix3 e s l) = w (ix3 0 s l) := by
  unfold setHd VecWindow.put
  have hs := s.isLt
  have hl := l.isLt
  rw [dif_pos (fun a => match a with
    | ⟨0, _⟩ => ⟨le_rfl, by show e.val < e.val + 1; omega⟩
    | ⟨1, _⟩ => ⟨Nat.zero_le _, by show s.val < 0 + 512; omega⟩
    | ⟨2, _⟩ => ⟨Nat.zero_le _, by show l.val < 0 + 128; omega⟩)]
  refine congrArg w (funext fun a => Fin.ext ?_)
  match a with
  | ⟨0, _⟩ => show e.val - e.val = 0; omega
  | ⟨1, _⟩ => show s.val - 0 = s.val; omega
  | ⟨2, _⟩ => show l.val - 0 = l.val; omega

theorem setHd_ne {α : Type} (x : S2x512x128.Idx → α) (e e' : Fin 2) (h : e' ≠ e) (w : S1x512x128.Idx → α) (s : Fin 512) (l : Fin 128) :
    setHd x e w (ix3 e' s l) = x (ix3 e' s l) := by
  unfold setHd VecWindow.put
  rw [dif_neg]
  intro hh
  have h0 := hh 0
  have h1 : e.val ≤ e'.val := h0.1
  have h2 : e'.val < e.val + 1 := h0.2
  exact h (Fin.ext (by omega))

/-- Row `a` of the block of 512 rows from `r` on. -/
def rq (r : ℕ) (a : Fin 512) : Fin 8192 := ⟨(r + a.val) % 8192, Nat.mod_lt _ (by decide)⟩

theorem setBlk_in {α : Type} (x : S2x8192x128.Idx → α) (e : Fin 2) (r : ℕ) (w : S1x512x128.Idx → α) (q : Fin 8192) (l : Fin 128)
    (h1 : r ≤ q.val) (h2 : q.val < r + 512) : setBlk x e r w (ix3 e q l) = w (ix3 0 ⟨q.val - r, by omega⟩ l) := by
  unfold setBlk VecWindow.put
  have hl := l.isLt
  rw [dif_pos (fun a => match a with
    | ⟨0, _⟩ => ⟨le_rfl, by show e.val < e.val + 1; omega⟩
    | ⟨1, _⟩ => ⟨h1, by show q.val < r + 512; omega⟩
    | ⟨2, _⟩ => ⟨Nat.zero_le _, by show l.val < 0 + 128; omega⟩)]
  refine congrArg w (funext fun a => Fin.ext ?_)
  match a with
  | ⟨0, _⟩ => show e.val - e.val = 0; omega
  | ⟨1, _⟩ => rfl
  | ⟨2, _⟩ => show l.val - 0 = l.val; omega

theorem setBlk_out {α : Type} (x : S2x8192x128.Idx → α) (e e' : Fin 2) (r : ℕ) (w : S1x512x128.Idx → α) (q : Fin 8192) (l : Fin 128)
    (h : e' = e → ¬ (r ≤ q.val ∧ q.val < r + 512)) : setBlk x e r w (ix3 e' q l) = x (ix3 e' q l) := by
  unfold setBlk VecWindow.put
  rw [dif_neg]
  intro hh
  have h0 := hh 0
  have h0a : e.val ≤ e'.val := h0.1
  have h0b : e'.val < e.val + 1 := h0.2
  have h1 := hh 1
  have h1a : r ≤ q.val := h1.1
  have h1b : q.val < r + 512 := h1.2
  exact h (Fin.ext (by omega)) ⟨h1a, h1b⟩

/-! ## One row block -/

/-- The product of row `q` of the one and row `s` of the other. -/
def dt (x : S2x8192x128.Idx → EReal) (y : S2x512x128.Idx → EReal) (e : Fin 2) (q : Fin 8192) (s : Fin 512) : EReal :=
  ∑ d : Fin 128, x (ix3 e q d) * y (ix3 e s d)

/-- The weight of key `s` of key block `ki` in the row of query `q`: none where the key is later. -/
def wt (x : S2x8192x128.Idx → EReal) (y : S2x512x128.Idx → EReal) (ki : ℕ) (e : Fin 2) (q : Fin 8192) (s : Fin 512) : EReal :=
  if 512 * ki + s.val ≤ q.val then Ideal.exp (dt x y e q s) else 0

theorem wt_later (x : S2x8192x128.Idx → EReal) (y : S2x512x128.Idx → EReal) (ki : ℕ) (e : Fin 2) (q : Fin 8192) (s : Fin 512) (h : 512 * (ki + 1) ≤ q.val) :
    wt x y ki e q s = Ideal.exp (dt x y e q s) := if_pos (by have := s.isLt; omega)

theorem wt_earlier (x : S2x8192x128.Idx → EReal) (y : S2x512x128.Idx → EReal) (ki : ℕ) (e : Fin 2) (q : Fin 8192) (s : Fin 512) (h : q.val < 512 * ki) :
    wt x y ki e q s = 0 := if_neg (by omega)

theorem rq_val (b : ℕ) (hb : b < 16) (a : Fin 512) : (rq (512 * b) a).val = 512 * b + a.val :=
  Nat.mod_eq_of_lt (by have := a.isLt; omega)

section
variable (x0 x1 : Vec Ideal S2x8192x128 .bf16) (x2 x3 : Vec Ideal S2x512x128 .bf16) (r : ℕ) (e : Fin 2) (s : Fin 512) (l : Fin 128)

theorem tripV_apply (X : Vec Ideal S2x512x128 .f32) : tripV x0 x1 x2 r X (ix3 e s l)
    = X (ix3 e s l) + ∑ a : Fin 512, Ideal.exp (dt x0 x2 e (rq r a) s) * x1 (ix3 e (rq r a) l) := by
  unfold tripV
  match e with
  | 0 => rw [setHd_ne _ 1 0 (by decide), setHd_same, p8]; simp only [p1]; rfl
  | 1 => rw [setHd_same, p13]; simp only [p2]; rfl

theorem tripK_apply (X : Vec Ideal S2x512x128 .f32) : tripK x0 x1 x2 x3 r X (ix3 e s l)
    = X (ix3 e s l) + ∑ a : Fin 512, (Ideal.exp (dt x0 x2 e (rq r a) s) * dt x1 x3 e (rq r a) s) * x0 (ix3 e (rq r a) l) := by
  unfold tripK
  match e with
  | 0 => rw [setHd_ne _ 1 0 (by decide), setHd_same, p9]; simp only [p1, p3]; rfl
  | 1 => rw [setHd_same, p14]; simp only [p2, p4]; rfl

theorem diagV_apply (i : grid0.Coords) (hi : w45 i = BitVec.ofNat 32 (i 1).val) : diagV i x0 x1 x2 r (ix3 e s l)
    = ∑ a : Fin 512, (if s.val ≤ a.val then Ideal.exp (dt x0 x2 e (rq r a) s) else 0) * x1 (ix3 e (rq r a) l) := by
  have z : ∀ y, (k0_pay114 (F := Ideal)) y = 0 := fun y => Ideal.ofBits_zero_f32
  unfold diagV
  rw [hi]
  match e with
  | 0 =>
    rw [setHd_ne _ 1 0 (by decide), setHd_same, p121 _ _ _ _ _ _ _ _ (fun a s => p119 _ _ a s)]; simp only [p115]
    rw [show hd (k0_pay114 (F := Ideal)) 0 (ix3 0 s l) = 0 from z _, zero_add]; rfl
  | 1 =>
    rw [setHd_same, p131 _ _ _ _ _ _ _ _ (fun a s => p127 _ _ a s)]; simp only [p116]
    rw [show hd (k0_pay114 (F := Ideal)) 1 (ix3 0 s l) = 0 from z _, zero_add]; rfl

theorem diagK_apply (i : grid0.Coords) (hi : w45 i = BitVec.ofNat 32 (i 1).val) : diagK i x0 x1 x2 x3 r (ix3 e s l)
    = ∑ a : Fin 512, ((if s.val ≤ a.val then Ideal.exp (dt x0 x2 e (rq r a) s) else 0) * dt x1 x3 e (rq r a) s) * x0 (ix3 e (rq r a) l) := by
  have z : ∀ y, (k0_pay113 (F := Ideal)) y = 0 := fun y => Ideal.ofBits_zero_f32
  unfold diagK
  rw [hi]
  match e with
  | 0 =>
    rw [setHd_ne _ 1 0 (by decide), setHd_same, p123 _ _ _ _ _ _ _ _ _ (fun a s => p119 _ _ a s)]; simp only [p115, p117]
    rw [show hd (k0_pay113 (F := Ideal)) 0 (ix3 0 s l) = 0 from z _, zero_add]; rfl
  | 1 =>
    rw [setHd_same, p132 _ _ _ _ _ _ _ _ _ (fun a s => p127 _ _ a s)]; simp only [p116, p118]
    rw [show hd (k0_pay113 (F := Ideal)) 1 (ix3 0 s l) = 0 from z _, zero_add]; rfl

variable (q : Fin 8192)

theorem tripQ_in (X : Vec Ideal S2x8192x128 .f32) (h1 : r ≤ q.val) (h2 : q.val < r + 512) : tripQ x0 x1 x2 x3 r X (ix3 e q l)
    = X (ix3 e q l) + ∑ s : Fin 512, (Ideal.exp (dt x0 x2 e q s) * dt x1 x3 e q s) * x2 (ix3 e s l) := by
  have hq : rq r ⟨q.val - r, by omega⟩ = q := Fin.ext (by show (r + (q.val - r)) % 8192 = q.val; have := q.isLt; omega)
  unfold tripQ
  match e with
  | 0 =>
    rw [setBlk_out _ 1 0 _ _ _ _ (fun h => absurd h (by decide)), setBlk_in _ _ _ _ _ _ h1 h2, p10]; simp only [p1, p3]
    show X (ix3 0 (rq r ⟨q.val - r, _⟩) l) + ∑ s : Fin 512, (Ideal.exp (dt x0 x2 0 (rq r ⟨q.val - r, _⟩) s) * dt x1 x3 0 (rq r ⟨q.val - r, _⟩) s) * x2 (ix3 0 s l) = _
    rw [hq]
  | 1 =>
    rw [setBlk_in _ _ _ _ _ _ h1 h2, p15]; simp only [p2, p4]
    show X (ix3 1 (rq r ⟨q.val - r, _⟩) l) + ∑ s : Fin 512, (Ideal.exp (dt x0 x2 1 (rq r ⟨q.val - r, _⟩) s) * dt x1 x3 1 (rq r ⟨q.val - r, _⟩) s) * x2 (ix3 1 s l) = _
    rw [hq]

theorem tripQ_out (X : Vec Ideal S2x8192x128 .f32) (h : ¬ (r ≤ q.val ∧ q.val < r + 512)) : tripQ x0 x1 x2 x3 r X (ix3 e q l) = X (ix3 e q l) := by
  unfold tripQ
  rw [setBlk_out _ _ _ _ _ _ _ (fun _ => h), setBlk_out _ _ _ _ _ _ _ (fun _ => h)]

theorem diagQ_in (X : Vec Ideal S2x8192x128 .f32) (i : grid0.Coords) (hi : w45 i = BitVec.ofNat 32 (i 1).val) (h1 : r ≤ q.val) (h2 : q.val < r + 512) : diagQ i x0 x1 x2 x3 r X (ix3 e q l)
    = X (ix3 e q l) + ∑ s : Fin 512, ((if s.val ≤ q.val - r then Ideal.exp (dt x0 x2 e q s) else 0) * dt x1 x3 e q s) * x2 (ix3 e s l) := by
  have hq : rq r ⟨q.val - r, by omega⟩ = q := Fin.ext (by show (r + (q.val - r)) % 8192 = q.val; have := q.isLt; omega)
  unfold diagQ
  rw [hi]
  match e with
  | 0 =>
    rw [setBlk_out _ 1 0 _ _ _ _ (fun h => absurd h (by decide)), setBlk_in _ _ _ _ _ _ h1 h2, p124 _ _ _ _ _ _ _ _ _ (fun a s => p119 _ _ a s)]; simp only [p115, p117]
    show X (ix3 0 (rq r ⟨q.val - r, _⟩) l) + ∑ s : Fin 512, ((if s.val ≤ q.val - r then Ideal.exp (dt x0 x2 0 (rq r ⟨q.val - r, _⟩) s) else 0) * dt x1 x3 0 (rq r ⟨q.val - r, _⟩) s) * x2 (ix3 0 s l) = _
    rw [hq]
  | 1 =>
    rw [setBlk_in _ _ _ _ _ _ h1 h2, p133 _ _ _ _ _ _ _ _ _ (fun a s => p127 _ _ a s)]; simp only [p116, p118]
    show X (ix3 1 (rq r ⟨q.val - r, _⟩) l) + ∑ s : Fin 512, ((if s.val ≤ q.val - r then Ideal.exp (dt x0 x2 1 (rq r ⟨q.val - r, _⟩) s) else 0) * dt x1 x3 1 (rq r ⟨q.val - r, _⟩) s) * x2 (ix3 1 s l) = _
    rw [hq]

theorem diagQ_out (X : Vec Ideal S2x8192x128 .f32) (i : grid0.Coords) (h : ¬ (r ≤ q.val ∧ q.val < r + 512)) : diagQ i x0 x1 x2 x3 r X (ix3 e q l) = X (ix3 e q l) := by
  unfold diagQ
  rw [setBlk_out _ _ _ _ _ _ _ (fun _ => h), setBlk_out _ _ _ _ _ _ _ (fun _ => h)]

/-! ## All row blocks of a point -/

theorem sum_blocks (f : Fin 8192 → EReal) : ∑ q : Fin 8192, f q = ∑ b ∈ Finset.range 16, ∑ a : Fin 512, f (rq (512 * b) a) := by
  rw [Finset.sum_range]
  have h := Equiv.sum_comp (finProdFinEquiv : Fin 16 × Fin 512 ≃ Fin (16 * 512)) f
  rw [Fintype.sum_prod_type] at h
  refine h.symm.trans (Finset.sum_congr rfl fun b _ => Finset.sum_congr rfl fun a _ => congrArg f (Fin.ext ?_))
  have := b.isLt
  rw [rq_val _ b.isLt]
  show a.val + 512 * b.val = _
  omega

theorem tripsV_apply (m n : ℕ) (X : Vec Ideal S2x512x128 .f32) : tripsV x0 x1 x2 m X n (ix3 e s l)
    = X (ix3 e s l) + ∑ j ∈ Finset.range n, ∑ a : Fin 512, Ideal.exp (dt x0 x2 e (rq (512 * (m + j)) a) s) * x1 (ix3 e (rq (512 * (m + j)) a) l) := by
  induction n with
  | zero => rw [Finset.range_zero, Finset.sum_empty, add_zero]; rfl
  | succ n ih => rw [tripsV, tripV_apply, ih, Finset.sum_range_succ, add_assoc]

theorem tripsK_apply (m n : ℕ) (X : Vec Ideal S2x512x128 .f32) : tripsK x0 x1 x2 x3 m X n (ix3 e s l)
    = X (ix3 e s l) + ∑ j ∈ Finset.range n, ∑ a : Fin 512, (Ideal.exp (dt x0 x2 e (rq (512 * (m + j)) a) s) * dt x1 x3 e (rq (512 * (m + j)) a) s) * x0 (ix3 e (rq (512 * (m + j)) a) l) := by
  induction n with
  | zero => rw [Finset.range_zero, Finset.sum_empty, add_zero]; rfl
  | succ n ih => rw [tripsK, tripK_apply, ih, Finset.sum_range_succ, add_assoc]

theorem tripsQ_apply (m n : ℕ) (X : Vec Ideal S2x8192x128 .f32) : tripsQ x0 x1 x2 x3 m X n (ix3 e q l)
    = if 512 * m ≤ q.val ∧ q.val < 512 * (m + n) then X (ix3 e q l) + ∑ s : Fin 512, (Ideal.exp (dt x0 x2 e q s) * dt x1 x3 e q s) * x2 (ix3 e s l) else X (ix3 e q l) := by
  induction n with
  | zero => rw [if_neg (by omega)]; rfl
  | succ n ih =>
    rw [tripsQ]
    by_cases h : 512 * (m + n) ≤ q.val ∧ q.val < 512 * (m + n) + 512
    · rw [tripQ_in _ _ _ _ _ _ _ _ _ h.1 h.2, ih, if_neg (by omega), if_pos (by omega)]
    · rw [tripQ_out _ _ _ _ _ _ _ _ _ h, ih]
      by_cases h' : 512 * m ≤ q.val ∧ q.val < 512 * (m + n)
      · rw [if_pos h', if_pos (by omega)]
      · rw [if_neg h', if_neg (by omega)]

/-- Blocks before `ki` weigh nothing, block `ki` is masked, later blocks are whole. -/
theorem split16 (ki : ℕ) (hki : ki < 16) (T U : ℕ → EReal) (D : EReal) (h0 : ∀ b, b < ki → T b = 0) (h1 : T ki = D) (h2 : ∀ b, ki < b → b < 16 → T b = U b) :
    ∑ b ∈ Finset.range 16, T b = D + ∑ j ∈ Finset.range (15 - ki), U (ki + 1 + j) := by
  have e : 16 = ki + 1 + (15 - ki) := by omega
  rw [e, Finset.sum_range_add, Finset.sum_range_succ, Finset.sum_eq_zero (fun b hb => h0 b (Finset.mem_range.mp hb)), zero_add, h1]
  have e' : ki + 1 + (15 - ki) - (ki + 1) = 15 - ki := by omega
  refine congrArg (D + ·) (Finset.sum_congr (by congr 1) fun j hj => h2 _ (by omega) ?_)
  have := Finset.mem_range.mp hj
  omega

variable (ki : ℕ) (hki : ki < 16) (i : grid0.Coords) (hi : w45 i = BitVec.ofNat 32 (i 1).val)
include hki hi

theorem finV_apply : finV i ki x0 x1 x2 (ix3 e s l) = ∑ q : Fin 8192, wt x0 x2 ki e q s * x1 (ix3 e q l) := by
  rw [finV, tripsV_apply, diagV_apply _ _ _ _ _ _ _ _ hi, sum_blocks]
  symm
  refine split16 ki hki _ (fun b => ∑ a : Fin 512, Ideal.exp (dt x0 x2 e (rq (512 * b) a) s) * x1 (ix3 e (rq (512 * b) a) l)) _ (fun b hb => ?_) ?_ (fun b hb hb' => ?_)
  · refine Finset.sum_eq_zero fun a _ => ?_
    have := a.isLt
    rw [wt_earlier _ _ _ _ _ _ (by rw [rq_val _ (by omega)]; omega), zero_mul]
  · refine Finset.sum_congr rfl fun a _ => ?_
    unfold wt
    rw [rq_val _ hki]
    simp only [Nat.add_le_add_iff_left]
  · refine Finset.sum_congr rfl fun a _ => ?_
    rw [wt_later _ _ _ _ _ _ (by rw [rq_val _ hb']; omega)]

theorem finK_apply : finK i ki x0 x1 x2 x3 (ix3 e s l) = ∑ q : Fin 8192, (wt x0 x2 ki e q s * dt x1 x3 e q s) * x0 (ix3 e q l) := by
  rw [finK, tripsK_apply, diagK_apply _ _ _ _ _ _ _ _ _ hi, sum_blocks]
  symm
  refine split16 ki hki _ (fun b => ∑ a : Fin 512, (Ideal.exp (dt x0 x2 e (rq (512 * b) a) s) * dt x1 x3 e (rq (512 * b) a) s) * x0 (ix3 e (rq (512 * b) a) l)) _ (fun b hb => ?_) ?_ (fun b hb hb' => ?_)
  · refine Finset.sum_eq_zero fun a _ => ?_
    have := a.isLt
    rw [wt_earlier _ _ _ _ _ _ (by rw [rq_val _ (by omega)]; omega), zero_mul, zero_mul]
  · refine Finset.sum_congr rfl fun a _ => ?_
    unfold wt
    rw [rq_val _ hki]
    simp only [Nat.add_le_add_iff_left]
  · refine Finset.sum_congr rfl fun a _ => ?_
    rw [wt_later _ _ _ _ _ _ (by rw [rq_val _ hb']; omega)]

theorem finQ_apply (X : Vec Ideal S2x8192x128 .f32) : finQ i ki x0 x1 x2 x3 X (ix3 e q l)
    = X (ix3 e q l) + ∑ s : Fin 512, (wt x0 x2 ki e q s * dt x1 x3 e q s) * x2 (ix3 e s l) := by
  rw [finQ, tripsQ_apply]
  have hq := q.isLt
  by_cases h0 : q.val < 512 * ki
  · rw [if_neg (by omega), diagQ_out _ _ _ _ _ _ _ _ _ _ (by omega), Finset.sum_eq_zero (fun s _ => by rw [wt_earlier _ _ _ _ _ _ h0, zero_mul, zero_mul]), add_zero]
  by_cases h1 : q.val < 512 * ki + 512
  · rw [if_neg (by omega), diagQ_in _ _ _ _ _ _ _ _ _ _ hi (by omega) h1]
    refine congrArg (X (ix3 e q l) + ·) (Finset.sum_congr rfl fun s _ => ?_)
    unfold wt
    simp only [show (s.val ≤ q.val - 512 * ki) = (512 * ki + s.val ≤ q.val) from propext (by omega)]
  · rw [if_pos (by omega), diagQ_out _ _ _ _ _ _ _ _ _ _ (by omega)]
    refine congrArg (X (ix3 e q l) + ·) (Finset.sum_congr rfl fun s _ => ?_)
    rw [wt_later _ _ _ _ _ _ (by omega)]
end

end Cert.KernelIdeal.Att

end
-- ==== Proof.KernelIdeal.Points.lean ====
/- What the region writes, over the four arrays it is handed: the accumulators of every point as sums over the queries
   and the keys of a head, and the packing of two heads into one block of lanes. -/
module

public import proofs.«01_k».proof.Proof.KernelIdeal.Acc
public import proofs.«01_k».proof.Proof.KernelIdeal.RunBase
public import Idealize.ShloMosaic.Lib.Pipeline.ValueKit.Geometry

@[expose] public section

set_option maxRecDepth 16384

noncomputable section

namespace Cert.KernelIdeal.Att

open Cert.KernelIdeal.Gen
open Idealize.ShloMosaic Idealize.ShloMosaic.TcCoe Idealize.ShloMosaic.ValueIdx
open scoped BigOperators

/-! ## The gradients over whole arrays -/

section
variable (A B C D : S16x8192x128.Idx → EReal) (h : Fin 16) (q k : Fin 8192) (l : Fin 128)

/-- The product of row `q` of the one and row `k` of the other, head `h`. -/
def pr (A C : S16x8192x128.Idx → EReal) (h : Fin 16) (q k : Fin 8192) : EReal := ∑ d : Fin 128, A (ix3 h q d) * C (ix3 h k d)
/-- The weight of key `k` in the row of query `q`. -/
def hw (A C : S16x8192x128.Idx → EReal) (h : Fin 16) (q k : Fin 8192) : EReal := if k.val ≤ q.val then Ideal.exp (pr A C h q k) else 0
/-- The gradients of the values, of the keys and of the queries, in lanes. -/
def GV : EReal := ∑ q : Fin 8192, hw A C h q k * B (ix3 h q l)
def GK : EReal := ∑ q : Fin 8192, (hw A C h q k * pr B D h q k) * A (ix3 h q l)
def GQ : EReal := ∑ k : Fin 8192, (hw A C h q k * pr B D h q k) * C (ix3 h k l)
end

/-- Head `e` of pair `j`. -/
def hh (j : ℕ) (e : Fin 2) : Fin 16 := ⟨(2 * j + e.val) % 16, Nat.mod_lt _ (by decide)⟩

variable (m : (ℓ : Loc nD τ sig) → Buf (Elt Ideal) ℓ) (c : Dev nD)

/-- The four arrays the region is handed. -/
abbrev aQ : S16x8192x128.Idx → EReal := V m c main_v53
abbrev aO : S16x8192x128.Idx → EReal := V m c main_v80
abbrev aK : S16x8192x128.Idx → EReal := V m c main_v65
abbrev aV : S16x8192x128.Idx → EReal := V m c main_v68

theorem ofNat_toNat (a : ℕ) (h : a < 4294967296) : (BitVec.ofNat 32 a).toNat = a := by
  rw [BitVec.toNat_ofNat]; omega

theorem idx2 (t : Fin grid0.N) : cc0_transform_0 (grid0.coords t) = ![t.val / 16, 0, 0] := by
  have ht : t.val < 128 := Nat.lt_of_lt_of_eq t.isLt N_0
  unfold cc0_transform_0
  simp only [coord0, ofNat_toNat _ (show t.val / 16 < 4294967296 by omega)]
  rfl
theorem idx3 (t : Fin grid0.N) : cc0_transform_2 (grid0.coords t) = ![t.val / 16, t.val % 16, 0] := by
  have ht : t.val < 128 := Nat.lt_of_lt_of_eq t.isLt N_0
  unfold cc0_transform_2
  simp only [coord0, coord1, ofNat_toNat _ (show t.val / 16 < 4294967296 by omega), ofNat_toNat _ (show t.val % 16 < 4294967296 by omega)]
  rfl

theorem iblk0 (t : Fin grid0.N) (e : Fin 2) (q : Fin 8192) (l : Fin 128) : iblk m c 0 t (ix3 e q l) = aQ m c (ix3 (hh (t.val / 16) e) q l) := by
  have ht : t.val < 128 := Nat.lt_of_lt_of_eq t.isLt N_0
  have he := e.isLt
  show V m c main_v53 ((((cfgM m).win 0).rect t).emb (ix3 e q l)) = _
  refine congrArg (V m c main_v53) (funext fun a => Fin.ext ?_)
  refine (((cfgM m).win 0).rect_emb_val t (ix3 e q l) a).trans ?_
  show cc0_transform_0 (grid0.coords t) a * _ + _ = _
  rw [idx2]
  match a with
  | ⟨0, _⟩ => show t.val / 16 * 2 + e.val = (2 * (t.val / 16) + e.val) % 16; omega
  | ⟨1, _⟩ => show 0 * 8192 + q.val = q.val; omega
  | ⟨2, _⟩ => show 0 * 128 + l.val = l.val; omega
theorem iblk1 (t : Fin grid0.N) (e : Fin 2) (q : Fin 8192) (l : Fin 128) : iblk m c 1 t (ix3 e q l) = aO m c (ix3 (hh (t.val / 16) e) q l) := by
  have ht : t.val < 128 := Nat.lt_of_lt_of_eq t.isLt N_0
  have he := e.isLt
  show V m c main_v80 ((((cfgM m).win 1).rect t).emb (ix3 e q l)) = _
  refine congrArg (V m c main_v80) (funext fun a => Fin.ext ?_)
  refine (((cfgM m).win 1).rect_emb_val t (ix3 e q l) a).trans ?_
  show cc0_transform_0 (grid0.coords t) a * _ + _ = _
  rw [idx2]
  match a with
  | ⟨0, _⟩ => show t.val / 16 * 2 + e.val = (2 * (t.val / 16) + e.val) % 16; omega
  | ⟨1, _⟩ => show 0 * 8192 + q.val = q.val; omega
  | ⟨2, _⟩ => show 0 * 128 + l.val = l.val; omega
theorem iblk2 (t : Fin grid0.N) (e : Fin 2) (s : Fin 512) (l : Fin 128) : iblk m c 2 t (ix3 e s l) = aK m c (ix3 (hh (t.val / 16) e) (rq (512 * (t.val % 16)) s) l) := by
  have ht : t.val < 128 := Nat.lt_of_lt_of_eq t.isLt N_0
  have he := e.isLt
  have hs := s.isLt
  show V m c main_v65 ((((cfgM m).win 2).rect t).emb (ix3 e s l)) = _
  refine congrArg (V m c main_v65) (funext fun a => Fin.ext ?_)
  refine (((cfgM m).win 2).rect_emb_val t (ix3 e s l) a).trans ?_
  show cc0_transform_2 (grid0.coords t) a * _ + _ = _
  rw [idx3]
  match a with
  | ⟨0, _⟩ => show t.val / 16 * 2 + e.val = (2 * (t.val / 16) + e.val) % 16; omega
  | ⟨1, _⟩ => show t.val % 16 * 512 + s.val = (512 * (t.val % 16) + s.val) % 8192; omega
  | ⟨2, _⟩ => show 0 * 128 + l.val = l.val; omega
theorem iblk3 (t : Fin grid0.N) (e : Fin 2) (s : Fin 512) (l : Fin 128) : iblk m c 3 t (ix3 e s l) = aV m c (ix3 (hh (t.val / 16) e) (rq (512 * (t.val % 16)) s) l) := by
  have ht : t.val < 128 := Nat.lt_of_lt_of_eq t.isLt N_0
  have he := e.isLt
  have hs := s.isLt
  show V m c main_v68 ((((cfgM m).win 3).rect t).emb (ix3 e s l)) = _
  refine congrArg (V m c main_v68) (funext fun a => Fin.ext ?_)
  refine (((cfgM m).win 3).rect_emb_val t (ix3 e s l) a).trans ?_
  show cc0_transform_2 (grid0.coords t) a * _ + _ = _
  rw [idx3]
  match a with
  | ⟨0, _⟩ => show t.val / 16 * 2 + e.val = (2 * (t.val / 16) + e.val) % 16; omega
  | ⟨1, _⟩ => show t.val % 16 * 512 + s.val = (512 * (t.val % 16) + s.val) % 8192; omega
  | ⟨2, _⟩ => show 0 * 128 + l.val = l.val; omega

/-! ## The accumulators of a point -/

section
variable (t : Fin grid0.N) (e : Fin 2) (q : Fin 8192) (s : Fin 512) (l : Fin 128)

theorem w45_pt : w45 (grid0.coords t) = BitVec.ofNat 32 (grid0.coords t 1).val := by rw [w45_eq, coord1]

theorem wt_pt : wt (iblk m c 0 t) (iblk m c 2 t) (t.val % 16) e q s = hw (aQ m c) (aK m c) (hh (t.val / 16) e) q (rq (512 * (t.val % 16)) s) := by
  unfold wt hw
  rw [rq_val _ (Nat.mod_lt _ (by decide))]
  simp only [dt, iblk0, iblk2]
  rfl
theorem dt_pt : dt (iblk m c 1 t) (iblk m c 3 t) e q s = pr (aO m c) (aV m c) (hh (t.val / 16) e) q (rq (512 * (t.val % 16)) s) := by
  simp only [dt, iblk1, iblk3]
  rfl

theorem acV_apply : acV m c t.val (ix3 e s l) = GV (aQ m c) (aO m c) (aK m c) (hh (t.val / 16) e) (rq (512 * (t.val % 16)) s) l := by
  unfold acV
  rw [pt_val]
  refine (finV_apply _ _ _ _ _ _ _ (Nat.mod_lt _ (by decide)) _ (w45_pt t)).trans ?_
  simp only [wt_pt, iblk1]
  rfl
theorem acK_apply : acK m c t.val (ix3 e s l) = GK (aQ m c) (aO m c) (aK m c) (aV m c) (hh (t.val / 16) e) (rq (512 * (t.val % 16)) s) l := by
  unfold acK
  rw [pt_val]
  refine (finK_apply _ _ _ _ _ _ _ _ (Nat.mod_lt _ (by decide)) _ (w45_pt t)).trans ?_
  simp only [wt_pt, dt_pt, iblk0]
  rfl

theorem acQ_step (X : Vec Ideal S2x8192x128 .f32) : finQ (grid0.coords t) (t.val % 16) (iblk m c 0 t) (iblk m c 1 t) (iblk m c 2 t) (iblk m c 3 t) X (ix3 e q l)
    = X (ix3 e q l) + ∑ s : Fin 512, (hw (aQ m c) (aK m c) (hh (t.val / 16) e) q (rq (512 * (t.val % 16)) s) * pr (aO m c) (aV m c) (hh (t.val / 16) e) q (rq (512 * (t.val % 16)) s)) * aK m c (ix3 (hh (t.val / 16) e) (rq (512 * (t.val % 16)) s) l) := by
  refine (finQ_apply _ _ _ _ _ _ _ (t.val % 16) (Nat.mod_lt _ (by decide)) _ (w45_pt t) X).trans ?_
  simp only [wt_pt, dt_pt, iblk2]

theorem acQ_apply (j : ℕ) (hj : j < 8) (n : ℕ) (hn : n < 16) : acQ m c (16 * j + n + 1) (ix3 e q l)
    = ∑ b ∈ Finset.range (n + 1), ∑ s : Fin 512, (hw (aQ m c) (aK m c) (hh j e) q (rq (512 * b) s) * pr (aO m c) (aV m c) (hh j e) q (rq (512 * b) s)) * aK m c (ix3 (hh j e) (rq (512 * b) s) l) := by
  have hp : (pt (16 * j + n)).val = 16 * j + n := Nat.mod_eq_of_lt (by omega)
  have h1 : (pt (16 * j + n)).val / 16 = j := by omega
  have h2 : (pt (16 * j + n)).val % 16 = n := by omega
  have h3 : (16 * j + n) % 16 = (pt (16 * j + n)).val % 16 := by omega
  rw [acQ_succ, h3, acQ_step, h1, h2, Finset.sum_range_succ]
  refine congrArg (· + _) ?_
  cases n with
  | zero =>
    rw [if_pos rfl, Finset.range_zero, Finset.sum_empty]
    show (k0_pay112 (F := Ideal)) (ix3 e q l) = 0
    unfold k0_pay112
    rw [shapeCast_self]
    exact Ideal.ofBits_zero_f32
  | succ n =>
    rw [if_neg (Nat.succ_ne_zero n)]
    exact acQ_apply j hj n (by omega)

theorem acQ_last (j : ℕ) (hj : j < 8) : acQ m c (16 * j + 15 + 1) (ix3 e q l) = GQ (aQ m c) (aO m c) (aK m c) (aV m c) (hh j e) q l := by
  rw [acQ_apply m c e q l j hj 15 (by decide)]
  unfold GQ
  rw [sum_blocks]
end

/-! ## Packing two heads -/

section
variable (u v : Vec Ideal S1x512x128 .f32) (a : Fin 512) (l : Fin 128)

theorem slt64 (l : Fin 128) : IntOp.cmpi .slt (BitVec.ofNat 32 l.val) 64#32 = if l.val < 64 then 1#1 else 0#1 := by
  have hl := l.isLt
  rw [show (64#32 : BitVec 32) = BitVec.ofNat 32 64 from rfl, WordCmp.cmpi_slt_ofNat (by omega) (by omega)]
  by_cases h : l.val < 64
  · rw [if_pos h, decide_eq_true h]; rfl
  · rw [if_neg h, decide_eq_false h]; rfl

/-- Lanes below 64 from the one head, the others from the first 64 lanes of the other. -/
theorem packed : select (cmpi .slt (iota .tc S512x128 32 [1] iota_S512x128_d1_w32) (broadcast S512x128 64#32))
      (shapeCast S512x128 u shapeCasts_S1x512x128_S512x128) (dynamicRotate 1 64#32 none (shapeCast S512x128 v shapeCasts_S1x512x128_S512x128) rotates_S512x128_d1) (ix2 a l)
    = if l.val < 64 then u (ix3 0 a ⟨l.val % 64, by omega⟩) else v (ix3 0 a ⟨l.val % 64, by omega⟩) := by
  have hl := l.isLt
  show Scalar.select (IntOp.cmpi .slt (iota .tc S512x128 32 [1] iota_S512x128_d1_w32 (ix2 a l)) 64#32) _ _ = _
  rw [iota_single_apply, show IntOp.cmpi .slt (BitVec.ofNat 32 (ix2 a l (1 : Fin 2)).val) 64#32 = _ from slt64 l,
    dynamicRotate_apply 1 64#32 _ _ (ix2 a l) (ix2 a ⟨(l.val + 64) % 128, Nat.mod_lt _ (by decide)⟩) (fun b => by
      match b with
      | ⟨0, _⟩ => rfl
      | ⟨1, _⟩ => show (l.val + 64) % 128 = (l.val + 128 - 64 % 128) % 128; omega), drop1, drop1]
  by_cases h : l.val < 64
  · rw [if_pos h, if_pos h, show (⟨l.val % 64, by omega⟩ : Fin 128) = l from Fin.ext (Nat.mod_eq_of_lt h)]; rfl
  · rw [if_neg h, if_neg h, show (⟨(l.val + 64) % 128, Nat.mod_lt _ (by decide)⟩ : Fin 128) = ⟨l.val % 64, by omega⟩ from Fin.ext (by show (l.val + 64) % 128 = l.val % 64; omega)]; rfl

theorem p142 : k0_pay142 u v (ix2 a l) = if l.val < 64 then u (ix3 0 a ⟨l.val % 64, by omega⟩) else v (ix3 0 a ⟨l.val % 64, by omega⟩) := packed u v a l
theorem p143 : k0_pay143 u v (ix2 a l) = if l.val < 64 then u (ix3 0 a ⟨l.val % 64, by omega⟩) else v (ix3 0 a ⟨l.val % 64, by omega⟩) := packed u v a l
theorem p49 : k0_pay49 (iota .tc S512x128 32 [1] iota_S512x128_d1_w32) u v (ix2 a l) = (if l.val < 64 then u (ix3 0 a ⟨l.val % 64, by omega⟩) else v (ix3 0 a ⟨l.val % 64, by omega⟩)) * Ideal.ofBits .f32 0x3E000000#32 :=
  congrArg (· * Ideal.ofBits .f32 0x3E000000#32) (packed u v a l)

theorem eqLane (l : Fin 128) (n : ℕ) (hn : n < 4294967296) (w : BitVec 32) (hw : w = BitVec.ofNat 32 n) : IntOp.cmpi .eq (BitVec.ofNat 32 l.val) w = if l.val = n then 1#1 else 0#1 := by
  have hl := l.isLt
  rw [hw, WordCmp.cmpi_eq_ofNat (by omega) (by omega)]
  by_cases h : l.val = n
  · rw [if_pos h, decide_eq_true h]; rfl
  · rw [if_neg h, decide_eq_false h]; rfl

/-- One lane spread over the lane `n`, nothing elsewhere. -/
theorem spread (o : ℕ) (ho : o < 128) (hs : S512x128.Slices ![0, o] S512x1) (n : ℕ) (hn : n < 4294967296) (w : BitVec 32) (hw : w = BitVec.ofNat 32 n) :
    select (cmpi .eq (iota .tc S512x128 32 [1] iota_S512x128_d1_w32) (broadcast S512x128 w))
      (broadcastTo S512x128 (shapeCast S512x1 (extractStridedSlice S512x1 ![0, o] (shapeCast S512x128 u shapeCasts_S1x512x128_S512x128) hs) shapeCasts_S512x1_S512x1) broadcasts_S512x1_S512x128)
      (broadcast S512x128 (Scalar.ofBits .f32 0x00000000#32 : Ideal .f32)) (ix2 a l)
    = if l.val = n then u (ix3 0 a ⟨o, ho⟩) else 0 := by
  show Scalar.select (IntOp.cmpi .eq (iota .tc S512x128 32 [1] iota_S512x128_d1_w32 (ix2 a l)) w) _ (Ideal.ofBits .f32 0x00000000#32) = _
  rw [iota_single_apply, show IntOp.cmpi .eq (BitVec.ofNat 32 (ix2 a l (1 : Fin 2)).val) w = _ from eqLane l n hn w hw, shapeCast_self,
    broadcastTo_apply _ _ (ix2 a l) (ix2 a 0) (fun b => by
      match b with
      | ⟨0, _⟩ => rfl
      | ⟨1, _⟩ => rfl),
    extractStridedSlice_apply _ _ _ (ix2 a 0) (ix2 a ⟨o, ho⟩) (fun b => by
      match b with
      | ⟨0, _⟩ => show a.val = 0 + a.val; omega
      | ⟨1, _⟩ => rfl), drop1]
  by_cases h : l.val = n
  · rw [if_pos h, if_pos h]; rfl
  · rw [if_neg h, if_neg h]; exact Ideal.ofBits_zero_f32

variable (X : Vec Ideal S512x128 .f32) (j : ℕ) (hj : j < 8)
include hj
theorem p144 : k0_pay144 (BitVec.ofNat 32 j) (iota .tc S512x128 32 [1] iota_S512x128_d1_w32) X u v (ix2 a l)
    = X (ix2 a l) - ((if l.val = 16 + 2 * j then u (ix3 0 a 67) else 0) + (if l.val = 16 + 2 * j + 1 then v (ix3 0 a 67) else 0)) := by
  have e0 : (16#32 + 2#32 * BitVec.ofNat 32 j : BitVec 32) = BitVec.ofNat 32 (16 + 2 * j) := by
    apply BitVec.eq_of_toNat_eq; simp only [BitVec.toNat_add, BitVec.toNat_mul, BitVec.toNat_ofNat]; omega
  have e1 : (16#32 + 2#32 * BitVec.ofNat 32 j + 1#32 : BitVec 32) = BitVec.ofNat 32 (16 + 2 * j + 1) := by
    apply BitVec.eq_of_toNat_eq; simp only [BitVec.toNat_add, BitVec.toNat_mul, BitVec.toNat_ofNat]; omega
  unfold k0_pay144
  (try dsimp only)
  rw [shapeCast_self]
  exact congrArg (X (ix2 a l) - ·) (congrArg₂ (· + ·) (spread u a l 67 (by decide) _ _ (by omega) _ e0) (spread v a l 67 (by decide) _ _ (by omega) _ e1))
theorem p50 : k0_pay50 (BitVec.ofNat 32 j) (iota .tc S512x128 32 [1] iota_S512x128_d1_w32) u v X (ix2 a l)
    = X (ix2 a l) + ((if l.val = 16 + 2 * j then u (ix3 0 a 64) else 0) + (if l.val = 16 + 2 * j + 1 then v (ix3 0 a 64) else 0)) := by
  have e0 : (16#32 + 2#32 * BitVec.ofNat 32 j : BitVec 32) = BitVec.ofNat 32 (16 + 2 * j) := by
    apply BitVec.eq_of_toNat_eq; simp only [BitVec.toNat_add, BitVec.toNat_mul, BitVec.toNat_ofNat]; omega
  have e1 : (16#32 + 2#32 * BitVec.ofNat 32 j + 1#32 : BitVec 32) = BitVec.ofNat 32 (16 + 2 * j + 1) := by
    apply BitVec.eq_of_toNat_eq; simp only [BitVec.toNat_add, BitVec.toNat_mul, BitVec.toNat_ofNat]; omega
  unfold k0_pay50 k0_pay47 k0_pay48
  (try dsimp only)
  rw [shapeCast_self]
  exact congrArg (X (ix2 a l) + ·) (congrArg₂ (· + ·) (spread u a l 64 (by decide) _ _ (by omega) _ e0) (spread v a l 64 (by decide) _ _ (by omega) _ e1))
end

end Cert.KernelIdeal.Att

end
-- ==== Proof.KernelIdeal.Result.lean ====
/- The four arrays of the region's results, over the four arrays it is handed. -/
module

public import proofs.«01_k».proof.Proof.KernelIdeal.Points
public import proofs.«01_k».proof.Proof.KernelIdeal.Run

@[expose] public section

set_option maxRecDepth 16384

noncomputable section

namespace Cert.KernelIdeal.Att

open Cert.KernelIdeal.Gen
open Idealize.ShloMosaic Idealize.ShloMosaic.TcCoe Idealize.ShloMosaic.ValueIdx
open scoped BigOperators
open Idealize.ShloMosaic.Pipeline (Dat Cfg Window)

variable (m : (ℓ : Loc nD τ sig) → Buf (Elt Ideal) ℓ) (ρ : Dev nD → PrngReg) (c : Dev nD)

/-- The head and the lane of a column of a result array. -/
def colH (y : Fin 1024) : Fin 16 := ⟨y.val / 64, by omega⟩
def colL (y : Fin 1024) : Fin 128 := ⟨y.val % 64, by omega⟩

/-- The results: the gradients of the queries, of the keys, of the values, and of the column sums. -/
def resQ : S8192x1024.Idx → EReal := fun i => GQ (aQ m c) (aO m c) (aK m c) (aV m c) (colH (i 1)) (i 0) (colL (i 1)) * Ideal.ofBits .f32 0x3E000000#32
def resK : S8192x1024.Idx → EReal := fun i => GK (aQ m c) (aO m c) (aK m c) (aV m c) (colH (i 1)) (i 0) (colL (i 1))
def resV : S8192x1024.Idx → EReal := fun i => GV (aQ m c) (aO m c) (aK m c) (colH (i 1)) (i 0) (colL (i 1))

/-- The column gradients before point `n`. -/
def dcAt (n : ℕ) (r : Fin 8192) (l : Fin 128) : EReal :=
  if h : 16 ≤ l.val ∧ l.val < 32 then
    (if 16 * ((l.val - 16) / 2) + r.val / 512 < n then 0 - GK (aQ m c) (aO m c) (aK m c) (aV m c) ⟨l.val - 16, by omega⟩ r 67 else 0)
      + (if 16 * ((l.val - 16) / 2) + 15 < n then GQ (aQ m c) (aO m c) (aK m c) (aV m c) ⟨l.val - 16, by omega⟩ r 64 else 0)
  else 0
def resC : S8192x128.Idx → EReal := fun i => dcAt m c 128 (i 0) (i 1)

theorem idx4 (t : Fin grid0.N) : cc0_transform_4 (grid0.coords t) = ![0, t.val / 16] := by
  have ht : t.val < 128 := Nat.lt_of_lt_of_eq t.isLt N_0
  unfold cc0_transform_4
  simp only [coord0, ofNat_toNat _ (show t.val / 16 < 4294967296 by omega)]
  rfl
theorem idx5 (t : Fin grid0.N) : cc0_transform_5 (grid0.coords t) = ![t.val % 16, t.val / 16] := by
  have ht : t.val < 128 := Nat.lt_of_lt_of_eq t.isLt N_0
  unfold cc0_transform_5
  simp only [coord0, coord1, ofNat_toNat _ (show t.val / 16 < 4294967296 by omega), ofNat_toNat _ (show t.val % 16 < 4294967296 by omega)]

/-! ## What a point writes -/

theorem outQ_apply (Q : Vec Ideal S2x8192x128 .f32) (q : Fin 8192) (l : Fin 128) :
    outQ Q (ix2 q l) = Q (ix3 ⟨l.val / 64, by omega⟩ q ⟨l.val % 64, by omega⟩) * Ideal.ofBits .f32 0x3E000000#32 := by
  have hq := q.isLt
  have e : ∀ e l, blk Q e (512 * (q.val / 512)) (ix3 0 ⟨q.val % 512, Nat.mod_lt _ (by decide)⟩ l) = Q (ix3 e q l) := fun e l => by
    show Q (ix3 e ⟨(512 * (q.val / 512) + q.val % 512) % 8192, _⟩ l) = _
    congr 2
    exact Fin.ext (by show (512 * (q.val / 512) + q.val % 512) % 8192 = q.val; omega)
  unfold outQ
  refine (p49 _ _ _ _).trans (congrArg (· * _) ?_)
  by_cases h : l.val < 64
  · rw [if_pos h, show (⟨l.val / 64, by omega⟩ : Fin 2) = 0 from Fin.ext (by show l.val / 64 = 0; omega)]
    exact e 0 _
  · rw [if_neg h, show (⟨l.val / 64, by omega⟩ : Fin 2) = 1 from Fin.ext (by show l.val / 64 = 1; have := l.isLt; omega)]
    exact e 1 _

theorem outK_apply (t : Fin grid0.N) (s : Fin 512) (l : Fin 128) :
    outK m c t.val (ix2 s l) = GK (aQ m c) (aO m c) (aK m c) (aV m c) (hh (t.val / 16) ⟨l.val / 64, by omega⟩) (rq (512 * (t.val % 16)) s) ⟨l.val % 64, by omega⟩ := by
  unfold outK
  refine (p142 _ _ _ _).trans ?_
  by_cases h : l.val < 64
  · rw [if_pos h, show (⟨l.val / 64, by omega⟩ : Fin 2) = 0 from Fin.ext (by show l.val / 64 = 0; omega)]
    exact acK_apply m c t 0 s _
  · rw [if_neg h, show (⟨l.val / 64, by omega⟩ : Fin 2) = 1 from Fin.ext (by show l.val / 64 = 1; have := l.isLt; omega)]
    exact acK_apply m c t 1 s _
theorem outV_apply (t : Fin grid0.N) (s : Fin 512) (l : Fin 128) :
    outV m c t.val (ix2 s l) = GV (aQ m c) (aO m c) (aK m c) (hh (t.val / 16) ⟨l.val / 64, by omega⟩) (rq (512 * (t.val % 16)) s) ⟨l.val % 64, by omega⟩ := by
  unfold outV
  refine (p143 _ _ _ _).trans ?_
  by_cases h : l.val < 64
  · rw [if_pos h, show (⟨l.val / 64, by omega⟩ : Fin 2) = 0 from Fin.ext (by show l.val / 64 = 0; omega)]
    exact acV_apply m c t 0 s _
  · rw [if_neg h, show (⟨l.val / 64, by omega⟩ : Fin 2) = 1 from Fin.ext (by show l.val / 64 = 1; have := l.isLt; omega)]
    exact acV_apply m c t 1 s _

theorem midC_apply (i : grid0.Coords) (j : ℕ) (hj : j < 8) (hi : (i 0).val = j) (ki : ℕ) (hki : ki < 16) (X : Vec Ideal S8192x128 .f32) (K : Vec Ideal S2x512x128 .f32) (r : Fin 8192) (l : Fin 128) :
    midC i ki X K (ix2 r l) = if r.val / 512 = ki then X (ix2 r l) - ((if l.val = 16 + 2 * j then K (ix3 0 ⟨r.val % 512, Nat.mod_lt _ (by decide)⟩ 67) else 0) + (if l.val = 16 + 2 * j + 1 then K (ix3 1 ⟨r.val % 512, Nat.mod_lt _ (by decide)⟩ 67) else 0))
      else X (ix2 r l) := by
  have hr := r.isLt
  have hl := l.isLt
  unfold midC VecWindow.put
  rw [hi]
  by_cases h : r.val / 512 = ki
  · rw [if_pos h, dif_pos (fun a => match a with
      | ⟨0, _⟩ => ⟨by show 512 * ki ≤ r.val; omega, by show r.val < 512 * ki + 512; omega⟩
      | ⟨1, _⟩ => ⟨Nat.zero_le _, by show l.val < 0 + 128; omega⟩)]
    have e : (Rect.unitLocal (s := S8192x128) (off := ![512 * ki, 0]) (size := S512x128.size) (ix2 r l) (fun a => match a with
      | ⟨0, _⟩ => ⟨by show 512 * ki ≤ r.val; omega, by show r.val < 512 * ki + 512; omega⟩
      | ⟨1, _⟩ => ⟨Nat.zero_le _, by show l.val < 0 + 128; omega⟩) : S512x128.Idx) = ix2 ⟨r.val % 512, Nat.mod_lt _ (by decide)⟩ l := funext fun a => Fin.ext (by
        match a with
        | ⟨0, _⟩ => show r.val - 512 * ki = r.val % 512; omega
        | ⟨1, _⟩ => show l.val - 0 = l.val; omega)
    refine (congrArg _ e).trans ((p144 _ _ _ _ _ j hj).trans ?_)
    refine congrArg (· - _) ?_
    show X (ix2 ⟨(512 * ki + r.val % 512) % 8192, _⟩ l) = _
    congr 2
    exact Fin.ext (by show (512 * ki + r.val % 512) % 8192 = r.val; omega)
  · rw [if_neg h, dif_neg]
    intro hh
    have h0 := hh 0
    have h1 : 512 * ki ≤ r.val := h0.1
    have h2 : r.val < 512 * ki + 512 := h0.2
    omega

theorem endC_apply (i : grid0.Coords) (j : ℕ) (hj : j < 8) (hi : (i 0).val = j) (Q : Vec Ideal S2x8192x128 .f32) (X : Vec Ideal S8192x128 .f32) (r : Fin 8192) (l : Fin 128) :
    endC i Q X (ix2 r l) = X (ix2 r l) + ((if l.val = 16 + 2 * j then Q (ix3 0 r 64) else 0) + (if l.val = 16 + 2 * j + 1 then Q (ix3 1 r 64) else 0)) := by
  have hr := r.isLt
  have e : (⟨(512 * (r.val / 512) + r.val % 512) % 8192, Nat.mod_lt _ (by decide)⟩ : Fin 8192) = r := Fin.ext (by show (512 * (r.val / 512) + r.val % 512) % 8192 = r.val; omega)
  unfold endC
  rw [hi]
  refine (p50 _ _ _ _ _ j hj).trans ?_
  show X (ix2 ⟨(512 * (r.val / 512) + r.val % 512) % 8192, _⟩ l) + ((if l.val = 16 + 2 * j then Q (ix3 0 ⟨(512 * (r.val / 512) + r.val % 512) % 8192, _⟩ 64) else 0) + (if l.val = 16 + 2 * j + 1 then Q (ix3 1 ⟨(512 * (r.val / 512) + r.val % 512) % 8192, _⟩ 64) else 0)) = _
  rw [e]

/-- The column gradients after the key block of point `n`, before the query gradients are added. -/
theorem mid_dcAt (n : ℕ) (hn : n < 128) (ih : ∀ r l, acC m c n (ix2 r l) = dcAt m c n r l) (r : Fin 8192) (l : Fin 128) :
    midC (grid0.coords (pt n)) (n % 16) (acC m c n) (acK m c n) (ix2 r l)
      = if h : 16 ≤ l.val ∧ l.val < 32 then
        (if 16 * ((l.val - 16) / 2) + r.val / 512 < n + 1 then 0 - GK (aQ m c) (aO m c) (aK m c) (aV m c) ⟨l.val - 16, by omega⟩ r 67 else 0)
          + (if 16 * ((l.val - 16) / 2) + 15 < n then GQ (aQ m c) (aO m c) (aK m c) (aV m c) ⟨l.val - 16, by omega⟩ r 64 else 0)
        else 0 := by
  have hr := r.isLt
  have hl := l.isLt
  have hp : (pt n).val = n := Nat.mod_eq_of_lt hn
  have hK : ∀ e, acK m c n (ix3 e ⟨r.val % 512, Nat.mod_lt _ (by decide)⟩ 67) = GK (aQ m c) (aO m c) (aK m c) (aV m c) (hh (n / 16) e) (rq (512 * (n % 16)) ⟨r.val % 512, Nat.mod_lt _ (by decide)⟩) 67 := fun e => by
    have := acK_apply m c (pt n) e ⟨r.val % 512, Nat.mod_lt _ (by decide)⟩ 67
    rw [hp] at this
    exact this
  rw [midC_apply _ (n / 16) (by omega) (by rw [coord0, hp]) _ (Nat.mod_lt _ (by decide)), ih, hK, hK]
  unfold dcAt
  by_cases hb : r.val / 512 = n % 16
  · have er : rq (512 * (n % 16)) ⟨r.val % 512, Nat.mod_lt _ (by decide)⟩ = r := Fin.ext (by show (512 * (n % 16) + r.val % 512) % 8192 = r.val; omega)
    rw [if_pos hb, er]
    by_cases hL : 16 ≤ l.val ∧ l.val < 32
    · rw [dif_pos hL, dif_pos hL]
      by_cases h0 : l.val = 16 + 2 * (n / 16)
      · rw [if_pos h0, if_neg (show ¬ l.val = 16 + 2 * (n / 16) + 1 by omega), if_neg (show ¬ 16 * ((l.val - 16) / 2) + r.val / 512 < n by omega), if_neg (show ¬ 16 * ((l.val - 16) / 2) + 15 < n by omega),
          if_pos (show 16 * ((l.val - 16) / 2) + r.val / 512 < n + 1 by omega), add_zero, add_zero, add_zero,
          show hh (n / 16) 0 = ⟨l.val - 16, by omega⟩ from Fin.ext (by show (2 * (n / 16) + 0) % 16 = l.val - 16; omega)]
      · by_cases h1 : l.val = 16 + 2 * (n / 16) + 1
        · rw [if_neg h0, if_pos h1, if_neg (show ¬ 16 * ((l.val - 16) / 2) + r.val / 512 < n by omega), if_neg (show ¬ 16 * ((l.val - 16) / 2) + 15 < n by omega),
            if_pos (show 16 * ((l.val - 16) / 2) + r.val / 512 < n + 1 by omega), add_zero, add_zero, zero_add,
            show hh (n / 16) 1 = ⟨l.val - 16, by omega⟩ from Fin.ext (by show (2 * (n / 16) + 1) % 16 = l.val - 16; omega)]
        · rw [if_neg h0, if_neg h1, add_zero, sub_zero]
          simp only [show (16 * ((l.val - 16) / 2) + r.val / 512 < n + 1) = (16 * ((l.val - 16) / 2) + r.val / 512 < n) from propext (by omega)]
    · rw [dif_neg hL, dif_neg hL, if_neg (by omega), if_neg (by omega), add_zero, sub_zero]
  · rw [if_neg hb]
    simp only [show (16 * ((l.val - 16) / 2) + r.val / 512 < n + 1) = (16 * ((l.val - 16) / 2) + r.val / 512 < n) from propext (by omega)]

theorem acC_apply : ∀ (n : ℕ) (_ : n ≤ 128) (r : Fin 8192) (l : Fin 128), acC m c n (ix2 r l) = dcAt m c n r l
  | 0, _, r, l => by
    rw [acC_zero]
    unfold dcAt
    have z : (k0_pay111 (F := Ideal)) (ix2 r l) = 0 := Ideal.ofBits_zero_f32
    rw [z]
    split
    · rw [if_neg (Nat.not_lt_zero _), if_neg (Nat.not_lt_zero _), add_zero]
    · rfl
  | n + 1, hn, r, l => by
    have hr := r.isLt
    have hl := l.isLt
    have hp : (pt n).val = n := Nat.mod_eq_of_lt hn
    have ih := acC_apply n (by omega)
    rw [acC_succ]
    by_cases hE : n % 16 = 15
    · have hQ : ∀ e, acQ m c (n + 1) (ix3 e r 64) = GQ (aQ m c) (aO m c) (aK m c) (aV m c) (hh (n / 16) e) r 64 := fun e => by
        have := acQ_last m c e r 64 (n / 16) (by omega)
        rw [show 16 * (n / 16) + 15 + 1 = n + 1 by omega] at this
        exact this
      rw [if_pos hE, endC_apply _ (n / 16) (by omega) (by rw [coord0, hp]), mid_dcAt m c n hn ih, hQ, hQ]
      unfold dcAt
      by_cases hL : 16 ≤ l.val ∧ l.val < 32
      · rw [dif_pos hL, dif_pos hL, add_assoc]
        refine congrArg _ ?_
        by_cases h0 : l.val = 16 + 2 * (n / 16)
        · rw [if_pos h0, if_neg (show ¬ l.val = 16 + 2 * (n / 16) + 1 by omega), if_neg (show ¬ 16 * ((l.val - 16) / 2) + 15 < n by omega),
            if_pos (show 16 * ((l.val - 16) / 2) + 15 < n + 1 by omega), add_zero, zero_add,
            show hh (n / 16) 0 = ⟨l.val - 16, by omega⟩ from Fin.ext (by show (2 * (n / 16) + 0) % 16 = l.val - 16; omega)]
        · by_cases h1 : l.val = 16 + 2 * (n / 16) + 1
          · rw [if_neg h0, if_pos h1, if_neg (show ¬ 16 * ((l.val - 16) / 2) + 15 < n by omega),
              if_pos (show 16 * ((l.val - 16) / 2) + 15 < n + 1 by omega), zero_add, zero_add,
              show hh (n / 16) 1 = ⟨l.val - 16, by omega⟩ from Fin.ext (by show (2 * (n / 16) + 1) % 16 = l.val - 16; omega)]
          · rw [if_neg h0, if_neg h1, add_zero, add_zero]
            simp only [show (16 * ((l.val - 16) / 2) + 15 < n + 1) = (16 * ((l.val - 16) / 2) + 15 < n) from propext (by omega)]
      · rw [dif_neg hL, dif_neg hL, if_neg (by omega), if_neg (by omega), add_zero, add_zero]
    · rw [if_neg hE, mid_dcAt m c n hn ih]
      unfold dcAt
      simp only [show (16 * ((l.val - 16) / 2) + 15 < n + 1) = (16 * ((l.val - 16) / 2) + 15 < n) from propext (by omega)]

/-! ## The result arrays -/

theorem eta2 {n n' : ℕ} (y : (⟨2, ![n, n']⟩ : Shape).Idx) : ∃ (q : Fin n) (l : Fin n'), y = ix2 q l :=
  ⟨y 0, y 1, funext fun a => by
    match a with
    | ⟨0, _⟩ => rfl
    | ⟨1, _⟩ => rfl⟩

/-- The key and value gradients of every point are written back. -/
theorem flush5 : ∀ t : Fin (cfgM m).N, ((cfgM m).win 5).flush t = true :=
  (by decide +kernel : ∀ t : Fin grid0.N, Pipeline.Window.flushOf grid0 true cc0_transform_5 t = true)
theorem flush6 : ∀ t : Fin (cfgM m).N, ((cfgM m).win 6).flush t = true :=
  (by decide +kernel : ∀ t : Fin grid0.N, Pipeline.Window.flushOf grid0 true cc0_transform_6 t = true)
theorem idx6 (t : Fin grid0.N) : cc0_transform_6 (grid0.coords t) = ![t.val % 16, t.val / 16] := idx5 t
theorem idx7 (t : Fin grid0.N) : cc0_transform_7 (grid0.coords t) = ![0, 0] := rfl

theorem arr4 : (dats m 0 c).arrAt 4 (cfgM m).N = resQ m c := by
  refine (dats m 0 c).arrAt_eq_of_emb 4 (resQ m c) (fun t hf y => ?_) (fun i => ?_)
  · have ht : t.val < 128 := Nat.lt_of_lt_of_eq t.isLt N_0
    have h15 := (flush4 m t).mp hf
    obtain ⟨q, l, rfl⟩ := eta2 (n := 8192) (n' := 128) y
    have hq := q.isLt
    have hl := l.isLt
    have he : (((cfgM m).win 4).rect t).emb (ix2 q l) = (ix2 q ⟨128 * (t.val / 16) + l.val, by omega⟩ : S8192x1024.Idx) := funext fun a => Fin.ext (by
      refine (((cfgM m).win 4).rect_emb_val t (ix2 q l) a).trans ?_
      show cc0_transform_4 (grid0.coords t) a * _ + _ = _
      rw [idx4]
      match a with
      | ⟨0, _⟩ => show 0 * 8192 + q.val = q.val; omega
      | ⟨1, _⟩ => show t.val / 16 * 128 + l.val = 128 * (t.val / 16) + l.val; omega)
    show (dats m 0 c).after 4 t (ix2 q l) = resQ m c ((((cfgM m).win 4).rect t).emb (ix2 q l))
    rw [he, after0_4]
    refine (outQ_apply _ q l).trans ?_
    have := acQ_last m c ⟨l.val / 64, by omega⟩ q ⟨l.val % 64, by omega⟩ (t.val / 16) (by omega)
    rw [show 16 * (t.val / 16) + 15 + 1 = t.val + 1 by omega] at this
    rw [this]
    unfold resQ
    refine congrArg (· * _) ?_
    rw [show hh (t.val / 16) ⟨l.val / 64, by omega⟩ = colH ⟨128 * (t.val / 16) + l.val, by omega⟩ from Fin.ext (by show (2 * (t.val / 16) + l.val / 64) % 16 = (128 * (t.val / 16) + l.val) / 64; omega),
      show (⟨l.val % 64, by omega⟩ : Fin 128) = colL ⟨128 * (t.val / 16) + l.val, by omega⟩ from Fin.ext (by show l.val % 64 = (128 * (t.val / 16) + l.val) % 64; omega)]
  · obtain ⟨x, z, rfl⟩ := eta2 (n := 8192) (n' := 1024) i
    have h0 := x.isLt
    have h1 := z.isLt
    refine ⟨pt (16 * (z.val / 128) + 15), (flush4 m _).mpr (by show (16 * (z.val / 128) + 15) % 128 % 16 = 15; omega), (((cfgM m).win 4).emb_mem_blk_iff (pt (16 * (z.val / 128) + 15)) (ix2 x z)).mpr fun a => ?_⟩
    have hp : (pt (16 * (z.val / 128) + 15)).val = 16 * (z.val / 128) + 15 := Nat.mod_eq_of_lt (by omega)
    show cc0_transform_4 (grid0.coords (pt (16 * (z.val / 128) + 15))) a * _ ≤ _ ∧ _ < cc0_transform_4 (grid0.coords (pt (16 * (z.val / 128) + 15))) a * _ + _
    rw [idx4, hp]
    match a with
    | ⟨0, _⟩ => exact ⟨by show 0 * 8192 ≤ x.val; omega, by show x.val < 0 * 8192 + 8192; omega⟩
    | ⟨1, _⟩ => exact ⟨by show (16 * (z.val / 128) + 15) / 16 * 128 ≤ z.val; omega, by show z.val < (16 * (z.val / 128) + 15) / 16 * 128 + 128; omega⟩

theorem arr5 : (dats m 0 c).arrAt 5 (cfgM m).N = resK m c := by
  refine (dats m 0 c).arrAt_eq_of_emb 5 (resK m c) (fun t hf y => ?_) (fun i => ?_)
  · have ht : t.val < 128 := Nat.lt_of_lt_of_eq t.isLt N_0
    obtain ⟨q, l, rfl⟩ := eta2 (n := 512) (n' := 128) y
    have hq := q.isLt
    have hl := l.isLt
    have he : (((cfgM m).win 5).rect t).emb (ix2 q l) = (ix2 (rq (512 * (t.val % 16)) q) ⟨128 * (t.val / 16) + l.val, by omega⟩ : S8192x1024.Idx) := funext fun a => Fin.ext (by
      refine (((cfgM m).win 5).rect_emb_val t (ix2 q l) a).trans ?_
      show cc0_transform_5 (grid0.coords t) a * _ + _ = _
      rw [idx5]
      match a with
      | ⟨0, _⟩ => show t.val % 16 * 512 + q.val = (512 * (t.val % 16) + q.val) % 8192; omega
      | ⟨1, _⟩ => show t.val / 16 * 128 + l.val = 128 * (t.val / 16) + l.val; omega)
    show (dats m 0 c).after 5 t (ix2 q l) = resK m c ((((cfgM m).win 5).rect t).emb (ix2 q l))
    rw [he, after0_5]
    refine (outK_apply m c t q l).trans ?_
    unfold resK
    rw [show hh (t.val / 16) ⟨l.val / 64, by omega⟩ = colH ⟨128 * (t.val / 16) + l.val, by omega⟩ from Fin.ext (by show (2 * (t.val / 16) + l.val / 64) % 16 = (128 * (t.val / 16) + l.val) / 64; omega),
      show (⟨l.val % 64, by omega⟩ : Fin 128) = colL ⟨128 * (t.val / 16) + l.val, by omega⟩ from Fin.ext (by show l.val % 64 = (128 * (t.val / 16) + l.val) % 64; omega)]
  · obtain ⟨x, z, rfl⟩ := eta2 (n := 8192) (n' := 1024) i
    have h0 := x.isLt
    have h1 := z.isLt
    refine ⟨pt (16 * (z.val / 128) + x.val / 512), flush5 m _, (((cfgM m).win 5).emb_mem_blk_iff (pt (16 * (z.val / 128) + x.val / 512)) (ix2 x z)).mpr fun a => ?_⟩
    have hp : (pt (16 * (z.val / 128) + x.val / 512)).val = 16 * (z.val / 128) + x.val / 512 := Nat.mod_eq_of_lt (by omega)
    show cc0_transform_5 (grid0.coords (pt (16 * (z.val / 128) + x.val / 512))) a * _ ≤ _ ∧ _ < cc0_transform_5 (grid0.coords (pt (16 * (z.val / 128) + x.val / 512))) a * _ + _
    rw [idx5, hp]
    match a with
    | ⟨0, _⟩ => exact ⟨by show (16 * (z.val / 128) + x.val / 512) % 16 * 512 ≤ x.val; omega, by show x.val < (16 * (z.val / 128) + x.val / 512) % 16 * 512 + 512; omega⟩
    | ⟨1, _⟩ => exact ⟨by show (16 * (z.val / 128) + x.val / 512) / 16 * 128 ≤ z.val; omega, by show z.val < (16 * (z.val / 128) + x.val / 512) / 16 * 128 + 128; omega⟩

theorem arr6 : (dats m 0 c).arrAt 6 (cfgM m).N = resV m c := by
  refine (dats m 0 c).arrAt_eq_of_emb 6 (resV m c) (fun t hf y => ?_) (fun i => ?_)
  · have ht : t.val < 128 := Nat.lt_of_lt_of_eq t.isLt N_0
    obtain ⟨q, l, rfl⟩ := eta2 (n := 512) (n' := 128) y
    have hq := q.isLt
    have hl := l.isLt
    have he : (((cfgM m).win 6).rect t).emb (ix2 q l) = (ix2 (rq (512 * (t.val % 16)) q) ⟨128 * (t.val / 16) + l.val, by omega⟩ : S8192x1024.Idx) := funext fun a => Fin.ext (by
      refine (((cfgM m).win 6).rect_emb_val t (ix2 q l) a).trans ?_
      show cc0_transform_6 (grid0.coords t) a * _ + _ = _
      rw [idx6]
      match a with
      | ⟨0, _⟩ => show t.val % 16 * 512 + q.val = (512 * (t.val % 16) + q.val) % 8192; omega
      | ⟨1, _⟩ => show t.val / 16 * 128 + l.val = 128 * (t.val / 16) + l.val; omega)
    show (dats m 0 c).after 6 t (ix2 q l) = resV m c ((((cfgM m).win 6).rect t).emb (ix2 q l))
    rw [he, after0_6]
    refine (outV_apply m c t q l).trans ?_
    unfold resV
    rw [show hh (t.val / 16) ⟨l.val / 64, by omega⟩ = colH ⟨128 * (t.val / 16) + l.val, by omega⟩ from Fin.ext (by show (2 * (t.val / 16) + l.val / 64) % 16 = (128 * (t.val / 16) + l.val) / 64; omega),
      show (⟨l.val % 64, by omega⟩ : Fin 128) = colL ⟨128 * (t.val / 16) + l.val, by omega⟩ from Fin.ext (by show l.val % 64 = (128 * (t.val / 16) + l.val) % 64; omega)]
  · obtain ⟨x, z, rfl⟩ := eta2 (n := 8192) (n' := 1024) i
    have h0 := x.isLt
    have h1 := z.isLt
    refine ⟨pt (16 * (z.val / 128) + x.val / 512), flush6 m _, (((cfgM m).win 6).emb_mem_blk_iff (pt (16 * (z.val / 128) + x.val / 512)) (ix2 x z)).mpr fun a => ?_⟩
    have hp : (pt (16 * (z.val / 128) + x.val / 512)).val = 16 * (z.val / 128) + x.val / 512 := Nat.mod_eq_of_lt (by omega)
    show cc0_transform_6 (grid0.coords (pt (16 * (z.val / 128) + x.val / 512))) a * _ ≤ _ ∧ _ < cc0_transform_6 (grid0.coords (pt (16 * (z.val / 128) + x.val / 512))) a * _ + _
    rw [idx6, hp]
    match a with
    | ⟨0, _⟩ => exact ⟨by show (16 * (z.val / 128) + x.val / 512) % 16 * 512 ≤ x.val; omega, by show x.val < (16 * (z.val / 128) + x.val / 512) % 16 * 512 + 512; omega⟩
    | ⟨1, _⟩ => exact ⟨by show (16 * (z.val / 128) + x.val / 512) / 16 * 128 ≤ z.val; omega, by show z.val < (16 * (z.val / 128) + x.val / 512) / 16 * 128 + 128; omega⟩

theorem arr7 : (dats m 0 c).arrAt 7 (cfgM m).N = resC m c := by
  refine (dats m 0 c).arrAt_eq_of_emb 7 (resC m c) (fun t hf y => ?_) (fun i => ?_)
  · have ht : t.val < 128 := Nat.lt_of_lt_of_eq t.isLt N_0
    have h127 := (flush7 m t).mp hf
    obtain ⟨q, l, rfl⟩ := eta2 (n := 8192) (n' := 128) y
    have hq := q.isLt
    have hl := l.isLt
    have he : (((cfgM m).win 7).rect t).emb (ix2 q l) = (ix2 q l : S8192x128.Idx) := funext fun a => Fin.ext (by
      refine (((cfgM m).win 7).rect_emb_val t (ix2 q l) a).trans ?_
      show cc0_transform_7 (grid0.coords t) a * _ + _ = _
      rw [idx7]
      match a with
      | ⟨0, _⟩ => show 0 * 8192 + q.val = q.val; omega
      | ⟨1, _⟩ => show 0 * 128 + l.val = l.val; omega)
    show (dats m 0 c).after 7 t (ix2 q l) = resC m c ((((cfgM m).win 7).rect t).emb (ix2 q l))
    rw [he, after0_7]
    rw [show t.val + 1 = 128 by omega]
    exact acC_apply m c 128 le_rfl q l
  · obtain ⟨x, z, rfl⟩ := eta2 (n := 8192) (n' := 128) i
    have h0 := x.isLt
    have h1 := z.isLt
    refine ⟨pt (127), (flush7 m _).mpr (by show 127 % 128 % 128 = 127; rfl), (((cfgM m).win 7).emb_mem_blk_iff (pt (127)) (ix2 x z)).mpr fun a => ?_⟩
    have hp : (pt (127)).val = 127 := Nat.mod_eq_of_lt (by omega)
    show cc0_transform_7 (grid0.coords (pt (127))) a * _ ≤ _ ∧ _ < cc0_transform_7 (grid0.coords (pt (127))) a * _ + _
    rw [idx7]
    match a with
    | ⟨0, _⟩ => exact ⟨by show 0 * 8192 ≤ x.val; omega, by show x.val < 0 * 8192 + 8192; omega⟩
    | ⟨1, _⟩ => exact ⟨by show 0 * 128 ≤ z.val; omega, by show z.val < 0 * 128 + 128; omega⟩

/-- The run of the kernel: its results over the arrays the region is handed, its arguments unchanged. -/
theorem run_value : θ_run defs (onTc (τ := τ) (main (F := Ideal))) ⟨m, fun _ => 0, ρ⟩ (fun r => ∀ c : Dev nD,
      r.2.mem ((c.tc : Thread nD τ).loc main_v82_0) = resQ m c
      ∧ r.2.mem ((c.tc : Thread nD τ).loc main_v82_1) = resK m c
      ∧ r.2.mem ((c.tc : Thread nD τ).loc main_v82_2) = resV m c
      ∧ r.2.mem ((c.tc : Thread nD τ).loc main_v82_3) = resC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 4).trans (arr4 m c), ((h.1 c).1 5).trans (arr5 m c), ((h.1 c).1 6).trans (arr6 m c), ((h.1 c).1 7).trans (arr7 m c),
    ((h.1 c).2 main_arg0 (by decide : main_arg0 ∈ Pipeline.restRefs sig spec0)).trans (V_arg0 m c), ((h.1 c).2 main_arg1 (by decide : main_arg1 ∈ Pipeline.restRefs sig spec0)).trans (V_arg1 m c),
    ((h.1 c).2 main_arg2 (by decide : main_arg2 ∈ Pipeline.restRefs sig spec0)).trans (V_arg2 m c), ((h.1 c).2 main_arg3 (by decide : main_arg3 ∈ Pipeline.restRefs sig spec0)).trans (V_arg3 m c),
    ((h.1 c).2 main_arg4 (by decide : main_arg4 ∈ Pipeline.restRefs sig spec0)).trans (V_arg4 m c)⟩) (run_main m ρ)

end Cert.KernelIdeal.Att

end
-- ==== Proof.KernelIdeal.Host.lean ====
/- The arrays that the host operations before the region leave, operation by operation, over the arguments. -/
module

public import proofs.«01_k».proof.Proof.KernelIdeal.Setup

@[expose] public section

set_option maxRecDepth 16384

noncomputable section

namespace Cert.KernelIdeal.Att

open Cert.KernelIdeal.Gen
open Idealize.ShloMosaic Idealize.ShloMosaic.TcCoe Idealize.ShloMosaic.Tactic

variable {F : FTy → Type} [FloatOps F] [Named F]

def h_v0 (x0 x1 x2 : Vec F S8192x16x64 .f32) (x3 : Vec F S8192x16 .f32) (x4 : Vec F S8192x16x64 .f32) : Vec F S16x8192x64 .f32 := ((transpose S16x8192x64 [1, 0, 2] · transposes_S8192x16x64_S16x8192x64_1_0_2)) x0
def h_v1 (x0 x1 x2 : Vec F S8192x16x64 .f32) (x3 : Vec F S8192x16 .f32) (x4 : Vec F S8192x16x64 .f32) : Vec F S16x8192x64 .f32 := ((transpose S16x8192x64 [1, 0, 2] · transposes_S8192x16x64_S16x8192x64_1_0_2)) x1
def h_v2 (x0 x1 x2 : Vec F S8192x16x64 .f32) (x3 : Vec F S8192x16 .f32) (x4 : Vec F S8192x16x64 .f32) : Vec F S16x8192x64 .f32 := ((transpose S16x8192x64 [1, 0, 2] · transposes_S8192x16x64_S16x8192x64_1_0_2)) x2
def h_v3 (x0 x1 x2 : Vec F S8192x16x64 .f32) (x3 : Vec F S8192x16 .f32) (x4 : Vec F S8192x16x64 .f32) : Vec F S16x8192x64 .f32 := ((transpose S16x8192x64 [1, 0, 2] · transposes_S8192x16x64_S16x8192x64_1_0_2)) x4
def h_v4 (x0 x1 x2 : Vec F S8192x16x64 .f32) (x3 : Vec F S8192x16 .f32) (x4 : Vec F S8192x16x64 .f32) : Vec F S16x8192 .f32 := ((transpose S16x8192 [1, 0] · transposes_S8192x16_S16x8192_1_0)) x3
def h_v5 (x0 x1 x2 : Vec F S8192x16x64 .f32) (x3 : Vec F S8192x16 .f32) (x4 : Vec F S8192x16x64 .f32) : Vec F S16x8192x8192 .f32 := ((fun l r => Host.dotGeneral dot_S16x8192x64_S16x8192x64_S16x8192x8192_2_2_1_1_0_0 none l r)) (h_v0 x0 x1 x2 x3 x4) (h_v1 x0 x1 x2 x3 x4)
def h_cst (x0 x1 x2 : Vec F S8192x16x64 .f32) (x3 : Vec F S8192x16 .f32) (x4 : Vec F S8192x16x64 .f32) : Vec F S_ .f32 := constant S_ .f32 0x3E000000#32
def h_v6 (x0 x1 x2 : Vec F S8192x16x64 .f32) (x3 : Vec F S8192x16 .f32) (x4 : Vec F S8192x16x64 .f32) : Vec F S16x8192x8192 .f32 := (broadcastInDim S16x8192x8192 ![] bcast_S_S16x8192x8192) (h_cst x0 x1 x2 x3 x4)
def h_v7 (x0 x1 x2 : Vec F S8192x16x64 .f32) (x3 : Vec F S8192x16 .f32) (x4 : Vec F S8192x16x64 .f32) : Vec F S16x8192x8192 .f32 := (mulf) (h_v5 x0 x1 x2 x3 x4) (h_v6 x0 x1 x2 x3 x4)
def h_v8 (x0 x1 x2 : Vec F S8192x16x64 .f32) (x3 : Vec F S8192x16 .f32) (x4 : Vec F S8192x16x64 .f32) : Vec F S16x8192x1 .f32 := (broadcastInDim S16x8192x1 ![0, 1] bcast_S16x8192_S16x8192x1_0_1) (h_v4 x0 x1 x2 x3 x4)
def h_v9 (x0 x1 x2 : Vec F S8192x16x64 .f32) (x3 : Vec F S8192x16 .f32) (x4 : Vec F S8192x16x64 .f32) : Vec F S16x8192x8192 .f32 := (broadcastInDim S16x8192x8192 ![0, 1, 2] bcast_S16x8192x1_S16x8192x8192_0_1_2) (h_v8 x0 x1 x2 x3 x4)
def h_v10 (x0 x1 x2 : Vec F S8192x16x64 .f32) (x3 : Vec F S8192x16 .f32) (x4 : Vec F S8192x16x64 .f32) : Vec F S16x8192x8192 .f32 := (addf) (h_v7 x0 x1 x2 x3 x4) (h_v9 x0 x1 x2 x3 x4)
def h_v11 (x0 x1 x2 : Vec F S8192x16x64 .f32) (x3 : Vec F S8192x16 .f32) (x4 : Vec F S8192x16x64 .f32) : Vec F S16x1x8192 .f32 := (broadcastInDim S16x1x8192 ![0, 2] bcast_S16x8192_S16x1x8192_0_2) (h_v4 x0 x1 x2 x3 x4)
def h_v12 (x0 x1 x2 : Vec F S8192x16x64 .f32) (x3 : Vec F S8192x16 .f32) (x4 : Vec F S8192x16x64 .f32) : Vec F S16x8192x8192 .f32 := (broadcastInDim S16x8192x8192 ![0, 1, 2] bcast_S16x1x8192_S16x8192x8192_0_1_2) (h_v11 x0 x1 x2 x3 x4)
def h_v13 (x0 x1 x2 : Vec F S8192x16x64 .f32) (x3 : Vec F S8192x16 .f32) (x4 : Vec F S8192x16x64 .f32) : Vec F S16x8192x8192 .f32 := (subf) (h_v10 x0 x1 x2 x3 x4) (h_v12 x0 x1 x2 x3 x4)
def h_v14 (x0 x1 x2 : Vec F S8192x16x64 .f32) (x3 : Vec F S8192x16 .f32) (x4 : Vec F S8192x16x64 .f32) : Vec F S8192 .i32 := iotaInDim S8192 32 0
def h_v15 (x0 x1 x2 : Vec F S8192x16x64 .f32) (x3 : Vec F S8192x16 .f32) (x4 : Vec F S8192x16x64 .f32) : Vec F S8192x1 .i32 := (broadcastInDim S8192x1 ![0] bcast_S8192_S8192x1_0) (h_v14 x0 x1 x2 x3 x4)
def h_v16 (x0 x1 x2 : Vec F S8192x16x64 .f32) (x3 : Vec F S8192x16 .f32) (x4 : Vec F S8192x16x64 .f32) : Vec F S1x8192 .i32 := (broadcastInDim S1x8192 ![1] bcast_S8192_S1x8192_1) (h_v14 x0 x1 x2 x3 x4)
def h_v17 (x0 x1 x2 : Vec F S8192x16x64 .f32) (x3 : Vec F S8192x16 .f32) (x4 : Vec F S8192x16x64 .f32) : Vec F S8192x8192 .i32 := (broadcastInDim S8192x8192 ![0, 1] bcast_S8192x1_S8192x8192_0_1) (h_v15 x0 x1 x2 x3 x4)
def h_v18 (x0 x1 x2 : Vec F S8192x16x64 .f32) (x3 : Vec F S8192x16 .f32) (x4 : Vec F S8192x16x64 .f32) : Vec F S8192x8192 .i32 := (broadcastInDim S8192x8192 ![0, 1] bcast_S1x8192_S8192x8192_0_1) (h_v16 x0 x1 x2 x3 x4)
def h_v19 (x0 x1 x2 : Vec F S8192x16x64 .f32) (x3 : Vec F S8192x16 .f32) (x4 : Vec F S8192x16x64 .f32) : Vec F S8192x8192 .i1 := (cmpi .sge) (h_v17 x0 x1 x2 x3 x4) (h_v18 x0 x1 x2 x3 x4)
def h_v20 (x0 x1 x2 : Vec F S8192x16x64 .f32) (x3 : Vec F S8192x16 .f32) (x4 : Vec F S8192x16x64 .f32) : Vec F S16x8192x8192 .i1 := (broadcastInDim S16x8192x8192 ![1, 2] bcast_S8192x8192_S16x8192x8192_1_2) (h_v19 x0 x1 x2 x3 x4)
def h_cst_0 (x0 x1 x2 : Vec F S8192x16x64 .f32) (x3 : Vec F S8192x16 .f32) (x4 : Vec F S8192x16x64 .f32) : Vec F S_ .f32 := constant S_ .f32 0xFF800000#32
def h_v21 (x0 x1 x2 : Vec F S8192x16x64 .f32) (x3 : Vec F S8192x16 .f32) (x4 : Vec F S8192x16x64 .f32) : Vec F S16x8192x8192 .f32 := (broadcastInDim S16x8192x8192 ![] bcast_S_S16x8192x8192) (h_cst_0 x0 x1 x2 x3 x4)
def h_v22 (x0 x1 x2 : Vec F S8192x16x64 .f32) (x3 : Vec F S8192x16 .f32) (x4 : Vec F S8192x16x64 .f32) : Vec F S16x8192x8192 .f32 := (select) (h_v20 x0 x1 x2 x3 x4) (h_v13 x0 x1 x2 x3 x4) (h_v21 x0 x1 x2 x3 x4)
def h_cst_1 (x0 x1 x2 : Vec F S8192x16x64 .f32) (x3 : Vec F S8192x16 .f32) (x4 : Vec F S8192x16x64 .f32) : Vec F S_ .f32 := constant S_ .f32 0xFF800000#32
def h_v23 (x0 x1 x2 : Vec F S8192x16x64 .f32) (x3 : Vec F S8192x16 .f32) (x4 : Vec F S8192x16x64 .f32) : Vec F S16x8192 .f32 := ((fun x v => Host.reduce FloatOps.maximumf x v reducesTo_S16x8192x8192_S16x8192_d2 h_S_)) (h_v22 x0 x1 x2 x3 x4) (h_cst_1 x0 x1 x2 x3 x4)
def h_v24 (x0 x1 x2 : Vec F S8192x16x64 .f32) (x3 : Vec F S8192x16 .f32) (x4 : Vec F S8192x16x64 .f32) : Vec F S16x8192x1 .f32 := (broadcastInDim S16x8192x1 ![0, 1] bcast_S16x8192_S16x8192x1_0_1) (h_v23 x0 x1 x2 x3 x4)
def h_v25 (x0 x1 x2 : Vec F S8192x16x64 .f32) (x3 : Vec F S8192x16 .f32) (x4 : Vec F S8192x16x64 .f32) : Vec F S16x8192x8192 .f32 := (broadcastInDim S16x8192x8192 ![0, 1, 2] bcast_S16x8192x1_S16x8192x8192_0_1_2) (h_v24 x0 x1 x2 x3 x4)
def h_v26 (x0 x1 x2 : Vec F S8192x16x64 .f32) (x3 : Vec F S8192x16 .f32) (x4 : Vec F S8192x16x64 .f32) : Vec F S16x8192x8192 .f32 := (subf) (h_v22 x0 x1 x2 x3 x4) (h_v25 x0 x1 x2 x3 x4)
def h_v27 (x0 x1 x2 : Vec F S8192x16x64 .f32) (x3 : Vec F S8192x16 .f32) (x4 : Vec F S8192x16x64 .f32) : Vec F S16x8192x8192 .f32 := (Host.exp) (h_v26 x0 x1 x2 x3 x4)
def h_cst_2 (x0 x1 x2 : Vec F S8192x16x64 .f32) (x3 : Vec F S8192x16 .f32) (x4 : Vec F S8192x16x64 .f32) : Vec F S_ .f32 := constant S_ .f32 0x00000000#32
def h_v28 (x0 x1 x2 : Vec F S8192x16x64 .f32) (x3 : Vec F S8192x16 .f32) (x4 : Vec F S8192x16x64 .f32) : Vec F S16x8192 .f32 := ((fun x v => Host.reduceAdd x v reducesTo_S16x8192x8192_S16x8192_d2 h_S_)) (h_v27 x0 x1 x2 x3 x4) (h_cst_2 x0 x1 x2 x3 x4)
def h_v29 (x0 x1 x2 : Vec F S8192x16x64 .f32) (x3 : Vec F S8192x16 .f32) (x4 : Vec F S8192x16x64 .f32) : Vec F S16x8192x1 .f32 := (broadcastInDim S16x8192x1 ![0, 1] bcast_S16x8192_S16x8192x1_0_1) (h_v28 x0 x1 x2 x3 x4)
def h_v30 (x0 x1 x2 : Vec F S8192x16x64 .f32) (x3 : Vec F S8192x16 .f32) (x4 : Vec F S8192x16x64 .f32) : Vec F S16x8192x8192 .f32 := (broadcastInDim S16x8192x8192 ![0, 1, 2] bcast_S16x8192x1_S16x8192x8192_0_1_2) (h_v29 x0 x1 x2 x3 x4)
def h_v31 (x0 x1 x2 : Vec F S8192x16x64 .f32) (x3 : Vec F S8192x16 .f32) (x4 : Vec F S8192x16x64 .f32) : Vec F S16x8192x8192 .f32 := (Host.divf) (h_v27 x0 x1 x2 x3 x4) (h_v30 x0 x1 x2 x3 x4)
def h_v32 (x0 x1 x2 : Vec F S8192x16x64 .f32) (x3 : Vec F S8192x16 .f32) (x4 : Vec F S8192x16x64 .f32) : Vec F S16x8192x64 .f32 := ((fun l r => Host.dotGeneral dot_S16x8192x8192_S16x8192x64_S16x8192x64_2_1_1_2_0_0 none l r)) (h_v31 x0 x1 x2 x3 x4) (h_v2 x0 x1 x2 x3 x4)
def h_v33 (x0 x1 x2 : Vec F S8192x16x64 .f32) (x3 : Vec F S8192x16 .f32) (x4 : Vec F S8192x16x64 .f32) : Vec F S16x8192x64 .f32 := (mulf) (h_v3 x0 x1 x2 x3 x4) (h_v32 x0 x1 x2 x3 x4)
def h_cst_3 (x0 x1 x2 : Vec F S8192x16x64 .f32) (x3 : Vec F S8192x16 .f32) (x4 : Vec F S8192x16x64 .f32) : Vec F S_ .f32 := constant S_ .f32 0x00000000#32
def h_v34 (x0 x1 x2 : Vec F S8192x16x64 .f32) (x3 : Vec F S8192x16 .f32) (x4 : Vec F S8192x16x64 .f32) : Vec F S16x8192 .f32 := ((fun x v => Host.reduceAdd x v reducesTo_S16x8192x64_S16x8192_d2 h_S_)) (h_v33 x0 x1 x2 x3 x4) (h_cst_3 x0 x1 x2 x3 x4)
def h_v35 (x0 x1 x2 : Vec F S8192x16x64 .f32) (x3 : Vec F S8192x16 .f32) (x4 : Vec F S8192x16x64 .f32) : Vec F S16x8192x1 .f32 := (broadcastInDim S16x8192x1 ![0, 1] bcast_S16x8192_S16x8192x1_0_1) (h_v34 x0 x1 x2 x3 x4)
def h_v36 (x0 x1 x2 : Vec F S8192x16x64 .f32) (x3 : Vec F S8192x16 .f32) (x4 : Vec F S8192x16x64 .f32) : Vec F S16x8192x1 .f32 := (Host.log) (h_v29 x0 x1 x2 x3 x4)
def h_v37 (x0 x1 x2 : Vec F S8192x16x64 .f32) (x3 : Vec F S8192x16 .f32) (x4 : Vec F S8192x16x64 .f32) : Vec F S16x8192x1 .f32 := (addf) (h_v24 x0 x1 x2 x3 x4) (h_v36 x0 x1 x2 x3 x4)
def h_v38 (x0 x1 x2 : Vec F S8192x16x64 .f32) (x3 : Vec F S8192x16 .f32) (x4 : Vec F S8192x16x64 .f32) : Vec F S16x8192x1 .f32 := (broadcastInDim S16x8192x1 ![0, 1] bcast_S16x8192_S16x8192x1_0_1) (h_v4 x0 x1 x2 x3 x4)
def h_cst_4 (x0 x1 x2 : Vec F S8192x16x64 .f32) (x3 : Vec F S8192x16 .f32) (x4 : Vec F S8192x16x64 .f32) : Vec F S_ .f32 := constant S_ .f32 0x3F800000#32
def h_v39 (x0 x1 x2 : Vec F S8192x16x64 .f32) (x3 : Vec F S8192x16 .f32) (x4 : Vec F S8192x16x64 .f32) : Vec F S16x8192x3 .f32 := (broadcastInDim S16x8192x3 ![] bcast_S_S16x8192x3) (h_cst_4 x0 x1 x2 x3 x4)
def h_cst_5 (x0 x1 x2 : Vec F S8192x16x64 .f32) (x3 : Vec F S8192x16 .f32) (x4 : Vec F S8192x16x64 .f32) : Vec F S_ .f32 := constant S_ .f32 0x3E000000#32
def h_v40 (x0 x1 x2 : Vec F S8192x16x64 .f32) (x3 : Vec F S8192x16 .f32) (x4 : Vec F S8192x16x64 .f32) : Vec F S16x8192x64 .f32 := (broadcastInDim S16x8192x64 ![] bcast_S_S16x8192x64) (h_cst_5 x0 x1 x2 x3 x4)
def h_v41 (x0 x1 x2 : Vec F S8192x16x64 .f32) (x3 : Vec F S8192x16 .f32) (x4 : Vec F S8192x16x64 .f32) : Vec F S16x8192x64 .f32 := (mulf) (h_v0 x0 x1 x2 x3 x4) (h_v40 x0 x1 x2 x3 x4)
def h_v42 (x0 x1 x2 : Vec F S8192x16x64 .f32) (x3 : Vec F S8192x16 .f32) (x4 : Vec F S8192x16x64 .f32) : Vec F S16x8192x1 .f32 := (subf) (h_v38 x0 x1 x2 x3 x4) (h_v37 x0 x1 x2 x3 x4)
def h_v43 (x0 x1 x2 : Vec F S8192x16x64 .f32) (x3 : Vec F S8192x16 .f32) (x4 : Vec F S8192x16x64 .f32) : Vec F S16x8192x1 .bf16 := ((truncf .bf16 · bitsLt_bf16_f32)) (h_v42 x0 x1 x2 x3 x4)
def h_v44 (x0 x1 x2 : Vec F S8192x16x64 .f32) (x3 : Vec F S8192x16 .f32) (x4 : Vec F S8192x16x64 .f32) : Vec F S16x8192x1 .f32 := ((extf .f32 · bitsLt_bf16_f32)) (h_v43 x0 x1 x2 x3 x4)
def h_v45 (x0 x1 x2 : Vec F S8192x16x64 .f32) (x3 : Vec F S8192x16 .f32) (x4 : Vec F S8192x16x64 .f32) : Vec F S16x8192x1 .f32 := (subf) (h_v42 x0 x1 x2 x3 x4) (h_v44 x0 x1 x2 x3 x4)
def h_v46 (x0 x1 x2 : Vec F S8192x16x64 .f32) (x3 : Vec F S8192x16 .f32) (x4 : Vec F S8192x16x64 .f32) : Vec F S16x8192x1 .bf16 := ((truncf .bf16 · bitsLt_bf16_f32)) (h_v45 x0 x1 x2 x3 x4)
def h_v47 (x0 x1 x2 : Vec F S8192x16x64 .f32) (x3 : Vec F S8192x16 .f32) (x4 : Vec F S8192x16x64 .f32) : Vec F S16x8192x1 .f32 := ((extf .f32 · bitsLt_bf16_f32)) (h_v46 x0 x1 x2 x3 x4)
def h_v48 (x0 x1 x2 : Vec F S8192x16x64 .f32) (x3 : Vec F S8192x16 .f32) (x4 : Vec F S8192x16x64 .f32) : Vec F S16x8192x1 .f32 := (subf) (h_v45 x0 x1 x2 x3 x4) (h_v47 x0 x1 x2 x3 x4)
def h_v49 (x0 x1 x2 : Vec F S8192x16x64 .f32) (x3 : Vec F S8192x16 .f32) (x4 : Vec F S8192x16x64 .f32) : Vec F S16x8192x1 .bf16 := ((truncf .bf16 · bitsLt_bf16_f32)) (h_v48 x0 x1 x2 x3 x4)
def h_v50 (x0 x1 x2 : Vec F S8192x16x64 .f32) (x3 : Vec F S8192x16 .f32) (x4 : Vec F S8192x16x64 .f32) : Vec F S16x8192x1 .f32 := ((extf .f32 · bitsLt_bf16_f32)) (h_v49 x0 x1 x2 x3 x4)
def h_cst_6 (x0 x1 x2 : Vec F S8192x16x64 .f32) (x3 : Vec F S8192x16 .f32) (x4 : Vec F S8192x16x64 .f32) : Vec F S_ .f32 := constant S_ .f32 0x00000000#32
def h_v51 (x0 x1 x2 : Vec F S8192x16x64 .f32) (x3 : Vec F S8192x16 .f32) (x4 : Vec F S8192x16x64 .f32) : Vec F S16x8192x58 .f32 := (broadcastInDim S16x8192x58 ![] bcast_S_S16x8192x58) (h_cst_6 x0 x1 x2 x3 x4)
def h_v52 (x0 x1 x2 : Vec F S8192x16x64 .f32) (x3 : Vec F S8192x16 .f32) (x4 : Vec F S8192x16x64 .f32) : Vec F S16x8192x128 .f32 := concatenate S16x8192x128 2 [⟨S16x8192x64, (h_v41 x0 x1 x2 x3 x4)⟩, ⟨S16x8192x1, (h_v44 x0 x1 x2 x3 x4)⟩, ⟨S16x8192x1, (h_v47 x0 x1 x2 x3 x4)⟩, ⟨S16x8192x1, (h_v50 x0 x1 x2 x3 x4)⟩, ⟨S16x8192x3, (h_v39 x0 x1 x2 x3 x4)⟩, ⟨S16x8192x58, (h_v51 x0 x1 x2 x3 x4)⟩] concatenates_S16x8192x64_S16x8192x1_S16x8192x1_S16x8192x1_S16x8192x3_S16x8192x58_S16x8192x128_d2
def h_v53 (x0 x1 x2 : Vec F S8192x16x64 .f32) (x3 : Vec F S8192x16 .f32) (x4 : Vec F S8192x16x64 .f32) : Vec F S16x8192x128 .bf16 := ((truncf .bf16 · bitsLt_bf16_f32)) (h_v52 x0 x1 x2 x3 x4)
def h_v54 (x0 x1 x2 : Vec F S8192x16x64 .f32) (x3 : Vec F S8192x16 .f32) (x4 : Vec F S8192x16x64 .f32) : Vec F S16x8192x1 .f32 := (Host.negf) (h_v38 x0 x1 x2 x3 x4)
def h_v55 (x0 x1 x2 : Vec F S8192x16x64 .f32) (x3 : Vec F S8192x16 .f32) (x4 : Vec F S8192x16x64 .f32) : Vec F S16x8192x1 .bf16 := ((truncf .bf16 · bitsLt_bf16_f32)) (h_v54 x0 x1 x2 x3 x4)
def h_v56 (x0 x1 x2 : Vec F S8192x16x64 .f32) (x3 : Vec F S8192x16 .f32) (x4 : Vec F S8192x16x64 .f32) : Vec F S16x8192x1 .f32 := ((extf .f32 · bitsLt_bf16_f32)) (h_v55 x0 x1 x2 x3 x4)
def h_v57 (x0 x1 x2 : Vec F S8192x16x64 .f32) (x3 : Vec F S8192x16 .f32) (x4 : Vec F S8192x16x64 .f32) : Vec F S16x8192x1 .f32 := (subf) (h_v54 x0 x1 x2 x3 x4) (h_v56 x0 x1 x2 x3 x4)
def h_v58 (x0 x1 x2 : Vec F S8192x16x64 .f32) (x3 : Vec F S8192x16 .f32) (x4 : Vec F S8192x16x64 .f32) : Vec F S16x8192x1 .bf16 := ((truncf .bf16 · bitsLt_bf16_f32)) (h_v57 x0 x1 x2 x3 x4)
def h_v59 (x0 x1 x2 : Vec F S8192x16x64 .f32) (x3 : Vec F S8192x16 .f32) (x4 : Vec F S8192x16x64 .f32) : Vec F S16x8192x1 .f32 := ((extf .f32 · bitsLt_bf16_f32)) (h_v58 x0 x1 x2 x3 x4)
def h_v60 (x0 x1 x2 : Vec F S8192x16x64 .f32) (x3 : Vec F S8192x16 .f32) (x4 : Vec F S8192x16x64 .f32) : Vec F S16x8192x1 .f32 := (subf) (h_v57 x0 x1 x2 x3 x4) (h_v59 x0 x1 x2 x3 x4)
def h_v61 (x0 x1 x2 : Vec F S8192x16x64 .f32) (x3 : Vec F S8192x16 .f32) (x4 : Vec F S8192x16x64 .f32) : Vec F S16x8192x1 .bf16 := ((truncf .bf16 · bitsLt_bf16_f32)) (h_v60 x0 x1 x2 x3 x4)
def h_v62 (x0 x1 x2 : Vec F S8192x16x64 .f32) (x3 : Vec F S8192x16 .f32) (x4 : Vec F S8192x16x64 .f32) : Vec F S16x8192x1 .f32 := ((extf .f32 · bitsLt_bf16_f32)) (h_v61 x0 x1 x2 x3 x4)
def h_cst_7 (x0 x1 x2 : Vec F S8192x16x64 .f32) (x3 : Vec F S8192x16 .f32) (x4 : Vec F S8192x16x64 .f32) : Vec F S_ .f32 := constant S_ .f32 0x00000000#32
def h_v63 (x0 x1 x2 : Vec F S8192x16x64 .f32) (x3 : Vec F S8192x16 .f32) (x4 : Vec F S8192x16x64 .f32) : Vec F S16x8192x58 .f32 := (broadcastInDim S16x8192x58 ![] bcast_S_S16x8192x58) (h_cst_7 x0 x1 x2 x3 x4)
def h_v64 (x0 x1 x2 : Vec F S8192x16x64 .f32) (x3 : Vec F S8192x16 .f32) (x4 : Vec F S8192x16x64 .f32) : Vec F S16x8192x128 .f32 := concatenate S16x8192x128 2 [⟨S16x8192x64, (h_v1 x0 x1 x2 x3 x4)⟩, ⟨S16x8192x3, (h_v39 x0 x1 x2 x3 x4)⟩, ⟨S16x8192x1, (h_v56 x0 x1 x2 x3 x4)⟩, ⟨S16x8192x1, (h_v59 x0 x1 x2 x3 x4)⟩, ⟨S16x8192x1, (h_v62 x0 x1 x2 x3 x4)⟩, ⟨S16x8192x58, (h_v63 x0 x1 x2 x3 x4)⟩] concatenates_S16x8192x64_S16x8192x3_S16x8192x1_S16x8192x1_S16x8192x1_S16x8192x58_S16x8192x128_d2
def h_v65 (x0 x1 x2 : Vec F S8192x16x64 .f32) (x3 : Vec F S8192x16 .f32) (x4 : Vec F S8192x16x64 .f32) : Vec F S16x8192x128 .bf16 := ((truncf .bf16 · bitsLt_bf16_f32)) (h_v64 x0 x1 x2 x3 x4)
def h_cst_8 (x0 x1 x2 : Vec F S8192x16x64 .f32) (x3 : Vec F S8192x16 .f32) (x4 : Vec F S8192x16x64 .f32) : Vec F S_ .f32 := constant S_ .f32 0x00000000#32
def h_v66 (x0 x1 x2 : Vec F S8192x16x64 .f32) (x3 : Vec F S8192x16 .f32) (x4 : Vec F S8192x16x64 .f32) : Vec F S16x8192x61 .f32 := (broadcastInDim S16x8192x61 ![] bcast_S_S16x8192x61) (h_cst_8 x0 x1 x2 x3 x4)
def h_v67 (x0 x1 x2 : Vec F S8192x16x64 .f32) (x3 : Vec F S8192x16 .f32) (x4 : Vec F S8192x16x64 .f32) : Vec F S16x8192x128 .f32 := concatenate S16x8192x128 2 [⟨S16x8192x64, (h_v2 x0 x1 x2 x3 x4)⟩, ⟨S16x8192x3, (h_v39 x0 x1 x2 x3 x4)⟩, ⟨S16x8192x61, (h_v66 x0 x1 x2 x3 x4)⟩] concatenates_S16x8192x64_S16x8192x3_S16x8192x61_S16x8192x128_d2
def h_v68 (x0 x1 x2 : Vec F S8192x16x64 .f32) (x3 : Vec F S8192x16 .f32) (x4 : Vec F S8192x16x64 .f32) : Vec F S16x8192x128 .bf16 := ((truncf .bf16 · bitsLt_bf16_f32)) (h_v67 x0 x1 x2 x3 x4)
def h_v69 (x0 x1 x2 : Vec F S8192x16x64 .f32) (x3 : Vec F S8192x16 .f32) (x4 : Vec F S8192x16x64 .f32) : Vec F S16x8192x1 .f32 := (Host.negf) (h_v35 x0 x1 x2 x3 x4)
def h_v70 (x0 x1 x2 : Vec F S8192x16x64 .f32) (x3 : Vec F S8192x16 .f32) (x4 : Vec F S8192x16x64 .f32) : Vec F S16x8192x1 .bf16 := ((truncf .bf16 · bitsLt_bf16_f32)) (h_v69 x0 x1 x2 x3 x4)
def h_v71 (x0 x1 x2 : Vec F S8192x16x64 .f32) (x3 : Vec F S8192x16 .f32) (x4 : Vec F S8192x16x64 .f32) : Vec F S16x8192x1 .f32 := ((extf .f32 · bitsLt_bf16_f32)) (h_v70 x0 x1 x2 x3 x4)
def h_v72 (x0 x1 x2 : Vec F S8192x16x64 .f32) (x3 : Vec F S8192x16 .f32) (x4 : Vec F S8192x16x64 .f32) : Vec F S16x8192x1 .f32 := (subf) (h_v69 x0 x1 x2 x3 x4) (h_v71 x0 x1 x2 x3 x4)
def h_v73 (x0 x1 x2 : Vec F S8192x16x64 .f32) (x3 : Vec F S8192x16 .f32) (x4 : Vec F S8192x16x64 .f32) : Vec F S16x8192x1 .bf16 := ((truncf .bf16 · bitsLt_bf16_f32)) (h_v72 x0 x1 x2 x3 x4)
def h_v74 (x0 x1 x2 : Vec F S8192x16x64 .f32) (x3 : Vec F S8192x16 .f32) (x4 : Vec F S8192x16x64 .f32) : Vec F S16x8192x1 .f32 := ((extf .f32 · bitsLt_bf16_f32)) (h_v73 x0 x1 x2 x3 x4)
def h_v75 (x0 x1 x2 : Vec F S8192x16x64 .f32) (x3 : Vec F S8192x16 .f32) (x4 : Vec F S8192x16x64 .f32) : Vec F S16x8192x1 .f32 := (subf) (h_v72 x0 x1 x2 x3 x4) (h_v74 x0 x1 x2 x3 x4)
def h_v76 (x0 x1 x2 : Vec F S8192x16x64 .f32) (x3 : Vec F S8192x16 .f32) (x4 : Vec F S8192x16x64 .f32) : Vec F S16x8192x1 .bf16 := ((truncf .bf16 · bitsLt_bf16_f32)) (h_v75 x0 x1 x2 x3 x4)
def h_v77 (x0 x1 x2 : Vec F S8192x16x64 .f32) (x3 : Vec F S8192x16 .f32) (x4 : Vec F S8192x16x64 .f32) : Vec F S16x8192x1 .f32 := ((extf .f32 · bitsLt_bf16_f32)) (h_v76 x0 x1 x2 x3 x4)
def h_cst_9 (x0 x1 x2 : Vec F S8192x16x64 .f32) (x3 : Vec F S8192x16 .f32) (x4 : Vec F S8192x16x64 .f32) : Vec F S_ .f32 := constant S_ .f32 0x00000000#32
def h_v78 (x0 x1 x2 : Vec F S8192x16x64 .f32) (x3 : Vec F S8192x16 .f32) (x4 : Vec F S8192x16x64 .f32) : Vec F S16x8192x61 .f32 := (broadcastInDim S16x8192x61 ![] bcast_S_S16x8192x61) (h_cst_9 x0 x1 x2 x3 x4)
def h_v79 (x0 x1 x2 : Vec F S8192x16x64 .f32) (x3 : Vec F S8192x16 .f32) (x4 : Vec F S8192x16x64 .f32) : Vec F S16x8192x128 .f32 := concatenate S16x8192x128 2 [⟨S16x8192x64, (h_v3 x0 x1 x2 x3 x4)⟩, ⟨S16x8192x1, (h_v71 x0 x1 x2 x3 x4)⟩, ⟨S16x8192x1, (h_v74 x0 x1 x2 x3 x4)⟩, ⟨S16x8192x1, (h_v77 x0 x1 x2 x3 x4)⟩, ⟨S16x8192x61, (h_v78 x0 x1 x2 x3 x4)⟩] concatenates_S16x8192x64_S16x8192x1_S16x8192x1_S16x8192x1_S16x8192x61_S16x8192x128_d2
def h_v80 (x0 x1 x2 : Vec F S8192x16x64 .f32) (x3 : Vec F S8192x16 .f32) (x4 : Vec F S8192x16x64 .f32) : Vec F S16x8192x128 .bf16 := ((truncf .bf16 · bitsLt_bf16_f32)) (h_v79 x0 x1 x2 x3 x4)

variable (m : (ℓ : Loc nD τ sig) → Buf (Elt F) ℓ)

/-- A concatenation read piece by piece. -/
theorem concat_congr {α : Type} {t : Shape} {a : Fin t.rank} {xs ys : List ((s : Shape) × (s.Idx → α))} (e : xs = ys)
    (h : t.Concatenates (xs.map Sigma.fst) a) (h' : t.Concatenates (ys.map Sigma.fst) a) : concatenate t a xs h = concatenate t a ys h' := by
  subst e; rfl
theorem piece_congr {α : Type} {s : Shape} {x y : s.Idx → α} {l l' : List ((s : Shape) × (s.Idx → α))} (e : x = y) (el : l = l') :
    (⟨s, x⟩ : (s : Shape) × (s.Idx → α)) :: l = ⟨s, y⟩ :: l' := by
  subst e; subst el; rfl

set_option maxRecDepth 100000 in
set_option maxHeartbeats 4000000 in
/-- The scaled queries laid out in lanes, as the region finds them. -/
theorem V_v53 (c : Dev nD) : V m c main_v53 = h_v53 (m ((c : Thread nD τ).loc main_arg0)) (m ((c : Thread nD τ).loc main_arg1)) (m ((c : Thread nD τ).loc main_arg2)) (m ((c : Thread nD τ).loc main_arg3)) (m ((c : Thread nD τ).loc main_arg4)) := by
  unfold_abbrev_sides
  after_results
  refine congrArg (truncf .bf16 · bitsLt_bf16_f32) (concat_congr ?_ _ _)
  refine piece_congr ?_ ?_
  · change StableHlo.after [] (HloOp.result _ _) (Proc.devRef .tc main_v41) = _
    after_results
    try rfl
  refine piece_congr ?_ ?_
  · change StableHlo.after [] (HloOp.result _ _) (Proc.devRef .tc main_v44) = _
    after_results
    try rfl
  refine piece_congr ?_ ?_
  · change StableHlo.after [] (HloOp.result _ _) (Proc.devRef .tc main_v47) = _
    after_results
    try rfl
  refine piece_congr ?_ ?_
  · change StableHlo.after [] (HloOp.result _ _) (Proc.devRef .tc main_v50) = _
    after_results
    try rfl
  refine piece_congr ?_ ?_
  · change StableHlo.after [] (HloOp.result _ _) (Proc.devRef .tc main_v39) = _
    after_results
    try rfl
  refine piece_congr ?_ ?_
  · change StableHlo.after [] (HloOp.result _ _) (Proc.devRef .tc main_v51) = _
    after_results
    try rfl
  rfl
set_option maxRecDepth 100000 in
set_option maxHeartbeats 4000000 in
/-- The cotangents laid out in lanes, as the region finds them. -/
theorem V_v80 (c : Dev nD) : V m c main_v80 = h_v80 (m ((c : Thread nD τ).loc main_arg0)) (m ((c : Thread nD τ).loc main_arg1)) (m ((c : Thread nD τ).loc main_arg2)) (m ((c : Thread nD τ).loc main_arg3)) (m ((c : Thread nD τ).loc main_arg4)) := by
  unfold_abbrev_sides
  after_results
  refine congrArg (truncf .bf16 · bitsLt_bf16_f32) (concat_congr ?_ _ _)
  refine piece_congr ?_ ?_
  · change StableHlo.after [] (HloOp.result _ _) (Proc.devRef .tc main_v3) = _
    after_results
    try rfl
  refine piece_congr ?_ ?_
  · change StableHlo.after [] (HloOp.result _ _) (Proc.devRef .tc main_v71) = _
    after_results
    try rfl
  refine piece_congr ?_ ?_
  · change StableHlo.after [] (HloOp.result _ _) (Proc.devRef .tc main_v74) = _
    after_results
    try rfl
  refine piece_congr ?_ ?_
  · change StableHlo.after [] (HloOp.result _ _) (Proc.devRef .tc main_v77) = _
    after_results
    try rfl
  refine piece_congr ?_ ?_
  · change StableHlo.after [] (HloOp.result _ _) (Proc.devRef .tc main_v78) = _
    after_results
    try rfl
  rfl
set_option maxRecDepth 100000 in
set_option maxHeartbeats 4000000 in
/-- The keys laid out in lanes, as the region finds them. -/
theorem V_v65 (c : Dev nD) : V m c main_v65 = h_v65 (m ((c : Thread nD τ).loc main_arg0)) (m ((c : Thread nD τ).loc main_arg1)) (m ((c : Thread nD τ).loc main_arg2)) (m ((c : Thread nD τ).loc main_arg3)) (m ((c : Thread nD τ).loc main_arg4)) := by
  unfold_abbrev_sides
  after_results
  refine congrArg (truncf .bf16 · bitsLt_bf16_f32) (concat_congr ?_ _ _)
  refine piece_congr ?_ ?_
  · change StableHlo.after [] (HloOp.result _ _) (Proc.devRef .tc main_v1) = _
    after_results
    try rfl
  refine piece_congr ?_ ?_
  · change StableHlo.after [] (HloOp.result _ _) (Proc.devRef .tc main_v39) = _
    after_results
    try rfl
  refine piece_congr ?_ ?_
  · change StableHlo.after [] (HloOp.result _ _) (Proc.devRef .tc main_v56) = _
    after_results
    try rfl
  refine piece_congr ?_ ?_
  · change StableHlo.after [] (HloOp.result _ _) (Proc.devRef .tc main_v59) = _
    after_results
    try rfl
  refine piece_congr ?_ ?_
  · change StableHlo.after [] (HloOp.result _ _) (Proc.devRef .tc main_v62) = _
    after_results
    try rfl
  refine piece_congr ?_ ?_
  · change StableHlo.after [] (HloOp.result _ _) (Proc.devRef .tc main_v63) = _
    after_results
    try rfl
  rfl
set_option maxRecDepth 100000 in
set_option maxHeartbeats 4000000 in
/-- The values laid out in lanes, as the region finds them. -/
theorem V_v68 (c : Dev nD) : V m c main_v68 = h_v68 (m ((c : Thread nD τ).loc main_arg0)) (m ((c : Thread nD τ).loc main_arg1)) (m ((c : Thread nD τ).loc main_arg2)) (m ((c : Thread nD τ).loc main_arg3)) (m ((c : Thread nD τ).loc main_arg4)) := by
  unfold_abbrev_sides
  after_results
  refine congrArg (truncf .bf16 · bitsLt_bf16_f32) (concat_congr ?_ _ _)
  refine piece_congr ?_ ?_
  · change StableHlo.after [] (HloOp.result _ _) (Proc.devRef .tc main_v2) = _
    after_results
    try rfl
  refine piece_congr ?_ ?_
  · change StableHlo.after [] (HloOp.result _ _) (Proc.devRef .tc main_v39) = _
    after_results
    try rfl
  refine piece_congr ?_ ?_
  · change StableHlo.after [] (HloOp.result _ _) (Proc.devRef .tc main_v66) = _
    after_results
    try rfl
  rfl

end Cert.KernelIdeal.Att

end
-- ==== Proof.Real.lean ====
/- The real numbers behind the two programs: the forgetting attention of one sequence, head by head, its derivative in
   closed form, and the sums over the lanes that carry it. -/
module

public import Idealize.ShloMosaic.PureOps.Ideal.Laws
public import Idealize.ShloMosaic.Lib.IdealHost
public import Mathlib.Analysis.SpecialFunctions.Log.Basic

@[expose] public section

noncomputable section

namespace Cert.Att

open Idealize.ShloMosaic
open scoped BigOperators

/-! ## Extended reals that are real -/

theorem sum_coe {ι : Type} [Fintype ι] {f : ι → EReal} {g : ι → ℝ} (h : ∀ i, f i = (g i : EReal)) :
    ∑ i, f i = ((∑ i, g i : ℝ) : EReal) := by
  classical
  rw [Finset.sum_congr rfl fun i _ => h i]
  induction (Finset.univ : Finset ι) using Finset.induction_on with
  | empty => simp
  | insert a s ha ih => rw [Finset.sum_insert ha, Finset.sum_insert ha, ih, EReal.coe_add]

theorem mul_coe {x y : EReal} {a b : ℝ} (h : x = (a : EReal)) (h' : y = (b : EReal)) : x * y = ((a * b : ℝ) : EReal) := by
  rw [h, h', EReal.coe_mul]
theorem add_coe {x y : EReal} {a b : ℝ} (h : x = (a : EReal)) (h' : y = (b : EReal)) : x + y = ((a + b : ℝ) : EReal) := by
  rw [h, h', EReal.coe_add]
theorem sub_coe {x y : EReal} {a b : ℝ} (h : x = (a : EReal)) (h' : y = (b : EReal)) : x - y = ((a - b : ℝ) : EReal) := by
  rw [h, h', EReal.coe_sub]
theorem neg_coe {x : EReal} {a : ℝ} (h : x = (a : EReal)) : -x = ((-a : ℝ) : EReal) := by
  rw [h, EReal.coe_neg]
theorem div_coe {x y : EReal} {a b : ℝ} (h : x = (a : EReal)) (h' : y = (b : EReal)) (hb : b ≠ 0) : Ideal.div x y = ((a / b : ℝ) : EReal) := by
  rw [h, h', Ideal.div_coe hb, ← EReal.coe_mul, mul_one_div]
theorem zero_coe : (0 : EReal) = ((0 : ℝ) : EReal) := EReal.coe_zero.symm
theorem one_coe : (1 : EReal) = ((1 : ℝ) : EReal) := EReal.coe_one.symm
/-- The eighth, the scale of the scores. -/
theorem eighth : Ideal.ofBits .f32 0x3E000000#32 = ((1 / 8 : ℝ) : EReal) := by
  simp [Ideal.ofBits, Ideal.ieee, -EReal.coe_mul]; norm_num
theorem one_f32 : Ideal.ofBits .f32 0x3F800000#32 = ((1 : ℝ) : EReal) := by rw [Ideal.ofBits_one_f32, one_coe]
theorem zero_f32 : Ideal.ofBits .f32 0x00000000#32 = ((0 : ℝ) : EReal) := by rw [Ideal.ofBits_zero_f32, zero_coe]
/-- The mask. -/
theorem bot_f32 : Ideal.ofBits .f32 0xFF800000#32 = (⊥ : EReal) := by
  simp [Ideal.ofBits, Ideal.ieee]

/-- The greatest of numbers that are real or the mask, one of them real, is real. -/
theorem fold_max_coe {n : ℕ} (f : Fin n → EReal) (hf : ∀ k, f k = ⊥ ∨ ∃ r : ℝ, f k = r) (k₀ : Fin n) (h₀ : f k₀ ≠ ⊥) :
    ∃ r : ℝ, (Finset.univ : Finset (Fin n)).fold max ⊥ f = r := by
  have hb : ∀ s : Finset (Fin n), s.fold max ⊥ f ≠ ⊤ := fun s => by
    induction s using Finset.induction_on with
    | empty => simp
    | insert a s ha ih =>
      rw [Finset.fold_insert ha]
      rcases max_choice (f a) (s.fold max ⊥ f) with e | e <;> rw [e]
      · rcases hf a with e' | ⟨r, e'⟩ <;> rw [e']
        · exact bot_ne_top
        · exact EReal.coe_ne_top r
      · exact ih
  have hl : f k₀ ≤ (Finset.univ : Finset (Fin n)).fold max ⊥ f := (Finset.le_fold_max _).mpr (Or.inr ⟨k₀, Finset.mem_univ _, le_rfl⟩)
  exact ⟨_, (EReal.coe_toReal (hb _) (fun e => h₀ (le_bot_iff.mp (e ▸ hl)))).symm⟩

/-! ## The attention and its derivative -/

section
variable (Q K V D : Fin 16 → Fin 8192 → Fin 64 → ℝ) (C M : Fin 16 → Fin 8192 → ℝ)

/-- The score of query `q` and key `k` under the decay. -/
def sc (h : Fin 16) (q k : Fin 8192) : ℝ := (∑ d, Q h q d * K h k d) * (1 / 8) + C h q - C h k
/-- Its exponential from the shift `M` of the row, no key after the query. -/
def ex (h : Fin 16) (q k : Fin 8192) : ℝ := if k ≤ q then Real.exp (sc Q K C h q k - M h q) else 0
def zz (h : Fin 16) (q : Fin 8192) : ℝ := ∑ k, ex Q K C M h q k
/-- The weight of the key. -/
def wt (h : Fin 16) (q k : Fin 8192) : ℝ := ex Q K C M h q k / zz Q K C M h q
/-- The cotangent of the weight. -/
def dw (h : Fin 16) (q k : Fin 8192) : ℝ := ∑ d, D h q d * V h k d
def dl (h : Fin 16) (q : Fin 8192) : ℝ := ∑ k, wt Q K C M h q k * dw V D h q k
/-- The cotangent of the score. -/
def ds (h : Fin 16) (q k : Fin 8192) : ℝ := wt Q K C M h q k * (dw V D h q k - dl Q K V D C M h q)

theorem ex_nonneg (h : Fin 16) (q k : Fin 8192) : 0 ≤ ex Q K C M h q k := by
  unfold ex; split
  · exact (Real.exp_pos _).le
  · exact le_rfl

theorem zz_pos (h : Fin 16) (q : Fin 8192) : 0 < zz Q K C M h q :=
  Finset.sum_pos' (fun k _ => ex_nonneg Q K C M h q k) ⟨q, Finset.mem_univ _, by unfold ex; rw [if_pos le_rfl]; exact Real.exp_pos _⟩

/-- The weight as the exponential of the score less the row's logarithmic sum. -/
theorem wt_eq (h : Fin 16) (q k : Fin 8192) :
    wt Q K C M h q k = if k ≤ q then Real.exp (sc Q K C h q k - (M h q + Real.log (zz Q K C M h q))) else 0 := by
  have hz := zz_pos Q K C M h q
  unfold wt
  rw [ex]
  split
  · rw [← sub_sub, Real.exp_sub _ (Real.log _), Real.exp_log hz]
  · exact zero_div _

/-- The row's products by its cotangent, summed over the lanes first. -/
theorem dl_eq (h : Fin 16) (q : Fin 8192) : dl Q K V D C M h q = ∑ d, D h q d * ∑ k, wt Q K C M h q k * V h k d := by
  unfold dl dw
  rw [Finset.sum_congr rfl fun k _ => Finset.mul_sum _ _ _, Finset.sum_comm]
  refine Finset.sum_congr rfl fun d _ => ?_
  rw [Finset.mul_sum]
  exact Finset.sum_congr rfl fun k _ => by ring

/-- The derivative of the softmax as the chain rule leaves it. -/
theorem ds_eq (h : Fin 16) (q k : Fin 8192) :
    (dw V D h q k / zz Q K C M h q + -(∑ k', dw V D h q k' * (1 / (zz Q K C M h q * zz Q K C M h q)) * ex Q K C M h q k')) * ex Q K C M h q k
      = ds Q K V D C M h q k := by
  have hz := (zz_pos Q K C M h q).ne'
  have e : ∑ k', dw V D h q k' * (1 / (zz Q K C M h q * zz Q K C M h q)) * ex Q K C M h q k' = dl Q K V D C M h q / zz Q K C M h q := by
    unfold dl wt
    rw [Finset.sum_div]
    refine Finset.sum_congr rfl fun k' _ => ?_
    field_simp
  rw [e]
  unfold ds wt
  field_simp
  ring

theorem ds_zero (h : Fin 16) (q k : Fin 8192) (hk : ¬k ≤ q) : ds Q K V D C M h q k = 0 := by
  unfold ds; rw [wt_eq, if_neg hk, zero_mul]

/-- The four gradients. -/
def gQ (h : Fin 16) (q : Fin 8192) (d : Fin 64) : ℝ := (∑ k, ds Q K V D C M h q k * K h k d) * (1 / 8)
def gK (h : Fin 16) (k : Fin 8192) (d : Fin 64) : ℝ := ∑ q, ds Q K V D C M h q k * (Q h q d * (1 / 8))
def gV (h : Fin 16) (k : Fin 8192) (d : Fin 64) : ℝ := ∑ q, wt Q K C M h q k * D h q d
def gC (h : Fin 16) (r : Fin 8192) : ℝ := -(∑ q, ds Q K V D C M h q r) + ∑ k, ds Q K V D C M h r k

end

/-! ## Lanes -/

/-- A row of lanes: 64 numbers, six more, and zeros. -/
def lane (x : Fin 64 → ℝ) (a b c a' b' c' : ℝ) (l : Fin 128) : ℝ :=
  if h : l.val < 64 then x ⟨l.val, h⟩ else if l.val = 64 then a else if l.val = 65 then b else if l.val = 66 then c
  else if l.val = 67 then a' else if l.val = 68 then b' else if l.val = 69 then c' else 0

theorem lane_lo (x : Fin 64 → ℝ) (a b c a' b' c' : ℝ) (l : Fin 128) (h : l.val < 64) : lane x a b c a' b' c' l = x ⟨l.val, h⟩ := dif_pos h

/-- The product of two rows of lanes. -/
theorem sum_lane (x y : Fin 64 → ℝ) (a b c a' b' c' p r s p' r' s' : ℝ) :
    ∑ l, lane x a b c a' b' c' l * lane y p r s p' r' s' l = ∑ d, x d * y d + (a * p + b * r + c * s + a' * p' + b' * r' + c' * s') := by
  rw [show (∑ l : Fin 128, lane x a b c a' b' c' l * lane y p r s p' r' s' l) = _ from Fin.sum_univ_add (a := 64) (b := 64) _]
  refine congrArg₂ (· + ·) (Finset.sum_congr rfl fun d _ => ?_) ?_
  · rw [lane_lo _ _ _ _ _ _ _ _ d.isLt, lane_lo _ _ _ _ _ _ _ _ d.isLt]; rfl
  · rw [show (∑ i : Fin 64, lane x a b c a' b' c' (Fin.natAdd 64 i) * lane y p r s p' r' s' (Fin.natAdd 64 i)) = _ from Fin.sum_univ_add (a := 6) (b := 58) _, Fin.sum_univ_six,
      Finset.sum_eq_zero (s := (Finset.univ : Finset (Fin 58)))]
    · simp [lane]
    · intro i _
      have hn : ∀ n, n < 70 → ¬ (64 + (6 + i.val) = n) := fun n hn => by omega
      have h1 : ¬ (64 + (6 + i.val) < 64) := by omega
      have : lane x a b c a' b' c' (Fin.natAdd 64 (Fin.natAdd 6 i)) = 0 := by
        unfold lane
        simp only [Fin.val_natAdd]
        rw [dif_neg h1, if_neg (hn _ (by decide)), if_neg (hn _ (by decide)), if_neg (hn _ (by decide)), if_neg (hn _ (by decide)), if_neg (hn _ (by decide)), if_neg (hn _ (by decide))]
      rw [this, zero_mul]

end Cert.Att

end
-- ==== Proof.KernelIdeal.Cat.lean ====
/- Concatenations along the lanes, read: the layouts of the rows that the region is handed. -/
module

public import proofs.«01_k».proof.Proof.KernelIdeal.Host
public import proofs.«01_k».proof.Proof.Real
public import Idealize.ShloMosaic.Lib.Pipeline.Value

@[expose] public section

set_option maxRecDepth 4096

noncomputable section

namespace Cert.KernelIdeal.Att

open Cert.KernelIdeal.Gen Cert.Att
open Idealize.ShloMosaic Idealize.ShloMosaic.TcCoe Idealize.ShloMosaic.ValueIdx

/-- One piece of a concatenation along the lanes. -/
theorem piece {α : Type} {xs : List ((s : Shape) × (s.Idx → α))} {hc : Shape.Concatenates (xs.map (·.1)) S16x8192x128 2} (h : Fin 16) (q : Fin 8192) (l : Fin 128)
    (k : ℕ) (hk : k < xs.length) (n : ℕ) (x : (⟨3, ![16, 8192, n]⟩ : Shape).Idx → α) (hx : xs[k] = ⟨⟨3, ![16, 8192, n]⟩, x⟩) (pre : ℕ)
    (hpre : (((xs.take k).map (·.1)).map fun s => if h : s.rank = S16x8192x128.rank then s.size ((2 : Fin S16x8192x128.rank).cast h.symm) else 0).sum = pre)
    (e : Fin n) (ha : pre + e.val = l.val) {r : α} (hr : x (ix3 h q e) = r) : concatenate S16x8192x128 2 xs hc (ix3 h q l) = r := by
  refine (concatenate_apply_piece 2 xs hc (ix3 h q l) k hk _ x hx rfl pre hpre (ix3 h q e) (fun b hb => ?_) ha).trans hr
  match b with
  | ⟨0, _⟩ => rfl
  | ⟨1, _⟩ => rfl
  | ⟨2, _⟩ => exact absurd rfl hb

/-- Rows, three numbers one by one, three together, and zeros. -/
theorem catQ (y0 : (⟨3, ![16, 8192, 64]⟩ : Shape).Idx → EReal) (y1 : (⟨3, ![16, 8192, 1]⟩ : Shape).Idx → EReal) (y2 : (⟨3, ![16, 8192, 1]⟩ : Shape).Idx → EReal) (y3 : (⟨3, ![16, 8192, 1]⟩ : Shape).Idx → EReal) (y4 : (⟨3, ![16, 8192, 3]⟩ : Shape).Idx → EReal) (y5 : (⟨3, ![16, 8192, 58]⟩ : Shape).Idx → EReal) (hc : Shape.Concatenates (List.map (fun z : (s : Shape) × (s.Idx → EReal) => z.1) [⟨⟨3, ![16, 8192, 64]⟩, y0⟩, ⟨⟨3, ![16, 8192, 1]⟩, y1⟩, ⟨⟨3, ![16, 8192, 1]⟩, y2⟩, ⟨⟨3, ![16, 8192, 1]⟩, y3⟩, ⟨⟨3, ![16, 8192, 3]⟩, y4⟩, ⟨⟨3, ![16, 8192, 58]⟩, y5⟩]) S16x8192x128 2) (h : Fin 16) (q : Fin 8192) (x : Fin 64 → ℝ) (a b c a' b' c' : ℝ)
    (e0 : ∀ d, y0 (ix3 h q d) = ((x d : ℝ) : EReal)) (e1 : y1 (ix3 h q (0 : Fin 1)) = ((a : ℝ) : EReal)) (e2 : y2 (ix3 h q (0 : Fin 1)) = ((b : ℝ) : EReal)) (e3 : y3 (ix3 h q (0 : Fin 1)) = ((c : ℝ) : EReal)) (e40 : y4 (ix3 h q (0 : Fin 3)) = ((a' : ℝ) : EReal)) (e41 : y4 (ix3 h q (1 : Fin 3)) = ((b' : ℝ) : EReal)) (e42 : y4 (ix3 h q (2 : Fin 3)) = ((c' : ℝ) : EReal)) (e5 : ∀ d, y5 (ix3 h q d) = ((0 : ℝ) : EReal)) (l : Fin 128) :
    concatenate S16x8192x128 2 [⟨⟨3, ![16, 8192, 64]⟩, y0⟩, ⟨⟨3, ![16, 8192, 1]⟩, y1⟩, ⟨⟨3, ![16, 8192, 1]⟩, y2⟩, ⟨⟨3, ![16, 8192, 1]⟩, y3⟩, ⟨⟨3, ![16, 8192, 3]⟩, y4⟩, ⟨⟨3, ![16, 8192, 58]⟩, y5⟩] hc (ix3 h q l) = ((lane x a b c a' b' c' l : ℝ) : EReal) := by
  have hl := l.isLt
  unfold lane
  by_cases g : l.val < 64
  · rw [dif_pos g]
    exact piece h q l 0 (by show 0 < 6; decide) 64 y0 rfl 0 rfl ⟨l.val, g⟩ (Nat.zero_add _) (e0 _)
  rw [dif_neg g]
  by_cases g64 : l.val = 64
  · rw [if_pos g64]
    exact piece h q l 1 (by show 1 < 6; decide) 1 y1 rfl 64 rfl (0 : Fin 1) (by rw [g64]; rfl) e1
  rw [if_neg g64]
  by_cases g65 : l.val = 65
  · rw [if_pos g65]
    exact piece h q l 2 (by show 2 < 6; decide) 1 y2 rfl 65 rfl (0 : Fin 1) (by rw [g65]; rfl) e2
  rw [if_neg g65]
  by_cases g66 : l.val = 66
  · rw [if_pos g66]
    exact piece h q l 3 (by show 3 < 6; decide) 1 y3 rfl 66 rfl (0 : Fin 1) (by rw [g66]; rfl) e3
  rw [if_neg g66]
  by_cases g67 : l.val = 67
  · rw [if_pos g67]
    exact piece h q l 4 (by show 4 < 6; decide) 3 y4 rfl 67 rfl (0 : Fin 3) (by rw [g67]; rfl) e40
  rw [if_neg g67]
  by_cases g68 : l.val = 68
  · rw [if_pos g68]
    exact piece h q l 4 (by show 4 < 6; decide) 3 y4 rfl 67 rfl (1 : Fin 3) (by rw [g68]; rfl) e41
  rw [if_neg g68]
  by_cases g69 : l.val = 69
  · rw [if_pos g69]
    exact piece h q l 4 (by show 4 < 6; decide) 3 y4 rfl 67 rfl (2 : Fin 3) (by rw [g69]; rfl) e42
  rw [if_neg g69]
  exact piece h q l 5 (by show 5 < 6; decide) 58 y5 rfl 70 rfl ⟨l.val - 70, by omega⟩ (by show 70 + (l.val - 70) = l.val; omega) (e5 _)

/-- Rows, three numbers together, three one by one, and zeros. -/
theorem catK (y0 : (⟨3, ![16, 8192, 64]⟩ : Shape).Idx → EReal) (y1 : (⟨3, ![16, 8192, 3]⟩ : Shape).Idx → EReal) (y2 : (⟨3, ![16, 8192, 1]⟩ : Shape).Idx → EReal) (y3 : (⟨3, ![16, 8192, 1]⟩ : Shape).Idx → EReal) (y4 : (⟨3, ![16, 8192, 1]⟩ : Shape).Idx → EReal) (y5 : (⟨3, ![16, 8192, 58]⟩ : Shape).Idx → EReal) (hc : Shape.Concatenates (List.map (fun z : (s : Shape) × (s.Idx → EReal) => z.1) [⟨⟨3, ![16, 8192, 64]⟩, y0⟩, ⟨⟨3, ![16, 8192, 3]⟩, y1⟩, ⟨⟨3, ![16, 8192, 1]⟩, y2⟩, ⟨⟨3, ![16, 8192, 1]⟩, y3⟩, ⟨⟨3, ![16, 8192, 1]⟩, y4⟩, ⟨⟨3, ![16, 8192, 58]⟩, y5⟩]) S16x8192x128 2) (h : Fin 16) (q : Fin 8192) (x : Fin 64 → ℝ) (a b c a' b' c' : ℝ)
    (e0 : ∀ d, y0 (ix3 h q d) = ((x d : ℝ) : EReal)) (e10 : y1 (ix3 h q (0 : Fin 3)) = ((a : ℝ) : EReal)) (e11 : y1 (ix3 h q (1 : Fin 3)) = ((b : ℝ) : EReal)) (e12 : y1 (ix3 h q (2 : Fin 3)) = ((c : ℝ) : EReal)) (e2 : y2 (ix3 h q (0 : Fin 1)) = ((a' : ℝ) : EReal)) (e3 : y3 (ix3 h q (0 : Fin 1)) = ((b' : ℝ) : EReal)) (e4 : y4 (ix3 h q (0 : Fin 1)) = ((c' : ℝ) : EReal)) (e5 : ∀ d, y5 (ix3 h q d) = ((0 : ℝ) : EReal)) (l : Fin 128) :
    concatenate S16x8192x128 2 [⟨⟨3, ![16, 8192, 64]⟩, y0⟩, ⟨⟨3, ![16, 8192, 3]⟩, y1⟩, ⟨⟨3, ![16, 8192, 1]⟩, y2⟩, ⟨⟨3, ![16, 8192, 1]⟩, y3⟩, ⟨⟨3, ![16, 8192, 1]⟩, y4⟩, ⟨⟨3, ![16, 8192, 58]⟩, y5⟩] hc (ix3 h q l) = ((lane x a b c a' b' c' l : ℝ) : EReal) := by
  have hl := l.isLt
  unfold lane
  by_cases g : l.val < 64
  · rw [dif_pos g]
    exact piece h q l 0 (by show 0 < 6; decide) 64 y0 rfl 0 rfl ⟨l.val, g⟩ (Nat.zero_add _) (e0 _)
  rw [dif_neg g]
  by_cases g64 : l.val = 64
  · rw [if_pos g64]
    exact piece h q l 1 (by show 1 < 6; decide) 3 y1 rfl 64 rfl (0 : Fin 3) (by rw [g64]; rfl) e10
  rw [if_neg g64]
  by_cases g65 : l.val = 65
  · rw [if_pos g65]
    exact piece h q l 1 (by show 1 < 6; decide) 3 y1 rfl 64 rfl (1 : Fin 3) (by rw [g65]; rfl) e11
  rw [if_neg g65]
  by_cases g66 : l.val = 66
  · rw [if_pos g66]
    exact piece h q l 1 (by show 1 < 6; decide) 3 y1 rfl 64 rfl (2 : Fin 3) (by rw [g66]; rfl) e12
  rw [if_neg g66]
  by_cases g67 : l.val = 67
  · rw [if_pos g67]
    exact piece h q l 2 (by show 2 < 6; decide) 1 y2 rfl 67 rfl (0 : Fin 1) (by rw [g67]; rfl) e2
  rw [if_neg g67]
  by_cases g68 : l.val = 68
  · rw [if_pos g68]
    exact piece h q l 3 (by show 3 < 6; decide) 1 y3 rfl 68 rfl (0 : Fin 1) (by rw [g68]; rfl) e3
  rw [if_neg g68]
  by_cases g69 : l.val = 69
  · rw [if_pos g69]
    exact piece h q l 4 (by show 4 < 6; decide) 1 y4 rfl 69 rfl (0 : Fin 1) (by rw [g69]; rfl) e4
  rw [if_neg g69]
  exact piece h q l 5 (by show 5 < 6; decide) 58 y5 rfl 70 rfl ⟨l.val - 70, by omega⟩ (by show 70 + (l.val - 70) = l.val; omega) (e5 _)

/-- Rows, three numbers together, and zeros. -/
theorem catV (y0 : (⟨3, ![16, 8192, 64]⟩ : Shape).Idx → EReal) (y1 : (⟨3, ![16, 8192, 3]⟩ : Shape).Idx → EReal) (y2 : (⟨3, ![16, 8192, 61]⟩ : Shape).Idx → EReal) (hc : Shape.Concatenates (List.map (fun z : (s : Shape) × (s.Idx → EReal) => z.1) [⟨⟨3, ![16, 8192, 64]⟩, y0⟩, ⟨⟨3, ![16, 8192, 3]⟩, y1⟩, ⟨⟨3, ![16, 8192, 61]⟩, y2⟩]) S16x8192x128 2) (h : Fin 16) (q : Fin 8192) (x : Fin 64 → ℝ) (a b c : ℝ)
    (e0 : ∀ d, y0 (ix3 h q d) = ((x d : ℝ) : EReal)) (e10 : y1 (ix3 h q (0 : Fin 3)) = ((a : ℝ) : EReal)) (e11 : y1 (ix3 h q (1 : Fin 3)) = ((b : ℝ) : EReal)) (e12 : y1 (ix3 h q (2 : Fin 3)) = ((c : ℝ) : EReal)) (e2 : ∀ d, y2 (ix3 h q d) = ((0 : ℝ) : EReal)) (l : Fin 128) :
    concatenate S16x8192x128 2 [⟨⟨3, ![16, 8192, 64]⟩, y0⟩, ⟨⟨3, ![16, 8192, 3]⟩, y1⟩, ⟨⟨3, ![16, 8192, 61]⟩, y2⟩] hc (ix3 h q l) = ((lane x a b c 0 0 0 l : ℝ) : EReal) := by
  have hl := l.isLt
  unfold lane
  by_cases g : l.val < 64
  · rw [dif_pos g]
    exact piece h q l 0 (by show 0 < 3; decide) 64 y0 rfl 0 rfl ⟨l.val, g⟩ (Nat.zero_add _) (e0 _)
  rw [dif_neg g]
  by_cases g64 : l.val = 64
  · rw [if_pos g64]
    exact piece h q l 1 (by show 1 < 3; decide) 3 y1 rfl 64 rfl (0 : Fin 3) (by rw [g64]; rfl) e10
  rw [if_neg g64]
  by_cases g65 : l.val = 65
  · rw [if_pos g65]
    exact piece h q l 1 (by show 1 < 3; decide) 3 y1 rfl 64 rfl (1 : Fin 3) (by rw [g65]; rfl) e11
  rw [if_neg g65]
  by_cases g66 : l.val = 66
  · rw [if_pos g66]
    exact piece h q l 1 (by show 1 < 3; decide) 3 y1 rfl 64 rfl (2 : Fin 3) (by rw [g66]; rfl) e12
  rw [if_neg g66]
  by_cases g67 : l.val = 67
  · rw [if_pos g67]
    exact piece h q l 2 (by show 2 < 3; decide) 61 y2 rfl 67 rfl (0 : Fin 61) (by rw [g67]; rfl) (e2 _)
  rw [if_neg g67]
  by_cases g68 : l.val = 68
  · rw [if_pos g68]
    exact piece h q l 2 (by show 2 < 3; decide) 61 y2 rfl 67 rfl (1 : Fin 61) (by rw [g68]; rfl) (e2 _)
  rw [if_neg g68]
  by_cases g69 : l.val = 69
  · rw [if_pos g69]
    exact piece h q l 2 (by show 2 < 3; decide) 61 y2 rfl 67 rfl (2 : Fin 61) (by rw [g69]; rfl) (e2 _)
  rw [if_neg g69]
  exact piece h q l 2 (by show 2 < 3; decide) 61 y2 rfl 67 rfl ⟨l.val - 67, by omega⟩ (by show 67 + (l.val - 67) = l.val; omega) (e2 _)

/-- Rows, three numbers one by one, and zeros. -/
theorem catO (y0 : (⟨3, ![16, 8192, 64]⟩ : Shape).Idx → EReal) (y1 : (⟨3, ![16, 8192, 1]⟩ : Shape).Idx → EReal) (y2 : (⟨3, ![16, 8192, 1]⟩ : Shape).Idx → EReal) (y3 : (⟨3, ![16, 8192, 1]⟩ : Shape).Idx → EReal) (y4 : (⟨3, ![16, 8192, 61]⟩ : Shape).Idx → EReal) (hc : Shape.Concatenates (List.map (fun z : (s : Shape) × (s.Idx → EReal) => z.1) [⟨⟨3, ![16, 8192, 64]⟩, y0⟩, ⟨⟨3, ![16, 8192, 1]⟩, y1⟩, ⟨⟨3, ![16, 8192, 1]⟩, y2⟩, ⟨⟨3, ![16, 8192, 1]⟩, y3⟩, ⟨⟨3, ![16, 8192, 61]⟩, y4⟩]) S16x8192x128 2) (h : Fin 16) (q : Fin 8192) (x : Fin 64 → ℝ) (a b c : ℝ)
    (e0 : ∀ d, y0 (ix3 h q d) = ((x d : ℝ) : EReal)) (e1 : y1 (ix3 h q (0 : Fin 1)) = ((a : ℝ) : EReal)) (e2 : y2 (ix3 h q (0 : Fin 1)) = ((b : ℝ) : EReal)) (e3 : y3 (ix3 h q (0 : Fin 1)) = ((c : ℝ) : EReal)) (e4 : ∀ d, y4 (ix3 h q d) = ((0 : ℝ) : EReal)) (l : Fin 128) :
    concatenate S16x8192x128 2 [⟨⟨3, ![16, 8192, 64]⟩, y0⟩, ⟨⟨3, ![16, 8192, 1]⟩, y1⟩, ⟨⟨3, ![16, 8192, 1]⟩, y2⟩, ⟨⟨3, ![16, 8192, 1]⟩, y3⟩, ⟨⟨3, ![16, 8192, 61]⟩, y4⟩] hc (ix3 h q l) = ((lane x a b c 0 0 0 l : ℝ) : EReal) := by
  have hl := l.isLt
  unfold lane
  by_cases g : l.val < 64
  · rw [dif_pos g]
    exact piece h q l 0 (by show 0 < 5; decide) 64 y0 rfl 0 rfl ⟨l.val, g⟩ (Nat.zero_add _) (e0 _)
  rw [dif_neg g]
  by_cases g64 : l.val = 64
  · rw [if_pos g64]
    exact piece h q l 1 (by show 1 < 5; decide) 1 y1 rfl 64 rfl (0 : Fin 1) (by rw [g64]; rfl) e1
  rw [if_neg g64]
  by_cases g65 : l.val = 65
  · rw [if_pos g65]
    exact piece h q l 2 (by show 2 < 5; decide) 1 y2 rfl 65 rfl (0 : Fin 1) (by rw [g65]; rfl) e2
  rw [if_neg g65]
  by_cases g66 : l.val = 66
  · rw [if_pos g66]
    exact piece h q l 3 (by show 3 < 5; decide) 1 y3 rfl 66 rfl (0 : Fin 1) (by rw [g66]; rfl) e3
  rw [if_neg g66]
  by_cases g67 : l.val = 67
  · rw [if_pos g67]
    exact piece h q l 4 (by show 4 < 5; decide) 61 y4 rfl 67 rfl (0 : Fin 61) (by rw [g67]; rfl) (e4 _)
  rw [if_neg g67]
  by_cases g68 : l.val = 68
  · rw [if_pos g68]
    exact piece h q l 4 (by show 4 < 5; decide) 61 y4 rfl 67 rfl (1 : Fin 61) (by rw [g68]; rfl) (e4 _)
  rw [if_neg g68]
  by_cases g69 : l.val = 69
  · rw [if_pos g69]
    exact piece h q l 4 (by show 4 < 5; decide) 61 y4 rfl 67 rfl (2 : Fin 61) (by rw [g69]; rfl) (e4 _)
  rw [if_neg g69]
  exact piece h q l 4 (by show 4 < 5; decide) 61 y4 rfl 67 rfl ⟨l.val - 67, by omega⟩ (by show 67 + (l.val - 67) = l.val; omega) (e4 _)

end Cert.KernelIdeal.Att

end
-- ==== Proof.Ref.Value.lean ====
/- The reference at real arguments: each array that its results depend on, entry by entry, as a real number. -/
module

public import proofs.«01_k».proof.Proof.Ref.Base
public import proofs.«01_k».proof.Proof.Real
public import Idealize.ShloMosaic.Lib.KernelVsHost
public import Idealize.ShloMosaic.Lib.WordCmp

@[expose] public section

noncomputable section

namespace Cert.ReferenceIdeal.Att

open Cert.ReferenceIdeal.Gen Cert.ReferenceIdeal.Read Cert.Att
open Idealize.ShloMosaic Idealize.ShloMosaic.TcCoe Idealize.ShloMosaic.ValueIdx
open scoped BigOperators

theorem ext1 {n : ℕ} {i j : (⟨1, ![n]⟩ : Shape).Idx} (h : (i 0).val = (j 0).val) : i = j := funext fun a => Fin.ext (by
  match a with
  | ⟨0, _⟩ => exact h)
theorem ext2 {n n' : ℕ} {i j : (⟨2, ![n, n']⟩ : Shape).Idx} (h : (i 0).val = (j 0).val) (h' : (i 1).val = (j 1).val) : i = j := funext fun a => Fin.ext (by
  match a with
  | ⟨0, _⟩ => exact h
  | ⟨1, _⟩ => exact h')
theorem ext3 {n n' n'' : ℕ} {i j : (⟨3, ![n, n', n'']⟩ : Shape).Idx} (h : (i 0).val = (j 0).val) (h' : (i 1).val = (j 1).val) (h'' : (i 2).val = (j 2).val) : i = j :=
  funext fun a => Fin.ext (by
    match a with
    | ⟨0, _⟩ => exact h
    | ⟨1, _⟩ => exact h'
    | ⟨2, _⟩ => exact h'')

/-- An array read at an index given by its coordinates. -/
theorem at2 {n n' : ℕ} {r : EReal} (f : (⟨2, ![n, n']⟩ : Shape).Idx → EReal) {i j : (⟨2, ![n, n']⟩ : Shape).Idx} (e : f j = r)
    (h : (i 0).val = (j 0).val := by rfl) (h' : (i 1).val = (j 1).val := by rfl) : f i = r := (congrArg f (ext2 h h')).trans e
theorem at3 {n n' n'' : ℕ} {r : EReal} (f : (⟨3, ![n, n', n'']⟩ : Shape).Idx → EReal) {i j : (⟨3, ![n, n', n'']⟩ : Shape).Idx} (e : f j = r)
    (h : (i 0).val = (j 0).val := by rfl) (h' : (i 1).val = (j 1).val := by rfl) (h'' : (i 2).val = (j 2).val := by rfl) : f i = r :=
  (congrArg f (ext3 h h' h'')).trans e

theorem sum_one {f : Fin 1 → EReal} {r : EReal} (e : f 0 = r) : ∑ k, f k = r := (Fin.sum_univ_one f).trans e

variable (x0 x1 x2 x4 : (⟨S8192x16x64, .f32⟩ : BufTy).Contents (Elt Ideal)) (x3 : (⟨S8192x16, .f32⟩ : BufTy).Contents (Elt Ideal))

/-- The arguments are real: the queries, keys, values and cotangents, head by head, and the cumulated decay. -/
structure Real5 (Q K V D : Fin 16 → Fin 8192 → Fin 64 → ℝ) (C : Fin 16 → Fin 8192 → ℝ) : Prop where
  q : ∀ s h d, (x0 (ix3 s h d) : EReal) = (Q h s d : EReal)
  k : ∀ s h d, (x1 (ix3 s h d) : EReal) = (K h s d : EReal)
  v : ∀ s h d, (x2 (ix3 s h d) : EReal) = (V h s d : EReal)
  c : ∀ s h, (x3 (ix2 s h) : EReal) = (C h s : EReal)
  o : ∀ s h d, (x4 (ix3 s h d) : EReal) = (D h s d : EReal)

variable {x0 x1 x2 x4 x3} {Q K V D : Fin 16 → Fin 8192 → Fin 64 → ℝ} {C M : Fin 16 → Fin 8192 → ℝ} (H : Real5 x0 x1 x2 x4 x3 Q K V D C)
include H

theorem r0 (h : Fin 16) (q : Fin 8192) (d : Fin 64) : (val_main_v0 (F := Ideal) x0 (ix3 h q d) : EReal) = (Q h q d : EReal) :=
  (val_main_v0_apply x0 _).trans (at3 x0 (H.q q h d))
theorem r1 (h : Fin 16) (q : Fin 8192) (d : Fin 64) : (val_main_v1 (F := Ideal) x1 (ix3 h q d) : EReal) = (K h q d : EReal) :=
  (val_main_v1_apply x1 _).trans (at3 x1 (H.k q h d))
theorem r2 (h : Fin 16) (q : Fin 8192) (d : Fin 64) : (val_main_v2 (F := Ideal) x2 (ix3 h q d) : EReal) = (V h q d : EReal) :=
  (val_main_v2_apply x2 _).trans (at3 x2 (H.v q h d))
theorem r53 (h : Fin 16) (q : Fin 8192) (d : Fin 64) : (val_main_v53 (F := Ideal) x4 (ix3 h q d) : EReal) = (D h q d : EReal) :=
  (val_main_v53_apply x4 _).trans (at3 x4 (H.o q h d))
theorem r3 (h : Fin 16) (q : Fin 8192) : (val_main_v3 (F := Ideal) x3 (ix2 h q) : EReal) = (C h q : EReal) :=
  (val_main_v3_apply x3 _).trans (at2 x3 (H.c q h))

theorem r4 (h : Fin 16) (q k : Fin 8192) : (val_main_v4 (F := Ideal) x0 x1 (ix3 h q k) : EReal) = ((∑ d, Q h q d * K h k d : ℝ) : EReal) :=
  (val_main_v4_apply x0 x1 _).trans (sum_coe fun d => mul_coe (at3 _ (r0 H h q d)) (at3 _ (r1 H h k d)))
theorem r12 (h : Fin 16) (q k : Fin 8192) : (val_main_v12 (F := Ideal) x0 x1 x3 (ix3 h q k) : EReal) = (sc Q K C h q k : EReal) := by
  have e5 : (val_main_v5 (F := Ideal) (ix3 h q k) : EReal) = ((1 / 8 : ℝ) : EReal) := (val_main_v5_apply _).trans eighth
  have e8 : (val_main_v8 (F := Ideal) x3 (ix3 h q k) : EReal) = (C h q : EReal) :=
    (val_main_v8_apply x3 _).trans ((val_main_v7_apply x3 _).trans (at2 _ (r3 H h q)))
  have e11 : (val_main_v11 (F := Ideal) x3 (ix3 h q k) : EReal) = (C h k : EReal) :=
    (val_main_v11_apply x3 _).trans ((val_main_v10_apply x3 _).trans (at2 _ (r3 H h k)))
  have := sub_coe (add_coe (mul_coe (r4 H h q k) e5) e8) e11
  rw [val_main_v12_apply, val_main_v9_apply, val_main_v6_apply]
  exact this

omit H in
/-- The mask. -/
theorem r19 (h : Fin 16) (q k : Fin 8192) : val_main_v19 (F := Ideal) (ix3 h q k) = BitVec.ofBool (decide (k ≤ q)) := by
  have e : val_main_v19 (F := Ideal) (ix3 h q k) = IntOp.cmpi .sge (BitVec.ofNat 32 q.val) (BitVec.ofNat 32 k.val) := by
    rw [val_main_v19_apply, val_main_v18_apply, val_main_v16_apply, val_main_v14_apply, val_main_v17_apply, val_main_v15_apply]; rfl
  rw [e, WordCmp.cmpi_sge_ofNat (Nat.lt_trans q.isLt (by decide)) (Nat.lt_trans k.isLt (by decide))]
  rfl

theorem r21 (h : Fin 16) (q k : Fin 8192) : (val_main_v21 (F := Ideal) x0 x1 x3 (ix3 h q k) : EReal) = if k ≤ q then (sc Q K C h q k : EReal) else ⊥ := by
  rw [val_main_v21_apply, r19]
  by_cases hk : k ≤ q
  · rw [if_pos hk, decide_eq_true hk]; exact r12 H h q k
  · rw [if_neg hk, decide_eq_false hk]; exact ((val_main_v20_apply _).trans bot_f32 : (val_main_v20 (F := Ideal) (ix3 h q k) : EReal) = ⊥)

/-- The greatest score of each row is real. -/
theorem r23 : ∃ M : Fin 16 → Fin 8192 → ℝ, ∀ h q, (val_main_v23 (F := Ideal) x0 x1 x3 (ix2 h q) : EReal) = (M h q : EReal) := by
  have key : ∀ h q, ∃ r : ℝ, (val_main_v23 (F := Ideal) x0 x1 x3 (ix2 h q) : EReal) = (r : EReal) := fun h q => by
    have hr : S16x8192x8192.Reduces [2] S16x8192 := by decide
    have e := congrFun (hostReduce_maximumf_eq_multiReduction (F := Ideal) (val_main_v21 (F := Ideal) x0 x1 x3) (0xFF800000#32 : BitVec FTy.f32.bits) reducesTo_S16x8192x8192_S16x8192_d2 h_S_
      hr (by decide : FKind.Formats .f32) rfl) (ix2 h q)
    have e' := Ideal.multiReduction_maximumf_single (val_main_v21 (F := Ideal) x0 x1 x3) (0xFF800000#32 : BitVec FTy.f32.bits) hr (by decide : FKind.Formats .f32) rfl (ix2 h q)
    have hl : ∀ k : Fin 8192, (val_main_v21 (F := Ideal) x0 x1 x3 (hr.lift (ix2 h q) k) : EReal) = if k ≤ q then (sc Q K C h q k : EReal) else ⊥ := fun k =>
      (congrArg (val_main_v21 (F := Ideal) x0 x1 x3) (ext3 rfl rfl rfl : hr.lift (ix2 h q) k = ix3 h q k)).trans (r21 H h q k)
    obtain ⟨r, hM⟩ := fold_max_coe (n := 8192) (fun k => (val_main_v21 (F := Ideal) x0 x1 x3 (hr.lift (ix2 h q) k) : EReal))
      (fun k => by rw [hl]; split; exacts [Or.inr ⟨_, rfl⟩, Or.inl rfl]) q (by rw [hl, if_pos le_rfl]; exact EReal.coe_ne_bot _)
    refine ⟨r, (e.trans e').trans ?_⟩
    rw [← hM, ← bot_f32]; rfl
  choose M hM using key
  exact ⟨M, hM⟩

variable (hM : ∀ h q, (val_main_v23 (F := Ideal) x0 x1 x3 (ix2 h q) : EReal) = (M h q : EReal))
include hM

theorem r43 (h : Fin 16) (q k : Fin 8192) : (val_main_v43 (F := Ideal) x0 x1 x3 (ix3 h q k) : EReal) = (ex Q K C M h q k : EReal) := by
  have e30 : (val_main_v30 (F := Ideal) x0 x1 x3 (ix2 h q) : EReal) = (M h q : EReal) := by
    have e29 : (val_main_v29 (F := Ideal) (ix2 h q) : EReal) = ⊥ := (val_main_v29_apply _).trans bot_f32
    have : (val_main_v30 (F := Ideal) x0 x1 x3 (ix2 h q) : EReal) = max (val_main_v29 (F := Ideal) (ix2 h q) : EReal) (val_main_v23 (F := Ideal) x0 x1 x3 (ix2 h q)) := val_main_v30_apply x0 x1 x3 _
    rw [this, e29, hM]; exact max_eq_right bot_le
  have e41 : (val_main_v41 (F := Ideal) x0 x1 x3 (ix3 h q k) : EReal) = (M h q : EReal) :=
    (val_main_v41_apply x0 x1 x3 _).trans ((val_main_v40_apply x0 x1 x3 _).trans (at2 _ e30))
  have e : (val_main_v43 (F := Ideal) x0 x1 x3 (ix3 h q k) : EReal)
      = Ideal.exp ((val_main_v21 (F := Ideal) x0 x1 x3 (ix3 h q k) : EReal) - (val_main_v41 (F := Ideal) x0 x1 x3 (ix3 h q k) : EReal)) := by
    rw [val_main_v43_apply, val_main_v42_apply]; rfl
  rw [e, e41, r21 H]
  unfold ex
  split
  · rw [← EReal.coe_sub]; rfl
  · rw [EReal.bot_sub, Ideal.exp_bot, zero_coe]

theorem r44 (h : Fin 16) (q : Fin 8192) : (val_main_v44 (F := Ideal) x0 x1 x3 (ix2 h q) : EReal) = (zz Q K C M h q : EReal) := by
  rw [val_main_v44_apply]
  refine (add_coe zero_f32 (sum_coe fun k => at3 _ (r43 H hM h q k))).trans ?_
  rw [zero_add]; rfl
theorem r45 (h : Fin 16) (q : Fin 8192) : (val_main_v45 (F := Ideal) x0 x1 x3 (ix3 h q (0 : Fin 1)) : EReal) = (zz Q K C M h q : EReal) :=
  (val_main_v45_apply x0 x1 x3 _).trans (at2 _ (r44 H hM h q))
theorem r47 (h : Fin 16) (q k : Fin 8192) : (val_main_v47 (F := Ideal) x0 x1 x3 (ix3 h q k) : EReal) = (wt Q K C M h q k : EReal) := by
  have e46 : (val_main_v46 (F := Ideal) x0 x1 x3 (ix3 h q k) : EReal) = (zz Q K C M h q : EReal) :=
    (val_main_v46_apply x0 x1 x3 _).trans (at3 _ (r45 H hM h q))
  have := div_coe (r43 H hM h q k) e46 (zz_pos Q K C M h q).ne'
  rw [val_main_v47_apply]
  exact this

omit hM in
theorem r56 (h : Fin 16) (q k : Fin 8192) : (val_main_v56 (F := Ideal) x2 x4 (ix3 h q k) : EReal) = (dw V D h q k : EReal) :=
  (val_main_v56_apply x2 x4 _).trans (sum_coe fun d => mul_coe (at3 _ (r53 H h q d)) (at3 _ (r2 H h k d)))

theorem r59 (h : Fin 16) (q k : Fin 8192) : (val_main_v59 (F := Ideal) x0 x1 x2 x3 x4 (ix3 h q k) : EReal)
    = ((dw V D h q k * (1 / (zz Q K C M h q * zz Q K C M h q)) * ex Q K C M h q k : ℝ) : EReal) := by
  have hz := (zz_pos Q K C M h q).ne'
  have e49 : (val_main_v49 (F := Ideal) (ix3 h q (0 : Fin 1)) : EReal) = ((1 : ℝ) : EReal) := (val_main_v49_apply _).trans one_f32
  have e50 := div_coe e49 (mul_coe (r45 H hM h q) (r45 H hM h q)) (mul_ne_zero hz hz)
  have e50' : (val_main_v50 (F := Ideal) x0 x1 x3 (ix3 h q (0 : Fin 1)) : EReal) = ((1 / (zz Q K C M h q * zz Q K C M h q) : ℝ) : EReal) := by
    rw [val_main_v50_apply, val_main_v48_apply]; exact e50
  have e57 : (val_main_v57 (F := Ideal) x0 x1 x3 (ix3 h q k) : EReal) = ((1 / (zz Q K C M h q * zz Q K C M h q) : ℝ) : EReal) :=
    (val_main_v57_apply x0 x1 x3 _).trans (at3 _ e50')
  have := mul_coe (mul_coe (r56 H h q k) e57) (r43 H hM h q k)
  rw [val_main_v59_apply, val_main_v58_apply]
  exact this

theorem r62 (h : Fin 16) (q : Fin 8192) : (val_main_v62 (F := Ideal) x0 x1 x2 x3 x4 (ix3 h q (0 : Fin 1)) : EReal)
    = ((-(∑ k', dw V D h q k' * (1 / (zz Q K C M h q * zz Q K C M h q)) * ex Q K C M h q k') : ℝ) : EReal) := by
  have e60 : (val_main_v60 (F := Ideal) x0 x1 x2 x3 x4 (ix2 h q) : EReal)
      = ((∑ k', dw V D h q k' * (1 / (zz Q K C M h q * zz Q K C M h q)) * ex Q K C M h q k' : ℝ) : EReal) := by
    rw [val_main_v60_apply]
    refine (add_coe zero_f32 (sum_coe fun k => at3 _ (r59 H hM h q k))).trans ?_
    rw [zero_add]
  have hq := q.isLt
  have hh := h.isLt
  have e61 : (val_main_v61 (F := Ideal) x0 x1 x2 x3 x4 (ix3 h q (0 : Fin 1)) : EReal) = _ :=
    (val_main_v61_apply x0 x1 x2 x3 x4 _).trans (at2 _ e60 (by show ((h.val * 8192 + q.val) * 1 + 0) / 8192 = h.val; omega) (by show ((h.val * 8192 + q.val) * 1 + 0) % 8192 = q.val; omega))
  have := neg_coe e61
  rw [val_main_v62_apply]
  exact this

/-- The cotangent of the scores. -/
theorem r70 (h : Fin 16) (q k : Fin 8192) : (val_main_v70 (F := Ideal) x0 x1 x2 x3 x4 (ix3 h q k) : EReal) = (ds Q K V D C M h q k : EReal) := by
  rw [val_main_v70_apply, r19]
  by_cases hk : k ≤ q
  · rw [decide_eq_true hk]
    have e63 : (val_main_v63 (F := Ideal) x0 x1 x3 (ix3 h q k) : EReal) = (zz Q K C M h q : EReal) :=
      (val_main_v63_apply x0 x1 x3 _).trans (at3 _ (r45 H hM h q))
    have e65 : (val_main_v65 (F := Ideal) x0 x1 x2 x3 x4 (ix2 h q) : EReal) = ((-(∑ k', dw V D h q k' * (1 / (zz Q K C M h q * zz Q K C M h q)) * ex Q K C M h q k') : ℝ) : EReal) := by
      rw [val_main_v65_apply]
      refine (add_coe zero_f32 (sum_one (f := fun k => (val_main_v62 (F := Ideal) x0 x1 x2 x3 x4 (idx_main_v65 (ix2 h q) k) : EReal)) (at3 _ (r62 H hM h q)))).trans ?_
      rw [zero_add]
    have e66 : (val_main_v66 (F := Ideal) x0 x1 x2 x3 x4 (ix3 h q k) : EReal) = ((-(∑ k', dw V D h q k' * (1 / (zz Q K C M h q * zz Q K C M h q)) * ex Q K C M h q k') : ℝ) : EReal) :=
      (val_main_v66_apply x0 x1 x2 x3 x4 _).trans (at2 _ e65)
    have := mul_coe (add_coe (div_coe (r56 H h q k) e63 (zz_pos Q K C M h q).ne') e66) (r43 H hM h q k)
    rw [ds_eq] at this
    show (val_main_v68 (F := Ideal) x0 x1 x2 x3 x4 (ix3 h q k) : EReal) = _
    rw [val_main_v68_apply, val_main_v67_apply, val_main_v64_apply]
    exact this
  · rw [decide_eq_false hk, ds_zero Q K V D C M h q k hk]
    exact ((val_main_v69_apply _).trans zero_f32 : (val_main_v69 (F := Ideal) (ix3 h q k) : EReal) = _)

theorem r80 (h : Fin 16) (q k : Fin 8192) : (val_main_v80 (F := Ideal) x0 x1 x2 x3 x4 (ix3 h q k) : EReal) = ((ds Q K V D C M h q k * (1 / 8) : ℝ) : EReal) := by
  have e79 : (val_main_v79 (F := Ideal) (ix3 h q k) : EReal) = ((1 / 8 : ℝ) : EReal) := (val_main_v79_apply _).trans eighth
  have := mul_coe (r70 H hM h q k) e79
  rw [val_main_v80_apply]
  exact this

/-- The queries' gradient. -/
theorem r88 (s : Fin 8192) (y : Fin 1024) (h : Fin 16) (d : Fin 64) (hy : y.val = 64 * h.val + d.val) :
    (val_main_v88 (F := Ideal) x0 x1 x2 x3 x4 (ix2 s y) : EReal) = (gQ Q K V D C M h s d : EReal) := by
  have hs := s.isLt
  have hh := h.isLt
  have hd := d.isLt
  have e82 : (val_main_v82 (F := Ideal) x0 x1 x2 x3 x4 (ix3 h s d) : EReal) = (gQ Q K V D C M h s d : EReal) := by
    refine ((val_main_v82_apply x0 x1 x2 x3 x4 _).trans (sum_coe fun k => mul_coe (at3 (val_main_v80 (F := Ideal) x0 x1 x2 x3 x4) (r80 H hM h s k)) (at3 (val_main_v1 (F := Ideal) x1) (r1 H h k d)))).trans ?_
    unfold gQ
    rw [Finset.sum_mul]
    exact congrArg _ (Finset.sum_congr rfl fun k _ => by ring)
  have e86 : (val_main_v86 (F := Ideal) x0 x1 x2 x3 x4 (ix3 s h d) : EReal) = (gQ Q K V D C M h s d : EReal) :=
    (val_main_v86_apply x0 x1 x2 x3 x4 _).trans (at3 _ e82)
  refine (val_main_v88_apply x0 x1 x2 x3 x4 _).trans ((val_main_v87_apply x0 x1 x2 x3 x4 _).trans (at3 _ e86 ?_ ?_ ?_))
  · show (s.val * 1024 + y.val) / 1024 = s.val; omega
  · show (s.val * 1024 + y.val) / 64 % 16 = h.val; omega
  · show (s.val * 1024 + y.val) % 64 = d.val; omega

/-- The keys' gradient. -/
theorem r90 (s : Fin 8192) (y : Fin 1024) (h : Fin 16) (d : Fin 64) (hy : y.val = 64 * h.val + d.val) :
    (val_main_v90 (F := Ideal) x0 x1 x2 x3 x4 (ix2 s y) : EReal) = (gK Q K V D C M h s d : EReal) := by
  have hs := s.isLt
  have hh := h.isLt
  have hd := d.isLt
  have e81 : (val_main_v81 (F := Ideal) x0 x1 x2 x3 x4 (ix3 h s d) : EReal) = (gK Q K V D C M h s d : EReal) := by
    refine ((val_main_v81_apply x0 x1 x2 x3 x4 _).trans (sum_coe fun q => mul_coe (at3 (val_main_v80 (F := Ideal) x0 x1 x2 x3 x4) (r80 H hM h q s)) (at3 (val_main_v0 (F := Ideal) x0) (r0 H h q d)))).trans ?_
    unfold gK
    exact congrArg _ (Finset.sum_congr rfl fun k _ => by ring)
  have e85 : (val_main_v85 (F := Ideal) x0 x1 x2 x3 x4 (ix3 s h d) : EReal) = (gK Q K V D C M h s d : EReal) :=
    (val_main_v85_apply x0 x1 x2 x3 x4 _).trans (at3 _ e81)
  refine (val_main_v90_apply x0 x1 x2 x3 x4 _).trans ((val_main_v89_apply x0 x1 x2 x3 x4 _).trans (at3 _ e85 ?_ ?_ ?_))
  · show (s.val * 1024 + y.val) / 1024 = s.val; omega
  · show (s.val * 1024 + y.val) / 64 % 16 = h.val; omega
  · show (s.val * 1024 + y.val) % 64 = d.val; omega

/-- The values' gradient. -/
theorem r92 (s : Fin 8192) (y : Fin 1024) (h : Fin 16) (d : Fin 64) (hy : y.val = 64 * h.val + d.val) :
    (val_main_v92 (F := Ideal) x0 x1 x3 x4 (ix2 s y) : EReal) = (gV Q K D C M h s d : EReal) := by
  have hs := s.isLt
  have hh := h.isLt
  have hd := d.isLt
  have e54 : (val_main_v54 (F := Ideal) x0 x1 x3 x4 (ix3 h d s) : EReal) = (gV Q K D C M h s d : EReal) := by
    refine ((val_main_v54_apply x0 x1 x3 x4 _).trans (sum_coe fun q => mul_coe (at3 (val_main_v53 (F := Ideal) x4) (r53 H h q d)) (at3 (val_main_v47 (F := Ideal) x0 x1 x3) (r47 H hM h q s)))).trans ?_
    unfold gV
    exact congrArg _ (Finset.sum_congr rfl fun k _ => by ring)
  have e84 : (val_main_v84 (F := Ideal) x0 x1 x3 x4 (ix3 s h d) : EReal) = (gV Q K D C M h s d : EReal) :=
    (val_main_v84_apply x0 x1 x3 x4 _).trans (at3 _ ((val_main_v55_apply x0 x1 x3 x4 (ix3 h s d)).trans (at3 _ e54)))
  refine (val_main_v92_apply x0 x1 x3 x4 _).trans ((val_main_v91_apply x0 x1 x3 x4 _).trans (at3 _ e84 ?_ ?_ ?_))
  · show (s.val * 1024 + y.val) / 1024 = s.val; omega
  · show (s.val * 1024 + y.val) / 64 % 16 = h.val; omega
  · show (s.val * 1024 + y.val) % 64 = d.val; omega

/-- The decay's gradient, before it is laid out in its columns. -/
theorem r83 (s : Fin 8192) (h : Fin 16) : (val_main_v83 (F := Ideal) x0 x1 x2 x3 x4 (ix2 s h) : EReal) = (gC Q K V D C M h s : EReal) := by
  have hs := s.isLt
  have hh := h.isLt
  have e72 : (val_main_v72 (F := Ideal) x0 x1 x2 x3 x4 (ix2 h s) : EReal) = ((-(∑ q, ds Q K V D C M h q s) : ℝ) : EReal) := by
    rw [val_main_v72_apply]
    refine (add_coe zero_f32 (sum_coe fun q => (neg_coe (at3 (val_main_v70 (F := Ideal) x0 x1 x2 x3 x4) (r70 H hM h q s)) : _))).trans ?_
    rw [zero_add, Finset.sum_neg_distrib]
  have e74 : (val_main_v74 (F := Ideal) x0 x1 x2 x3 x4 (ix2 h s) : EReal) = ((-(∑ q, ds Q K V D C M h q s) : ℝ) : EReal) := by
    rw [val_main_v74_apply]
    refine (add_coe zero_f32 (sum_one (f := fun k => (val_main_v73 (F := Ideal) x0 x1 x2 x3 x4 (idx_main_v74 (ix2 h s) k) : EReal)) ((val_main_v73_apply x0 x1 x2 x3 x4 _).trans (at2 _ e72 ?_ ?_)))).trans ?_
    · show ((h.val * 1 + 0) * 8192 + s.val) / 8192 = h.val; omega
    · show ((h.val * 1 + 0) * 8192 + s.val) % 8192 = s.val; omega
    · rw [zero_add]
  have e75 : (val_main_v75 (F := Ideal) x0 x1 x2 x3 x4 (ix2 h s) : EReal) = ((∑ k, ds Q K V D C M h s k : ℝ) : EReal) := by
    rw [val_main_v75_apply]
    refine (add_coe zero_f32 (sum_coe fun k => at3 (val_main_v70 (F := Ideal) x0 x1 x2 x3 x4) (r70 H hM h s k))).trans ?_
    rw [zero_add]
  have e77 : (val_main_v77 (F := Ideal) x0 x1 x2 x3 x4 (ix2 h s) : EReal) = ((∑ k, ds Q K V D C M h s k : ℝ) : EReal) := by
    rw [val_main_v77_apply]
    refine (add_coe zero_f32 (sum_one (f := fun k => (val_main_v76 (F := Ideal) x0 x1 x2 x3 x4 (idx_main_v77 (ix2 h s) k) : EReal)) ((val_main_v76_apply x0 x1 x2 x3 x4 _).trans (at2 _ e75 ?_ ?_)))).trans ?_
    · show ((h.val * 8192 + s.val) * 1 + 0) / 8192 = h.val; omega
    · show ((h.val * 8192 + s.val) * 1 + 0) % 8192 = s.val; omega
    · rw [zero_add]
  have e78 : (val_main_v78 (F := Ideal) x0 x1 x2 x3 x4 (ix2 h s) : EReal) = (gC Q K V D C M h s : EReal) :=
    (val_main_v78_apply x0 x1 x2 x3 x4 _).trans (add_coe e74 e77 :)
  exact (val_main_v83_apply x0 x1 x2 x3 x4 _).trans (at2 _ e78)

/-- The decay's gradient in columns 16 to 31. -/
theorem r93_in (s : Fin 8192) (l : Fin 128) (h : Fin 16) (hl : l.val = 16 + h.val) :
    (val_main_v93 (F := Ideal) x0 x1 x2 x3 x4 (ix2 s l) : EReal) = (gC Q K V D C M h s : EReal) := by
  unfold val_main_v93
  refine (pad_apply_of_inside _ _ _ _ _ _ _ (ix2 s l) (ix2 s h) fun a => ?_).trans (r83 H hM s h)
  match a with
  | ⟨0, _⟩ => show s.val = 0 + s.val * (0 + 1); omega
  | ⟨1, _⟩ => show l.val = 16 + h.val * (0 + 1); omega

omit H hM in
/-- Zero in the others. -/
theorem r93_out (s : Fin 8192) (l : Fin 128) (hl : ¬(16 ≤ l.val ∧ l.val < 32)) :
    (val_main_v93 (F := Ideal) x0 x1 x2 x3 x4 (ix2 s l) : EReal) = 0 := by
  unfold val_main_v93
  refine (pad_apply_of_not_inside _ _ _ _ _ _ _ (ix2 s l) (1 : Fin 2) ?_).trans Ideal.ofBits_zero_f32
  rintro ⟨h1, -, h3⟩
  have h1' : 16 ≤ l.val := h1
  have h3' : (l.val - 16) / (0 + 1) < 16 := h3
  omega

end Cert.ReferenceIdeal.Att

end
-- ==== Proof.KernelIdeal.Lanes.lean ====
/- The arrays that the region is handed at real arguments: rows of lanes of real numbers. -/
module

public import proofs.«01_k».proof.Proof.KernelIdeal.Cat
public import proofs.«01_k».proof.Proof.Ref.Value

@[expose] public section

set_option maxRecDepth 4096

noncomputable section

namespace Cert.KernelIdeal.Att

open Cert.KernelIdeal.Gen Cert.Att
open Cert.ReferenceIdeal.Att (Real5 ext2 ext3 at2 at3 r0 r1 r2 r3 r53 r21 r43 r44 r45 r47)
open Cert.ReferenceIdeal.Read
open Idealize.ShloMosaic Idealize.ShloMosaic.TcCoe Idealize.ShloMosaic.ValueIdx
open scoped BigOperators

theorem eta3 {n n' n'' : ℕ} (y : (⟨3, ![n, n', n'']⟩ : Shape).Idx) : ∃ (a : Fin n) (b : Fin n') (d : Fin n''), y = ix3 a b d :=
  ⟨y 0, y 1, y 2, ext3 rfl rfl rfl⟩

variable {x0 x1 x2 x4 : Vec Ideal S8192x16x64 .f32} {x3 : Vec Ideal S8192x16 .f32}
variable {Q K V D : Fin 16 → Fin 8192 → Fin 64 → ℝ} {C M : Fin 16 → Fin 8192 → ℝ} (H : Real5 x0 x1 x2 x4 x3 Q K V D C)
variable (hM : ∀ h q, (val_main_v23 (F := Ideal) x0 x1 x3 (ix2 h q) : EReal) = (M h q : EReal))

/-! ## The same lines as the reference's -/

theorem t0 : h_v0 (F := Ideal) x0 x1 x2 x3 x4 = val_main_v0 (F := Ideal) x0 := rfl
theorem t1 : h_v1 (F := Ideal) x0 x1 x2 x3 x4 = val_main_v1 (F := Ideal) x1 := rfl
theorem t2 : h_v2 (F := Ideal) x0 x1 x2 x3 x4 = val_main_v2 (F := Ideal) x2 := rfl
theorem t3 : h_v3 (F := Ideal) x0 x1 x2 x3 x4 = val_main_v53 (F := Ideal) x4 := rfl
theorem t4 : h_v4 (F := Ideal) x0 x1 x2 x3 x4 = val_main_v3 (F := Ideal) x3 := rfl
theorem t22 : h_v22 (F := Ideal) x0 x1 x2 x3 x4 = val_main_v21 (F := Ideal) x0 x1 x3 := rfl
theorem t23 : h_v23 (F := Ideal) x0 x1 x2 x3 x4 = val_main_v23 (F := Ideal) x0 x1 x3 := by
  unfold h_v23
  rw [t22]
  rfl

/-- A column held once, read anywhere along its axis. -/
theorem col {y : Vec Ideal S16x8192 .f32} {r : EReal} (h : Fin 16) (q : Fin 8192) (e : (y (ix2 h q) : EReal) = r) :
    (broadcastInDim S16x8192x1 ![0, 1] bcast_S16x8192_S16x8192x1_0_1 y (ix3 h q (0 : Fin 1)) : EReal) = r :=
  (broadcastInDim_apply _ bcast_S16x8192_S16x8192x1_0_1 y (ix3 h q (0 : Fin 1)) (ix2 h q) (fun a => match a with
    | ⟨0, _⟩ => by show h.val = if (16 : Nat) = 1 then 0 else h.val; rw [if_neg (by decide)]
    | ⟨1, _⟩ => by show q.val = if (8192 : Nat) = 1 then 0 else q.val; rw [if_neg (by decide)])).trans e
theorem cols {y : Vec Ideal S16x8192x1 .f32} {r : EReal} (h : Fin 16) (q k : Fin 8192) (e : (y (ix3 h q (0 : Fin 1)) : EReal) = r) :
    (broadcastInDim S16x8192x8192 ![0, 1, 2] bcast_S16x8192x1_S16x8192x8192_0_1_2 y (ix3 h q k) : EReal) = r :=
  (broadcastInDim_apply _ bcast_S16x8192x1_S16x8192x8192_0_1_2 y (ix3 h q k) (ix3 h q (0 : Fin 1)) (fun a => match a with
    | ⟨0, _⟩ => by show h.val = if (16 : Nat) = 1 then 0 else h.val; rw [if_neg (by decide)]
    | ⟨1, _⟩ => by show q.val = if (8192 : Nat) = 1 then 0 else q.val; rw [if_neg (by decide)]
    | ⟨2, _⟩ => by show 0 = if (1 : Nat) = 1 then 0 else k.val; rw [if_pos rfl])).trans e

/-- Entries of arrays of one column, by the operation that makes them. -/
theorem ent_sub {x y : Vec Ideal S16x8192x1 .f32} {i : S16x8192x1.Idx} {a b : ℝ} (hx : (x i : EReal) = (a : EReal)) (hy : (y i : EReal) = (b : EReal)) :
    (subf (F := Ideal) (φ := .f32) x y i : EReal) = ((a - b : ℝ) : EReal) := sub_coe hx hy
theorem ent_add {x y : Vec Ideal S16x8192x1 .f32} {i : S16x8192x1.Idx} {a b : ℝ} (hx : (x i : EReal) = (a : EReal)) (hy : (y i : EReal) = (b : EReal)) :
    (addf (F := Ideal) (φ := .f32) x y i : EReal) = ((a + b : ℝ) : EReal) := add_coe hx hy
theorem ent_neg {x : Vec Ideal S16x8192x1 .f32} {i : S16x8192x1.Idx} {a : ℝ} (hx : (x i : EReal) = (a : EReal)) :
    (Host.negf (F := Ideal) (φ := .f32) x i : EReal) = ((-a : ℝ) : EReal) := neg_coe hx
theorem ent_cast {x : Vec Ideal S16x8192x1 .f32} {i : S16x8192x1.Idx} {a : EReal} (hx : (x i : EReal) = a) :
    (extf (F := Ideal) (φ := .bf16) .f32 (truncf (F := Ideal) (φ := .f32) .bf16 x bitsLt_bf16_f32) bitsLt_bf16_f32 i : EReal) = a := hx
theorem ent_trunc {x : Vec Ideal S16x8192x128 .f32} {i : S16x8192x128.Idx} {a : EReal} (hx : (x i : EReal) = a) :
    (truncf (F := Ideal) (φ := .f32) .bf16 x bitsLt_bf16_f32 i : EReal) = a := hx
theorem ent_log {x : Vec Ideal S16x8192x1 .f32} {i : S16x8192x1.Idx} {a : ℝ} (hx : (x i : EReal) = (a : EReal)) (ha : 0 < a) :
    (Host.log (F := Ideal) (φ := .f32) x i : EReal) = ((Real.log a : ℝ) : EReal) := by
  have e : (Host.log (F := Ideal) (φ := .f32) x i : EReal) = Ideal.log (x i) := rfl
  rw [e, hx, Ideal.log_coe, if_neg (not_le.mpr ha)]

theorem c39 (h : Fin 16) (q : Fin 8192) (e : Fin 3) : (h_v39 (F := Ideal) x0 x1 x2 x3 x4 (ix3 h q e) : EReal) = ((1 : ℝ) : EReal) :=
  (broadcastInDim_apply _ bcast_S_S16x8192x3 (h_cst_4 (F := Ideal) x0 x1 x2 x3 x4) (ix3 h q e) (fun a => a.elim0) (fun a => a.elim0)).trans one_f32
theorem c51 (h : Fin 16) (q : Fin 8192) (e : Fin 58) : (h_v51 (F := Ideal) x0 x1 x2 x3 x4 (ix3 h q e) : EReal) = ((0 : ℝ) : EReal) :=
  (broadcastInDim_apply _ bcast_S_S16x8192x58 (h_cst_6 (F := Ideal) x0 x1 x2 x3 x4) (ix3 h q e) (fun a => a.elim0) (fun a => a.elim0)).trans zero_f32
theorem c63 (h : Fin 16) (q : Fin 8192) (e : Fin 58) : (h_v63 (F := Ideal) x0 x1 x2 x3 x4 (ix3 h q e) : EReal) = ((0 : ℝ) : EReal) :=
  (broadcastInDim_apply _ bcast_S_S16x8192x58 (h_cst_7 (F := Ideal) x0 x1 x2 x3 x4) (ix3 h q e) (fun a => a.elim0) (fun a => a.elim0)).trans zero_f32
theorem c66 (h : Fin 16) (q : Fin 8192) (e : Fin 61) : (h_v66 (F := Ideal) x0 x1 x2 x3 x4 (ix3 h q e) : EReal) = ((0 : ℝ) : EReal) :=
  (broadcastInDim_apply _ bcast_S_S16x8192x61 (h_cst_8 (F := Ideal) x0 x1 x2 x3 x4) (ix3 h q e) (fun a => a.elim0) (fun a => a.elim0)).trans zero_f32
theorem c78 (h : Fin 16) (q : Fin 8192) (e : Fin 61) : (h_v78 (F := Ideal) x0 x1 x2 x3 x4 (ix3 h q e) : EReal) = ((0 : ℝ) : EReal) :=
  (broadcastInDim_apply _ bcast_S_S16x8192x61 (h_cst_9 (F := Ideal) x0 x1 x2 x3 x4) (ix3 h q e) (fun a => a.elim0) (fun a => a.elim0)).trans zero_f32

include H

theorem c38 (h : Fin 16) (q : Fin 8192) : (h_v38 (F := Ideal) x0 x1 x2 x3 x4 (ix3 h q (0 : Fin 1)) : EReal) = (C h q : EReal) :=
  col h q (r3 H h q)
theorem c41 (h : Fin 16) (q : Fin 8192) (d : Fin 64) : (h_v41 (F := Ideal) x0 x1 x2 x3 x4 (ix3 h q d) : EReal) = ((Q h q d * (1 / 8) : ℝ) : EReal) := by
  have e40 : (h_v40 (F := Ideal) x0 x1 x2 x3 x4 (ix3 h q d) : EReal) = ((1 / 8 : ℝ) : EReal) :=
    (broadcastInDim_apply _ bcast_S_S16x8192x64 (h_cst_5 (F := Ideal) x0 x1 x2 x3 x4) (ix3 h q d) (fun a => a.elim0) (fun a => a.elim0)).trans eighth
  have := mul_coe (r0 H h q d) e40
  exact this

include hM

theorem t24 (h : Fin 16) (q : Fin 8192) : (h_v24 (F := Ideal) x0 x1 x2 x3 x4 (ix3 h q (0 : Fin 1)) : EReal) = (M h q : EReal) := by
  unfold h_v24
  rw [t23]
  exact col h q (hM h q)

theorem t27 : h_v27 (F := Ideal) x0 x1 x2 x3 x4 = val_main_v43 (F := Ideal) x0 x1 x3 := funext fun i => by
  obtain ⟨h, q, k, rfl⟩ := eta3 (n := 16) (n' := 8192) (n'' := 8192) i
  have e25 : (h_v25 (F := Ideal) x0 x1 x2 x3 x4 (ix3 h q k) : EReal) = (M h q : EReal) := cols h q k (t24 H hM h q)
  have e : (h_v27 (F := Ideal) x0 x1 x2 x3 x4 (ix3 h q k) : EReal)
      = Ideal.exp ((h_v22 (F := Ideal) x0 x1 x2 x3 x4 (ix3 h q k) : EReal) - (h_v25 (F := Ideal) x0 x1 x2 x3 x4 (ix3 h q k) : EReal)) := rfl
  refine (e.trans ?_).trans (r43 H hM h q k).symm
  rw [e25, t22, r21 H]
  unfold ex
  split
  · rw [← EReal.coe_sub]; rfl
  · rw [EReal.bot_sub, Ideal.exp_bot, zero_coe]

theorem t28 : h_v28 (F := Ideal) x0 x1 x2 x3 x4 = val_main_v44 (F := Ideal) x0 x1 x3 := by
  unfold h_v28
  rw [t27 H hM]
  rfl
theorem t29 : h_v29 (F := Ideal) x0 x1 x2 x3 x4 = val_main_v45 (F := Ideal) x0 x1 x3 := by
  unfold h_v29
  rw [t28 H hM]
  rfl
theorem t31 : h_v31 (F := Ideal) x0 x1 x2 x3 x4 = val_main_v47 (F := Ideal) x0 x1 x3 := by
  unfold h_v31 h_v30
  rw [t27 H hM, t29 H hM]
  rfl
theorem t32 : h_v32 (F := Ideal) x0 x1 x2 x3 x4 = val_main_v51 (F := Ideal) x0 x1 x2 x3 := by
  unfold h_v32
  rw [t31 H hM, t2]
  rfl

theorem c32 (h : Fin 16) (q : Fin 8192) (d : Fin 64) : (h_v32 (F := Ideal) x0 x1 x2 x3 x4 (ix3 h q d) : EReal) = ((∑ k, wt Q K C M h q k * V h k d : ℝ) : EReal) := by
  rw [t32 H hM]
  exact (val_main_v51_apply x0 x1 x2 x3 _).trans (sum_coe fun k => mul_coe (at3 (val_main_v47 (F := Ideal) x0 x1 x3) (r47 H hM h q k)) (at3 (val_main_v2 (F := Ideal) x2) (r2 H h k d)))

/-- The rows' products by their cotangents. -/
theorem c35 (h : Fin 16) (q : Fin 8192) : (h_v35 (F := Ideal) x0 x1 x2 x3 x4 (ix3 h q (0 : Fin 1)) : EReal) = (dl Q K V D C M h q : EReal) := by
  refine col h q ?_
  have e33 : ∀ d, (h_v33 (F := Ideal) x0 x1 x2 x3 x4 (ix3 h q d) : EReal) = ((D h q d * ∑ k, wt Q K C M h q k * V h k d : ℝ) : EReal) := fun d => by
    have := mul_coe (r53 H h q d) (c32 H hM h q d)
    exact this
  unfold h_v34
  generalize h_v33 (F := Ideal) x0 x1 x2 x3 x4 = y at e33
  simp only [Host.reduceAdd, Ideal.hostReduceAdd_def]
  rw [Ideal.hostReduceAdd_single reducesTo_S16x8192x64_S16x8192_d2 (by decide)]
  refine (add_coe zero_f32 (sum_coe fun d => (at3 y (e33 d) : (y _ : EReal) = _))).trans ?_
  rw [zero_add, dl_eq]

/-- The score's shift, of the query's decay less the row's logarithmic sum. -/
theorem c42 (h : Fin 16) (q : Fin 8192) : (h_v42 (F := Ideal) x0 x1 x2 x3 x4 (ix3 h q (0 : Fin 1)) : EReal) = ((C h q - (M h q + Real.log (zz Q K C M h q)) : ℝ) : EReal) := by
  have e29 : (h_v29 (F := Ideal) x0 x1 x2 x3 x4 (ix3 h q (0 : Fin 1)) : EReal) = (zz Q K C M h q : EReal) := by
    rw [t29 H hM]
    exact r45 H hM h q
  have e36 : (h_v36 (F := Ideal) x0 x1 x2 x3 x4 (ix3 h q (0 : Fin 1)) : EReal) = ((Real.log (zz Q K C M h q) : ℝ) : EReal) := by
    unfold h_v36
    exact ent_log e29 (zz_pos Q K C M h q)
  have e37 : (h_v37 (F := Ideal) x0 x1 x2 x3 x4 (ix3 h q (0 : Fin 1)) : EReal) = ((M h q + Real.log (zz Q K C M h q) : ℝ) : EReal) := by
    unfold h_v37
    exact ent_add (t24 H hM h q) e36
  unfold h_v42
  exact ent_sub (c38 H h q) e37

/-- The remainders of a number less itself vanish. -/
theorem s44 (h : Fin 16) (q : Fin 8192) : (h_v44 (F := Ideal) x0 x1 x2 x3 x4 (ix3 h q (0 : Fin 1)) : EReal) = ((C h q - (M h q + Real.log (zz Q K C M h q)) : ℝ) : EReal)
    ∧ (h_v47 (F := Ideal) x0 x1 x2 x3 x4 (ix3 h q (0 : Fin 1)) : EReal) = ((0 : ℝ) : EReal) ∧ (h_v50 (F := Ideal) x0 x1 x2 x3 x4 (ix3 h q (0 : Fin 1)) : EReal) = ((0 : ℝ) : EReal) := by
  have e0 : (h_v42 (F := Ideal) x0 x1 x2 x3 x4 (ix3 h q (0 : Fin 1)) : EReal) = ((C h q - (M h q + Real.log (zz Q K C M h q)) : ℝ) : EReal) := c42 H hM h q
  have e1 : (h_v44 (F := Ideal) x0 x1 x2 x3 x4 (ix3 h q (0 : Fin 1)) : EReal) = ((C h q - (M h q + Real.log (zz Q K C M h q)) : ℝ) : EReal) := by
    unfold h_v44 h_v43
    exact ent_cast e0
  have e2 : (h_v45 (F := Ideal) x0 x1 x2 x3 x4 (ix3 h q (0 : Fin 1)) : EReal) = ((0 : ℝ) : EReal) := by
    unfold h_v45
    exact (ent_sub e0 e1).trans (by rw [sub_self])
  have e3 : (h_v47 (F := Ideal) x0 x1 x2 x3 x4 (ix3 h q (0 : Fin 1)) : EReal) = ((0 : ℝ) : EReal) := by
    unfold h_v47 h_v46
    exact ent_cast e2
  have e4 : (h_v48 (F := Ideal) x0 x1 x2 x3 x4 (ix3 h q (0 : Fin 1)) : EReal) = ((0 : ℝ) : EReal) := by
    unfold h_v48
    exact (ent_sub e2 e3).trans (by rw [sub_self])
  have e5 : (h_v50 (F := Ideal) x0 x1 x2 x3 x4 (ix3 h q (0 : Fin 1)) : EReal) = ((0 : ℝ) : EReal) := by
    unfold h_v50 h_v49
    exact ent_cast e4
  exact ⟨e1, e3, e5⟩

omit hM in
/-- The remainders of a number less itself vanish. -/
theorem s56 (h : Fin 16) (q : Fin 8192) : (h_v56 (F := Ideal) x0 x1 x2 x3 x4 (ix3 h q (0 : Fin 1)) : EReal) = ((-C h q : ℝ) : EReal)
    ∧ (h_v59 (F := Ideal) x0 x1 x2 x3 x4 (ix3 h q (0 : Fin 1)) : EReal) = ((0 : ℝ) : EReal) ∧ (h_v62 (F := Ideal) x0 x1 x2 x3 x4 (ix3 h q (0 : Fin 1)) : EReal) = ((0 : ℝ) : EReal) := by
  have e0 : (h_v54 (F := Ideal) x0 x1 x2 x3 x4 (ix3 h q (0 : Fin 1)) : EReal) = ((-C h q : ℝ) : EReal) := by
    unfold h_v54
    exact ent_neg (c38 H h q)
  have e1 : (h_v56 (F := Ideal) x0 x1 x2 x3 x4 (ix3 h q (0 : Fin 1)) : EReal) = ((-C h q : ℝ) : EReal) := by
    unfold h_v56 h_v55
    exact ent_cast e0
  have e2 : (h_v57 (F := Ideal) x0 x1 x2 x3 x4 (ix3 h q (0 : Fin 1)) : EReal) = ((0 : ℝ) : EReal) := by
    unfold h_v57
    exact (ent_sub e0 e1).trans (by rw [sub_self])
  have e3 : (h_v59 (F := Ideal) x0 x1 x2 x3 x4 (ix3 h q (0 : Fin 1)) : EReal) = ((0 : ℝ) : EReal) := by
    unfold h_v59 h_v58
    exact ent_cast e2
  have e4 : (h_v60 (F := Ideal) x0 x1 x2 x3 x4 (ix3 h q (0 : Fin 1)) : EReal) = ((0 : ℝ) : EReal) := by
    unfold h_v60
    exact (ent_sub e2 e3).trans (by rw [sub_self])
  have e5 : (h_v62 (F := Ideal) x0 x1 x2 x3 x4 (ix3 h q (0 : Fin 1)) : EReal) = ((0 : ℝ) : EReal) := by
    unfold h_v62 h_v61
    exact ent_cast e4
  exact ⟨e1, e3, e5⟩

/-- The remainders of a number less itself vanish. -/
theorem s71 (h : Fin 16) (q : Fin 8192) : (h_v71 (F := Ideal) x0 x1 x2 x3 x4 (ix3 h q (0 : Fin 1)) : EReal) = ((-dl Q K V D C M h q : ℝ) : EReal)
    ∧ (h_v74 (F := Ideal) x0 x1 x2 x3 x4 (ix3 h q (0 : Fin 1)) : EReal) = ((0 : ℝ) : EReal) ∧ (h_v77 (F := Ideal) x0 x1 x2 x3 x4 (ix3 h q (0 : Fin 1)) : EReal) = ((0 : ℝ) : EReal) := by
  have e0 : (h_v69 (F := Ideal) x0 x1 x2 x3 x4 (ix3 h q (0 : Fin 1)) : EReal) = ((-dl Q K V D C M h q : ℝ) : EReal) := by
    unfold h_v69
    exact ent_neg (c35 H hM h q)
  have e1 : (h_v71 (F := Ideal) x0 x1 x2 x3 x4 (ix3 h q (0 : Fin 1)) : EReal) = ((-dl Q K V D C M h q : ℝ) : EReal) := by
    unfold h_v71 h_v70
    exact ent_cast e0
  have e2 : (h_v72 (F := Ideal) x0 x1 x2 x3 x4 (ix3 h q (0 : Fin 1)) : EReal) = ((0 : ℝ) : EReal) := by
    unfold h_v72
    exact (ent_sub e0 e1).trans (by rw [sub_self])
  have e3 : (h_v74 (F := Ideal) x0 x1 x2 x3 x4 (ix3 h q (0 : Fin 1)) : EReal) = ((0 : ℝ) : EReal) := by
    unfold h_v74 h_v73
    exact ent_cast e2
  have e4 : (h_v75 (F := Ideal) x0 x1 x2 x3 x4 (ix3 h q (0 : Fin 1)) : EReal) = ((0 : ℝ) : EReal) := by
    unfold h_v75
    exact (ent_sub e2 e3).trans (by rw [sub_self])
  have e5 : (h_v77 (F := Ideal) x0 x1 x2 x3 x4 (ix3 h q (0 : Fin 1)) : EReal) = ((0 : ℝ) : EReal) := by
    unfold h_v77 h_v76
    exact ent_cast e4
  exact ⟨e1, e3, e5⟩

/-- The scaled queries, their shift, and ones. -/
theorem laneQ (h : Fin 16) (q : Fin 8192) (l : Fin 128) : (h_v53 (F := Ideal) x0 x1 x2 x3 x4 (ix3 h q l) : EReal) = ((lane (fun d => Q h q d * (1 / 8)) (C h q - (M h q + Real.log (zz Q K C M h q))) 0 0 1 1 1 l : ℝ) : EReal) := by
  unfold h_v53 h_v52
  exact ent_trunc (catQ _ _ _ _ _ _ _ h q _ _ _ _ _ _ _ (c41 H h q) (s44 H hM h q).1 (s44 H hM h q).2.1 (s44 H hM h q).2.2 (c39 h q 0) (c39 h q 1) (c39 h q 2) (c51 h q) l)

omit hM in
/-- The keys, ones, and the keys' decay. -/
theorem laneK (h : Fin 16) (q : Fin 8192) (l : Fin 128) : (h_v65 (F := Ideal) x0 x1 x2 x3 x4 (ix3 h q l) : EReal) = ((lane (fun d => K h q d) 1 1 1 (-C h q) 0 0 l : ℝ) : EReal) := by
  unfold h_v65 h_v64
  exact ent_trunc (catK _ _ _ _ _ _ _ h q _ _ _ _ _ _ _ (r1 H h q) (c39 h q 0) (c39 h q 1) (c39 h q 2) (s56 H h q).1 (s56 H h q).2.1 (s56 H h q).2.2 (c63 h q) l)

omit hM in
/-- The values, and ones. -/
theorem laneV (h : Fin 16) (q : Fin 8192) (l : Fin 128) : (h_v68 (F := Ideal) x0 x1 x2 x3 x4 (ix3 h q l) : EReal) = ((lane (fun d => V h q d) 1 1 1 0 0 0 l : ℝ) : EReal) := by
  unfold h_v68 h_v67
  exact ent_trunc (catV _ _ _ _ h q _ _ _ _ (r2 H h q) (c39 h q 0) (c39 h q 1) (c39 h q 2) (c66 h q) l)

/-- The cotangents, and the rows' products by them. -/
theorem laneO (h : Fin 16) (q : Fin 8192) (l : Fin 128) : (h_v80 (F := Ideal) x0 x1 x2 x3 x4 (ix3 h q l) : EReal) = ((lane (fun d => D h q d) (-dl Q K V D C M h q) 0 0 0 0 0 l : ℝ) : EReal) := by
  unfold h_v80 h_v79
  exact ent_trunc (catO _ _ _ _ _ _ h q _ _ _ _ (r53 H h q) (s71 H hM h q).1 (s71 H hM h q).2.1 (s71 H hM h q).2.2 (c78 h q) l)

end Cert.KernelIdeal.Att

end
-- ==== Proof.KernelIdeal.Grad.lean ====
/- The four results over rows of lanes of real numbers: the gradients. -/
module

public import proofs.«01_k».proof.Proof.KernelIdeal.Result
public import proofs.«01_k».proof.Proof.KernelIdeal.Lanes

@[expose] public section

noncomputable section

namespace Cert.KernelIdeal.Att

open Cert.KernelIdeal.Gen Cert.Att
open Cert.ReferenceIdeal.Att (Real5 ext2 ext3 at2 at3 r23 r88 r90 r92 r93_in r93_out)
open Cert.ReferenceIdeal.Read
open Idealize.ShloMosaic Idealize.ShloMosaic.TcCoe Idealize.ShloMosaic.ValueIdx
open scoped BigOperators

variable {A B E G : S16x8192x128.Idx → EReal}
variable {Q K V D : Fin 16 → Fin 8192 → Fin 64 → ℝ} {C M : Fin 16 → Fin 8192 → ℝ}
variable (hA : ∀ h q l, A (ix3 h q l) = ((lane (fun d => Q h q d * (1 / 8)) (C h q - (M h q + Real.log (zz Q K C M h q))) 0 0 1 1 1 l : ℝ) : EReal))
variable (hB : ∀ h q l, B (ix3 h q l) = ((lane (fun d => D h q d) (-dl Q K V D C M h q) 0 0 0 0 0 l : ℝ) : EReal))
variable (hE : ∀ h q l, E (ix3 h q l) = ((lane (fun d => K h q d) 1 1 1 (-C h q) 0 0 l : ℝ) : EReal))
variable (hG : ∀ h q l, G (ix3 h q l) = ((lane (fun d => V h q d) 1 1 1 0 0 0 l : ℝ) : EReal))

/-! ## Lanes beyond the rows -/

theorem lane_64 (x : Fin 64 → ℝ) (a b c a' b' c' : ℝ) : lane x a b c a' b' c' (64 : Fin 128) = a := by
  unfold lane
  rw [dif_neg (by decide), if_pos (by decide)]
theorem lane_67 (x : Fin 64 → ℝ) (a b c a' b' c' : ℝ) : lane x a b c a' b' c' (67 : Fin 128) = a' := by
  unfold lane
  rw [dif_neg (by decide), if_neg (by decide), if_neg (by decide), if_neg (by decide), if_pos (by decide)]

include hA hE in
/-- The score less the row's logarithmic sum. -/
theorem pr_score (h : Fin 16) (q k : Fin 8192) : pr A E h q k = ((sc Q K C h q k - (M h q + Real.log (zz Q K C M h q)) : ℝ) : EReal) := by
  unfold pr
  rw [sum_coe fun l => mul_coe (hA h q l) (hE h k l), sum_lane]
  refine congrArg _ ?_
  unfold sc
  rw [Finset.sum_mul, Finset.sum_congr rfl (fun d _ => (by ring : Q h q d * (1 / 8) * K h k d = Q h q d * K h k d * (1 / 8)))]
  ring

include hA hE in
/-- The weight of a key for a query. -/
theorem hw_wt (h : Fin 16) (q k : Fin 8192) : hw A E h q k = (Cert.Att.wt Q K C M h q k : EReal) := by
  unfold hw
  rw [pr_score hA hE, wt_eq, Ideal.exp_coe]
  by_cases hk : k ≤ q
  · rw [if_pos (show k.val ≤ q.val from hk), if_pos hk]
  · rw [if_neg (show ¬ k.val ≤ q.val from hk), if_neg hk, zero_coe]

include hB hG in
theorem pr_dw (h : Fin 16) (q k : Fin 8192) : pr B G h q k = ((dw V D h q k - dl Q K V D C M h q : ℝ) : EReal) := by
  unfold pr
  rw [sum_coe fun l => mul_coe (hB h q l) (hG h k l), sum_lane]
  refine congrArg _ ?_
  unfold dw
  ring

include hA hB hE hG in
theorem hw_ds (h : Fin 16) (q k : Fin 8192) : hw A E h q k * pr B G h q k = (ds Q K V D C M h q k : EReal) :=
  mul_coe (hw_wt hA hE h q k) (pr_dw hB hG h q k)

include hA hB hE in
theorem GV_real (h : Fin 16) (k : Fin 8192) (l : Fin 128) (hl : l.val < 64) : GV A B E h k l = (gV Q K D C M h k ⟨l.val, hl⟩ : EReal) := by
  unfold GV gV
  exact sum_coe fun q => mul_coe (hw_wt hA hE h q k) ((hB h q l).trans (by rw [lane_lo _ _ _ _ _ _ _ _ hl]))

include hA hB hE hG in
theorem GK_real (h : Fin 16) (k : Fin 8192) (l : Fin 128) (hl : l.val < 64) : GK A B E G h k l = (gK Q K V D C M h k ⟨l.val, hl⟩ : EReal) := by
  unfold GK gK
  exact sum_coe fun q => mul_coe (hw_ds hA hB hE hG h q k) ((hA h q l).trans (by rw [lane_lo _ _ _ _ _ _ _ _ hl]))

include hA hB hE hG in
theorem GK_67 (h : Fin 16) (k : Fin 8192) : GK A B E G h k 67 = ((∑ q, ds Q K V D C M h q k : ℝ) : EReal) := by
  unfold GK
  refine sum_coe fun q => (mul_coe (hw_ds hA hB hE hG h q k) (hA h q 67)).trans ?_
  rw [lane_67, mul_one]

include hA hB hE hG in
theorem GQ_real (h : Fin 16) (q : Fin 8192) (l : Fin 128) (hl : l.val < 64) :
    GQ A B E G h q l * Ideal.ofBits .f32 0x3E000000#32 = (gQ Q K V D C M h q ⟨l.val, hl⟩ : EReal) := by
  unfold GQ gQ
  exact mul_coe (sum_coe fun k => mul_coe (hw_ds hA hB hE hG h q k) ((hE h k l).trans (by rw [lane_lo _ _ _ _ _ _ _ _ hl]))) eighth

include hA hB hE hG in
theorem GQ_64 (h : Fin 16) (q : Fin 8192) : GQ A B E G h q 64 = ((∑ k, ds Q K V D C M h q k : ℝ) : EReal) := by
  unfold GQ
  refine sum_coe fun k => (mul_coe (hw_ds hA hB hE hG h q k) (hE h k 64)).trans ?_
  rw [lane_64, mul_one]

/-! ## The results and the reference's -/

variable (m : (ℓ : Loc nD τ sig) → Buf (Elt Ideal) ℓ) (c : Dev nD)
variable {x0 x1 x2 x4 : Vec Ideal S8192x16x64 .f32} {x3 : Vec Ideal S8192x16 .f32} (H : Real5 x0 x1 x2 x4 x3 Q K V D C)
variable (e0 : m ((c : Thread nD τ).loc main_arg0) = x0) (e1 : m ((c : Thread nD τ).loc main_arg1) = x1) (e2 : m ((c : Thread nD τ).loc main_arg2) = x2)
variable (e3 : m ((c : Thread nD τ).loc main_arg3) = x3) (e4 : m ((c : Thread nD τ).loc main_arg4) = x4)
include H e0 e1 e2 e3 e4

/-- The four arrays handed to the region at real arguments. -/
theorem handed : ∃ M : Fin 16 → Fin 8192 → ℝ,
    (∀ h q, (val_main_v23 (F := Ideal) x0 x1 x3 (ix2 h q) : EReal) = (M h q : EReal))
    ∧ (∀ h q l, aQ m c (ix3 h q l) = ((lane (fun d => Q h q d * (1 / 8)) (C h q - (M h q + Real.log (zz Q K C M h q))) 0 0 1 1 1 l : ℝ) : EReal))
    ∧ (∀ h q l, aO m c (ix3 h q l) = ((lane (fun d => D h q d) (-dl Q K V D C M h q) 0 0 0 0 0 l : ℝ) : EReal))
    ∧ (∀ h q l, aK m c (ix3 h q l) = ((lane (fun d => K h q d) 1 1 1 (-C h q) 0 0 l : ℝ) : EReal))
    ∧ (∀ h q l, aV m c (ix3 h q l) = ((lane (fun d => V h q d) 1 1 1 0 0 0 l : ℝ) : EReal)) := by
  obtain ⟨M, hM⟩ := r23 H
  refine ⟨M, hM, fun h q l => ?_, fun h q l => ?_, fun h q l => ?_, fun h q l => ?_⟩
  · unfold aQ
    rw [V_v53 m c, e0, e1, e2, e3, e4]
    exact laneQ H hM h q l
  · unfold aO
    rw [V_v80 m c, e0, e1, e2, e3, e4]
    exact laneO H hM h q l
  · unfold aK
    rw [V_v65 m c, e0, e1, e2, e3, e4]
    exact laneK H h q l
  · unfold aV
    rw [V_v68 m c, e0, e1, e2, e3, e4]
    exact laneV H h q l

/-- At real arguments each result of the region is the reference's. -/
theorem results : resQ m c = val_main_v88 (F := Ideal) x0 x1 x2 x3 x4 ∧ resK m c = val_main_v90 (F := Ideal) x0 x1 x2 x3 x4
    ∧ resV m c = val_main_v92 (F := Ideal) x0 x1 x3 x4 ∧ resC m c = val_main_v93 (F := Ideal) x0 x1 x2 x3 x4 := by
  obtain ⟨M, hM, hA, hB, hE, hG⟩ := handed m c H e0 e1 e2 e3 e4
  have hy : ∀ y : Fin 1024, y.val = 64 * (colH y).val + (⟨y.val % 64, Nat.mod_lt _ (by decide)⟩ : Fin 64).val := fun y => by
    show y.val = 64 * (y.val / 64) + y.val % 64
    omega
  have hl : ∀ y : Fin 1024, (colL y).val < 64 := fun y => by
    show y.val % 64 < 64
    omega
  refine ⟨funext fun i => ?_, funext fun i => ?_, funext fun i => ?_, funext fun i => ?_⟩
  · obtain ⟨s, y, rfl⟩ := eta2 (n := 8192) (n' := 1024) i
    exact (GQ_real hA hB hE hG (colH y) s (colL y) (hl y)).trans (r88 H hM s y _ _ (hy y)).symm
  · obtain ⟨s, y, rfl⟩ := eta2 (n := 8192) (n' := 1024) i
    exact (GK_real hA hB hE hG (colH y) s (colL y) (hl y)).trans (r90 H hM s y _ _ (hy y)).symm
  · obtain ⟨s, y, rfl⟩ := eta2 (n := 8192) (n' := 1024) i
    exact (GV_real hA hB hE (colH y) s (colL y) (hl y)).trans (r92 H hM s y _ _ (hy y)).symm
  · obtain ⟨s, l, rfl⟩ := eta2 (n := 8192) (n' := 128) i
    show dcAt m c 128 s l = _
    have hs := s.isLt
    unfold dcAt
    by_cases g : 16 ≤ l.val ∧ l.val < 32
    · rw [dif_pos g, if_pos (by omega), if_pos (by omega), GK_67 hA hB hE hG, GQ_64 hA hB hE hG]
      refine Eq.trans ?_ (r93_in H hM s l ⟨l.val - 16, by omega⟩ (by show l.val = 16 + (l.val - 16); omega)).symm
      unfold gC
      rw [EReal.coe_add, EReal.coe_neg, zero_sub]
    · rw [dif_neg g]
      exact (r93_out s l g).symm

end Cert.KernelIdeal.Att

end
-- ==== Proof.Finite.lean ====
/- Where every argument is finite, every argument is an array of real numbers. -/
module

public import proofs.«01_k».proof.Proof.Gen.Pre_finite
public import proofs.«01_k».proof.Proof.Ref.Value
public import Idealize.ShloMosaic.Lib.ReduceAll

@[expose] public section

noncomputable section

namespace Cert.Pre_finite.Att

open Cert.Pre_finite Cert.Pre_finite.Gen
open Idealize.ShloMosaic Idealize.ShloMosaic.ValueIdx

/-- The word of positive infinity. -/
theorem top_f32 : Ideal.ofBits .f32 0x7F800000#32 = (⊤ : EReal) := by
  simp [Ideal.ofBits, Ideal.ieee]

/-- An extended real whose absolute value is below infinity is a real number. -/
theorem real_of_lt {x : EReal} (h : max x (-x) < ⊤) : x = ((x.toReal : ℝ) : EReal) := by
  refine (EReal.coe_toReal (fun e => ?_) (fun e => ?_)).symm
  · rw [e] at h; simp at h
  · rw [e] at h; simp at h

/-- One element's comparison. -/
theorem real_of_cmp {x y : EReal} (hy : y = ⊤) (h : Ideal.cmp .olt (max x (-x)) y = 1#1) : x = ((x.toReal : ℝ) : EReal) := by
  refine real_of_lt ?_
  subst hy
  by_contra hn
  unfold Ideal.cmp at h
  simp [hn] at h

instance : Subsingleton S_.Idx := ⟨fun a b => funext fun i => i.elim0⟩

theorem real3 (x : FVec Ideal S8192x16x64 .f32) (j : S_.Idx)
    (h : Host.reduce IntOp.andi (cmpf (F := Ideal) (φ := .f32) .olt (Host.absf x) (broadcastInDim S8192x16x64 ![] bcast_S_S8192x16x64 (constant S_ .f32 0x7F800000#32))) (constantI S_ 1 1#1)
      reducesTo_S8192x16x64_S_d0_1_2 h_S_ j = 1#1) (i : S8192x16x64.Idx) : (x i : EReal) = (((x i : EReal).toReal : ℝ) : EReal) := by
  have e := Host.reduce_andi_all _ _ _ _ j h i
  refine real_of_cmp (y := broadcastInDim S8192x16x64 ![] bcast_S_S8192x16x64 (constant (F := Ideal) S_ .f32 0x7F800000#32) i) ?_ e
  exact (broadcastInDim_apply _ bcast_S_S8192x16x64 _ i (fun a => a.elim0) (fun a => a.elim0)).trans top_f32

theorem real2 (x : FVec Ideal S8192x16 .f32) (j : S_.Idx)
    (h : Host.reduce IntOp.andi (cmpf (F := Ideal) (φ := .f32) .olt (Host.absf x) (broadcastInDim S8192x16 ![] bcast_S_S8192x16 (constant S_ .f32 0x7F800000#32))) (constantI S_ 1 1#1)
      reducesTo_S8192x16_S_d0_1 h_S_ j = 1#1) (i : S8192x16.Idx) : (x i : EReal) = (((x i : EReal).toReal : ℝ) : EReal) := by
  have e := Host.reduce_andi_all _ _ _ _ j h i
  refine real_of_cmp (y := broadcastInDim S8192x16 ![] bcast_S_S8192x16 (constant (F := Ideal) S_ .f32 0x7F800000#32) i) ?_ e
  exact (broadcastInDim_apply _ bcast_S_S8192x16 _ i (fun a => a.elim0) (fun a => a.elim0)).trans top_f32

/-- Finite arguments are arrays of real numbers. -/
theorem real5 (x0 x1 x2 : FVec Ideal S8192x16x64 .f32) (x3 : FVec Ideal S8192x16 .f32) (x4 : FVec Ideal S8192x16x64 .f32)
    (h : fn (F := Ideal) x0 x1 x2 x3 x4 = fun _ => 1#1) :
    Cert.ReferenceIdeal.Att.Real5 x0 x1 x2 x4 x3
      (fun h s d => (x0 (ix3 s h d) : EReal).toReal) (fun h s d => (x1 (ix3 s h d) : EReal).toReal) (fun h s d => (x2 (ix3 s h d) : EReal).toReal)
      (fun h s d => (x4 (ix3 s h d) : EReal).toReal) (fun h s => (x3 (ix2 s h) : EReal).toReal) := by
  have e : fn (F := Ideal) x0 x1 x2 x3 x4 (fun a => a.elim0) = 1#1 := congrFun h _
  unfold fn fn_part1 at e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun s h d => real3 x0 _ e0 _, fun s h d => real3 x1 _ e1 _, fun s h d => real3 x2 _ e2 _, fun s h => real2 x3 _ e3 _, fun s h d => real3 x4 _ e4 _⟩

end Cert.Pre_finite.Att

end
-- ==== Proof.Algebraic.lean ====
/- The value claim: at exact arithmetic, where every argument is finite, the region's four results are the reference's. -/
module

public import proofs.«01_k».proof.Defs
public import proofs.«01_k».proof.Proof.KernelIdeal.Grad
public import proofs.«01_k».proof.Proof.Finite
public import proofs.«01_k».proof.Proof.Ref.Base

@[expose] public section

noncomputable section

namespace Cert.Att

open Idealize.ShloMosaic Idealize.ShloMosaic.TcCoe Idealize.SL.Sem
open Cert.ReferenceIdeal.Read

/-- Both programs end with equal results, whose common value is the kernel's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre harg
  refine ⟨fun c => Cert.KernelIdeal.Att.resQ m c, fun c => Cert.KernelIdeal.Att.resK m c, fun c => Cert.KernelIdeal.Att.resV m c,
    fun c => Cert.KernelIdeal.Att.resC m c, Cert.KernelIdeal.Att.run_value m g, ?_⟩
  refine (θ_run _ _ _).mono (fun r h c => ?_) (Cert.ReferenceIdeal.Value.run m' g')
  obtain ⟨a0, a1, a2, a3, a4⟩ := harg c
  obtain ⟨q0, q1, q2, q3⟩ := Cert.KernelIdeal.Att.results m c (Cert.Pre_finite.Att.real5 _ _ _ _ _ (hpre c)) rfl rfl rfl rfl rfl
  refine ⟨?_, ?_, ?_, ?_, (h c).2.2.2.2⟩
  · refine (h c).1.trans ((val_main_v88_eq m' c).trans ?_)
    rw [a0, a1, a2, a3, a4]
    exact q0.symm
  · refine (h c).2.1.trans ((val_main_v90_eq m' c).trans ?_)
    rw [a0, a1, a2, a3, a4]
    exact q1.symm
  · refine (h c).2.2.1.trans ((val_main_v92_eq m' c).trans ?_)
    rw [a0, a1, a3, a4]
    exact q2.symm
  · refine (h c).2.2.2.1.trans ((val_main_v93_eq m' c).trans ?_)
    rw [a0, a1, a2, a3, a4]
    exact q3.symm

end Cert.Att

end
-- ==== Proof.Product.Base.lean ====
/- The product of two arrays along their rows, at the ideal values: over all the rows at once, and over four blocks of
   rows, each added to what the blocks before left. Every shape the weights' gradients come in reads these. -/
module

public import Idealize.ShloMosaic.Lib.Pipeline.Value
public import Idealize.ShloMosaic.Lib.ValueIdx
public import Idealize.ShloMosaic.Lib.KernelVsHost
public import Idealize.ShloMosaic.PureOps.Ideal.Laws

@[expose] public section

noncomputable section

namespace Cert.Product

open Idealize.ShloMosaic Idealize.ShloMosaic.ValueIdx
open scoped BigOperators

/-- A matrix's index is its two coordinates. -/
theorem pair {M N : ℕ} (i : (⟨2, ![M, N]⟩ : Shape).Idx) : i = ix2 (i 0) (i 1) := funext fun a => by
  match a with
  | ⟨0, _⟩ => rfl
  | ⟨1, _⟩ => rfl

/-- Two matrices are equal where their elements are. -/
theorem ext2 {M N : ℕ} {f g : (⟨2, ![M, N]⟩ : Shape).Idx → EReal} (h : ∀ a b, f (ix2 a b) = g (ix2 a b)) : f = g := funext fun i => by
  rw [pair i]
  exact h _ _

/-- Row `s` of the row block `b` of 2048 rows (blocks past the fourth wrap round). -/
def row (b : ℕ) (s : Fin 2048) : Fin 8192 := ⟨(2048 * b + s.val) % 8192, Nat.mod_lt _ (by decide)⟩

theorem row_val (b : ℕ) (hb : b < 4) (s : Fin 2048) : (row b s).val = 2048 * b + s.val := by
  have := s.isLt
  exact Nat.mod_eq_of_lt (by omega)

/-- A sum over all the rows is the sum over the four blocks. -/
theorem sum_rows (f : Fin 8192 → EReal) :
    ∑ q : Fin 8192, f q = ∑ s, f (row 0 s) + ∑ s, f (row 1 s) + ∑ s, f (row 2 s) + ∑ s, f (row 3 s) := by
  have h := Equiv.sum_comp (finProdFinEquiv : Fin 4 × Fin 2048 ≃ Fin (4 * 2048)) f
  rw [Fintype.sum_prod_type, Fin.sum_univ_four] at h
  refine h.symm.trans ?_
  have e : ∀ b : Fin 4, ∑ s : Fin 2048, f (finProdFinEquiv (b, s)) = ∑ s, f (row b.val s) := fun b =>
    Finset.sum_congr rfl fun s _ => congrArg f (Fin.ext (by
      rw [row_val _ b.isLt]
      show s.val + 2048 * b.val = _
      omega))
  exact congrArg₂ (· + ·) (congrArg₂ (· + ·) (congrArg₂ (· + ·) (e 0) (e 1)) (e 2)) (e 3)

/-- Four steps, the first over a zero, at one element: the sum over all the rows. -/
theorem fold {N : ℕ} {ι : Type} (R : (n : ℕ) → n < N → ι → EReal) (S : (n : ℕ) → n < N → (ι → EReal) → ι → EReal) (Z : ι → EReal) (b : ℕ)
    (h : 4 * b + 3 < N) (i : ι) (f : Fin 8192 → EReal) (hZ : Z i = 0) (hR : ∀ h, R (4 * b) h = S (4 * b) h Z)
    (hS : ∀ (n : ℕ) (h : n < N) (acc : ι → EReal), n / 4 = b → S n h acc i = acc i + ∑ s, f (row (n % 4) s)) :
    Pipeline.accAt R S (4 * b) 3 h i = ∑ q, f q := by
  have m0 : 4 * b % 4 = 0 := by omega
  have m1 : (4 * b + (0 + 1)) % 4 = 1 := by omega
  have m2 : (4 * b + (1 + 1)) % 4 = 2 := by omega
  have m3 : (4 * b + (2 + 1)) % 4 = 3 := by omega
  rw [sum_rows, Pipeline.accAt_succ, Pipeline.accAt_succ, Pipeline.accAt_succ, Pipeline.accAt_zero, hR,
    hS _ _ _ (by omega), hS _ _ _ (by omega), hS _ _ _ (by omega), hS _ _ _ (by omega), hZ, zero_add, m0, m1, m2, m3]

section
variable {K M N : ℕ} (D : DotDims ⟨2, ![K, M]⟩ ⟨2, ![K, N]⟩ ⟨2, ![M, N]⟩) (hr : D.contr.rank = 1)
  (hs : D.contr.size ⟨0, by omega⟩ = K)

set_option backward.proofsInPublic true in
/-- What a product of columns by columns asks of its dimension numbers: which coordinates an element reads. -/
def Columns : Prop := ∀ (a : Fin M) (b : Fin N) (q : D.contr.Idx),
  ((D.lhsIdx (ix2 a b) q 0).val = (q ⟨0, by omega⟩).val ∧ (D.lhsIdx (ix2 a b) q 1).val = a.val)
    ∧ (D.rhsIdx (ix2 a b) q 0).val = (q ⟨0, by omega⟩).val ∧ (D.rhsIdx (ix2 a b) q 1).val = b.val

include hs in
theorem sum_columns (h : Columns D hr) (x : (⟨2, ![K, M]⟩ : Shape).Idx → EReal) (y : (⟨2, ![K, N]⟩ : Shape).Idx → EReal) (a : Fin M) (b : Fin N) :
    ∑ k : D.contr.Idx, x (D.lhsIdx (ix2 a b) k) * y (D.rhsIdx (ix2 a b) k) = ∑ s : Fin K, x (ix2 s a) * y (ix2 s b) := by
  rw [← Equiv.sum_comp (contrEquiv1 D K hr hs).symm]
  refine Finset.sum_congr rfl fun s _ => ?_
  have hk := contrEquiv1_symm_val D K hr hs s
  obtain ⟨⟨l0, l1⟩, r0, r1⟩ := h a b ((contrEquiv1 D K hr hs).symm s)
  refine congrArg₂ (· * ·) (congrArg x (funext fun c => Fin.ext ?_)) (congrArg y (funext fun c => Fin.ext ?_))
  · match c with
    | ⟨0, _⟩ => exact l0.trans hk
    | ⟨1, _⟩ => exact l1
  · match c with
    | ⟨0, _⟩ => exact r0.trans hk
    | ⟨1, _⟩ => exact r1

include hs in
/-- A step of the launch: the block's product is added to what the block before left. -/
theorem step_apply (h : Columns D hr) (acc : FVec Ideal ⟨2, ![M, N]⟩ .f32) (x : FVec Ideal ⟨2, ![K, M]⟩ .bf16) (y : FVec Ideal ⟨2, ![K, N]⟩ .bf16)
    (hc : (⟨2, ![M, N]⟩ : Shape).ShapeCasts ⟨2, ![M, N]⟩) (a : Fin M) (b : Fin N) :
    addf (shapeCast ⟨2, ![M, N]⟩ acc hc) (matmul D none x y (constant ⟨2, ![M, N]⟩ .f32 0x00000000#32)) (ix2 a b)
      = acc (ix2 a b) + ∑ s : Fin K, x (ix2 s a) * y (ix2 s b) := by
  rw [shapeCast_self]
  show acc (ix2 a b) + FloatOps.matmul D none x y (constant ⟨2, ![M, N]⟩ .f32 0x00000000#32) (ix2 a b) = _
  rw [Ideal.matmul_apply, constant_apply, Ideal.ofBits_zero_f32, zero_add, sum_columns D hr hs h]

end

end Cert.Product

end
-- ==== Proof.Product.Rows1024x1024.lean ====
/- The weights' gradient of 1024 columns by 1024: the launch's array, and the reference's, are the sum over all the rows. -/
module

public import proofs.«01_k».proof.Defs
public import proofs.«01_k».proof.Proof.Product.Base
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent

@[expose] public section

set_option maxRecDepth 16384

noncomputable section

namespace Cert.Kernel2Ideal.Product

open Cert.Kernel2Ideal.Gen Cert.Kernel2Ideal.Value Cert.Product
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- The two argument arrays. -/
abbrev rows : FVec Ideal S8192x1024 .bf16 := m ((c.tc : Thread nD τ).loc main_arg0)
abbrev cts : FVec Ideal S8192x1024 .bf16 := m ((c.tc : Thread nD τ).loc main_arg1)

theorem at0 : ∀ t : Fin grid0.N, cc0_transform_0 (grid0.coords t) = ![t.val % 4, 0] := by decide +kernel
theorem at1 : ∀ t : Fin grid0.N, cc0_transform_1 (grid0.coords t) = ![t.val % 4, t.val / 4] := by decide +kernel

theorem blk0 (t : Fin grid0.N) (s : Fin 2048) (a : Fin 1024) : iblk m c 0 t (ix2 s a) = rows m c (ix2 (row (t.val % 4) s) a) := by
  show V m c main_arg0 (((cfg0.win 0).rect t).emb (ix2 s a)) = _
  refine congrArg (V m c main_arg0) (funext fun x => Fin.ext ?_)
  refine ((cfg0.win 0).rect_emb_val t (ix2 s a) x).trans ?_
  show cc0_transform_0 (grid0.coords t) x * _ + _ = _
  rw [at0]
  match x with
  | ⟨0, _⟩ => refine Eq.trans ?_ (row_val _ (Nat.mod_lt _ (by decide)) s).symm; show t.val % 4 * 2048 + s.val = _; omega
  | ⟨1, _⟩ => show 0 * 1024 + a.val = a.val; omega

theorem blk1 (t : Fin grid0.N) (s : Fin 2048) (b : Fin 1024) : iblk m c 1 t (ix2 s b) = cts m c (ix2 (row (t.val % 4) s) b) := by
  have ht : t.val < 4 := lt_of_lt_of_eq t.isLt N_0
  show V m c main_arg1 (((cfg0.win 1).rect t).emb (ix2 s b)) = _
  refine congrArg (V m c main_arg1) (funext fun x => Fin.ext ?_)
  refine ((cfg0.win 1).rect_emb_val t (ix2 s b) x).trans ?_
  show cc0_transform_1 (grid0.coords t) x * _ + _ = _
  rw [at1]
  match x with
  | ⟨0, _⟩ => refine Eq.trans ?_ (row_val _ (Nat.mod_lt _ (by decide)) s).symm; show t.val % 4 * 2048 + s.val = _; omega
  | ⟨1, _⟩ => show t.val / 4 * 1024 + b.val = b.val; omega

theorem columns : Columns dot_S2048x1024_S2048x1024_S1024x1024_0_0_1_1_n_n rfl := fun _ _ _ => ⟨⟨rfl, rfl⟩, rfl, rfl⟩

/-- The launch's array, at an element: the sum over all the rows. -/
theorem final (a b : Fin 1024) : G2 m c (ix2 a b) = ∑ q, rows m c (ix2 q a) * cts m c (ix2 q b) := by
  have ha := a.isLt
  have hb := b.isLt
  have hrun : run2Of (ix2 a b) = 0 := by show 1 * (a.val / 1024 - 0) + 1 * (b.val / 1024 - 0) = 0; omega
  have hloc : loc2Of (ix2 a b) = ix2 a b := funext fun x => Fin.ext (by
    match x with
    | ⟨0, _⟩ => exact Nat.mod_eq_of_lt ha
    | ⟨1, _⟩ => exact Nat.mod_eq_of_lt hb)
  have hN : 4 * run2Of (ix2 a b) + 3 < cfg0.N := by rw [hrun]; exact lt_of_lt_of_eq (by decide) N_0.symm
  unfold G2
  rw [dif_pos hN, hloc]
  refine fold (reset2 m c) (step2 m c) (k0_pay1 (F := Ideal)) _ hN (ix2 a b) _ Ideal.ofBits_zero_f32 (fun _ => rfl) (fun n h acc hn => ?_)
  refine (step_apply dot_S2048x1024_S2048x1024_S1024x1024_0_0_1_1_n_n rfl rfl columns acc (iblk m c 0 ⟨n, h⟩) (iblk m c 1 ⟨n, h⟩) _ a b).trans ?_
  refine congrArg (acc (ix2 a b) + ·) (Finset.sum_congr rfl fun s _ => ?_)
  exact congrArg₂ (· * ·) (blk0 m c ⟨n, h⟩ s a) (blk1 m c ⟨n, h⟩ s b)

/-- The reference's array, at an element: the same sum. -/
theorem ref (x y : FVec Ideal S8192x1024 .bf16) (a b : Fin 1024) :
    Cert.Reference2Ideal.Read.val_main_v5 (F := Ideal) x y (ix2 a b) = ∑ q, x (ix2 q a) * y (ix2 q b) := by
  rw [Cert.Reference2Ideal.Read.val_main_v5_apply, Cert.Reference2Ideal.Read.val_main_v4_apply]
  refine Finset.sum_congr rfl fun q _ => ?_
  refine (mul_comm _ _).trans (congrArg₂ (· * ·) (congrArg x ?_) (congrArg y ?_)) <;> exact pair _

/-- The frame of the reference: every execution ends, the arguments unchanged; it has no semaphore. -/
theorem frame_ref : Cert.quiescent_Reference2Ideal (hReference2Ideal := Cert.Reference2Ideal.Gen.facts) := fun m g _ =>
  (θ_run _ _ _).mono (fun r h => ⟨fun c => (h c).2, sem_eq_zero_of_no_sems rfl r.2⟩) (Cert.Reference2Ideal.Value.run m g)

/-- Both programs end with equal results, whose common value is the kernel's. -/
theorem algebraic : Cert.algebraic_Kernel2Ideal_Reference2Ideal (hKernel2Ideal := Cert.Kernel2Ideal.Gen.facts) (hReference2Ideal := Cert.Reference2Ideal.Gen.facts) := by
  intro m g m' g' _ harg
  refine ⟨fun c => G2 m c, Value.run m g, ?_⟩
  refine (θ_run _ _ _).mono (fun r h c => ⟨?_, (h c).2⟩) (Cert.Reference2Ideal.Value.run m' g')
  obtain ⟨a0, a1⟩ := harg c
  refine (h c).1.trans ((Cert.Reference2Ideal.Read.val_main_v5_eq _ _).trans ?_)
  rw [a0, a1]
  exact ext2 fun a b => (ref _ _ a b).trans (final m c a b).symm

end Cert.Kernel2Ideal.Product

end
-- ==== Proof.Product.Rows2048x1024.lean ====
/- The weights' gradient of 2048 columns by 1024, its columns in two blocks: the launch's array, and the reference's, are the sum over all the rows. -/
module

public import proofs.«01_k».proof.Defs
public import proofs.«01_k».proof.Proof.Product.Base
public import proofs.«01_k».proof.Proof.Gen.Kernel3Ideal.Value
public import proofs.«01_k».proof.Proof.Gen.Reference3Ideal.Run
public import proofs.«01_k».proof.Proof.Gen.Reference3Ideal.Read
public import Idealize.ShloMosaic.Lib.Quiescent

@[expose] public section

set_option maxRecDepth 16384

noncomputable section

namespace Cert.Kernel3Ideal.Product

open Cert.Kernel3Ideal.Gen Cert.Kernel3Ideal.Value Cert.Product
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- The two argument arrays. -/
abbrev rows : FVec Ideal S8192x2048 .bf16 := m ((c.tc : Thread nD τ).loc main_arg0)
abbrev cts : FVec Ideal S8192x1024 .bf16 := m ((c.tc : Thread nD τ).loc main_arg1)

theorem at0 : ∀ t : Fin grid0.N, cc0_transform_0 (grid0.coords t) = ![t.val % 4, 0] := by decide +kernel
theorem at1 : ∀ t : Fin grid0.N, cc0_transform_1 (grid0.coords t) = ![t.val % 4, t.val / 4] := by decide +kernel

theorem blk0 (t : Fin grid0.N) (s : Fin 2048) (a : Fin 2048) : iblk m c 0 t (ix2 s a) = rows m c (ix2 (row (t.val % 4) s) a) := by
  show V m c main_arg0 (((cfg0.win 0).rect t).emb (ix2 s a)) = _
  refine congrArg (V m c main_arg0) (funext fun x => Fin.ext ?_)
  refine ((cfg0.win 0).rect_emb_val t (ix2 s a) x).trans ?_
  show cc0_transform_0 (grid0.coords t) x * _ + _ = _
  rw [at0]
  match x with
  | ⟨0, _⟩ => refine Eq.trans ?_ (row_val _ (Nat.mod_lt _ (by decide)) s).symm; show t.val % 4 * 2048 + s.val = _; omega
  | ⟨1, _⟩ => show 0 * 2048 + a.val = a.val; omega

theorem blk1 (t : Fin grid0.N) (s : Fin 2048) (b : Fin 512) (h : t.val / 4 * 512 + b.val < 1024) : iblk m c 1 t (ix2 s b) = cts m c (ix2 (row (t.val % 4) s) ⟨t.val / 4 * 512 + b.val, h⟩) := by
  show V m c main_arg1 (((cfg0.win 1).rect t).emb (ix2 s b)) = _
  refine congrArg (V m c main_arg1) (funext fun x => Fin.ext ?_)
  refine ((cfg0.win 1).rect_emb_val t (ix2 s b) x).trans ?_
  show cc0_transform_1 (grid0.coords t) x * _ + _ = _
  rw [at1]
  match x with
  | ⟨0, _⟩ => refine Eq.trans ?_ (row_val _ (Nat.mod_lt _ (by decide)) s).symm; show t.val % 4 * 2048 + s.val = _; omega
  | ⟨1, _⟩ => rfl

theorem columns : Columns dot_S2048x2048_S2048x512_S2048x512_0_0_1_1_n_n rfl := fun _ _ _ => ⟨⟨rfl, rfl⟩, rfl, rfl⟩

/-- The launch's array, at an element: the sum over all the rows. -/
theorem final (a : Fin 2048) (b : Fin 1024) : G2 m c (ix2 a b) = ∑ q, rows m c (ix2 q a) * cts m c (ix2 q b) := by
  have ha := a.isLt
  have hb := b.isLt
  have hrun : run2Of (ix2 a b) = b.val / 512 := by show 2 * (a.val / 2048 - 0) + 1 * (b.val / 512 - 0) = _; omega
  have hl : b.val % 512 < 512 := Nat.mod_lt _ (by decide)
  have hloc : loc2Of (ix2 a b) = ix2 a ⟨b.val % 512, hl⟩ := funext fun x => Fin.ext (by
    match x with
    | ⟨0, _⟩ => exact Nat.mod_eq_of_lt ha
    | ⟨1, _⟩ => rfl)
  have hN : 4 * run2Of (ix2 a b) + 3 < cfg0.N := by rw [hrun]; exact lt_of_lt_of_eq (by omega) N_0.symm
  unfold G2
  rw [dif_pos hN, hloc]
  refine fold (reset2 m c) (step2 m c) (k0_pay1 (F := Ideal)) _ hN (ix2 a ⟨b.val % 512, hl⟩) (fun q => rows m c (ix2 q a) * cts m c (ix2 q b)) Ideal.ofBits_zero_f32 (fun _ => rfl) (fun n h acc hn => ?_)
  refine (step_apply dot_S2048x2048_S2048x512_S2048x512_0_0_1_1_n_n rfl rfl columns acc (iblk m c 0 ⟨n, h⟩) (iblk m c 1 ⟨n, h⟩) _ a ⟨b.val % 512, hl⟩).trans ?_
  have hcol : n / 4 * 512 + b.val % 512 = b.val := by rw [hn, hrun]; omega
  refine congrArg (acc (ix2 a ⟨b.val % 512, hl⟩) + ·) (Finset.sum_congr rfl fun s _ => ?_)
  exact congrArg₂ (· * ·) (blk0 m c ⟨n, h⟩ s a) ((blk1 m c ⟨n, h⟩ s ⟨b.val % 512, hl⟩ (by show n / 4 * 512 + b.val % 512 < _; omega)).trans (congrArg (fun x => cts m c (ix2 _ x)) (Fin.ext hcol)))

/-- The reference's array, at an element: the same sum. -/
theorem ref (x : FVec Ideal S8192x2048 .bf16) (y : FVec Ideal S8192x1024 .bf16) (a : Fin 2048) (b : Fin 1024) :
    Cert.Reference3Ideal.Read.val_main_v5 (F := Ideal) x y (ix2 a b) = ∑ q, x (ix2 q a) * y (ix2 q b) := by
  rw [Cert.Reference3Ideal.Read.val_main_v5_apply, Cert.Reference3Ideal.Read.val_main_v4_apply]
  refine Finset.sum_congr rfl fun q _ => ?_
  refine (mul_comm _ _).trans (congrArg₂ (· * ·) (congrArg x ?_) (congrArg y ?_)) <;> exact pair _

/-- The frame of the reference: every execution ends, the arguments unchanged; it has no semaphore. -/
theorem frame_ref : Cert.quiescent_Reference3Ideal (hReference3Ideal := Cert.Reference3Ideal.Gen.facts) := fun m g _ =>
  (θ_run _ _ _).mono (fun r h => ⟨fun c => (h c).2, sem_eq_zero_of_no_sems rfl r.2⟩) (Cert.Reference3Ideal.Value.run m g)

/-- Both programs end with equal results, whose common value is the kernel's. -/
theorem algebraic : Cert.algebraic_Kernel3Ideal_Reference3Ideal (hKernel3Ideal := Cert.Kernel3Ideal.Gen.facts) (hReference3Ideal := Cert.Reference3Ideal.Gen.facts) := by
  intro m g m' g' _ harg
  refine ⟨fun c => G2 m c, Value.run m g, ?_⟩
  refine (θ_run _ _ _).mono (fun r h c => ⟨?_, (h c).2⟩) (Cert.Reference3Ideal.Value.run m' g')
  obtain ⟨a0, a1⟩ := harg c
  refine (h c).1.trans ((Cert.Reference3Ideal.Read.val_main_v5_eq _ _).trans ?_)
  rw [a0, a1]
  exact ext2 fun a b => (ref _ _ a b).trans (final m c a b).symm

end Cert.Kernel3Ideal.Product

end
-- ==== Proof.Product.Rows1024x1536.lean ====
/- The weights' gradient of 1024 columns by 1536, its columns in two blocks: the launch's array, and the reference's, are the sum over all the rows. -/
module

public import proofs.«01_k».proof.Defs
public import proofs.«01_k».proof.Proof.Product.Base
public import proofs.«01_k».proof.Proof.Gen.Kernel4Ideal.Value
public import proofs.«01_k».proof.Proof.Gen.Reference4Ideal.Run
public import proofs.«01_k».proof.Proof.Gen.Reference4Ideal.Read
public import Idealize.ShloMosaic.Lib.Quiescent

@[expose] public section

set_option maxRecDepth 16384

noncomputable section

namespace Cert.Kernel4Ideal.Product

open Cert.Kernel4Ideal.Gen Cert.Kernel4Ideal.Value Cert.Product
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- The two argument arrays. -/
abbrev rows : FVec Ideal S8192x1024 .bf16 := m ((c.tc : Thread nD τ).loc main_arg0)
abbrev cts : FVec Ideal S8192x1536 .bf16 := m ((c.tc : Thread nD τ).loc main_arg1)

theorem at0 : ∀ t : Fin grid0.N, cc0_transform_0 (grid0.coords t) = ![t.val % 4, 0] := by decide +kernel
theorem at1 : ∀ t : Fin grid0.N, cc0_transform_1 (grid0.coords t) = ![t.val % 4, t.val / 4] := by decide +kernel

theorem blk0 (t : Fin grid0.N) (s : Fin 2048) (a : Fin 1024) : iblk m c 0 t (ix2 s a) = rows m c (ix2 (row (t.val % 4) s) a) := by
  show V m c main_arg0 (((cfg0.win 0).rect t).emb (ix2 s a)) = _
  refine congrArg (V m c main_arg0) (funext fun x => Fin.ext ?_)
  refine ((cfg0.win 0).rect_emb_val t (ix2 s a) x).trans ?_
  show cc0_transform_0 (grid0.coords t) x * _ + _ = _
  rw [at0]
  match x with
  | ⟨0, _⟩ => refine Eq.trans ?_ (row_val _ (Nat.mod_lt _ (by decide)) s).symm; show t.val % 4 * 2048 + s.val = _; omega
  | ⟨1, _⟩ => show 0 * 1024 + a.val = a.val; omega

theorem blk1 (t : Fin grid0.N) (s : Fin 2048) (b : Fin 768) (h : t.val / 4 * 768 + b.val < 1536) : iblk m c 1 t (ix2 s b) = cts m c (ix2 (row (t.val % 4) s) ⟨t.val / 4 * 768 + b.val, h⟩) := by
  show V m c main_arg1 (((cfg0.win 1).rect t).emb (ix2 s b)) = _
  refine congrArg (V m c main_arg1) (funext fun x => Fin.ext ?_)
  refine ((cfg0.win 1).rect_emb_val t (ix2 s b) x).trans ?_
  show cc0_transform_1 (grid0.coords t) x * _ + _ = _
  rw [at1]
  match x with
  | ⟨0, _⟩ => refine Eq.trans ?_ (row_val _ (Nat.mod_lt _ (by decide)) s).symm; show t.val % 4 * 2048 + s.val = _; omega
  | ⟨1, _⟩ => rfl

theorem columns : Columns dot_S2048x1024_S2048x768_S1024x768_0_0_1_1_n_n rfl := fun _ _ _ => ⟨⟨rfl, rfl⟩, rfl, rfl⟩

/-- The launch's array, at an element: the sum over all the rows. -/
theorem final (a : Fin 1024) (b : Fin 1536) : G2 m c (ix2 a b) = ∑ q, rows m c (ix2 q a) * cts m c (ix2 q b) := by
  have ha := a.isLt
  have hb := b.isLt
  have hrun : run2Of (ix2 a b) = b.val / 768 := by show 2 * (a.val / 1024 - 0) + 1 * (b.val / 768 - 0) = _; omega
  have hl : b.val % 768 < 768 := Nat.mod_lt _ (by decide)
  have hloc : loc2Of (ix2 a b) = ix2 a ⟨b.val % 768, hl⟩ := funext fun x => Fin.ext (by
    match x with
    | ⟨0, _⟩ => exact Nat.mod_eq_of_lt ha
    | ⟨1, _⟩ => rfl)
  have hN : 4 * run2Of (ix2 a b) + 3 < cfg0.N := by rw [hrun]; exact lt_of_lt_of_eq (by omega) N_0.symm
  unfold G2
  rw [dif_pos hN, hloc]
  refine fold (reset2 m c) (step2 m c) (k0_pay1 (F := Ideal)) _ hN (ix2 a ⟨b.val % 768, hl⟩) (fun q => rows m c (ix2 q a) * cts m c (ix2 q b)) Ideal.ofBits_zero_f32 (fun _ => rfl) (fun n h acc hn => ?_)
  refine (step_apply dot_S2048x1024_S2048x768_S1024x768_0_0_1_1_n_n rfl rfl columns acc (iblk m c 0 ⟨n, h⟩) (iblk m c 1 ⟨n, h⟩) _ a ⟨b.val % 768, hl⟩).trans ?_
  have hcol : n / 4 * 768 + b.val % 768 = b.val := by rw [hn, hrun]; omega
  refine congrArg (acc (ix2 a ⟨b.val % 768, hl⟩) + ·) (Finset.sum_congr rfl fun s _ => ?_)
  exact congrArg₂ (· * ·) (blk0 m c ⟨n, h⟩ s a) ((blk1 m c ⟨n, h⟩ s ⟨b.val % 768, hl⟩ (by show n / 4 * 768 + b.val % 768 < _; omega)).trans (congrArg (fun x => cts m c (ix2 _ x)) (Fin.ext hcol)))

/-- The reference's array, at an element: the same sum. -/
theorem ref (x : FVec Ideal S8192x1024 .bf16) (y : FVec Ideal S8192x1536 .bf16) (a : Fin 1024) (b : Fin 1536) :
    Cert.Reference4Ideal.Read.val_main_v5 (F := Ideal) x y (ix2 a b) = ∑ q, x (ix2 q a) * y (ix2 q b) := by
  rw [Cert.Reference4Ideal.Read.val_main_v5_apply, Cert.Reference4Ideal.Read.val_main_v4_apply]
  refine Finset.sum_congr rfl fun q _ => ?_
  refine (mul_comm _ _).trans (congrArg₂ (· * ·) (congrArg x ?_) (congrArg y ?_)) <;> exact pair _

/-- The frame of the reference: every execution ends, the arguments unchanged; it has no semaphore. -/
theorem frame_ref : Cert.quiescent_Reference4Ideal (hReference4Ideal := Cert.Reference4Ideal.Gen.facts) := fun m g _ =>
  (θ_run _ _ _).mono (fun r h => ⟨fun c => (h c).2, sem_eq_zero_of_no_sems rfl r.2⟩) (Cert.Reference4Ideal.Value.run m g)

/-- Both programs end with equal results, whose common value is the kernel's. -/
theorem algebraic : Cert.algebraic_Kernel4Ideal_Reference4Ideal (hKernel4Ideal := Cert.Kernel4Ideal.Gen.facts) (hReference4Ideal := Cert.Reference4Ideal.Gen.facts) := by
  intro m g m' g' _ harg
  refine ⟨fun c => G2 m c, Value.run m g, ?_⟩
  refine (θ_run _ _ _).mono (fun r h c => ⟨?_, (h c).2⟩) (Cert.Reference4Ideal.Value.run m' g')
  obtain ⟨a0, a1⟩ := harg c
  refine (h c).1.trans ((Cert.Reference4Ideal.Read.val_main_v5_eq _ _).trans ?_)
  rw [a0, a1]
  exact ext2 fun a b => (ref _ _ a b).trans (final m c a b).symm

end Cert.Kernel4Ideal.Product

end
-- ==== Proof.Product.Rows256x1024.lean ====
/- The weights' gradient of 256 columns by 1024: the launch's array, and the reference's, are the sum over all the rows. -/
module

public import proofs.«01_k».proof.Defs
public import proofs.«01_k».proof.Proof.Product.Base
public import proofs.«01_k».proof.Proof.Gen.Kernel5Ideal.Value
public import proofs.«01_k».proof.Proof.Gen.Reference5Ideal.Run
public import proofs.«01_k».proof.Proof.Gen.Reference5Ideal.Read
public import Idealize.ShloMosaic.Lib.Quiescent

@[expose] public section

set_option maxRecDepth 16384

noncomputable section

namespace Cert.Kernel5Ideal.Product

open Cert.Kernel5Ideal.Gen Cert.Kernel5Ideal.Value Cert.Product
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- The two argument arrays. -/
abbrev rows : FVec Ideal S8192x256 .bf16 := m ((c.tc : Thread nD τ).loc main_arg0)
abbrev cts : FVec Ideal S8192x1024 .bf16 := m ((c.tc : Thread nD τ).loc main_arg1)

theorem at0 : ∀ t : Fin grid0.N, cc0_transform_0 (grid0.coords t) = ![t.val % 4, 0] := by decide +kernel
theorem at1 : ∀ t : Fin grid0.N, cc0_transform_1 (grid0.coords t) = ![t.val % 4, t.val / 4] := by decide +kernel

theorem blk0 (t : Fin grid0.N) (s : Fin 2048) (a : Fin 256) : iblk m c 0 t (ix2 s a) = rows m c (ix2 (row (t.val % 4) s) a) := by
  show V m c main_arg0 (((cfg0.win 0).rect t).emb (ix2 s a)) = _
  refine congrArg (V m c main_arg0) (funext fun x => Fin.ext ?_)
  refine ((cfg0.win 0).rect_emb_val t (ix2 s a) x).trans ?_
  show cc0_transform_0 (grid0.coords t) x * _ + _ = _
  rw [at0]
  match x with
  | ⟨0, _⟩ => refine Eq.trans ?_ (row_val _ (Nat.mod_lt _ (by decide)) s).symm; show t.val % 4 * 2048 + s.val = _; omega
  | ⟨1, _⟩ => show 0 * 256 + a.val = a.val; omega

theorem blk1 (t : Fin grid0.N) (s : Fin 2048) (b : Fin 1024) : iblk m c 1 t (ix2 s b) = cts m c (ix2 (row (t.val % 4) s) b) := by
  have ht : t.val < 4 := lt_of_lt_of_eq t.isLt N_0
  show V m c main_arg1 (((cfg0.win 1).rect t).emb (ix2 s b)) = _
  refine congrArg (V m c main_arg1) (funext fun x => Fin.ext ?_)
  refine ((cfg0.win 1).rect_emb_val t (ix2 s b) x).trans ?_
  show cc0_transform_1 (grid0.coords t) x * _ + _ = _
  rw [at1]
  match x with
  | ⟨0, _⟩ => refine Eq.trans ?_ (row_val _ (Nat.mod_lt _ (by decide)) s).symm; show t.val % 4 * 2048 + s.val = _; omega
  | ⟨1, _⟩ => show t.val / 4 * 1024 + b.val = b.val; omega

theorem columns : Columns dot_S2048x256_S2048x1024_S256x1024_0_0_1_1_n_n rfl := fun _ _ _ => ⟨⟨rfl, rfl⟩, rfl, rfl⟩

/-- The launch's array, at an element: the sum over all the rows. -/
theorem final (a : Fin 256) (b : Fin 1024) : G2 m c (ix2 a b) = ∑ q, rows m c (ix2 q a) * cts m c (ix2 q b) := by
  have ha := a.isLt
  have hb := b.isLt
  have hrun : run2Of (ix2 a b) = 0 := by show 1 * (a.val / 256 - 0) + 1 * (b.val / 1024 - 0) = 0; omega
  have hloc : loc2Of (ix2 a b) = ix2 a b := funext fun x => Fin.ext (by
    match x with
    | ⟨0, _⟩ => exact Nat.mod_eq_of_lt ha
    | ⟨1, _⟩ => exact Nat.mod_eq_of_lt hb)
  have hN : 4 * run2Of (ix2 a b) + 3 < cfg0.N := by rw [hrun]; exact lt_of_lt_of_eq (by decide) N_0.symm
  unfold G2
  rw [dif_pos hN, hloc]
  refine fold (reset2 m c) (step2 m c) (k0_pay1 (F := Ideal)) _ hN (ix2 a b) _ Ideal.ofBits_zero_f32 (fun _ => rfl) (fun n h acc hn => ?_)
  refine (step_apply dot_S2048x256_S2048x1024_S256x1024_0_0_1_1_n_n rfl rfl columns acc (iblk m c 0 ⟨n, h⟩) (iblk m c 1 ⟨n, h⟩) _ a b).trans ?_
  refine congrArg (acc (ix2 a b) + ·) (Finset.sum_congr rfl fun s _ => ?_)
  exact congrArg₂ (· * ·) (blk0 m c ⟨n, h⟩ s a) (blk1 m c ⟨n, h⟩ s b)

/-- The reference's array, at an element: the same sum. -/
theorem ref (x : FVec Ideal S8192x256 .bf16) (y : FVec Ideal S8192x1024 .bf16) (a : Fin 256) (b : Fin 1024) :
    Cert.Reference5Ideal.Read.val_main_v5 (F := Ideal) x y (ix2 a b) = ∑ q, x (ix2 q a) * y (ix2 q b) := by
  rw [Cert.Reference5Ideal.Read.val_main_v5_apply, Cert.Reference5Ideal.Read.val_main_v4_apply]
  refine Finset.sum_congr rfl fun q _ => ?_
  refine (mul_comm _ _).trans (congrArg₂ (· * ·) (congrArg x ?_) (congrArg y ?_)) <;> exact pair _

/-- The frame of the reference: every execution ends, the arguments unchanged; it has no semaphore. -/
theorem frame_ref : Cert.quiescent_Reference5Ideal (hReference5Ideal := Cert.Reference5Ideal.Gen.facts) := fun m g _ =>
  (θ_run _ _ _).mono (fun r h => ⟨fun c => (h c).2, sem_eq_zero_of_no_sems rfl r.2⟩) (Cert.Reference5Ideal.Value.run m g)

/-- Both programs end with equal results, whose common value is the kernel's. -/
theorem algebraic : Cert.algebraic_Kernel5Ideal_Reference5Ideal (hKernel5Ideal := Cert.Kernel5Ideal.Gen.facts) (hReference5Ideal := Cert.Reference5Ideal.Gen.facts) := by
  intro m g m' g' _ harg
  refine ⟨fun c => G2 m c, Value.run m g, ?_⟩
  refine (θ_run _ _ _).mono (fun r h c => ⟨?_, (h c).2⟩) (Cert.Reference5Ideal.Value.run m' g')
  obtain ⟨a0, a1⟩ := harg c
  refine (h c).1.trans ((Cert.Reference5Ideal.Read.val_main_v5_eq _ _).trans ?_)
  rw [a0, a1]
  exact ext2 fun a b => (ref _ _ a b).trans (final m c a b).symm

end Cert.Kernel5Ideal.Product

end
-- ==== Proof.Product.Rows1024x128.lean ====
/- The weights' gradient of 1024 columns by 128: the launch's array, and the reference's, are the sum over all the rows. -/
module

public import proofs.«01_k».proof.Defs
public import proofs.«01_k».proof.Proof.Product.Base
public import proofs.«01_k».proof.Proof.Gen.Kernel6Ideal.Value
public import proofs.«01_k».proof.Proof.Gen.Reference6Ideal.Run
public import proofs.«01_k».proof.Proof.Gen.Reference6Ideal.Read
public import Idealize.ShloMosaic.Lib.Quiescent

@[expose] public section

set_option maxRecDepth 16384

noncomputable section

namespace Cert.Kernel6Ideal.Product

open Cert.Kernel6Ideal.Gen Cert.Kernel6Ideal.Value Cert.Product
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- The two argument arrays. -/
abbrev rows : FVec Ideal S8192x1024 .bf16 := m ((c.tc : Thread nD τ).loc main_arg0)
abbrev cts : FVec Ideal S8192x128 .bf16 := m ((c.tc : Thread nD τ).loc main_arg1)

theorem at0 : ∀ t : Fin grid0.N, cc0_transform_0 (grid0.coords t) = ![t.val % 4, 0] := by decide +kernel
theorem at1 : ∀ t : Fin grid0.N, cc0_transform_1 (grid0.coords t) = ![t.val % 4, t.val / 4] := by decide +kernel

theorem blk0 (t : Fin grid0.N) (s : Fin 2048) (a : Fin 1024) : iblk m c 0 t (ix2 s a) = rows m c (ix2 (row (t.val % 4) s) a) := by
  show V m c main_arg0 (((cfg0.win 0).rect t).emb (ix2 s a)) = _
  refine congrArg (V m c main_arg0) (funext fun x => Fin.ext ?_)
  refine ((cfg0.win 0).rect_emb_val t (ix2 s a) x).trans ?_
  show cc0_transform_0 (grid0.coords t) x * _ + _ = _
  rw [at0]
  match x with
  | ⟨0, _⟩ => refine Eq.trans ?_ (row_val _ (Nat.mod_lt _ (by decide)) s).symm; show t.val % 4 * 2048 + s.val = _; omega
  | ⟨1, _⟩ => show 0 * 1024 + a.val = a.val; omega

theorem blk1 (t : Fin grid0.N) (s : Fin 2048) (b : Fin 128) : iblk m c 1 t (ix2 s b) = cts m c (ix2 (row (t.val % 4) s) b) := by
  have ht : t.val < 4 := lt_of_lt_of_eq t.isLt N_0
  show V m c main_arg1 (((cfg0.win 1).rect t).emb (ix2 s b)) = _
  refine congrArg (V m c main_arg1) (funext fun x => Fin.ext ?_)
  refine ((cfg0.win 1).rect_emb_val t (ix2 s b) x).trans ?_
  show cc0_transform_1 (grid0.coords t) x * _ + _ = _
  rw [at1]
  match x with
  | ⟨0, _⟩ => refine Eq.trans ?_ (row_val _ (Nat.mod_lt _ (by decide)) s).symm; show t.val % 4 * 2048 + s.val = _; omega
  | ⟨1, _⟩ => show t.val / 4 * 128 + b.val = b.val; omega

theorem columns : Columns dot_S2048x1024_S2048x128_S1024x128_0_0_1_1_n_n rfl := fun _ _ _ => ⟨⟨rfl, rfl⟩, rfl, rfl⟩

/-- The launch's array, at an element: the sum over all the rows. -/
theorem final (a : Fin 1024) (b : Fin 128) : G2 m c (ix2 a b) = ∑ q, rows m c (ix2 q a) * cts m c (ix2 q b) := by
  have ha := a.isLt
  have hb := b.isLt
  have hrun : run2Of (ix2 a b) = 0 := by show 1 * (a.val / 1024 - 0) + 1 * (b.val / 128 - 0) = 0; omega
  have hloc : loc2Of (ix2 a b) = ix2 a b := funext fun x => Fin.ext (by
    match x with
    | ⟨0, _⟩ => exact Nat.mod_eq_of_lt ha
    | ⟨1, _⟩ => exact Nat.mod_eq_of_lt hb)
  have hN : 4 * run2Of (ix2 a b) + 3 < cfg0.N := by rw [hrun]; exact lt_of_lt_of_eq (by decide) N_0.symm
  unfold G2
  rw [dif_pos hN, hloc]
  refine fold (reset2 m c) (step2 m c) (k0_pay1 (F := Ideal)) _ hN (ix2 a b) _ Ideal.ofBits_zero_f32 (fun _ => rfl) (fun n h acc hn => ?_)
  refine (step_apply dot_S2048x1024_S2048x128_S1024x128_0_0_1_1_n_n rfl rfl columns acc (iblk m c 0 ⟨n, h⟩) (iblk m c 1 ⟨n, h⟩) _ a b).trans ?_
  refine congrArg (acc (ix2 a b) + ·) (Finset.sum_congr rfl fun s _ => ?_)
  exact congrArg₂ (· * ·) (blk0 m c ⟨n, h⟩ s a) (blk1 m c ⟨n, h⟩ s b)

/-- The reference's array, at an element: the same sum. -/
theorem ref (x : FVec Ideal S8192x1024 .bf16) (y : FVec Ideal S8192x128 .bf16) (a : Fin 1024) (b : Fin 128) :
    Cert.Reference6Ideal.Read.val_main_v5 (F := Ideal) x y (ix2 a b) = ∑ q, x (ix2 q a) * y (ix2 q b) := by
  rw [Cert.Reference6Ideal.Read.val_main_v5_apply, Cert.Reference6Ideal.Read.val_main_v4_apply]
  refine Finset.sum_congr rfl fun q _ => ?_
  refine (mul_comm _ _).trans (congrArg₂ (· * ·) (congrArg x ?_) (congrArg y ?_)) <;> exact pair _

/-- The frame of the reference: every execution ends, the arguments unchanged; it has no semaphore. -/
theorem frame_ref : Cert.quiescent_Reference6Ideal (hReference6Ideal := Cert.Reference6Ideal.Gen.facts) := fun m g _ =>
  (θ_run _ _ _).mono (fun r h => ⟨fun c => (h c).2, sem_eq_zero_of_no_sems rfl r.2⟩) (Cert.Reference6Ideal.Value.run m g)

/-- Both programs end with equal results, whose common value is the kernel's. -/
theorem algebraic : Cert.algebraic_Kernel6Ideal_Reference6Ideal (hKernel6Ideal := Cert.Kernel6Ideal.Gen.facts) (hReference6Ideal := Cert.Reference6Ideal.Gen.facts) := by
  intro m g m' g' _ harg
  refine ⟨fun c => G2 m c, Value.run m g, ?_⟩
  refine (θ_run _ _ _).mono (fun r h c => ⟨?_, (h c).2⟩) (Cert.Reference6Ideal.Value.run m' g')
  obtain ⟨a0, a1⟩ := harg c
  refine (h c).1.trans ((Cert.Reference6Ideal.Read.val_main_v5_eq _ _).trans ?_)
  rw [a0, a1]
  exact ext2 fun a b => (ref _ _ a b).trans (final m c a b).symm

end Cert.Kernel6Ideal.Product

end
-- ==== Proof.Input.Base.lean ====
/- What the two input calls share, at the ideal values: the row blocks of 512 rows, the sums over a row and over the block's
   rows, the row's scale of the normalisation, and the products of rows by columns and of rows by rows. -/
module

public import Idealize.ShloMosaic.Lib.Pipeline.Value
public import Idealize.ShloMosaic.Lib.ValueIdx
public import Idealize.ShloMosaic.Lib.ValueLayout
public import Idealize.ShloMosaic.Lib.KernelVsHost
public import Idealize.ShloMosaic.PureOps.Ideal.Laws

@[expose] public section

noncomputable section

namespace Cert.Input

open Idealize.ShloMosaic Idealize.ShloMosaic.ValueIdx
open scoped BigOperators

/-- Row `a` of the row block `t` of 512 rows (blocks past the sixteenth wrap round). -/
def row (t : ℕ) (a : Fin 512) : Fin 8192 := ⟨(512 * t + a.val) % 8192, Nat.mod_lt _ (by decide)⟩

theorem row_val (t : ℕ) (ht : t < 16) (a : Fin 512) : (row t a).val = 512 * t + a.val := by
  have := a.isLt
  exact Nat.mod_eq_of_lt (by omega)

/-- The scale of a row: one over the root of its mean square and the small constant. -/
def scale (f : Fin 1024 → EReal) : EReal :=
  FloatOps.rsqrt (F := Ideal) (φ := .f32) (FloatOps.addf (F := Ideal) (φ := .f32)
    (FloatOps.divf (F := Ideal) (φ := .f32) (∑ s, f s * f s) (FloatOps.ofBits .f32 0x44800000#32)) (FloatOps.ofBits .f32 0x358637BD#32))

/-- The sum over a block's row. -/
theorem row_sum (x : FVec Ideal ⟨2, ![512, 1024]⟩ .f32) (h : (⟨2, ![512, 1024]⟩ : Shape).Reduces [1] ⟨1, ![512]⟩) (hf : FKind.Formats .f32)
    (hn : (0x00000000#32 : BitVec 32) = FKind.add.neutral .f32 hf) (hc : (⟨1, ![512]⟩ : Shape).ShapeCasts ⟨2, ![512, 1]⟩) (a : Fin 512) :
    shapeCast ⟨2, ![512, 1]⟩ (multiReduction .add [1] ⟨1, ![512]⟩ x 0x00000000#32 h hf hn) hc (ix2 a (0 : Fin 1)) = ∑ s : Fin 1024, x (ix2 a s) := by
  refine (shapeCast_apply _ hc _ (ix1 a) (by rw [Shape.rowMajor_val_one, Shape.rowMajor_val_two]; show a.val = a.val * 1 + 0; omega)).trans ?_
  refine (Ideal.multiReduction_add_single x _ h hf hn (ix1 a)).trans (Finset.sum_congr rfl fun s _ => ?_)
  exact congrArg x (funext fun b => Fin.ext (by match b with | ⟨0, _⟩ => rfl | ⟨1, _⟩ => rfl))

/-- The sum over a block's rows, at a column. -/
theorem column_sum (x : FVec Ideal ⟨2, ![512, 1024]⟩ .f32) (h : (⟨2, ![512, 1024]⟩ : Shape).Reduces [0] ⟨1, ![1024]⟩) (hf : FKind.Formats .f32)
    (hn : (0x00000000#32 : BitVec 32) = FKind.add.neutral .f32 hf) (hc : (⟨1, ![1024]⟩ : Shape).ShapeCasts ⟨2, ![1, 1024]⟩) (b : Fin 1024) :
    shapeCast ⟨2, ![1, 1024]⟩ (multiReduction .add [0] ⟨1, ![1024]⟩ x 0x00000000#32 h hf hn) hc (ix2 (0 : Fin 1) b) = ∑ s : Fin 512, x (ix2 s b) := by
  refine (shapeCast_apply _ hc _ (ix1 b) (by rw [Shape.rowMajor_val_one, Shape.rowMajor_val_two]; show b.val = 0 * 1024 + b.val; omega)).trans ?_
  refine (Ideal.multiReduction_add_single x _ h hf hn (ix1 b)).trans (Finset.sum_congr rfl fun s _ => ?_)
  exact congrArg x (funext fun c => Fin.ext (by match c with | ⟨0, _⟩ => rfl | ⟨1, _⟩ => rfl))

/-- A column laid along every row reads its row's element. -/
theorem along (v : FVec Ideal ⟨2, ![512, 1]⟩ .f32) (h : (⟨2, ![512, 1]⟩ : Shape).Broadcasts ⟨2, ![512, 1024]⟩) (a : Fin 512) (b : Fin 1024) :
    broadcastTo ⟨2, ![512, 1024]⟩ v h (ix2 a b) = v (ix2 a (0 : Fin 1)) :=
  broadcastTo_apply v h (ix2 a b) (ix2 a (0 : Fin 1)) fun ax => by
    match ax with
    | ⟨0, _⟩ => rfl
    | ⟨1, _⟩ => rfl

/-- The kernel's scale of a block's row. -/
theorem scale_apply (x : FVec Ideal ⟨2, ![512, 1024]⟩ .f32) (h : (⟨2, ![512, 1024]⟩ : Shape).Reduces [1] ⟨1, ![512]⟩) (hf : FKind.Formats .f32)
    (hn : (0x00000000#32 : BitVec 32) = FKind.add.neutral .f32 hf) (hc : (⟨1, ![512]⟩ : Shape).ShapeCasts ⟨2, ![512, 1]⟩) (a : Fin 512) :
    rsqrt (addf (divf (shapeCast ⟨2, ![512, 1]⟩ (multiReduction .add [1] ⟨1, ![512]⟩ (mulf x x) 0x00000000#32 h hf hn) hc)
      (broadcast ⟨2, ![512, 1]⟩ (Scalar.ofBits (F := Ideal) .f32 0x44800000#32))) (broadcast ⟨2, ![512, 1]⟩ (Scalar.ofBits (F := Ideal) .f32 0x358637BD#32)))
      (ix2 a (0 : Fin 1)) = scale fun s => x (ix2 a s) := by
  have h1 := row_sum (mulf x x) h hf hn hc a
  show FloatOps.rsqrt (F := Ideal) (φ := .f32) (FloatOps.addf (F := Ideal) (φ := .f32) (FloatOps.divf (F := Ideal) (φ := .f32)
    (shapeCast ⟨2, ![512, 1]⟩ (multiReduction .add [1] ⟨1, ![512]⟩ (mulf x x) 0x00000000#32 h hf hn) hc (ix2 a (0 : Fin 1))) _) _) = _
  rw [h1]
  rfl

section
variable {K M N : ℕ}

/-- What a product of rows by columns asks of its dimension numbers: which coordinates an element reads. -/
structure Columns (D : DotDims ⟨2, ![M, K]⟩ ⟨2, ![K, N]⟩ ⟨2, ![M, N]⟩) : Prop where
  rank : D.contr.rank = 1
  size : D.contr.size ⟨0, by omega⟩ = K
  coords : ∀ (a : Fin M) (b : Fin N) (q : D.contr.Idx),
    ((D.lhsIdx (ix2 a b) q 0).val = a.val ∧ (D.lhsIdx (ix2 a b) q 1).val = (q ⟨0, by omega⟩).val)
      ∧ (D.rhsIdx (ix2 a b) q 0).val = (q ⟨0, by omega⟩).val ∧ (D.rhsIdx (ix2 a b) q 1).val = b.val

/-- What a product of rows by rows asks of its dimension numbers. -/
structure Rows (D : DotDims ⟨2, ![M, K]⟩ ⟨2, ![N, K]⟩ ⟨2, ![M, N]⟩) : Prop where
  rank : D.contr.rank = 1
  size : D.contr.size ⟨0, by omega⟩ = K
  coords : ∀ (a : Fin M) (b : Fin N) (q : D.contr.Idx),
    ((D.lhsIdx (ix2 a b) q 0).val = a.val ∧ (D.lhsIdx (ix2 a b) q 1).val = (q ⟨0, by omega⟩).val)
      ∧ (D.rhsIdx (ix2 a b) q 0).val = b.val ∧ (D.rhsIdx (ix2 a b) q 1).val = (q ⟨0, by omega⟩).val

/-- A product over zero, of rows by columns, at an element. -/
theorem columns_apply {φ₁ φ₂ : FTy} (D : DotDims ⟨2, ![M, K]⟩ ⟨2, ![K, N]⟩ ⟨2, ![M, N]⟩) (h : Columns D) (x : FVec Ideal ⟨2, ![M, K]⟩ φ₁)
    (y : FVec Ideal ⟨2, ![K, N]⟩ φ₂) (a : Fin M) (b : Fin N) :
    matmul D none x y (constant ⟨2, ![M, N]⟩ .f32 0x00000000#32) (ix2 a b) = ∑ s : Fin K, x (ix2 a s) * y (ix2 s b) := by
  show FloatOps.matmul D none x y (constant ⟨2, ![M, N]⟩ .f32 0x00000000#32) (ix2 a b) = _
  rw [Ideal.matmul_constant_zero_apply, ← Equiv.sum_comp (contrEquiv1 D K h.rank h.size).symm]
  refine Finset.sum_congr rfl fun s _ => ?_
  have hk := contrEquiv1_symm_val D K h.rank h.size s
  obtain ⟨⟨l0, l1⟩, r0, r1⟩ := h.coords a b ((contrEquiv1 D K h.rank h.size).symm s)
  refine congrArg₂ (· * ·) (congrArg x (funext fun c => Fin.ext ?_)) (congrArg y (funext fun c => Fin.ext ?_))
  · match c with
    | ⟨0, _⟩ => exact l0
    | ⟨1, _⟩ => exact l1.trans hk
  · match c with
    | ⟨0, _⟩ => exact r0.trans hk
    | ⟨1, _⟩ => exact r1

/-- A product over zero, of rows by rows, at an element. -/
theorem rows_apply {φ₁ φ₂ : FTy} (D : DotDims ⟨2, ![M, K]⟩ ⟨2, ![N, K]⟩ ⟨2, ![M, N]⟩) (h : Rows D) (x : FVec Ideal ⟨2, ![M, K]⟩ φ₁)
    (y : FVec Ideal ⟨2, ![N, K]⟩ φ₂) (a : Fin M) (b : Fin N) :
    matmul D none x y (constant ⟨2, ![M, N]⟩ .f32 0x00000000#32) (ix2 a b) = ∑ s : Fin K, x (ix2 a s) * y (ix2 b s) := by
  show FloatOps.matmul D none x y (constant ⟨2, ![M, N]⟩ .f32 0x00000000#32) (ix2 a b) = _
  rw [Ideal.matmul_constant_zero_apply, ← Equiv.sum_comp (contrEquiv1 D K h.rank h.size).symm]
  refine Finset.sum_congr rfl fun s _ => ?_
  have hk := contrEquiv1_symm_val D K h.rank h.size s
  obtain ⟨⟨l0, l1⟩, r0, r1⟩ := h.coords a b ((contrEquiv1 D K h.rank h.size).symm s)
  refine congrArg₂ (· * ·) (congrArg x (funext fun c => Fin.ext ?_)) (congrArg y (funext fun c => Fin.ext ?_))
  · match c with
    | ⟨0, _⟩ => exact l0
    | ⟨1, _⟩ => exact l1.trans hk
  · match c with
    | ⟨0, _⟩ => exact r0
    | ⟨1, _⟩ => exact r1.trans hk

end

end Cert.Input

end
-- ==== Proof.Input.Forward.lean ====
/- The forward call on the block's input: its five arrays, the normalised input and its four products, are the reference's,
   at the ideal values. -/
module

public import proofs.«01_k».proof.Defs
public import proofs.«01_k».proof.Proof.Product.Base
public import proofs.«01_k».proof.Proof.Input.Base
public import proofs.«01_k».proof.Proof.Gen.Kernel8Ideal.Value
public import proofs.«01_k».proof.Proof.Gen.Reference8Ideal.Run
public import proofs.«01_k».proof.Proof.Gen.Reference8Ideal.Read
public import Idealize.ShloMosaic.Lib.Quiescent
public import Idealize.ShloMosaic.Lib.Pipeline.ValueKit.Geometry

@[expose] public section

set_option maxRecDepth 16384

noncomputable section

namespace Cert.Kernel8Ideal.Input

open Cert.Kernel8Ideal.Gen Cert.Kernel8Ideal.Value Cert.Input
open Cert.Product (pair ext2)
open Idealize.ShloMosaic Idealize.ShloMosaic.TcCoe Idealize.ShloMosaic.ValueIdx Idealize.SL.Sem
open scoped BigOperators

/-- The normalised input, at an element. -/
def norm (x : FVec Ideal S8192x1024 .f32) (g : FVec Ideal S1x1024 .f32) (q : Fin 8192) (s : Fin 1024) : EReal :=
  x (ix2 q s) * scale (fun s => x (ix2 q s)) * g (ix2 (0 : Fin 1) s)

/-- Its product with a weight, at an element. -/
def proj {N : ℕ} (x : FVec Ideal S8192x1024 .f32) (g : FVec Ideal S1x1024 .f32) (w : FVec Ideal ⟨2, ![1024, N]⟩ .bf16) (q : Fin 8192) (b : Fin N) : EReal :=
  ∑ s, norm x g q s * w (ix2 s b)

/-- A function of a row and a column, as an array. -/
def arr {M N : ℕ} {φ : FTy} (f : Fin M → Fin N → EReal) : FVec Ideal ⟨2, ![M, N]⟩ φ := fun i => f (i 0) (i 1)

section
variable (m : (ℓ : Loc nD τ sig) → Buf (Elt Ideal) ℓ) (c : Dev nD)

/-- The argument arrays. -/
abbrev a0 : FVec Ideal S8192x1024 .f32 := m ((c.tc : Thread nD τ).loc main_arg0)
abbrev a1 : FVec Ideal S1x1024 .f32 := m ((c.tc : Thread nD τ).loc main_arg1)
abbrev a2 : FVec Ideal S1024x1024 .bf16 := m ((c.tc : Thread nD τ).loc main_arg2)
abbrev a3 : FVec Ideal S1024x1536 .bf16 := m ((c.tc : Thread nD τ).loc main_arg3)
abbrev a4 : FVec Ideal S1024x1024 .bf16 := m ((c.tc : Thread nD τ).loc main_arg4)
abbrev a5 : FVec Ideal S1024x128 .bf16 := m ((c.tc : Thread nD τ).loc main_arg5)

/-- The block of rows a window that moves is at, and the corner of one that does not. -/
theorem at0 : ∀ t : Fin grid0.N, cc0_transform_0 (grid0.coords t) = ![t.val, 0] := by decide +kernel

theorem blk0 (t : Fin grid0.N) (a : Fin 512) (b : Fin 1024) : iblk m c 0 t (ix2 a b) = a0 m c (ix2 (row t.val a) b) := by
  have ht : t.val < 16 := lt_of_lt_of_eq t.isLt N_0
  show V m c main_arg0 (((cfg0.win 0).rect t).emb (ix2 a b)) = _
  refine congrArg (V m c main_arg0) (funext fun x => Fin.ext ?_)
  refine ((cfg0.win 0).rect_emb_val t (ix2 a b) x).trans ?_
  show cc0_transform_0 (grid0.coords t) x * _ + _ = _
  rw [at0]
  match x with
  | ⟨0, _⟩ => refine Eq.trans ?_ (row_val _ ht a).symm; show t.val * 512 + a.val = _; omega
  | ⟨1, _⟩ => show 0 * 1024 + b.val = b.val; omega

theorem blk1 (t : Fin grid0.N) : iblk m c 1 t = a1 m c := funext fun i => by
  show V m c main_arg1 (((cfg0.win 1).rect t).emb i) = _
  refine congrArg (V m c main_arg1) (funext fun x => Fin.ext ?_)
  refine ((cfg0.win 1).rect_emb_val t i x).trans ?_
  match x with
  | ⟨0, _⟩ => show 0 * 1 + (i 0).val = (i 0).val; omega
  | ⟨1, _⟩ => show 0 * 1024 + (i 1).val = (i 1).val; omega

theorem blk2 (t : Fin grid0.N) : iblk m c 2 t = a2 m c := funext fun i => by
  show V m c main_arg2 (((cfg0.win 2).rect t).emb i) = _
  refine congrArg (V m c main_arg2) (funext fun x => Fin.ext ?_)
  refine ((cfg0.win 2).rect_emb_val t i x).trans ?_
  match x with
  | ⟨0, _⟩ => show 0 * 1024 + (i 0).val = (i 0).val; omega
  | ⟨1, _⟩ => show 0 * 1024 + (i 1).val = (i 1).val; omega

theorem blk3 (t : Fin grid0.N) : iblk m c 3 t = a3 m c := funext fun i => by
  show V m c main_arg3 (((cfg0.win 3).rect t).emb i) = _
  refine congrArg (V m c main_arg3) (funext fun x => Fin.ext ?_)
  refine ((cfg0.win 3).rect_emb_val t i x).trans ?_
  match x with
  | ⟨0, _⟩ => show 0 * 1024 + (i 0).val = (i 0).val; omega
  | ⟨1, _⟩ => show 0 * 1536 + (i 1).val = (i 1).val; omega

theorem blk4 (t : Fin grid0.N) : iblk m c 4 t = a4 m c := funext fun i => by
  show V m c main_arg4 (((cfg0.win 4).rect t).emb i) = _
  refine congrArg (V m c main_arg4) (funext fun x => Fin.ext ?_)
  refine ((cfg0.win 4).rect_emb_val t i x).trans ?_
  match x with
  | ⟨0, _⟩ => show 0 * 1024 + (i 0).val = (i 0).val; omega
  | ⟨1, _⟩ => show 0 * 1024 + (i 1).val = (i 1).val; omega

theorem blk5 (t : Fin grid0.N) : iblk m c 5 t = a5 m c := funext fun i => by
  show V m c main_arg5 (((cfg0.win 5).rect t).emb i) = _
  refine congrArg (V m c main_arg5) (funext fun x => Fin.ext ?_)
  refine ((cfg0.win 5).rect_emb_val t i x).trans ?_
  match x with
  | ⟨0, _⟩ => show 0 * 1024 + (i 0).val = (i 0).val; omega
  | ⟨1, _⟩ => show 0 * 128 + (i 1).val = (i 1).val; omega

theorem hz2 : (![0, 0] : Fin 2 → Nat) = fun _ => 0 := funext fun a => by
  match a with
  | ⟨0, _⟩ => rfl
  | ⟨1, _⟩ => rfl

/-- The body's normalised block, at an element. -/
theorem pay1_apply (p : FVec Ideal S512x1024 .f32) (g : FVec Ideal S1x1024 .f32) (a : Fin 512) (b : Fin 1024) :
    k0_pay1 (F := Ideal) p g (ix2 a b) = p (ix2 a b) * scale (fun s => p (ix2 a s)) * g (ix2 (0 : Fin 1) b) := by
  unfold k0_pay1
  refine congrArg₂ (· * ·) (congrArg (p (ix2 a b) * ·) ((along _ _ a b).trans (scale_apply p _ _ _ _ a))) ?_
  exact broadcastTo_1b_ab_apply g _ a b

theorem pay1_blk (t : Fin grid0.N) (a : Fin 512) (b : Fin 1024) :
    k0_pay1 (F := Ideal) (iblk m c 0 t) (iblk m c 1 t) (ix2 a b) = norm (a0 m c) (a1 m c) (row t.val a) b := by
  rw [pay1_apply, blk1]
  unfold norm
  rw [blk0]
  simp only [blk0]

/-- Where a block's element lies in an array of rows' blocks. -/
theorem out6 (t : Fin grid0.N) : cc0_transform_6 (grid0.coords t) = ![t.val, 0] := at0 t

theorem emb6 (t : Fin grid0.N) (a : Fin 512) (b : Fin 1024) : ((cfg0.win 6).rect t).emb (ix2 a b) = (ix2 (row t.val a) b : S8192x1024.Idx) := funext fun x => Fin.ext (by
  have ht : t.val < 16 := lt_of_lt_of_eq t.isLt N_0
  refine ((cfg0.win 6).rect_emb_val t (ix2 a b) x).trans ?_
  show cc0_transform_0 (grid0.coords t) x * _ + _ = _
  rw [at0]
  match x with
  | ⟨0, _⟩ => refine Eq.trans ?_ (row_val _ ht a).symm; show t.val * 512 + a.val = _; omega
  | ⟨1, _⟩ => show 0 * 1024 + b.val = b.val; omega)

theorem emb7 (t : Fin grid0.N) (a : Fin 512) (b : Fin 1024) : ((cfg0.win 7).rect t).emb (ix2 a b) = (ix2 (row t.val a) b : S8192x1024.Idx) := emb6 t a b

theorem emb8 (t : Fin grid0.N) (a : Fin 512) (b : Fin 1536) : ((cfg0.win 8).rect t).emb (ix2 a b) = (ix2 (row t.val a) b : S8192x1536.Idx) := funext fun x => Fin.ext (by
  have ht : t.val < 16 := lt_of_lt_of_eq t.isLt N_0
  refine ((cfg0.win 8).rect_emb_val t (ix2 a b) x).trans ?_
  show cc0_transform_0 (grid0.coords t) x * _ + _ = _
  rw [at0]
  match x with
  | ⟨0, _⟩ => refine Eq.trans ?_ (row_val _ ht a).symm; show t.val * 512 + a.val = _; omega
  | ⟨1, _⟩ => show 0 * 1536 + b.val = b.val; omega)

theorem emb9 (t : Fin grid0.N) (a : Fin 512) (b : Fin 1024) : ((cfg0.win 9).rect t).emb (ix2 a b) = (ix2 (row t.val a) b : S8192x1024.Idx) := emb6 t a b

theorem emb10 (t : Fin grid0.N) (a : Fin 512) (b : Fin 128) : ((cfg0.win 10).rect t).emb (ix2 a b) = (ix2 (row t.val a) b : S8192x128.Idx) := funext fun x => Fin.ext (by
  have ht : t.val < 16 := lt_of_lt_of_eq t.isLt N_0
  refine ((cfg0.win 10).rect_emb_val t (ix2 a b) x).trans ?_
  show cc0_transform_0 (grid0.coords t) x * _ + _ = _
  rw [at0]
  match x with
  | ⟨0, _⟩ => refine Eq.trans ?_ (row_val _ ht a).symm; show t.val * 512 + a.val = _; omega
  | ⟨1, _⟩ => show 0 * 128 + b.val = b.val; omega)

theorem dot1024 : Columns dot_S512x1024_S1024x1024_S512x1024_1_0_0_1_n_n := ⟨rfl, rfl, fun _ _ _ => ⟨⟨rfl, rfl⟩, rfl, rfl⟩⟩
theorem dot1536 : Columns dot_S512x1024_S1024x1536_S512x1536_1_0_0_1_n_n := ⟨rfl, rfl, fun _ _ _ => ⟨⟨rfl, rfl⟩, rfl, rfl⟩⟩
theorem dot128 : Columns dot_S512x1024_S1024x128_S512x128_1_0_0_1_n_n := ⟨rfl, rfl, fun _ _ _ => ⟨⟨rfl, rfl⟩, rfl, rfl⟩⟩

/-- A product of the normalised block, at an element. -/
theorem proj_blk {N : ℕ} (D : DotDims ⟨2, ![512, 1024]⟩ ⟨2, ![1024, N]⟩ ⟨2, ![512, N]⟩) (h : Columns D) (w w' : FVec Ideal ⟨2, ![1024, N]⟩ .bf16)
    (hw : w' = w) (t : Fin grid0.N) (a : Fin 512) (b : Fin N) :
    matmul D none (k0_pay1 (F := Ideal) (iblk m c 0 t) (iblk m c 1 t)) w' (constant ⟨2, ![512, N]⟩ .f32 0x00000000#32) (ix2 a b)
      = proj (a0 m c) (a1 m c) w (row t.val a) b := by
  rw [columns_apply D h, hw]
  exact Finset.sum_congr rfl fun s _ => congrArg (· * _) (pay1_blk m c t a s)

theorem arr6 : (dats m 0 c).arrAt 6 cfg0.N = arr (φ := .bf16) (norm (a0 m c) (a1 m c)) := by
  refine (dats m 0 c).arrAt_eq_of_covers 6 _ (by decide +kernel) fun t hf y => ?_
  obtain ⟨a, b, rfl⟩ : ∃ (a : Fin 512) (b : Fin 1024), y = ix2 a b := ⟨y 0, y 1, pair _⟩
  show (dats m 0 c).after 6 t (ix2 a b) = arr (φ := .bf16) (norm (a0 m c) (a1 m c)) (((cfg0.win 6).rect t).emb (ix2 a b))
  rw [emb6, after0_6]
  unfold out0_6
  rw [View.canon_unit_zero (S := S512x1024) hz2, View.ld_unit_zero (S := S512x1024) hz2, View.ld_unit_zero (S := S1x1024) hz2]
  exact pay1_blk m c t a b

theorem arr7 : (dats m 0 c).arrAt 7 cfg0.N = arr (φ := .f32) (proj (a0 m c) (a1 m c) (a2 m c)) := by
  refine (dats m 0 c).arrAt_eq_of_covers 7 _ (by decide +kernel) fun t hf y => ?_
  obtain ⟨a, b, rfl⟩ : ∃ (a : Fin 512) (b : Fin 1024), y = ix2 a b := ⟨y 0, y 1, pair _⟩
  show (dats m 0 c).after 7 t (ix2 a b) = arr (φ := .f32) (proj (a0 m c) (a1 m c) (a2 m c)) (((cfg0.win 7).rect t).emb (ix2 a b))
  rw [emb7, after0_7]
  unfold out0_7
  rw [View.canon_unit_zero (S := S512x1024) hz2, View.ld_unit_zero (S := S512x1024) hz2, View.ld_unit_zero (S := S1x1024) hz2, View.ld_unit_zero (S := S1024x1024) hz2]
  exact proj_blk m c _ dot1024 _ _ (blk2 m c t) t a b

theorem arr8 : (dats m 0 c).arrAt 8 cfg0.N = arr (φ := .f32) (proj (a0 m c) (a1 m c) (a3 m c)) := by
  refine (dats m 0 c).arrAt_eq_of_covers 8 _ (by decide +kernel) fun t hf y => ?_
  obtain ⟨a, b, rfl⟩ : ∃ (a : Fin 512) (b : Fin 1536), y = ix2 a b := ⟨y 0, y 1, pair _⟩
  show (dats m 0 c).after 8 t (ix2 a b) = arr (φ := .f32) (proj (a0 m c) (a1 m c) (a3 m c)) (((cfg0.win 8).rect t).emb (ix2 a b))
  rw [emb8, after0_8]
  unfold out0_8
  rw [View.canon_unit_zero (S := S512x1536) hz2, View.ld_unit_zero (S := S512x1024) hz2, View.ld_unit_zero (S := S1x1024) hz2, View.ld_unit_zero (S := S1024x1536) hz2]
  exact proj_blk m c _ dot1536 _ _ (blk3 m c t) t a b

theorem arr9 : (dats m 0 c).arrAt 9 cfg0.N = arr (φ := .f32) (proj (a0 m c) (a1 m c) (a4 m c)) := by
  refine (dats m 0 c).arrAt_eq_of_covers 9 _ (by decide +kernel) fun t hf y => ?_
  obtain ⟨a, b, rfl⟩ : ∃ (a : Fin 512) (b : Fin 1024), y = ix2 a b := ⟨y 0, y 1, pair _⟩
  show (dats m 0 c).after 9 t (ix2 a b) = arr (φ := .f32) (proj (a0 m c) (a1 m c) (a4 m c)) (((cfg0.win 9).rect t).emb (ix2 a b))
  rw [emb9, after0_9]
  unfold out0_9
  rw [View.canon_unit_zero (S := S512x1024) hz2, View.ld_unit_zero (S := S512x1024) hz2, View.ld_unit_zero (S := S1x1024) hz2, View.ld_unit_zero (S := S1024x1024) hz2]
  exact proj_blk m c _ dot1024 _ _ (blk4 m c t) t a b

theorem arr10 : (dats m 0 c).arrAt 10 cfg0.N = arr (φ := .f32) (proj (a0 m c) (a1 m c) (a5 m c)) := by
  refine (dats m 0 c).arrAt_eq_of_covers 10 _ (by decide +kernel) fun t hf y => ?_
  obtain ⟨a, b, rfl⟩ : ∃ (a : Fin 512) (b : Fin 128), y = ix2 a b := ⟨y 0, y 1, pair _⟩
  show (dats m 0 c).after 10 t (ix2 a b) = arr (φ := .f32) (proj (a0 m c) (a1 m c) (a5 m c)) (((cfg0.win 10).rect t).emb (ix2 a b))
  rw [emb10, after0_10]
  unfold out0_10
  rw [View.canon_unit_zero (S := S512x128) hz2, View.ld_unit_zero (S := S512x1024) hz2, View.ld_unit_zero (S := S1x1024) hz2, View.ld_unit_zero (S := S1024x128) hz2]
  exact proj_blk m c _ dot128 _ _ (blk5 m c t) t a b

end

/-! ## The reference -/

open Cert.Reference8Ideal.Read in
/-- The reference's normalised input, at an element. -/
theorem ref_norm (x : FVec Ideal S8192x1024 .f32) (g : FVec Ideal S1x1024 .f32) (i : S8192x1024.Idx) (q : Fin 8192) (s : Fin 1024) (hi : i = ix2 q s) :
    val_main_v15 (F := Ideal) x g i = norm x g q s := by
  subst hi
  rw [val_main_v15_apply, val_main_v13_apply, val_main_v12_apply, val_main_v11_apply, val_main_v10_apply, val_main_v8_apply, val_main_v6_apply,
    val_main_v5_apply, val_main_v7_apply, val_main_v9_apply, val_main_v14_apply, val_main_cst_apply, val_main_cst_0_apply, val_main_cst_1_apply]
  rw [show FloatOps.ofBits (F := Ideal) .f32 0x00000000#32 = (0 : EReal) from Ideal.ofBits_zero_f32, zero_add]
  have e : ∀ k : Fin 1024, val_main_v4 (F := Ideal) x (idx_main_v5 (idx_main_v6 (idx_main_v12 (ix2 q s))) k) = x (ix2 q k) * x (ix2 q k) := fun k => by
    rw [val_main_v4_apply]
    have : idx_main_v5 (idx_main_v6 (idx_main_v12 (ix2 q s))) k = ix2 q k := pair _
    rw [this]
    rfl
  simp only [e]
  refine congrArg (_ * ·) (congrArg g ?_)
  exact pair _

section
open Cert.Reference8Ideal.Read
variable (x : FVec Ideal S8192x1024 .f32) (g : FVec Ideal S1x1024 .f32)

theorem ref16 : val_main_v16 (F := Ideal) x g = arr (φ := .bf16) (norm x g) :=
  ext2 fun a b => ref_norm x g _ a b rfl

theorem ref17 (w : FVec Ideal S1024x1024 .bf16) : val_main_v17 (F := Ideal) x g w = arr (φ := .f32) (proj x g w) := ext2 fun a b => by
  rw [val_main_v17_apply]
  exact Finset.sum_congr rfl fun s _ => congrArg₂ (· * ·) (ref_norm x g _ a s (pair _)) (congrArg w (pair _))

theorem ref18 (w : FVec Ideal S1024x1536 .bf16) : val_main_v18 (F := Ideal) x g w = arr (φ := .f32) (proj x g w) := ext2 fun a b => by
  rw [val_main_v18_apply]
  exact Finset.sum_congr rfl fun s _ => congrArg₂ (· * ·) (ref_norm x g _ a s (pair _)) (congrArg w (pair _))

theorem ref19 (w : FVec Ideal S1024x1024 .bf16) : val_main_v19 (F := Ideal) x g w = arr (φ := .f32) (proj x g w) := ext2 fun a b => by
  rw [val_main_v19_apply]
  exact Finset.sum_congr rfl fun s _ => congrArg₂ (· * ·) (ref_norm x g _ a s (pair _)) (congrArg w (pair _))

theorem ref20 (w : FVec Ideal S1024x128 .bf16) : val_main_v20 (F := Ideal) x g w = arr (φ := .f32) (proj x g w) := ext2 fun a b => by
  rw [val_main_v20_apply]
  exact Finset.sum_congr rfl fun s _ => congrArg₂ (· * ·) (ref_norm x g _ a s (pair _)) (congrArg w (pair _))

end

/-- The frame of the reference: every execution ends, the arguments unchanged; it has no semaphore. -/
theorem frame_ref : Cert.quiescent_Reference8Ideal (hReference8Ideal := Cert.Reference8Ideal.Gen.facts) := fun m g _ =>
  (θ_run _ _ _).mono (fun r h => ⟨fun c => (h c).2.2.2.2.2, sem_eq_zero_of_no_sems rfl r.2⟩) (Cert.Reference8Ideal.Value.run m g)

/-- Both programs end with equal results, whose common values are the kernel's arrays. -/
theorem algebraic : Cert.algebraic_Kernel8Ideal_Reference8Ideal (hKernel8Ideal := Cert.Kernel8Ideal.Gen.facts) (hReference8Ideal := Cert.Reference8Ideal.Gen.facts) := by
  intro m g m' g' _ harg
  refine ⟨_, _, _, _, _, Value.run_blocks m g, ?_⟩
  refine (θ_run _ _ _).mono (fun r h c => ?_) (Cert.Reference8Ideal.Value.run m' g')
  obtain ⟨h0, h1, h2, h3, h4, hr⟩ := h c
  obtain ⟨e0, e1, e2, e3, e4, e5⟩ := harg c
  refine ⟨h0.trans ((Cert.Reference8Ideal.Read.val_main_v16_eq _ _).trans ?_), h1.trans ((Cert.Reference8Ideal.Read.val_main_v17_eq _ _ _).trans ?_),
    h2.trans ((Cert.Reference8Ideal.Read.val_main_v18_eq _ _ _).trans ?_), h3.trans ((Cert.Reference8Ideal.Read.val_main_v19_eq _ _ _).trans ?_),
    h4.trans ((Cert.Reference8Ideal.Read.val_main_v20_eq _ _ _).trans ?_), hr⟩
  · rw [e0, e1]; exact (ref16 _ _).trans (arr6 m c).symm
  · rw [e0, e1, e2]; exact (ref17 _ _ _).trans (arr7 m c).symm
  · rw [e0, e1, e3]; exact (ref18 _ _ _).trans (arr8 m c).symm
  · rw [e0, e1, e4]; exact (ref19 _ _ _).trans (arr9 m c).symm
  · rw [e0, e1, e5]; exact (ref20 _ _ _).trans (arr10 m c).symm

end Cert.Kernel8Ideal.Input

end
-- ==== Proof.Input.GradReal.lean ====
/- A row of the input's gradient: the closed form the kernel computes, and the sum the chain rule leaves through the mean
   square, are equal, at every extended real number. -/
module

public import proofs.«01_k».proof.Proof.Real
public import proofs.«01_k».proof.Proof.Input.Base

@[expose] public section

noncomputable section

namespace Cert.Input

open Idealize.ShloMosaic Idealize.ShloMosaic.ValueIdx Cert.Att
open scoped BigOperators

/-- The width of a row, and half of minus one, and the small constant. -/
theorem width_f32 : Ideal.ofBits .f32 0x44800000#32 = ((1024 : ℝ) : EReal) := by
  simp [Ideal.ofBits, Ideal.ieee, -EReal.coe_mul]; norm_num
theorem half_f32 : Ideal.ofBits .f32 0xBF000000#32 = ((-(1 / 2) : ℝ) : EReal) := by
  simp [Ideal.ofBits, Ideal.ieee, -EReal.coe_mul]; norm_num
theorem small_f32 : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The mean square of a row and the small constant. -/
def msq (f : Fin 1024 → EReal) : EReal := Ideal.div (∑ s, f s * f s) (Ideal.ofBits .f32 0x44800000#32) + Ideal.ofBits .f32 0x358637BD#32

theorem scale_msq (f : Fin 1024 → EReal) : scale f = Ideal.rsqrt (msq f) := rfl

/-- A row's gradient as the kernel computes it, of the row `f` and the cotangent `D` of its normalised values. -/
def back (f D : Fin 1024 → EReal) (b : Fin 1024) : EReal :=
  scale f * (D b - f b * scale f * Ideal.div (∑ s, D s * (f s * scale f)) (Ideal.ofBits .f32 0x44800000#32))

/-- What the chain rule sends through the mean square, to each of the two factors of an element's square. -/
def through (f D : Fin 1024 → EReal) : EReal :=
  Ideal.div ((∑ s, f s * D s) * (Ideal.ofBits .f32 0xBF000000#32 * Ideal.div (scale f) (msq f))) (Ideal.ofBits .f32 0x44800000#32)

/-- A real number that is not negative goes into a sum. -/
theorem coe_mul_add (c : ℝ) (c0 : 0 ≤ c) (x y : EReal) : (c : EReal) * (x + y) = c * x + c * y :=
  EReal.left_distrib_of_nonneg_of_ne_top (EReal.coe_nonneg.mpr c0) (EReal.coe_ne_top c) x y

theorem coe_mul_sum {ι : Type} [Fintype ι] (c : ℝ) (c0 : 0 ≤ c) (x : ι → EReal) : (c : EReal) * ∑ i, x i = ∑ i, (c : EReal) * x i := by
  classical
  induction (Finset.univ : Finset ι) using Finset.induction_on with
  | empty => simp
  | insert a s ha ih => rw [Finset.sum_insert ha, Finset.sum_insert ha, coe_mul_add c c0, ih]

/-- A row with an infinite element has the scale zero. -/
theorem scale_top (f : Fin 1024 → EReal) (k : Fin 1024) (hk : f k * f k = ⊤) : msq f = ⊤ ∧ scale f = 0 := by
  obtain ⟨e, e0, he⟩ := small_f32
  have hS : ∑ s, f s * f s = ⊤ := top_le_iff.mp (hk ▸ Finset.single_le_sum (f := fun s => f s * f s) (fun s _ => by
    rcases le_total 0 (f s) with h | h
    · exact EReal.mul_nonneg h h
    · rw [← neg_mul_neg]; exact EReal.mul_nonneg (EReal.neg_nonneg.mpr h) (EReal.neg_nonneg.mpr h)) (Finset.mem_univ k))
  have hm : msq f = ⊤ := by
    unfold msq
    rw [hS, width_f32, Ideal.div_coe (by norm_num), EReal.top_mul_coe_of_pos (by norm_num), he, EReal.top_add_coe]
  exact ⟨hm, by rw [scale_msq, hm, Ideal.rsqrt_top]⟩

/-- The two agree on a real row, whatever the cotangent. -/
theorem back_real (f D : Fin 1024 → EReal) (f' : Fin 1024 → ℝ) (hf : ∀ s, f s = (f' s : EReal)) (b : Fin 1024) :
    back f D b = D b * scale f + (f b * through f D + through f D * f b) := by
  obtain ⟨e, e0, he⟩ := small_f32
  have hv : msq f = (((∑ s, f' s * f' s) / 1024 + e : ℝ) : EReal) :=
    add_coe (div_coe (sum_coe fun s => mul_coe (hf s) (hf s)) width_f32 (by norm_num)) he
  generalize hV : (∑ s, f' s * f' s) / 1024 + e = v at hv
  have v0 : 0 < v := by
    rw [← hV]
    have : 0 ≤ ∑ s, f' s * f' s := Finset.sum_nonneg fun s _ => mul_self_nonneg _
    positivity
  have hs : scale f = (((Real.sqrt v)⁻¹ : ℝ) : EReal) := by
    rw [scale_msq, hv, Ideal.rsqrt_coe, if_neg (not_lt.mpr v0.le), if_neg v0.ne']
  have q0 : 0 < Real.sqrt v := Real.sqrt_pos.mpr v0
  have qq : Real.sqrt v * Real.sqrt v = v := Real.mul_self_sqrt v0.le
  generalize Real.sqrt v = q at hs q0 qq
  have c0 : 0 < q⁻¹ := inv_pos.mpr q0
  have cv : (1 / v : ℝ) = q⁻¹ * q⁻¹ := by rw [← qq]; field_simp
  generalize q⁻¹ = c at hs c0 cv
  have hS : ∑ s, D s * (f s * scale f) = (c : EReal) * ∑ s, f s * D s := by
    rw [coe_mul_sum c c0.le, hs]
    exact Finset.sum_congr rfl fun s _ => by rw [← mul_assoc, mul_comm (D s), mul_comm]
  have ht : through f D = (((c * c * c) / 2048 : ℝ) : EReal) * -(∑ s, f s * D s) := by
    unfold through
    rw [hs, hv, half_f32, width_f32, Ideal.div_coe v0.ne', Ideal.div_coe (by norm_num), cv, ← EReal.coe_mul, ← EReal.coe_mul, mul_assoc, ← EReal.coe_mul, mul_comm,
      show (-(1 / 2) * (c * (c * c)) * (1 / 1024) : ℝ) = -((c * c * c) / 2048) by ring, EReal.coe_neg, neg_mul, mul_neg]
  have hb : back f D b = D b * (c : EReal) + (((c * c * c) / 1024 : ℝ) : EReal) * -(f b * ∑ s, f s * D s) := by
    unfold back
    rw [hS, hs, width_f32, Ideal.div_coe (by norm_num), sub_eq_add_neg, coe_mul_add c c0.le, mul_comm (c : EReal) (D b)]
    refine congrArg (D b * (c : EReal) + ·) ?_
    rw [mul_neg, mul_neg]
    refine congrArg Neg.neg ?_
    rw [show ((c * c * c) / 1024 : ℝ) = c * (c * (c * (1 / 1024))) by ring, EReal.coe_mul, EReal.coe_mul, EReal.coe_mul]
    generalize ((1 / 1024 : ℝ) : EReal) = w
    generalize ∑ s, f s * D s = S
    generalize (c : EReal) = C
    ac_rfl
  rw [hb, hs, ht]
  refine congrArg (D b * (c : EReal) + ·) ?_
  generalize ∑ s, f s * D s = S
  have h1 : f b * ((((c * c * c) / 2048 : ℝ) : EReal) * -S) = (((c * c * c) / 2048 : ℝ) : EReal) * -(f b * S) := by
    rw [mul_neg, mul_neg, mul_neg]
    exact congrArg Neg.neg (mul_left_comm _ _ _)
  have k0 : (0 : EReal) ≤ (((c * c * c) / 2048 : ℝ) : EReal) := EReal.coe_nonneg.mpr (by positivity)
  rw [mul_comm _ (f b), h1, ← EReal.right_distrib_of_nonneg k0 k0, ← EReal.coe_add]
  exact congrArg (fun z : ℝ => (z : EReal) * -(f b * S)) (by ring)

/-- The two agree on any row, whatever the cotangent and whatever the gradient `h` that comes past the normalisation. -/
theorem back_eq (f D : Fin 1024 → EReal) (b : Fin 1024) (h : EReal) :
    back f D b + h = h + D b * scale f + f b * through f D + through f D * f b := by
  rw [add_assoc, add_assoc, ← add_assoc (D b * scale f), add_comm]
  refine congrArg (h + ·) ?_
  rw [add_assoc]
  by_cases hf : ∀ s, f s ≠ ⊤ ∧ f s ≠ ⊥
  · exact back_real f D (fun s => (f s).toReal) (fun s => (EReal.coe_toReal (hf s).1 (hf s).2).symm) b
  · obtain ⟨k, hk⟩ := not_forall.mp hf
    have hk : f k * f k = ⊤ := by
      by_cases ht : f k = ⊤
      · rw [ht]; rfl
      · rw [not_not.mp fun hb => hk ⟨ht, hb⟩]; rfl
    obtain ⟨hm, hs⟩ := scale_top f k hk
    have ht : through f D = 0 := by
      unfold through
      rw [hs, hm, width_f32, Ideal.div_coe (by norm_num), show Ideal.div 0 ⊤ = 0 by rw [Ideal.div, if_neg EReal.top_ne_zero, zero_mul], mul_zero, mul_zero, zero_mul]
    unfold back
    rw [hs, ht]
    simp

/-- A sum over all the rows is the sum over the sixteen blocks of 512. -/
theorem sum_rows (f : Fin 8192 → EReal) : ∑ q : Fin 8192, f q = ∑ t ∈ Finset.range 16, ∑ a, f (row t a) := by
  have h := Equiv.sum_comp (finProdFinEquiv : Fin 16 × Fin 512 ≃ Fin (16 * 512)) f
  rw [Fintype.sum_prod_type] at h
  rw [Finset.sum_range]
  refine h.symm.trans (Finset.sum_congr rfl fun t _ => Finset.sum_congr rfl fun a _ => congrArg f (Fin.ext ?_))
  rw [row_val _ t.isLt]
  show a.val + 512 * t.val = _
  omega

end Cert.Input

end
-- ==== Proof.Input.GradBody.lean ====
/- What a point of the input's gradient leaves in its two buffers, as terms of the blocks it loads. -/
module

public import proofs.«01_k».proof.Proof.Gen.Kernel7Ideal.Frame
public import Idealize.ShloMosaic.Lib.Pipeline.Value

@[expose] public section

set_option maxRecDepth 65536

noncomputable section

namespace Cert.Kernel7Ideal.Input

open Cert.Kernel7Ideal.Gen
open Idealize.ShloMosaic Idealize.ShloMosaic.TcCoe

variable {F : FTy → Type} [FloatOps F]

theorem hz2 : (![0, 0] : Fin 2 → Nat) = fun _ => 0 := funext fun a => by
  match a with
  | ⟨0, _⟩ => rfl
  | ⟨1, _⟩ => rfl

section
variable (c : Dev nD) (i : grid0.Coords) (arg1 : Memref sig .tc .vmem S512x1024 .bf16) (harg1 : arg1.IsWhole) (arg2 : Memref sig .tc .vmem S512x1536 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S1024x1024 .bf16) (harg8 : arg8.IsWhole) (arg9 : Memref sig .tc .vmem S1024x1536 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x128 .bf16) (harg14 : arg14.IsWhole) (arg15 : Memref sig .tc .vmem S512x1024 .f32) (harg15 : arg15.IsWhole) (arg16 : Memref sig .tc .vmem S1x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S1x1024 .f32) (harg19 : arg19.IsWhole)
  (x0 : Vec F S512x1024 .bf16) (x1 : Vec F S512x1536 .bf16) (x2 : Vec F S512x1024 .bf16) (x3 : Vec F S512x1024 .bf16) (x4 : Vec F S512x1024 .bf16) (x5 : Vec F S512x1024 .bf16) (x6 : Vec F S512x128 .bf16) (x7 : Vec F S1024x1024 .bf16) (x8 : Vec F S1024x1536 .bf16) (x9 : Vec F S1024x1024 .bf16) (x10 : Vec F S1024x1024 .bf16) (x11 : Vec F S1024x1024 .bf16) (x12 : Vec F S1024x1024 .bf16) (x13 : Vec F S1024x128 .bf16) (x14 : Vec F S512x1024 .f32) (x15 : Vec F S1x1024 .f32) (x16 : Vec F S512x1024 .f32)

/-- The rows' block the first point leaves. -/
theorem out_A_17 (hc0 : cond0_0 i) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16 = k0_pay7 (k0_pay2 x0 x7 x1 x8 x2 x9 x3 x10 x4 x11 x5 x12) x6 x13 x14 x15 x16 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x1536) hz2, View.ld_unit_zero (S := S512x128) hz2, View.ld_unit_zero (S := S1024x1024) hz2, View.ld_unit_zero (S := S1024x1536) hz2, View.ld_unit_zero (S := S1024x128) hz2, View.ld_unit_zero (S := S1x1024) hz2, shapeCast_self]

/-- The rows' block any other point leaves. -/
theorem out_B_17 (hc0 : ¬cond0_0 i) (xo18 : Vec F S1x1024 .f32) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16 xo18 = k0_pay7 (k0_pay2 x0 x7 x1 x8 x2 x9 x3 x10 x4 x11 x5 x12) x6 x13 x14 x15 x16 := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16 xo18)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x1536) hz2, View.ld_unit_zero (S := S512x128) hz2, View.ld_unit_zero (S := S1024x1024) hz2, View.ld_unit_zero (S := S1024x1536) hz2, View.ld_unit_zero (S := S1024x128) hz2, View.ld_unit_zero (S := S1x1024) hz2, shapeCast_self]

/-- The scale's gradient the first point leaves, over a zero. -/
theorem out_A_18 (hc0 : cond0_0 i) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16 = k0_pay6 (k0_pay2 x0 x7 x1 x8 x2 x9 x3 x10 x4 x11 x5 x12) x6 x13 x14 (k0_pay1 (F := F)) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16)]
  unfold kernelRun0_A
  dsimp only
  sl_unfold_words
  rw [View.canon_cons_unit_zero (S := S1x1024) hz2, View.readCov_unit_zero (S := S1x1024) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x1536) hz2, View.ld_unit_zero (S := S512x128) hz2, View.ld_unit_zero (S := S1024x1024) hz2, View.ld_unit_zero (S := S1024x1536) hz2, View.ld_unit_zero (S := S1024x128) hz2, View.ld_unit_zero (S := S1x1024) hz2, shapeCast_self]

/-- The scale's gradient any other point leaves, over what the point before left. -/
theorem out_B_18 (hc0 : ¬cond0_0 i) (xo18 : Vec F S1x1024 .f32) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16 xo18 = k0_pay6 (k0_pay2 x0 x7 x1 x8 x2 x9 x3 x10 x4 x11 x5 x12) x6 x13 x14 xo18 := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16 xo18)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S512x1024) hz2, View.ld_unit_zero (S := S512x1536) hz2, View.ld_unit_zero (S := S512x128) hz2, View.ld_unit_zero (S := S1024x1024) hz2, View.ld_unit_zero (S := S1024x1536) hz2, View.ld_unit_zero (S := S1024x128) hz2, View.ld_unit_zero (S := S1x1024) hz2, shapeCast_self]

end

section
variable (m : (ℓ : Loc nD τ sig) → Buf (Elt F) ℓ) (c : Dev nD)

/-- What the first point leaves in both buffers. -/
theorem outs_first (t : Fin cfg0.N) (h0 : t.val % 16 = 0) :
    outsAt0 m c t.val t.isLt = (k0_pay7 (k0_pay2 (iblk m c 0 t) (iblk m c 7 t) (iblk m c 1 t) (iblk m c 8 t) (iblk m c 2 t) (iblk m c 9 t) (iblk m c 3 t) (iblk m c 10 t) (iblk m c 4 t) (iblk m c 11 t) (iblk m c 5 t) (iblk m c 12 t)) (iblk m c 6 t) (iblk m c 13 t) (iblk m c 14 t) (iblk m c 15 t) (iblk m c 16 t),
      k0_pay6 (k0_pay2 (iblk m c 0 t) (iblk m c 7 t) (iblk m c 1 t) (iblk m c 8 t) (iblk m c 2 t) (iblk m c 9 t) (iblk m c 3 t) (iblk m c 10 t) (iblk m c 4 t) (iblk m c 11 t) (iblk m c 5 t) (iblk m c 12 t)) (iblk m c 6 t) (iblk m c 13 t) (iblk m c 14 t) (k0_pay1 (F := F))) :=
  (outsAt0_A m c t h0).trans (by rw [out_A_17, out_A_18])

/-- What any other point leaves in both buffers. -/
theorem outs_next (t : Fin cfg0.N) (h0 : ¬t.val % 16 = 0) :
    outsAt0 m c t.val t.isLt = (k0_pay7 (k0_pay2 (iblk m c 0 t) (iblk m c 7 t) (iblk m c 1 t) (iblk m c 8 t) (iblk m c 2 t) (iblk m c 9 t) (iblk m c 3 t) (iblk m c 10 t) (iblk m c 4 t) (iblk m c 11 t) (iblk m c 5 t) (iblk m c 12 t)) (iblk m c 6 t) (iblk m c 13 t) (iblk m c 14 t) (iblk m c 15 t) (iblk m c 16 t),
      k0_pay6 (k0_pay2 (iblk m c 0 t) (iblk m c 7 t) (iblk m c 1 t) (iblk m c 8 t) (iblk m c 2 t) (iblk m c 9 t) (iblk m c 3 t) (iblk m c 10 t) (iblk m c 4 t) (iblk m c 11 t) (iblk m c 5 t) (iblk m c 12 t)) (iblk m c 6 t) (iblk m c 13 t) (iblk m c 14 t) (outsAt0 m c (t.val - 1) (Nat.lt_of_le_of_lt (Nat.sub_le ..) t.isLt)).2) :=
  (outsAt0_B m c t h0).trans (by rw [out_B_17, out_B_18])

end

end Cert.Kernel7Ideal.Input

end
-- ==== Proof.Input.GradBlocks.lean ====
/- The launch of the input's gradient: which elements a point's blocks hold, and the two arrays it leaves at the ideal
   values, the input's gradient element by element and the scale's gradient summed over all the rows. -/
module

public import proofs.«01_k».proof.Proof.Product.Base
public import proofs.«01_k».proof.Proof.Input.GradReal
public import proofs.«01_k».proof.Proof.Input.GradBody
public import proofs.«01_k».proof.Proof.Gen.Kernel7Ideal.Value
public import Idealize.ShloMosaic.Lib.Pipeline.ValueKit.Geometry

@[expose] public section

set_option maxRecDepth 16384

noncomputable section

namespace Cert.Kernel7Ideal.Input

open Cert.Kernel7Ideal.Gen Cert.Kernel7Ideal.Value Cert.Input
open Cert.Product (pair ext2)
open Idealize.ShloMosaic Idealize.ShloMosaic.TcCoe Idealize.ShloMosaic.ValueIdx
open scoped BigOperators

/-! ## The mathematics, element by element -/

/-- A cotangent's product with its weight's rows, at an element. -/
def part {M K : ℕ} (x : FVec Ideal ⟨2, ![M, K]⟩ .bf16) (w : FVec Ideal ⟨2, ![1024, K]⟩ .bf16) (q : Fin M) (b : Fin 1024) : EReal :=
  ∑ s, x (ix2 q s) * w (ix2 b s)

/-- The cotangent of the normalised input: the seven products' sum. -/
def du {M : ℕ} (x0 : FVec Ideal ⟨2, ![M, 1024]⟩ .bf16) (x1 : FVec Ideal ⟨2, ![M, 1536]⟩ .bf16) (x2 x3 x4 x5 : FVec Ideal ⟨2, ![M, 1024]⟩ .bf16)
    (x6 : FVec Ideal ⟨2, ![M, 128]⟩ .bf16) (w0 : FVec Ideal S1024x1024 .bf16) (w1 : FVec Ideal S1024x1536 .bf16) (w2 w3 w4 w5 : FVec Ideal S1024x1024 .bf16)
    (w6 : FVec Ideal S1024x128 .bf16) (q : Fin M) (b : Fin 1024) : EReal :=
  part x0 w0 q b + part x1 w1 q b + part x2 w2 q b + part x3 w3 q b + part x4 w4 q b + part x5 w5 q b + part x6 w6 q b

/-- The scale's gradient of a column, over the rows of `x` and the cotangent `d`. -/
def across (x : FVec Ideal S8192x1024 .f32) (d : Fin 8192 → Fin 1024 → EReal) (b : Fin 1024) (q : Fin 8192) : EReal :=
  d q b * (x (ix2 q b) * scale fun s => x (ix2 q s))

/-! ## The body at an element -/

theorem rows1024 : Rows dot_S512x1024_S1024x1024_S512x1024_1_1_0_0_n_n := ⟨rfl, rfl, fun _ _ _ => ⟨⟨rfl, rfl⟩, rfl, rfl⟩⟩
theorem rows1536 : Rows dot_S512x1536_S1024x1536_S512x1024_1_1_0_0_n_n := ⟨rfl, rfl, fun _ _ _ => ⟨⟨rfl, rfl⟩, rfl, rfl⟩⟩
theorem rows128 : Rows dot_S512x128_S1024x128_S512x1024_1_1_0_0_n_n := ⟨rfl, rfl, fun _ _ _ => ⟨⟨rfl, rfl⟩, rfl, rfl⟩⟩

section
variable (x0 : FVec Ideal S512x1024 .bf16) (x1 : FVec Ideal S512x1536 .bf16) (x2 x3 x4 x5 : FVec Ideal S512x1024 .bf16) (x6 : FVec Ideal S512x128 .bf16)
  (w0 : FVec Ideal S1024x1024 .bf16) (w1 : FVec Ideal S1024x1536 .bf16) (w2 w3 w4 w5 : FVec Ideal S1024x1024 .bf16) (w6 : FVec Ideal S1024x128 .bf16)
  (p : FVec Ideal S512x1024 .f32) (g : FVec Ideal S1x1024 .f32) (h : FVec Ideal S512x1024 .f32) (acc : FVec Ideal S1x1024 .f32)

theorem pay3_apply (a : Fin 512) (b : Fin 1024) :
    k0_pay3 (F := Ideal) (k0_pay2 (F := Ideal) x0 w0 x1 w1 x2 w2 x3 w3 x4 w4 x5 w5) x6 w6 (ix2 a b) = du x0 x1 x2 x3 x4 x5 x6 w0 w1 w2 w3 w4 w5 w6 a b := by
  unfold k0_pay3 k0_pay2 du part
  refine congrArg₂ (· + ·) (congrArg₂ (· + ·) (congrArg₂ (· + ·) (congrArg₂ (· + ·) (congrArg₂ (· + ·) (congrArg₂ (· + ·) ?_ ?_) ?_) ?_) ?_) ?_) ?_
  · exact rows_apply _ rows1024 x0 w0 a b
  · exact rows_apply _ rows1536 x1 w1 a b
  · exact rows_apply _ rows1024 x2 w2 a b
  · exact rows_apply _ rows1024 x3 w3 a b
  · exact rows_apply _ rows1024 x4 w4 a b
  · exact rows_apply _ rows1024 x5 w5 a b
  · exact rows_apply _ rows128 x6 w6 a b

theorem pay4_apply (a : Fin 512) : k0_pay4 (F := Ideal) p (ix2 a (0 : Fin 1)) = scale fun s => p (ix2 a s) := scale_apply p _ _ _ _ a

theorem pay5_apply (a : Fin 512) (b : Fin 1024) : k0_pay5 (F := Ideal) p (ix2 a b) = p (ix2 a b) * scale fun s => p (ix2 a s) := by
  unfold k0_pay5
  exact congrArg (p (ix2 a b) * ·) ((along _ _ a b).trans (pay4_apply p a))

theorem pay6_apply (v : FVec Ideal S512x1024 .f32) (b : Fin 1024) :
    k0_pay6 (F := Ideal) v x6 w6 p acc (ix2 (0 : Fin 1) b)
      = acc (ix2 (0 : Fin 1) b) + ∑ a : Fin 512, k0_pay3 (F := Ideal) v x6 w6 (ix2 a b) * (p (ix2 a b) * scale fun s => p (ix2 a s)) := by
  unfold k0_pay6
  rw [shapeCast_self]
  refine congrArg (acc (ix2 (0 : Fin 1) b) + ·) ((column_sum _ _ _ _ _ b).trans (Finset.sum_congr rfl fun a _ => ?_))
  exact congrArg (k0_pay3 (F := Ideal) v x6 w6 (ix2 a b) * ·) (pay5_apply p a b)

theorem pay7_apply (v : FVec Ideal S512x1024 .f32) (a : Fin 512) (b : Fin 1024) :
    k0_pay7 (F := Ideal) v x6 w6 p g h (ix2 a b)
      = back (fun s => p (ix2 a s)) (fun s => k0_pay3 (F := Ideal) v x6 w6 (ix2 a s) * g (ix2 (0 : Fin 1) s)) b + h (ix2 a b) := by
  unfold k0_pay7 back
  have hg : ∀ s, broadcastTo S512x1024 g broadcasts_S1x1024_S512x1024 (ix2 a s) = g (ix2 (0 : Fin 1) s) := fun s => broadcastTo_1b_ab_apply g _ a s
  refine congrArg (· + h (ix2 a b)) (congrArg₂ (· * ·) ((along _ _ a b).trans (pay4_apply p a)) ?_)
  refine congrArg₂ (· - ·) (congrArg (k0_pay3 (F := Ideal) v x6 w6 (ix2 a b) * ·) (hg b)) (congrArg₂ (· * ·) (pay5_apply p a b) ?_)
  refine (along _ _ a b).trans (congrArg (Ideal.div · _) ((row_sum _ _ _ _ _ a).trans (Finset.sum_congr rfl fun s _ => ?_)))
  exact congrArg₂ (· * ·) (congrArg (k0_pay3 (F := Ideal) v x6 w6 (ix2 a s) * ·) (hg s)) (pay5_apply p a s)

end

/-! ## The blocks -/

section
variable (m : (ℓ : Loc nD τ sig) → Buf (Elt Ideal) ℓ) (c : Dev nD)

/-- The argument arrays: the seven cotangents, the seven weights, the input, its scale, and the gradient past the block. -/
abbrev a0 : FVec Ideal S8192x1024 .bf16 := m ((c.tc : Thread nD τ).loc main_arg0)
abbrev a1 : FVec Ideal S8192x1536 .bf16 := m ((c.tc : Thread nD τ).loc main_arg1)
abbrev a2 : FVec Ideal S8192x1024 .bf16 := m ((c.tc : Thread nD τ).loc main_arg2)
abbrev a3 : FVec Ideal S8192x1024 .bf16 := m ((c.tc : Thread nD τ).loc main_arg3)
abbrev a4 : FVec Ideal S8192x1024 .bf16 := m ((c.tc : Thread nD τ).loc main_arg4)
abbrev a5 : FVec Ideal S8192x1024 .bf16 := m ((c.tc : Thread nD τ).loc main_arg5)
abbrev a6 : FVec Ideal S8192x128 .bf16 := m ((c.tc : Thread nD τ).loc main_arg6)
abbrev a7 : FVec Ideal S1024x1024 .bf16 := m ((c.tc : Thread nD τ).loc main_arg7)
abbrev a8 : FVec Ideal S1024x1536 .bf16 := m ((c.tc : Thread nD τ).loc main_arg8)
abbrev a9 : FVec Ideal S1024x1024 .bf16 := m ((c.tc : Thread nD τ).loc main_arg9)
abbrev a10 : FVec Ideal S1024x1024 .bf16 := m ((c.tc : Thread nD τ).loc main_arg10)
abbrev a11 : FVec Ideal S1024x1024 .bf16 := m ((c.tc : Thread nD τ).loc main_arg11)
abbrev a12 : FVec Ideal S1024x1024 .bf16 := m ((c.tc : Thread nD τ).loc main_arg12)
abbrev a13 : FVec Ideal S1024x128 .bf16 := m ((c.tc : Thread nD τ).loc main_arg13)
abbrev a14 : FVec Ideal S8192x1024 .f32 := m ((c.tc : Thread nD τ).loc main_arg14)
abbrev a15 : FVec Ideal S1x1024 .f32 := m ((c.tc : Thread nD τ).loc main_arg15)
abbrev a16 : FVec Ideal S8192x1024 .f32 := m ((c.tc : Thread nD τ).loc main_arg16)

/-- The block of rows a window that moves is at. -/
theorem at0 : ∀ t : Fin grid0.N, cc0_transform_0 (grid0.coords t) = ![t.val, 0] := by decide +kernel

/-- Where an element of a row block lies in its array, for the three widths. -/
theorem emb0 (t : Fin grid0.N) (a : Fin 512) (b : Fin 1024) : ((cfg0.win 0).rect t).emb (ix2 a b) = (ix2 (row t.val a) b : S8192x1024.Idx) := funext fun x => Fin.ext (by
  have ht : t.val < 16 := lt_of_lt_of_eq t.isLt N_0
  refine ((cfg0.win 0).rect_emb_val t (ix2 a b) x).trans ?_
  show cc0_transform_0 (grid0.coords t) x * _ + _ = _
  rw [at0]
  match x with
  | ⟨0, _⟩ => refine Eq.trans ?_ (row_val _ ht a).symm; show t.val * 512 + a.val = _; omega
  | ⟨1, _⟩ => show 0 * 1024 + b.val = b.val; omega)

theorem emb1 (t : Fin grid0.N) (a : Fin 512) (b : Fin 1536) : ((cfg0.win 1).rect t).emb (ix2 a b) = (ix2 (row t.val a) b : S8192x1536.Idx) := funext fun x => Fin.ext (by
  have ht : t.val < 16 := lt_of_lt_of_eq t.isLt N_0
  refine ((cfg0.win 1).rect_emb_val t (ix2 a b) x).trans ?_
  show cc0_transform_0 (grid0.coords t) x * _ + _ = _
  rw [at0]
  match x with
  | ⟨0, _⟩ => refine Eq.trans ?_ (row_val _ ht a).symm; show t.val * 512 + a.val = _; omega
  | ⟨1, _⟩ => show 0 * 1536 + b.val = b.val; omega)

theorem emb6 (t : Fin grid0.N) (a : Fin 512) (b : Fin 128) : ((cfg0.win 6).rect t).emb (ix2 a b) = (ix2 (row t.val a) b : S8192x128.Idx) := funext fun x => Fin.ext (by
  have ht : t.val < 16 := lt_of_lt_of_eq t.isLt N_0
  refine ((cfg0.win 6).rect_emb_val t (ix2 a b) x).trans ?_
  show cc0_transform_0 (grid0.coords t) x * _ + _ = _
  rw [at0]
  match x with
  | ⟨0, _⟩ => refine Eq.trans ?_ (row_val _ ht a).symm; show t.val * 512 + a.val = _; omega
  | ⟨1, _⟩ => show 0 * 128 + b.val = b.val; omega)

/-- Where an element of a whole array's window lies, for the four shapes. -/
theorem emb7 (t : Fin grid0.N) (i : S1024x1024.Idx) : ((cfg0.win 7).rect t).emb i = i := funext fun x => Fin.ext (by
  refine ((cfg0.win 7).rect_emb_val t i x).trans ?_
  match x with
  | ⟨0, _⟩ => show 0 * 1024 + (i 0).val = (i 0).val; omega
  | ⟨1, _⟩ => show 0 * 1024 + (i 1).val = (i 1).val; omega)

theorem emb8 (t : Fin grid0.N) (i : S1024x1536.Idx) : ((cfg0.win 8).rect t).emb i = i := funext fun x => Fin.ext (by
  refine ((cfg0.win 8).rect_emb_val t i x).trans ?_
  match x with
  | ⟨0, _⟩ => show 0 * 1024 + (i 0).val = (i 0).val; omega
  | ⟨1, _⟩ => show 0 * 1536 + (i 1).val = (i 1).val; omega)

theorem emb13 (t : Fin grid0.N) (i : S1024x128.Idx) : ((cfg0.win 13).rect t).emb i = i := funext fun x => Fin.ext (by
  refine ((cfg0.win 13).rect_emb_val t i x).trans ?_
  match x with
  | ⟨0, _⟩ => show 0 * 1024 + (i 0).val = (i 0).val; omega
  | ⟨1, _⟩ => show 0 * 128 + (i 1).val = (i 1).val; omega)

theorem emb15 (t : Fin grid0.N) (i : S1x1024.Idx) : ((cfg0.win 15).rect t).emb i = i := funext fun x => Fin.ext (by
  refine ((cfg0.win 15).rect_emb_val t i x).trans ?_
  match x with
  | ⟨0, _⟩ => show 0 * 1 + (i 0).val = (i 0).val; omega
  | ⟨1, _⟩ => show 0 * 1024 + (i 1).val = (i 1).val; omega)

theorem blk0 (t : Fin grid0.N) (a : Fin 512) (b : Fin 1024) : iblk m c 0 t (ix2 a b) = a0 m c (ix2 (row t.val a) b) := congrArg (V m c main_arg0) (emb0 t a b)
theorem blk1 (t : Fin grid0.N) (a : Fin 512) (b : Fin 1536) : iblk m c 1 t (ix2 a b) = a1 m c (ix2 (row t.val a) b) := congrArg (V m c main_arg1) (emb1 t a b)
theorem blk2 (t : Fin grid0.N) (a : Fin 512) (b : Fin 1024) : iblk m c 2 t (ix2 a b) = a2 m c (ix2 (row t.val a) b) := congrArg (V m c main_arg2) (emb0 t a b)
theorem blk3 (t : Fin grid0.N) (a : Fin 512) (b : Fin 1024) : iblk m c 3 t (ix2 a b) = a3 m c (ix2 (row t.val a) b) := congrArg (V m c main_arg3) (emb0 t a b)
theorem blk4 (t : Fin grid0.N) (a : Fin 512) (b : Fin 1024) : iblk m c 4 t (ix2 a b) = a4 m c (ix2 (row t.val a) b) := congrArg (V m c main_arg4) (emb0 t a b)
theorem blk5 (t : Fin grid0.N) (a : Fin 512) (b : Fin 1024) : iblk m c 5 t (ix2 a b) = a5 m c (ix2 (row t.val a) b) := congrArg (V m c main_arg5) (emb0 t a b)
theorem blk6 (t : Fin grid0.N) (a : Fin 512) (b : Fin 128) : iblk m c 6 t (ix2 a b) = a6 m c (ix2 (row t.val a) b) := congrArg (V m c main_arg6) (emb6 t a b)
theorem blk14 (t : Fin grid0.N) (a : Fin 512) (b : Fin 1024) : iblk m c 14 t (ix2 a b) = a14 m c (ix2 (row t.val a) b) := congrArg (V m c main_arg14) (emb0 t a b)
theorem blk16 (t : Fin grid0.N) (a : Fin 512) (b : Fin 1024) : iblk m c 16 t (ix2 a b) = a16 m c (ix2 (row t.val a) b) := congrArg (V m c main_arg16) (emb0 t a b)
theorem blk7 (t : Fin grid0.N) : iblk m c 7 t = a7 m c := funext fun i => congrArg (V m c main_arg7) (emb7 t i)
theorem blk8 (t : Fin grid0.N) : iblk m c 8 t = a8 m c := funext fun i => congrArg (V m c main_arg8) (emb8 t i)
theorem blk9 (t : Fin grid0.N) : iblk m c 9 t = a9 m c := funext fun i => congrArg (V m c main_arg9) (emb7 t i)
theorem blk10 (t : Fin grid0.N) : iblk m c 10 t = a10 m c := funext fun i => congrArg (V m c main_arg10) (emb7 t i)
theorem blk11 (t : Fin grid0.N) : iblk m c 11 t = a11 m c := funext fun i => congrArg (V m c main_arg11) (emb7 t i)
theorem blk12 (t : Fin grid0.N) : iblk m c 12 t = a12 m c := funext fun i => congrArg (V m c main_arg12) (emb7 t i)
theorem blk13 (t : Fin grid0.N) : iblk m c 13 t = a13 m c := funext fun i => congrArg (V m c main_arg13) (emb13 t i)
theorem blk15 (t : Fin grid0.N) : iblk m c 15 t = a15 m c := funext fun i => congrArg (V m c main_arg15) (emb15 t i)

/-- The cotangent of the normalised input, of the launch's arrays. -/
def duOf : Fin 8192 → Fin 1024 → EReal := du (a0 m c) (a1 m c) (a2 m c) (a3 m c) (a4 m c) (a5 m c) (a6 m c) (a7 m c) (a8 m c) (a9 m c) (a10 m c) (a11 m c) (a12 m c) (a13 m c)

/-- A point's cotangent block is its rows of it. -/
theorem du_blk (t : Fin grid0.N) (a : Fin 512) (b : Fin 1024) :
    k0_pay3 (F := Ideal) (k0_pay2 (F := Ideal) (iblk m c 0 t) (iblk m c 7 t) (iblk m c 1 t) (iblk m c 8 t) (iblk m c 2 t) (iblk m c 9 t) (iblk m c 3 t) (iblk m c 10 t) (iblk m c 4 t) (iblk m c 11 t) (iblk m c 5 t) (iblk m c 12 t)) (iblk m c 6 t) (iblk m c 13 t) (ix2 a b) = duOf m c (row t.val a) b := by
  rw [pay3_apply]
  unfold duOf du part
  refine congrArg₂ (· + ·) (congrArg₂ (· + ·) (congrArg₂ (· + ·) (congrArg₂ (· + ·) (congrArg₂ (· + ·) (congrArg₂ (· + ·) ?_ ?_) ?_) ?_) ?_) ?_) ?_
  · rw [blk7]; exact Finset.sum_congr rfl fun s _ => congrArg (· * _) (blk0 m c t a s)
  · rw [blk8]; exact Finset.sum_congr rfl fun s _ => congrArg (· * _) (blk1 m c t a s)
  · rw [blk9]; exact Finset.sum_congr rfl fun s _ => congrArg (· * _) (blk2 m c t a s)
  · rw [blk10]; exact Finset.sum_congr rfl fun s _ => congrArg (· * _) (blk3 m c t a s)
  · rw [blk11]; exact Finset.sum_congr rfl fun s _ => congrArg (· * _) (blk4 m c t a s)
  · rw [blk12]; exact Finset.sum_congr rfl fun s _ => congrArg (· * _) (blk5 m c t a s)
  · rw [blk13]; exact Finset.sum_congr rfl fun s _ => congrArg (· * _) (blk6 m c t a s)

/-- The input's gradient, at an element. -/
def dxOf (q : Fin 8192) (b : Fin 1024) : EReal :=
  back (fun s => a14 m c (ix2 q s)) (fun s => duOf m c q s * a15 m c (ix2 (0 : Fin 1) s)) b + a16 m c (ix2 q b)

theorem pay7_blk (t : Fin grid0.N) (a : Fin 512) (b : Fin 1024) :
    k0_pay7 (F := Ideal) (k0_pay2 (F := Ideal) (iblk m c 0 t) (iblk m c 7 t) (iblk m c 1 t) (iblk m c 8 t) (iblk m c 2 t) (iblk m c 9 t) (iblk m c 3 t) (iblk m c 10 t) (iblk m c 4 t) (iblk m c 11 t) (iblk m c 5 t) (iblk m c 12 t)) (iblk m c 6 t) (iblk m c 13 t) (iblk m c 14 t) (iblk m c 15 t) (iblk m c 16 t) (ix2 a b) = dxOf m c (row t.val a) b := by
  rw [pay7_apply, blk15]
  unfold dxOf
  simp only [du_blk, blk14, blk16]

theorem pay6_blk (t : Fin grid0.N) (acc : FVec Ideal S1x1024 .f32) (b : Fin 1024) :
    k0_pay6 (F := Ideal) (k0_pay2 (F := Ideal) (iblk m c 0 t) (iblk m c 7 t) (iblk m c 1 t) (iblk m c 8 t) (iblk m c 2 t) (iblk m c 9 t) (iblk m c 3 t) (iblk m c 10 t) (iblk m c 4 t) (iblk m c 11 t) (iblk m c 5 t) (iblk m c 12 t)) (iblk m c 6 t) (iblk m c 13 t) (iblk m c 14 t) acc (ix2 (0 : Fin 1) b)
      = acc (ix2 (0 : Fin 1) b) + ∑ a, across (a14 m c) (duOf m c) b (row t.val a) := by
  rw [pay6_apply]
  refine congrArg (acc (ix2 (0 : Fin 1) b) + ·) (Finset.sum_congr rfl fun a _ => ?_)
  unfold across
  simp only [du_blk, blk14]

/-- The rows' block after a point. -/
theorem after17 (t : Fin grid0.N) (a : Fin 512) (b : Fin 1024) : (outsAt0 m c t.val t.isLt).1 (ix2 a b) = dxOf m c (row t.val a) b := by
  by_cases h0 : t.val % 16 = 0
  · rw [outs_first m c t h0]
    exact pay7_blk m c t a b
  · rw [outs_next m c t h0]
    exact pay7_blk m c t a b

/-- The scale's gradient after a point: the sum over the blocks so far. -/
theorem after18 (b : Fin 1024) : ∀ (n : ℕ) (hn : n < cfg0.N),
    (outsAt0 m c n hn).2 (ix2 (0 : Fin 1) b) = ∑ t ∈ Finset.range (n + 1), ∑ a, across (a14 m c) (duOf m c) b (row t a)
  | 0, hn => by
    rw [Finset.sum_range_one, outs_first m c ⟨0, hn⟩ rfl]
    refine (pay6_blk m c ⟨0, hn⟩ _ b).trans ?_
    rw [show k0_pay1 (F := Ideal) (ix2 (0 : Fin 1) b) = 0 from Ideal.ofBits_zero_f32, zero_add]
  | n + 1, hn => by
    have hN : n + 1 < 16 := lt_of_lt_of_eq hn N_0
    rw [outs_next m c ⟨n + 1, hn⟩ (by show ¬ (n + 1) % 16 = 0; omega), Finset.sum_range_succ, ← after18 b n (by omega)]
    exact pay6_blk m c ⟨n + 1, hn⟩ _ b

/-- A function of a row and a column, as an array. -/
def arr {M N : ℕ} (f : Fin M → Fin N → EReal) : FVec Ideal ⟨2, ![M, N]⟩ .f32 := fun i => f (i 0) (i 1)

/-- The launch's first array: the input's gradient. -/
theorem arr17 : (dats m 0 c).arrAt 17 cfg0.N = arr (dxOf m c) := by
  refine (dats m 0 c).arrAt_eq_of_covers 17 _ (by decide +kernel) fun t hf y => ?_
  obtain ⟨a, b, rfl⟩ : ∃ (a : Fin 512) (b : Fin 1024), y = ix2 a b := ⟨y 0, y 1, pair _⟩
  show (dats m 0 c).after 17 t (ix2 a b) = arr (dxOf m c) (((cfg0.win 17).rect t).emb (ix2 a b))
  rw [show ((cfg0.win 17).rect t).emb (ix2 a b) = (ix2 (row t.val a) b : S8192x1024.Idx) from emb0 t a b, after0_17]
  exact after17 m c t a b

/-- The launch's second array: the scale's gradient, summed over all the rows. -/
theorem arr18 : (dats m 0 c).arrAt 18 cfg0.N = arr (fun (_ : Fin 1) b => ∑ q, across (a14 m c) (duOf m c) b q) := by
  refine (dats m 0 c).arrAt_eq_of_covers 18 _ (by decide +kernel) fun t hf y => ?_
  obtain ⟨a, b, rfl⟩ : ∃ (a : Fin 1) (b : Fin 1024), y = ix2 a b := ⟨y 0, y 1, pair _⟩
  obtain rfl : a = 0 := Subsingleton.elim _ _
  have ht : t.val = 15 := (by decide +kernel : ∀ t : Fin cfg0.N, (cfg0.win 18).flush t → t.val = 15) t hf
  show (dats m 0 c).after 18 t (ix2 (0 : Fin 1) b) = arr _ (((cfg0.win 18).rect t).emb (ix2 (0 : Fin 1) b))
  rw [show ((cfg0.win 18).rect t).emb (ix2 (0 : Fin 1) b) = (ix2 (0 : Fin 1) b : S1x1024.Idx) from emb15 t _, after0_18, after18, ht]
  exact (sum_rows _).symm

end

end Cert.Kernel7Ideal.Input

end
-- ==== Proof.Input.Backward.lean ====
/- The gradient of the block's input and of its scale: both arrays are the reference's, at the ideal values. -/
module

public import proofs.«01_k».proof.Defs
public import proofs.«01_k».proof.Proof.Input.GradBlocks
public import proofs.«01_k».proof.Proof.Gen.Reference7Ideal.Run
public import proofs.«01_k».proof.Proof.Gen.Reference7Ideal.Read
public import Idealize.ShloMosaic.Lib.Quiescent

@[expose] public section

set_option maxRecDepth 16384

noncomputable section

namespace Cert.Kernel7Ideal.Input

open Cert.Kernel7Ideal.Gen Cert.Kernel7Ideal.Value Cert.Input
open Cert.Product (pair ext2)
open Idealize.ShloMosaic Idealize.ShloMosaic.TcCoe Idealize.ShloMosaic.ValueIdx Idealize.SL.Sem
open scoped BigOperators

section
variable (x0 : FVec Ideal S8192x1024 .bf16) (x1 : FVec Ideal S8192x1536 .bf16) (x2 : FVec Ideal S8192x1024 .bf16) (x3 : FVec Ideal S8192x1024 .bf16) (x4 : FVec Ideal S8192x1024 .bf16) (x5 : FVec Ideal S8192x1024 .bf16) (x6 : FVec Ideal S8192x128 .bf16) (x7 : FVec Ideal S1024x1024 .bf16) (x8 : FVec Ideal S1024x1536 .bf16) (x9 : FVec Ideal S1024x1024 .bf16) (x10 : FVec Ideal S1024x1024 .bf16) (x11 : FVec Ideal S1024x1024 .bf16) (x12 : FVec Ideal S1024x1024 .bf16) (x13 : FVec Ideal S1024x128 .bf16) (x14 : FVec Ideal S8192x1024 .f32) (x15 : FVec Ideal S1x1024 .f32) (x16 : FVec Ideal S8192x1024 .f32)

/-! ## The reference at an element -/

open Cert.Reference7Ideal.Read

/-- The reference's cotangent of the normalised input: the same seven products. -/
theorem ref_du (q : Fin 8192) (b : Fin 1024) : val_main_v48 (F := Ideal) x0 x1 x2 x3 x4 x5 x6 x7 x8 x9 x10 x11 x12 x13 (ix2 q b) = du x0 x1 x2 x3 x4 x5 x6 x7 x8 x9 x10 x11 x12 x13 q b := by
  rw [val_main_v48_apply, val_main_v46_apply, val_main_v44_apply, val_main_v42_apply, val_main_v40_apply, val_main_v38_apply, val_main_v36_apply, val_main_v37_apply, val_main_v39_apply, val_main_v41_apply, val_main_v43_apply, val_main_v45_apply, val_main_v47_apply]
  have e : ∀ {p0 p1 p2 p3 p4 p5 p6 r0 r1 r2 r3 r4 r5 r6 : EReal}, r0 = p0 → r1 = p1 → r2 = p2 → r3 = p3 → r4 = p4 → r5 = p5 → r6 = p6 →
      r6 + r5 + r4 + r3 + r2 + r1 + r0 = p0 + p1 + p2 + p3 + p4 + p5 + p6 := by
    rintro p0 p1 p2 p3 p4 p5 p6 _ _ _ _ _ _ _ rfl rfl rfl rfl rfl rfl rfl
    abel
  refine e ?_ ?_ ?_ ?_ ?_ ?_ ?_ <;> refine Finset.sum_congr rfl fun s _ => congrArg₂ (· * ·) ?_ ?_
  · exact congrArg x0 (pair _)
  · exact congrArg x7 (pair _)
  · exact congrArg x1 (pair _)
  · exact congrArg x8 (pair _)
  · exact congrArg x2 (pair _)
  · exact congrArg x9 (pair _)
  · exact congrArg x3 (pair _)
  · exact congrArg x10 (pair _)
  · exact congrArg x4 (pair _)
  · exact congrArg x11 (pair _)
  · exact congrArg x5 (pair _)
  · exact congrArg x12 (pair _)
  · exact congrArg x6 (pair _)
  · exact congrArg x13 (pair _)

/-- The reference's mean square of a row and its scale. -/
theorem ref_msq (i : Cert.Reference7Ideal.S8192x1.Idx) (q : Fin 8192) (hq : i 0 = q) : val_main_v20 (F := Ideal) x14 i = msq fun s => x14 (ix2 q s) := by
  subst hq
  rw [val_main_v20_apply, val_main_v18_apply, val_main_v16_apply, val_main_v15_apply, val_main_v17_apply, val_main_v19_apply, val_main_cst_apply,
    val_main_cst_0_apply, val_main_cst_1_apply, show FloatOps.ofBits (F := Ideal) .f32 0x00000000#32 = (0 : EReal) from Ideal.ofBits_zero_f32, zero_add]
  refine congrArg (fun z => Ideal.div z _ + _) (Finset.sum_congr rfl fun s _ => ?_)
  rw [val_main_v14_apply]
  exact congrArg (fun j => x14 j * x14 j) (pair _)

theorem ref_scale (i : Cert.Reference7Ideal.S8192x1.Idx) (q : Fin 8192) (hq : i 0 = q) : val_main_v21 (F := Ideal) x14 i = scale fun s => x14 (ix2 q s) := by
  rw [val_main_v21_apply, ref_msq x14 i q hq]
  rfl

/-- The reference's gradient of the scale. -/
theorem ref_dg (b : Fin 1024) : val_main_v51 (F := Ideal) x0 x1 x2 x3 x4 x5 x6 x7 x8 x9 x10 x11 x12 x13 x14 (ix2 (0 : Fin 1) b) = ∑ q, across x14 (du x0 x1 x2 x3 x4 x5 x6 x7 x8 x9 x10 x11 x12 x13) b q := by
  rw [val_main_v51_apply, val_main_v50_apply, val_main_cst_3_apply, show FloatOps.ofBits (F := Ideal) .f32 0x00000000#32 = (0 : EReal) from Ideal.ofBits_zero_f32, zero_add]
  refine Finset.sum_congr rfl fun q _ => ?_
  rw [show idx_main_v50 (idx_main_v51 (ix2 (0 : Fin 1) b)) q = ix2 q b from (pair _).trans (congrArg (ix2 q) (Fin.ext (by show 0 * 1024 + b.val = b.val; omega))), val_main_v49_apply, val_main_v26_apply, val_main_v25_apply,
    ref_scale x14 _ q rfl, ref_du]
  exact mul_comm _ _

/-- The reference's gradient of the input. -/
theorem ref_dx (q : Fin 8192) (b : Fin 1024) :
    val_main_v68 (F := Ideal) x0 x1 x2 x3 x4 x5 x6 x7 x8 x9 x10 x11 x12 x13 x14 x15 x16 (ix2 q b)
      = x16 (ix2 q b) + du x0 x1 x2 x3 x4 x5 x6 x7 x8 x9 x10 x11 x12 x13 q b * x15 (ix2 (0 : Fin 1) b) * scale (fun s => x14 (ix2 q s))
        + x14 (ix2 q b) * through (fun s => x14 (ix2 q s)) (fun s => du x0 x1 x2 x3 x4 x5 x6 x7 x8 x9 x10 x11 x12 x13 q s * x15 (ix2 (0 : Fin 1) s))
        + through (fun s => x14 (ix2 q s)) (fun s => du x0 x1 x2 x3 x4 x5 x6 x7 x8 x9 x10 x11 x12 x13 q s * x15 (ix2 (0 : Fin 1) s)) * x14 (ix2 q b) := by
  have hD : ∀ s : Fin 1024, val_main_v53 (F := Ideal) x0 x1 x2 x3 x4 x5 x6 x7 x8 x9 x10 x11 x12 x13 x15 (ix2 q s) = du x0 x1 x2 x3 x4 x5 x6 x7 x8 x9 x10 x11 x12 x13 q s * x15 (ix2 (0 : Fin 1) s) := fun s => by
    rw [val_main_v53_apply, val_main_v52_apply, ref_du]
    exact congrArg (fun j => _ * x15 j) (pair _)
  have hT : val_main_v64 (F := Ideal) x0 x1 x2 x3 x4 x5 x6 x7 x8 x9 x10 x11 x12 x13 x14 x15 (ix2 q b) = through (fun s => x14 (ix2 q s)) (fun s => du x0 x1 x2 x3 x4 x5 x6 x7 x8 x9 x10 x11 x12 x13 q s * x15 (ix2 (0 : Fin 1) s)) := by
    rw [val_main_v64_apply, val_main_v63_apply, val_main_cst_6_apply, show FloatOps.ofBits (F := Ideal) .f32 0x00000000#32 = (0 : EReal) from Ideal.ofBits_zero_f32, zero_add,
      Fin.sum_univ_one, val_main_v62_apply, val_main_v60_apply, val_main_v61_apply, val_main_cst_5_apply, val_main_v56_apply, val_main_v55_apply, val_main_cst_4_apply,
      show FloatOps.ofBits (F := Ideal) .f32 0x00000000#32 = (0 : EReal) from Ideal.ofBits_zero_f32, zero_add,
      val_main_v24_apply, val_main_v23_apply, val_main_cst_2_apply, val_main_v22_apply, ref_scale x14 _ q rfl, ref_msq x14 _ q rfl]
    refine congrArg (fun z => Ideal.div (z * _) _) (Finset.sum_congr rfl fun s _ => ?_)
    rw [show idx_main_v55 (idx_main_v56 (idx_main_v63 (idx_main_v64 (ix2 q b)) 0)) s = ix2 q s from
      (pair _).trans (congrArg (ix2 · s) (Fin.ext (by show q.val * 1 + 0 = q.val; omega))), val_main_v54_apply, hD]
    rfl
  rw [val_main_v68_apply, val_main_v66_apply, val_main_v67_apply, val_main_v65_apply, val_main_v59_apply, val_main_v58_apply, val_main_v57_apply, hT, hD, ref_scale x14 _ q rfl]
  rfl

end

/-- At the launch's arguments the reference's two arrays are the launch's. -/
theorem dx_eq (m : (ℓ : Loc nD τ sig) → Buf (Elt Ideal) ℓ) (c : Dev nD) :
    Cert.Reference7Ideal.Read.val_main_v68 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) = arr (dxOf m c) := by
  refine ext2 fun q b => (ref_dx (a0 m c) (a1 m c) (a2 m c) (a3 m c) (a4 m c) (a5 m c) (a6 m c) (a7 m c) (a8 m c) (a9 m c) (a10 m c) (a11 m c) (a12 m c) (a13 m c) (a14 m c) (a15 m c) (a16 m c) q b).trans ?_
  exact (back_eq (fun s => a14 m c (ix2 q s)) (fun s => duOf m c q s * a15 m c (ix2 (0 : Fin 1) s)) b (a16 m c (ix2 q b))).symm

theorem dg_eq (m : (ℓ : Loc nD τ sig) → Buf (Elt Ideal) ℓ) (c : Dev nD) :
    Cert.Reference7Ideal.Read.val_main_v51 (F := Ideal) (a0 m c) (a1 m c) (a2 m c) (a3 m c) (a4 m c) (a5 m c) (a6 m c) (a7 m c) (a8 m c) (a9 m c) (a10 m c) (a11 m c) (a12 m c) (a13 m c) (a14 m c) = arr (fun (_ : Fin 1) b => ∑ q, across (a14 m c) (duOf m c) b q) := by
  refine ext2 fun a b => ?_
  obtain rfl : a = 0 := Subsingleton.elim _ _
  exact ref_dg (a0 m c) (a1 m c) (a2 m c) (a3 m c) (a4 m c) (a5 m c) (a6 m c) (a7 m c) (a8 m c) (a9 m c) (a10 m c) (a11 m c) (a12 m c) (a13 m c) (a14 m c) b

/-- The frame of the reference: every execution ends, the arguments unchanged; it has no semaphore. -/
theorem frame_ref : Cert.quiescent_Reference7Ideal (hReference7Ideal := Cert.Reference7Ideal.Gen.facts) := fun m g _ =>
  (θ_run _ _ _).mono (fun r h => ⟨fun c => (h c).2.2, sem_eq_zero_of_no_sems rfl r.2⟩) (Cert.Reference7Ideal.Value.run m g)

/-- Both programs end with equal results, whose common values are the kernel's arrays. -/
theorem algebraic : Cert.algebraic_Kernel7Ideal_Reference7Ideal (hKernel7Ideal := Cert.Kernel7Ideal.Gen.facts)
    (hReference7Ideal := Cert.Reference7Ideal.Gen.facts) := by
  intro m g m' g' _ harg
  refine ⟨_, _, Value.run_blocks m g, ?_⟩
  refine (θ_run _ _ _).mono (fun r h c => ?_) (Cert.Reference7Ideal.Value.run m' g')
  obtain ⟨r0, r1, hr⟩ := h c
  obtain ⟨e0, e1, e2, e3, e4, e5, e6, e7, e8, e9, e10, e11, e12, e13, e14, e15, e16⟩ := harg c
  refine ⟨r0.trans ((Cert.Reference7Ideal.Read.val_main_v68_eq _ _).trans ?_), r1.trans ((Cert.Reference7Ideal.Read.val_main_v51_eq _ _ _ _ _ _ _ _ _ _ _ _ _ _ _).trans ?_), hr⟩
  · rw [e0, e1, e2, e3, e4, e5, e6, e7, e8, e9, e10, e11, e12, e13, e14, e15, e16]
    exact (dx_eq m c).trans (arr17 m c).symm
  · rw [e0, e1, e2, e3, e4, e5, e6, e7, e8, e9, e10, e11, e12, e13, e14]
    exact (dg_eq m c).trans (arr18 m c).symm

end Cert.Kernel7Ideal.Input

end
-- ==== Proof.Forget.Base.lean ====
/- Sums of the rows up to a row, and from a row on, at the ideal values: as windows that move over the rows, and as a
   block of 512 rows times a triangle of ones, added to what the blocks beside it left. -/
module

public import proofs.«01_k».proof.Proof.Input.GradReal
public import proofs.«01_k».proof.Proof.Product.Base
public import Idealize.ShloMosaic.Lib.KernelVsHost
public import Idealize.ShloMosaic.Lib.Pipeline.Value
public import Idealize.ShloMosaic.Lib.ValueIdx
public import Idealize.ShloMosaic.Lib.ValueLayout

@[expose] public section

noncomputable section

namespace Cert.Forget

open Cert.Input (row row_val sum_rows Columns columns_apply)
open Cert.Product (pair ext2)
open Idealize.ShloMosaic Idealize.ShloMosaic.ValueIdx
open scoped BigOperators

/-! ## The rows up to a row, and from a row on -/

/-- The sum of the rows up to row `q`. -/
def upto (x : Fin 8192 → EReal) (q : Fin 8192) : EReal := ∑ p : Fin 8192, if p.val ≤ q.val then x p else 0

/-- The sum of the rows from row `q` on. -/
def since (x : Fin 8192 → EReal) (q : Fin 8192) : EReal := ∑ p : Fin 8192, if q.val ≤ p.val then x p else 0

/-- The first `t` blocks' sum. -/
def before (x : Fin 8192 → EReal) (t : ℕ) : EReal := ∑ s ∈ Finset.range t, ∑ k, x (row s k)

/-- The last `t` blocks' sum. -/
def after (x : Fin 8192 → EReal) (t : ℕ) : EReal := ∑ s ∈ Finset.range t, ∑ k, x (row (15 - s) k)

theorem before_succ (x : Fin 8192 → EReal) (t : ℕ) : before x (t + 1) = ∑ k, x (row t k) + before x t :=
  (Finset.sum_range_succ _ _).trans (add_comm _ _)

theorem after_succ (x : Fin 8192 → EReal) (t : ℕ) : after x (t + 1) = ∑ k, x (row (15 - t) k) + after x t :=
  (Finset.sum_range_succ _ _).trans (add_comm _ _)

/-- The rows up to row `a` of block `t`: those of the block, and the blocks before it. -/
theorem upto_row (x : Fin 8192 → EReal) (t : ℕ) (ht : t < 16) (a : Fin 512) :
    upto x (row t a) = (∑ k : Fin 512, if k.val ≤ a.val then x (row t k) else 0) + before x t := by
  unfold upto before
  rw [sum_rows, ← Finset.sum_subset (Finset.range_subset_range.2 (show t + 1 ≤ 16 by omega)), Finset.sum_range_succ, add_comm]
  · refine congrArg₂ (· + ·) (Finset.sum_congr rfl fun k _ => ?_) (Finset.sum_congr rfl fun s hs => Finset.sum_congr rfl fun k _ => ?_)
    · rw [row_val t ht, row_val t ht]
      refine if_congr ?_ rfl rfl
      omega
    · have h := Finset.mem_range.1 hs
      have := k.isLt
      rw [row_val t ht, row_val s (by omega), if_pos (by omega)]
  · intro s h1 h2
    rw [Finset.mem_range] at h1 h2
    refine Finset.sum_eq_zero fun k _ => ?_
    have := a.isLt
    rw [row_val t ht, row_val s h1, if_neg (by omega)]

/-- The rows from row `a` of block `15 - t` on: those of the block, and the blocks after it. -/
theorem since_row (x : Fin 8192 → EReal) (t : ℕ) (ht : t < 16) (a : Fin 512) :
    since x (row (15 - t) a) = (∑ k : Fin 512, if a.val ≤ k.val then x (row (15 - t) k) else 0) + after x t := by
  unfold since after
  rw [sum_rows, ← Finset.sum_range_reflect, ← Finset.sum_subset (Finset.range_subset_range.2 (show t + 1 ≤ 16 by omega)),
    Finset.sum_range_succ, add_comm]
  · refine congrArg₂ (· + ·) (Finset.sum_congr rfl fun k _ => ?_) (Finset.sum_congr rfl fun s hs => Finset.sum_congr rfl fun k _ => ?_)
    · rw [show 16 - 1 - t = 15 - t from rfl, row_val _ (by omega), row_val _ (by omega)]
      refine if_congr ?_ rfl rfl
      omega
    · have h := Finset.mem_range.1 hs
      have := a.isLt
      rw [show 16 - 1 - s = 15 - s from rfl, row_val _ (by omega), row_val _ (by omega), if_pos (by omega)]
  · intro s h1 h2
    rw [Finset.mem_range] at h1 h2
    refine Finset.sum_eq_zero fun k _ => ?_
    have := k.isLt
    rw [show 16 - 1 - s = 15 - s from rfl, row_val _ (by omega), row_val _ (by omega), if_neg (by omega)]

/-- All the blocks, the last one first. -/
theorem after_all (x : Fin 8192 → EReal) : after x 16 = ∑ q, x q := by
  rw [sum_rows, ← Finset.sum_range_reflect]
  rfl

/-! ## A window that moves over the rows -/

theorem foldl_sum {α : Type} (l : List α) (g : α → EReal) : ∀ v : EReal, l.foldl (fun r n => r + g n) v = v + (l.map g).sum := by
  induction l with
  | nil => intro v; exact (add_zero v).symm
  | cons a l ih =>
    intro v
    rw [List.foldl_cons, ih, List.map_cons, List.sum_cons, add_assoc]

/-- The index of a one-column array is its row. -/
def column {N : ℕ} : (⟨2, ![N, 1]⟩ : Shape).Idx ≃ Fin N where
  toFun i := i 0
  invFun k := ix2 k 0
  left_inv i := ((pair i).trans (congrArg (ix2 (i 0)) (Fin.ext (Nat.lt_one_iff.1 (i 1).isLt)))).symm
  right_inv _ := rfl

/-- A column's window sum from zero: the sum over the window's rows of the entry there, zero outside the array. -/
theorem window_apply {N : ℕ} (lo hi : ℕ) (x : FVec Ideal ⟨2, ![N, 16]⟩ .f32) (v : (⟨0, ![]⟩ : Shape).Idx → EReal)
    (hv : ∀ i, v i = 0) (h : (⟨2, ![N, 16]⟩ : Shape).ReduceWindows ![N, 1] ![1, 1] ![lo, 0] ![hi, 0] ⟨2, ![N, 16]⟩)
    (hu : 0 < (⟨0, ![]⟩ : Shape).numel) (r : Fin N) (b : Fin 16) :
    Host.reduceWindowAdd (F := Ideal) (t := ⟨2, ![N, 16]⟩) ![N, 1] ![1, 1] ![lo, 0] ![hi, 0] x v h hu (ix2 r b)
      = ∑ k : Fin N, if e : lo ≤ r.val + k.val ∧ r.val + k.val - lo < N then x (ix2 ⟨r.val + k.val - lo, e.2⟩ b) else 0 := by
  show Ideal.hostReduceWindowAdd _ _ _ _ h x (v (Shape.Idx.first hu)) (ix2 r b) = _
  rw [hv]
  unfold Ideal.hostReduceWindowAdd Host.reduceWindow
  refine (foldl_sum _ _ _).trans ?_
  rw [← Fin.sum_univ_def]
  refine (zero_add _).trans ?_
  refine Fintype.sum_equiv ((Shape.rowMajor (⟨2, ![N, 1]⟩ : Shape)).symm.trans column) _ _ fun n => ?_
  obtain ⟨k, rfl⟩ : ∃ k : Fin N, n = Shape.rowMajor (⟨2, ![N, 1]⟩ : Shape) (ix2 k 0) :=
    ⟨column ((Shape.rowMajor (⟨2, ![N, 1]⟩ : Shape)).symm n), by
      rw [show ix2 (column _) 0 = _ from column.symm_apply_apply _, Equiv.apply_symm_apply]⟩
  simp only [Equiv.trans_apply, Equiv.symm_apply_apply]
  by_cases hc : lo ≤ r.val + k.val ∧ r.val + k.val - lo < N
  · rw [dif_pos, dif_pos (show lo ≤ r.val + (column (ix2 k 0)).val ∧ r.val + (column (ix2 k 0)).val - lo < N from hc)]
    · refine congrArg x (funext fun c => Fin.ext ?_)
      match c with
      | ⟨0, _⟩ => show r.val * 1 + k.val - lo = r.val + k.val - lo; omega
      | ⟨1, _⟩ => show b.val * 1 + 0 - 0 = b.val; omega
    · intro c
      match c with
      | ⟨0, _⟩ => show lo ≤ r.val * 1 + k.val ∧ r.val * 1 + k.val - lo < N; omega
      | ⟨1, _⟩ => show 0 ≤ b.val * 1 + 0 ∧ b.val * 1 + 0 - 0 < 16; omega
  · rw [dif_neg, dif_neg (show ¬ (lo ≤ r.val + (column (ix2 k 0)).val ∧ r.val + (column (ix2 k 0)).val - lo < N) from hc)]
    · intro e
      have e0 : lo ≤ r.val * 1 + k.val ∧ r.val * 1 + k.val - lo < N := e 0
      omega

/-- The window that ends at a row: the sum of the rows up to it. -/
theorem window_upto (x : FVec Ideal ⟨2, ![8192, 16]⟩ .f32) (v : (⟨0, ![]⟩ : Shape).Idx → EReal)
    (hv : ∀ i, v i = 0) (h : (⟨2, ![8192, 16]⟩ : Shape).ReduceWindows ![8192, 1] ![1, 1] ![8191, 0] ![0, 0] ⟨2, ![8192, 16]⟩)
    (hu : 0 < (⟨0, ![]⟩ : Shape).numel) (r : Fin 8192) (b : Fin 16) :
    Host.reduceWindowAdd (F := Ideal) (t := ⟨2, ![8192, 16]⟩) ![8192, 1] ![1, 1] ![8191, 0] ![0, 0] x v h hu (ix2 r b)
      = upto (fun q => x (ix2 q b)) r := by
  rw [window_apply 8191 0 x v hv h hu r b]
  unfold upto
  refine Fintype.sum_equiv (Equiv.addRight (r + 1)) _ _ fun k => ?_
  have hr := r.isLt
  have hk := k.isLt
  have e : ((Equiv.addRight (r + 1)) k).val = (k.val + (r.val + 1) % 8192) % 8192 := by
    rw [Equiv.coe_addRight, Fin.val_add, Fin.val_add]
    rfl
  by_cases hc : 8191 ≤ r.val + k.val ∧ r.val + k.val - 8191 < 8192
  · rw [dif_pos hc, if_pos (by omega)]
    exact congrArg (fun q => x (ix2 q b)) (Fin.ext (by rw [e]; show r.val + k.val - 8191 = _; omega))
  · rw [dif_neg hc, if_neg (by omega)]

/-- The window that begins at a row: the sum of the rows from it on. -/
theorem window_since (x : FVec Ideal ⟨2, ![8192, 16]⟩ .f32) (v : (⟨0, ![]⟩ : Shape).Idx → EReal)
    (hv : ∀ i, v i = 0) (h : (⟨2, ![8192, 16]⟩ : Shape).ReduceWindows ![8192, 1] ![1, 1] ![0, 0] ![8191, 0] ⟨2, ![8192, 16]⟩)
    (hu : 0 < (⟨0, ![]⟩ : Shape).numel) (r : Fin 8192) (b : Fin 16) :
    Host.reduceWindowAdd (F := Ideal) (t := ⟨2, ![8192, 16]⟩) ![8192, 1] ![1, 1] ![0, 0] ![8191, 0] x v h hu (ix2 r b)
      = since (fun q => x (ix2 q b)) r := by
  rw [window_apply 0 8191 x v hv h hu r b]
  unfold since
  refine Fintype.sum_equiv (Equiv.addRight r) _ _ fun k => ?_
  have hr := r.isLt
  have hk := k.isLt
  have e : ((Equiv.addRight r) k).val = (k.val + r.val) % 8192 := by
    rw [Equiv.coe_addRight, Fin.val_add]
  by_cases hc : 0 ≤ r.val + k.val ∧ r.val + k.val - 0 < 8192
  · rw [dif_pos hc, if_pos (by omega)]
    exact congrArg (fun q => x (ix2 q b)) (Fin.ext (by rw [e]; show r.val + k.val - 0 = _; omega))
  · rw [dif_neg hc, if_neg (by omega)]

/-! ## A triangle of ones -/

/-- The order of two indices of a block, as words. -/
theorem sle_word (a b : Fin 512) : IntOp.cmpi .sle (BitVec.ofNat 32 a.val) (BitVec.ofNat 32 b.val) = if a.val ≤ b.val then 1#1 else 0#1 := by
  have ha := a.isLt
  have hb := b.isLt
  have h : (BitVec.ofNat 32 a.val).sle (BitVec.ofNat 32 b.val) = decide (a.val ≤ b.val) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    exact decide_eq_decide.2 Int.ofNat_le
  show BitVec.ofBool ((BitVec.ofNat 32 a.val).sle (BitVec.ofNat 32 b.val)) = _
  rw [h]
  by_cases hc : a.val ≤ b.val
  · rw [if_pos hc, decide_eq_true hc]; rfl
  · rw [if_neg hc, decide_eq_false hc]; rfl

/-- An element of the triangle: one where the column does not pass the row. -/
theorem triangle_apply (h0 : (⟨2, ![512, 512]⟩ : Shape).Iotas .tc 32 [0]) (h1 : (⟨2, ![512, 512]⟩ : Shape).Iotas .tc 32 [1])
    (h : 1 < 32) (i k : Fin 512) :
    (sitofp .f32 (extui 32 (cmpi .sle (iota .tc ⟨2, ![512, 512]⟩ 32 [1] h1) (iota .tc ⟨2, ![512, 512]⟩ 32 [0] h0)) h) : FVec Ideal ⟨2, ![512, 512]⟩ .f32) (ix2 i k)
      = if k.val ≤ i.val then 1 else 0 := by
  have e : cmpi .sle (iota .tc ⟨2, ![512, 512]⟩ 32 [1] h1) (iota .tc ⟨2, ![512, 512]⟩ 32 [0] h0) (ix2 i k) = if k.val ≤ i.val then 1#1 else 0#1 := by
    show IntOp.cmpi .sle (iota .tc ⟨2, ![512, 512]⟩ 32 [1] h1 (ix2 i k)) (iota .tc ⟨2, ![512, 512]⟩ 32 [0] h0 (ix2 i k)) = _
    rw [iota_single_apply, iota_single_apply]
    exact sle_word k i
  rw [sitofp_apply, extui_apply, e]
  by_cases hc : k.val ≤ i.val
  · rw [if_pos hc, if_pos hc]
    show ((((1 : ℤ) : ℝ)) : EReal) = 1
    norm_num
  · rw [if_neg hc, if_neg hc]
    show ((((0 : ℤ) : ℝ)) : EReal) = 0
    norm_num

variable {M K N : ℕ}

/-- A product over zero, of rows by columns, at an element, whatever precision it names. -/
theorem product_apply (D : DotDims ⟨2, ![M, K]⟩ ⟨2, ![K, N]⟩ ⟨2, ![M, N]⟩) (h : Columns D) (p : Option ContractPrecision)
    (x : FVec Ideal ⟨2, ![M, K]⟩ .f32) (y : FVec Ideal ⟨2, ![K, N]⟩ .f32) (a : Fin M) (b : Fin N) :
    matmul D p x y (constant ⟨2, ![M, N]⟩ .f32 0x00000000#32) (ix2 a b) = ∑ s : Fin K, x (ix2 a s) * y (ix2 s b) :=
  (show _ = matmul D none x y (constant ⟨2, ![M, N]⟩ .f32 0x00000000#32) (ix2 a b) from by
    show FloatOps.matmul D p x y (constant ⟨2, ![M, N]⟩ .f32 0x00000000#32) (ix2 a b) = FloatOps.matmul D none x y (constant ⟨2, ![M, N]⟩ .f32 0x00000000#32) (ix2 a b)
    rw [Ideal.matmul_constant_zero_apply, Ideal.matmul_constant_zero_apply]).trans (columns_apply D h x y a b)

theorem one_or_zero_mul (p : Prop) [Decidable p] (x : EReal) : (if p then (1 : EReal) else 0) * x = if p then x else 0 := by
  by_cases h : p
  · rw [if_pos h, if_pos h, one_mul]
  · rw [if_neg h, if_neg h, zero_mul]

theorem mul_one_or_zero (p : Prop) [Decidable p] (x : EReal) : x * (if p then (1 : EReal) else 0) = if p then x else 0 :=
  (mul_comm _ _).trans (one_or_zero_mul p x)

/-! ## The lanes of the forget gates -/

/-- The comparisons that pick the sixteen lanes. -/
theorem lane_word : ∀ b : Fin 128, (IntOp.cmpi .sge (BitVec.ofNat 32 b.val) 16#32 &&& IntOp.cmpi .slt (BitVec.ofNat 32 b.val) 32#32)
    = if 16 ≤ b.val ∧ b.val < 32 then 1#1 else 0#1 := by decide +kernel

/-- A row of sixteen entries laid into the forget gates' lanes. -/
def lanes {M : ℕ} (x : Fin M → Fin 16 → EReal) (a : Fin M) (b : Fin 128) : EReal :=
  if h : 16 ≤ b.val ∧ b.val < 32 then x a ⟨b.val - 16, by omega⟩ else 0

/-- An array of sixteen columns, padded with zero to the lanes. -/
theorem pad_lanes {M : ℕ} (x : (⟨2, ![M, 16]⟩ : Shape).Idx → EReal) (v : (⟨0, ![]⟩ : Shape).Idx → EReal) (hv : ∀ i, v i = 0)
    (h : (⟨2, ![M, 16]⟩ : Shape).Pads ![0, 16] ![0, 96] ![0, 0] ⟨2, ![M, 128]⟩) (hu : 0 < (⟨0, ![]⟩ : Shape).numel) (a : Fin M) (b : Fin 128) :
    pad ⟨2, ![M, 128]⟩ ![0, 16] ![0, 96] ![0, 0] x v h hu (ix2 a b) = lanes (fun a b => x (ix2 a b)) a b := by
  unfold lanes
  by_cases hc : 16 ≤ b.val ∧ b.val < 32
  · rw [dif_pos hc]
    refine pad_apply_of_inside _ _ _ _ _ _ _ (ix2 a b) (ix2 a (⟨b.val - 16, by omega⟩ : Fin 16)) fun c => ?_
    match c with
    | ⟨0, _⟩ => show a.val = 0 + a.val * (0 + 1); omega
    | ⟨1, _⟩ => show b.val = 16 + (b.val - 16) * (0 + 1); omega
  · rw [dif_neg hc]
    refine (pad_apply_of_not_inside _ _ _ _ _ _ _ (ix2 a b) (1 : Fin 2) ?_).trans (hv _)
    rintro ⟨h1, -, h3⟩
    have h1' : 16 ≤ b.val := h1
    have h3' : (b.val - 16) / (0 + 1) < 16 := h3
    omega

/-! ## The gate -/

/-- `log (1 + e^y)`, written so that no exponential grows. -/
def soft (y : EReal) : EReal := max y 0 + Ideal.log1p (Ideal.exp (-(max y (-y))))

/-- An infinity taken for zero, as the derivative of the sum of two exponentials takes it. -/
def rep (y : EReal) : EReal := if y = ⊤ then 0 else y

theorem log_one : Ideal.log 1 = 0 := by
  show (if (1 : ℝ) ≤ 0 then ⊥ else ((Real.log 1 : ℝ) : EReal)) = 0
  rw [if_neg (by norm_num), Real.log_one, EReal.coe_zero]

theorem coe_max (r s : ℝ) : max (r : EReal) (s : EReal) = ((max r s : ℝ) : EReal) := (EReal.coe_strictMono.monotone.map_max).symm

theorem soft_top : soft ⊤ = ⊤ := by
  unfold soft Ideal.log1p
  rw [EReal.neg_top, max_eq_left (bot_le : (⊥ : EReal) ≤ ⊤), EReal.neg_top, Ideal.exp_bot, add_zero, max_eq_left (le_top : (0 : EReal) ≤ ⊤), log_one, add_zero]

theorem soft_bot : soft ⊥ = 0 := by
  unfold soft Ideal.log1p
  rw [EReal.neg_bot, max_eq_right (bot_le : (⊥ : EReal) ≤ ⊤), EReal.neg_top, Ideal.exp_bot, add_zero, max_eq_right (bot_le : (⊥ : EReal) ≤ 0), log_one, add_zero]

theorem soft_coe (r : ℝ) : soft r = ((max r 0 + Real.log (1 + Real.exp (-|r|)) : ℝ) : EReal) := by
  have h : ¬ 1 + Real.exp (-|r|) ≤ 0 := not_le.2 (by positivity)
  unfold soft Ideal.log1p
  rw [← EReal.coe_neg, coe_max, show max r (-r) = |r| from rfl, ← EReal.coe_neg, Ideal.exp_coe, ← EReal.coe_one, ← EReal.coe_add]
  show _ + (if 1 + Real.exp (-|r|) ≤ 0 then ⊥ else ((Real.log (1 + Real.exp (-|r|)) : ℝ) : EReal)) = _
  rw [if_neg h, ← EReal.coe_zero, coe_max, ← EReal.coe_add]

/-- The gate's derivative as the reference leaves it is the sigmoid. -/
theorem gate_eq (y : EReal) : Ideal.exp (rep y - rep (soft y)) = Ideal.logistic y := by
  induction y with
  | bot =>
    rw [soft_bot, Ideal.logistic_bot]
    unfold rep
    rw [if_neg bot_ne_top, if_neg EReal.zero_ne_top, sub_zero, Ideal.exp_bot]
  | top =>
    rw [soft_top, Ideal.logistic_top]
    unfold rep
    rw [if_pos rfl, sub_zero]
    show ((Real.exp 0 : ℝ) : EReal) = 1
    rw [Real.exp_zero, EReal.coe_one]
  | coe r =>
    rw [soft_coe, Ideal.logistic_coe]
    unfold rep
    rw [if_neg (EReal.coe_ne_top _), if_neg (EReal.coe_ne_top _), ← EReal.coe_sub, Ideal.exp_coe]
    refine congrArg _ ?_
    have hp : 0 < 1 + Real.exp (-|r|) := by positivity
    rw [Real.exp_sub, Real.exp_add, Real.exp_log hp]
    rcases le_total 0 r with hr | hr
    · rw [max_eq_left hr, abs_of_nonneg hr, div_mul_eq_div_div, div_self (Real.exp_ne_zero _), one_div]
    · rw [max_eq_right hr, abs_of_nonpos hr, neg_neg, Real.exp_zero, one_mul, Real.exp_neg]
      have h0 := Real.exp_pos r
      field_simp
      ring

end Cert.Forget

end
-- ==== Proof.Forget.SumsBody.lean ====
/- What a point of the running sums leaves in its two buffers, as terms of the blocks it loads. -/
module

public import proofs.«01_k».proof.Proof.Gen.Kernel9Ideal.Frame
public import Idealize.ShloMosaic.Lib.Pipeline.Value

@[expose] public section

set_option maxRecDepth 65536

noncomputable section

namespace Cert.Kernel9Ideal.Forget

open Cert.Kernel9Ideal.Gen
open Idealize.ShloMosaic Idealize.ShloMosaic.TcCoe

variable {F : FTy → Type} [FloatOps F]

theorem hz2 : (![0, 0] : Fin 2 → Nat) = fun _ => 0 := funext fun a => by
  match a with
  | ⟨0, _⟩ => rfl
  | ⟨1, _⟩ => rfl

/-- The first row of what the points carry. -/
def first (x : Vec F S8x128 .f32) : Vec F S1x128 .f32 := View.ld x (Rect.unit (s := S8x128) ![0, 0] S1x128.size inb_S8x128_S1x128_0_0)

/-- The first row read back of a whole buffer stored. -/
theorem first_stored (v : View sig .tc .vmem S8x128 .f32) (w : Vec F S8x128 .f32) :
    v.readCov (Val := Elt F) [⟨Rect.unit (s := S8x128) ![0, 0] S8x128.size inb_S8x128_S8x128_0_0, w⟩] (Rect.unit (s := S8x128) ![0, 0] S1x128.size inb_S8x128_S1x128_0_0).toLoadRect = first w := by
  rw [View.readCov_eq_canon', View.canon_unit_zero (S := S8x128) hz2]
  rfl

section
variable (c : Dev nD) (i : grid0.Coords) (arg1 : Memref sig .tc .vmem S512x128 .f32) (harg1 : arg1.IsWhole) (arg2 : Memref sig .tc .vmem S1x128 .f32) (harg2 : arg2.IsWhole) (arg3 : Memref sig .tc .vmem S512x128 .f32) (harg3 : arg3.IsWhole) (arg4 : Memref sig .tc .vmem S8x128 .f32) (harg4 : arg4.IsWhole)
  (x0 : Vec F S512x128 .f32) (x1 : Vec F S1x128 .f32) (xs0 : Vec F S8x128 .f32)

/-- The block the first point leaves. -/
theorem out_A (hc0 : cond0_0 i) : out0_A_2 c i arg1 harg1 arg2 harg2 arg3 harg3 arg4 harg4 hc0 x0 x1
    = k0_pay3 x0 x1 (first k0_pay2) := by
  unfold out0_A_2
  rw [View.read_writes_eq_canon _ _ _ (cover0_A_2 c i arg1 harg1 arg2 harg2 arg3 harg3 arg4 harg4 hc0 x0 x1)]
  unfold kernelRun0_A
  dsimp only
  sl_unfold_words
  rw [View.canon_unit_zero hz2]
  simp only [View.readAt_eq_ld, harg1.read_unread, harg2.read_unread, View.ld_unit_zero (S := S512x128) hz2, View.ld_unit_zero (S := S1x128) hz2, shapeCast_self]
  exact congrArg (k0_pay3 x0 x1) (first_stored _ _)

/-- The block a further point leaves. -/
theorem out_B (hc0 : ¬cond0_0 i) : out0_B_2 c i arg1 harg1 arg2 harg2 arg3 harg3 arg4 harg4 hc0 x0 x1 xs0
    = k0_pay3 x0 x1 (first xs0) := by
  unfold out0_B_2
  rw [View.read_writes_eq_canon _ _ _ (cover0_B_2 c i arg1 harg1 arg2 harg2 arg3 harg3 arg4 harg4 hc0 x0 x1 xs0)]
  unfold kernelRun0_B
  dsimp only
  sl_unfold_words
  rw [View.canon_unit_zero hz2]
  simp only [View.readAt_eq_ld, harg1.read_unread, harg2.read_unread, harg4.read_unread, View.ld_unit_zero (S := S512x128) hz2, View.ld_unit_zero (S := S1x128) hz2, shapeCast_self]
  rfl

/-- What the first point carries on. -/
theorem sout_A (hc0 : cond0_0 i) : sout0_A_0 c i arg1 harg1 arg2 harg2 arg3 harg3 arg4 harg4 hc0 x0 x1
    = k0_pay1 (k0_pay4 x0 x1 (first k0_pay2)) := by
  unfold sout0_A_0
  rw [View.read_writes_eq_canon _ _ _ (scover0_A_0 c i arg1 harg1 arg2 harg2 arg3 harg3 arg4 harg4 hc0 x0 x1)]
  unfold kernelRun0_A
  dsimp only
  sl_unfold_words
  rw [View.canon_cons_unit_zero (S := S8x128) hz2]
  simp only [View.readAt_eq_ld, harg1.read_unread, harg2.read_unread, View.ld_unit_zero (S := S512x128) hz2, View.ld_unit_zero (S := S1x128) hz2, shapeCast_self]
  exact congrArg (fun z => k0_pay1 (k0_pay4 x0 x1 z)) (first_stored _ _)

/-- What a further point carries on. -/
theorem sout_B (hc0 : ¬cond0_0 i) : sout0_B_0 c i arg1 harg1 arg2 harg2 arg3 harg3 arg4 harg4 hc0 x0 x1 xs0
    = k0_pay1 (k0_pay4 x0 x1 (first xs0)) := by
  unfold sout0_B_0
  rw [View.read_writes_eq_canon _ _ _ (scover0_B_0 c i arg1 harg1 arg2 harg2 arg3 harg3 arg4 harg4 hc0 x0 x1 xs0)]
  unfold kernelRun0_B
  dsimp only
  sl_unfold_words
  rw [View.canon_unit_zero hz2]
  simp only [View.readAt_eq_ld, harg1.read_unread, harg2.read_unread, harg4.read_unread, View.ld_unit_zero (S := S512x128) hz2, View.ld_unit_zero (S := S1x128) hz2, shapeCast_self]
  rfl

end

section
variable (m : (ℓ : Loc nD τ sig) → Buf (Elt F) ℓ) (c : Dev nD)

/-- What the first point leaves in its block and carries on. -/
theorem outs_first (t : Fin cfg0.N) (h0 : t.val % 16 = 0) :
    outsAt0 m c t.val t.isLt = (k0_pay3 (iblk m c 0 t) (iblk m c 1 t) (first k0_pay2), k0_pay1 (k0_pay4 (iblk m c 0 t) (iblk m c 1 t) (first k0_pay2))) :=
  (outsAt0_A m c t h0).trans (by rw [out_A, sout_A])

/-- What any other point leaves in its block and carries on. -/
theorem outs_next (t : Fin cfg0.N) (h0 : ¬t.val % 16 = 0) :
    outsAt0 m c t.val t.isLt = (k0_pay3 (iblk m c 0 t) (iblk m c 1 t) (first (outsAt0 m c (t.val - 1) (Nat.lt_of_le_of_lt (Nat.sub_le ..) t.isLt)).2),
      k0_pay1 (k0_pay4 (iblk m c 0 t) (iblk m c 1 t) (first (outsAt0 m c (t.val - 1) (Nat.lt_of_le_of_lt (Nat.sub_le ..) t.isLt)).2))) :=
  (outsAt0_B m c t h0).trans (by rw [out_B, sout_B])

end

end Cert.Kernel9Ideal.Forget

end
-- ==== Proof.Forget.Sums.lean ====
/- The running sums of the forget gates' logarithms: the launch's array at the ideal values, and that it is the
   reference's, whose sums are windows that end at their row. -/
module

public import proofs.«01_k».proof.Defs
public import proofs.«01_k».proof.Proof.Forget.Base
public import proofs.«01_k».proof.Proof.Forget.SumsBody
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit.Geometry

@[expose] public section

set_option maxRecDepth 16384

noncomputable section

namespace Cert.Kernel9Ideal.Forget

open Cert.Kernel9Ideal.Gen Cert.Kernel9Ideal.Value Cert.Forget
open Cert.Input (row row_val Columns)
open Cert.Product (pair ext2)
open Idealize.ShloMosaic Idealize.ShloMosaic.TcCoe Idealize.ShloMosaic.ValueIdx
open scoped BigOperators

/-! ## The body at an element -/

/-- A forget gate's logarithm in its lane, zero in the other lanes. -/
def gate {M : ℕ} (x : FVec Ideal ⟨2, ![M, 128]⟩ .f32) (y : FVec Ideal S1x128 .f32) (b : Fin 128) (q : Fin M) : EReal :=
  if 16 ≤ b.val ∧ b.val < 32 then -soft (-(x (ix2 q b) + y (ix2 (0 : Fin 1) b))) else 0

theorem columns : Columns dot_S512x512_S512x128_S512x128_1_0_0_1_n_n := ⟨rfl, rfl, fun _ _ _ => ⟨⟨rfl, rfl⟩, rfl, rfl⟩⟩

section
variable (x : FVec Ideal S512x128 .f32) (y z : FVec Ideal S1x128 .f32)

theorem pay3_apply (a : Fin 512) (b : Fin 128) :
    k0_pay3 (F := Ideal) x y z (ix2 a b) = (∑ k : Fin 512, if k.val ≤ a.val then gate x y b k else 0) + z (ix2 (0 : Fin 1) b) := by
  unfold k0_pay3
  refine congrArg₂ (· + ·) ((product_apply _ columns _ _ _ a b).trans (Finset.sum_congr rfl fun k _ => ?_)) (broadcastTo_1b_ab_apply z _ a b)
  refine (congrArg₂ (· * ·) (triangle_apply _ _ _ a k) ?_).trans (one_or_zero_mul _ _)
  show Scalar.select (IntOp.cmpi .sge (iota .tc S512x128 32 [1] iota_S512x128_d1_w32 (ix2 k b)) 16#32 &&& IntOp.cmpi .slt (iota .tc S512x128 32 [1] iota_S512x128_d1_w32 (ix2 k b)) 32#32) _ _ = _
  rw [iota_single_apply, show (IntOp.cmpi .sge (BitVec.ofNat 32 (ix2 k b (1 : Fin 2)).val) 16#32 &&& IntOp.cmpi .slt (BitVec.ofNat 32 (ix2 k b (1 : Fin 2)).val) 32#32) = _ from lane_word b]
  unfold gate
  by_cases hc : 16 ≤ b.val ∧ b.val < 32
  · rw [if_pos hc, if_pos hc]
    have hz : addf x (broadcastTo S512x128 y broadcasts_S1x128_S512x128) (ix2 k b) = x (ix2 k b) + y (ix2 (0 : Fin 1) b) :=
      congrArg (x (ix2 k b) + ·) (broadcastTo_1b_ab_apply y _ k b)
    show Ideal.ofBits .f32 0x00000000#32 - (max (Ideal.ofBits .f32 0x00000000#32 - addf x (broadcastTo S512x128 y broadcasts_S1x128_S512x128) (ix2 k b)) (Ideal.ofBits .f32 0x00000000#32)
      + Ideal.log1p (Ideal.exp (Ideal.ofBits .f32 0x00000000#32 - max (Ideal.ofBits .f32 0x00000000#32 - addf x (broadcastTo S512x128 y broadcasts_S1x128_S512x128) (ix2 k b)) (-(Ideal.ofBits .f32 0x00000000#32 - addf x (broadcastTo S512x128 y broadcasts_S1x128_S512x128) (ix2 k b)))))) = _
    rw [hz, Ideal.ofBits_zero_f32, zero_sub, zero_sub, zero_sub]
    rfl
  · rw [if_neg hc, if_neg hc]
    exact Ideal.ofBits_zero_f32

theorem pay1_apply (v : FVec Ideal S1x128 .f32) (j : Fin 8) (b : Fin 128) : k0_pay1 (F := Ideal) v (ix2 j b) = v (ix2 (0 : Fin 1) b) := by
  unfold k0_pay1
  rw [shapeCast_self]
  exact broadcastTo_1b_ab_apply v _ j b

theorem pay2_apply (i : S8x128.Idx) : k0_pay2 (F := Ideal) i = 0 := by
  unfold k0_pay2
  rw [shapeCast_self]
  exact Ideal.ofBits_zero_f32

theorem first_apply (v : FVec Ideal S8x128 .f32) (b : Fin 128) : first (F := Ideal) v (ix2 (0 : Fin 1) b) = v (ix2 (0 : Fin 8) b) :=
  congrArg v (funext fun c => Fin.ext (by
    match c with
    | ⟨0, _⟩ => rfl
    | ⟨1, _⟩ => show 0 + 1 * b.val = b.val; omega))

/-- What a point carries on: its rows' sum and what it was handed. -/
theorem carry_apply (b : Fin 128) :
    k0_pay1 (F := Ideal) (k0_pay4 (F := Ideal) x y z) (ix2 (0 : Fin 8) b) = (∑ k : Fin 512, gate x y b k) + z (ix2 (0 : Fin 1) b) := by
  rw [pay1_apply]
  unfold k0_pay4
  rw [shapeCast_self, slice2_axis0_apply 511 _ _ (0 : Fin 1) b (511 : Fin 512) rfl, pay3_apply]
  refine congrArg (· + _) (Finset.sum_congr rfl fun k _ => if_pos ?_)
  have := k.isLt
  show k.val ≤ 511
  omega

end

/-! ## The launch -/

section
variable (m : (ℓ : Loc nD τ sig) → Buf (Elt Ideal) ℓ) (c : Dev nD)

def a0 : FVec Ideal S8192x128 .f32 := m ((c : Thread nD τ).loc main_arg0)
def a1 : FVec Ideal S1x128 .f32 := m ((c : Thread nD τ).loc main_arg1)

theorem at0 : ∀ t : Fin grid0.N, cc0_transform_0 (grid0.coords t) = ![t.val, 0] := by decide +kernel

/-- Where an element of a row block lies in its array. -/
theorem emb0 (t : Fin grid0.N) (a : Fin 512) (b : Fin 128) : ((cfg0.win 0).rect t).emb (ix2 a b) = (ix2 (row t.val a) b : S8192x128.Idx) := funext fun x => Fin.ext (by
  have ht : t.val < 16 := lt_of_lt_of_eq t.isLt N_0
  refine ((cfg0.win 0).rect_emb_val t (ix2 a b) x).trans ?_
  show cc0_transform_0 (grid0.coords t) x * _ + _ = _
  rw [at0]
  match x with
  | ⟨0, _⟩ => refine Eq.trans ?_ (row_val _ ht a).symm; show t.val * 512 + a.val = _; omega
  | ⟨1, _⟩ => show 0 * 128 + b.val = b.val; omega)

theorem emb1 (t : Fin grid0.N) (i : S1x128.Idx) : ((cfg0.win 1).rect t).emb i = i := funext fun x => Fin.ext (by
  refine ((cfg0.win 1).rect_emb_val t i x).trans ?_
  match x with
  | ⟨0, _⟩ => show 0 * 1 + (i 0).val = (i 0).val; omega
  | ⟨1, _⟩ => show 0 * 128 + (i 1).val = (i 1).val; omega)

theorem blk0 (t : Fin grid0.N) (a : Fin 512) (b : Fin 128) : iblk m c 0 t (ix2 a b) = a0 m c (ix2 (row t.val a) b) := congrArg (V m c main_arg0) (emb0 t a b)
theorem blk1 (t : Fin grid0.N) : iblk m c 1 t = a1 m c := funext fun i => congrArg (V m c main_arg1) (emb1 t i)

theorem gate_blk (t : Fin grid0.N) (b : Fin 128) (k : Fin 512) :
    gate (M := 512) (iblk m c 0 t) (iblk m c 1 t) b k = gate (a0 m c) (a1 m c) b (row t.val k) := by
  unfold gate
  rw [blk0, blk1]

/-- What a point hands on: the sum of the blocks up to its own. -/
theorem carried (b : Fin 128) : ∀ (n : ℕ) (hn : n < cfg0.N), (outsAt0 m c n hn).2 (ix2 (0 : Fin 8) b) = before (gate (a0 m c) (a1 m c) b) (n + 1)
  | 0, hn => by
    rw [outs_first m c ⟨0, hn⟩ rfl, before_succ]
    refine (carry_apply _ _ _ b).trans (congrArg₂ (· + ·) (Finset.sum_congr rfl fun k _ => gate_blk m c ⟨0, hn⟩ b k) ?_)
    rw [first_apply, pay2_apply]
    rfl
  | n + 1, hn => by
    have hN : n + 1 < 16 := lt_of_lt_of_eq hn N_0
    rw [outs_next m c ⟨n + 1, hn⟩ (by show ¬ (n + 1) % 16 = 0; omega), before_succ]
    refine (carry_apply _ _ _ b).trans (congrArg₂ (· + ·) (Finset.sum_congr rfl fun k _ => gate_blk m c ⟨n + 1, hn⟩ b k) ?_)
    rw [first_apply]
    exact carried b n (by omega)

/-- The block after a point: the running sums of its rows. -/
theorem after2 (t : Fin grid0.N) (a : Fin 512) (b : Fin 128) :
    (outsAt0 m c t.val t.isLt).1 (ix2 a b) = upto (gate (a0 m c) (a1 m c) b) (row t.val a) := by
  have ht : t.val < 16 := lt_of_lt_of_eq t.isLt N_0
  rw [upto_row _ _ ht]
  by_cases h0 : t.val % 16 = 0
  · rw [outs_first m c t h0]
    refine (pay3_apply _ _ _ a b).trans (congrArg₂ (· + ·) (Finset.sum_congr rfl fun k _ => if_congr Iff.rfl (gate_blk m c t b k) rfl) ?_)
    rw [first_apply, pay2_apply, show t.val = 0 by omega]
    rfl
  · rw [outs_next m c t h0]
    refine (pay3_apply _ _ _ a b).trans (congrArg₂ (· + ·) (Finset.sum_congr rfl fun k _ => if_congr Iff.rfl (gate_blk m c t b k) rfl) ?_)
    rw [first_apply, carried, show t.val - 1 + 1 = t.val by omega]

/-- The launch's array: the running sums of the gates' logarithms. -/
theorem arr2 : (dats m 0 c).arrAt 2 cfg0.N = fun i => upto (gate (a0 m c) (a1 m c) (i 1)) (i 0) := by
  refine (dats m 0 c).arrAt_eq_of_covers 2 _ (by decide +kernel) fun t hf y => ?_
  obtain ⟨a, b, rfl⟩ : ∃ (a : Fin 512) (b : Fin 128), y = ix2 a b := ⟨y 0, y 1, pair _⟩
  show (dats m 0 c).after 2 t (ix2 a b) = (fun i : S8192x128.Idx => upto (gate (a0 m c) (a1 m c) (i 1)) (i 0)) (((cfg0.win 2).rect t).emb (ix2 a b))
  rw [show ((cfg0.win 2).rect t).emb (ix2 a b) = (ix2 (row t.val a) b : S8192x128.Idx) from emb0 t a b, after0_2]
  exact after2 m c t a b

end

/-! ## The reference -/

section
open Cert.Reference9Ideal.Read
variable (x0 : FVec Ideal S8192x128 .f32) (x1 : FVec Ideal S1x128 .f32)

/-- A raw gate with its bias. -/
theorem ref_raw (q : Fin 8192) (b : Fin 16) (l : Fin 128) (hl : l.val = 16 + b.val) :
    val_main_v5 (F := Ideal) x0 x1 (ix2 q b) = x0 (ix2 q l) + x1 (ix2 (0 : Fin 1) l) := by
  rw [val_main_v5_apply, val_main_v0_apply, val_main_v4_apply, val_main_v3_apply, val_main_v2_apply, val_main_v1_apply]
  refine congrArg₂ (· + ·) (congrArg x0 ((pair _).trans (congrArg (ix2 q) (Fin.ext hl.symm)))) (congrArg x1 ((pair _).trans (congrArg (ix2 (0 : Fin 1)) (Fin.ext ?_))))
  have := b.isLt
  show 16 + b.val % 16 = l.val
  omega

/-- A gate's logarithm. -/
theorem ref_gate (q : Fin 8192) (b : Fin 16) (l : Fin 128) (hl : l.val = 16 + b.val) :
    val_main_v6 (F := Ideal) x0 x1 (ix2 q b) = gate x0 x1 l q := by
  have hb := b.isLt
  unfold gate
  rw [if_pos (by omega), val_main_v6_apply, val_main_call0_v1_apply, val_main_call0_call0_v4_apply]
  refine congrArg Neg.neg ?_
  rw [show FloatOps.cmpf (F := Ideal) .une (val_main_call0_call0_v3 (F := Ideal) x0 x1 (ix2 q b)) (val_main_call0_call0_v3 (F := Ideal) x0 x1 (ix2 q b)) = 0#1 from
    congrArg BitVec.ofBool (decide_eq_false fun h => h rfl), val_main_call0_call0_v11_apply, val_main_call0_call0_v1_apply, val_main_call0_call0_v10_apply,
    val_main_call0_call0_v9_apply, val_main_call0_call0_v8_apply, val_main_call0_call0_v7_apply, val_main_call0_call0_v3_apply, val_main_call0_call0_v2_apply,
    val_main_call0_call0_v0_apply, val_main_call0_call0_cst_apply, val_main_call0_v0_apply, ref_raw x0 x1 q b l hl,
    show FloatOps.ofBits (F := Ideal) .f32 0x00000000#32 = (0 : EReal) from Ideal.ofBits_zero_f32]
  show max (-(x0 (ix2 q l) + x1 (ix2 (0 : Fin 1) l))) 0 + Ideal.log1p (Ideal.exp (-(max (-(x0 (ix2 q l) + x1 (ix2 (0 : Fin 1) l)) - 0) (-(-(x0 (ix2 q l) + x1 (ix2 (0 : Fin 1) l)) - 0))))) = _
  rw [sub_zero]
  rfl

/-- The reference's array: the running sums in the gates' lanes. -/
theorem ref_sums (q : Fin 8192) (b : Fin 128) : val_main_v8 (F := Ideal) x0 x1 (ix2 q b) = upto (gate x0 x1 b) q := by
  unfold val_main_v8
  refine (pad_lanes _ _ (fun _ => Ideal.ofBits_zero_f32) _ _ q b).trans ?_
  unfold lanes
  by_cases hc : 16 ≤ b.val ∧ b.val < 32
  · rw [dif_pos hc]
    unfold val_main_v7
    refine (window_upto _ _ (fun i => (val_main_call1_call0_v0_apply i).trans ((val_main_call1_call0_cst_apply _).trans Ideal.ofBits_zero_f32)) _ _ q _).trans (congrArg (upto · q) (funext fun p => ?_))
    exact ref_gate x0 x1 p _ b (by show b.val = 16 + (b.val - 16); omega)
  · rw [dif_neg hc]
    refine (Finset.sum_eq_zero fun p _ => ?_).symm
    unfold gate
    rw [if_neg hc, ite_self]

end

/-- The frame of the reference: every execution ends, the arguments unchanged; it has no semaphore. -/
theorem frame_ref : Cert.quiescent_Reference9Ideal (hReference9Ideal := Cert.Reference9Ideal.Gen.facts) := fun m g _ =>
  (θ_run _ _ _).mono (fun r h => ⟨fun c => (h c).2, sem_eq_zero_of_no_sems rfl r.2⟩) (Cert.Reference9Ideal.Value.run m g)

/-- Both programs end with equal results, whose common values are the kernel's array. -/
theorem algebraic : Cert.algebraic_Kernel9Ideal_Reference9Ideal (hKernel9Ideal := Cert.Kernel9Ideal.Gen.facts)
    (hReference9Ideal := Cert.Reference9Ideal.Gen.facts) := by
  intro m g m' g' _ harg
  refine ⟨_, Value.run_blocks m g, ?_⟩
  refine (θ_run _ _ _).mono (fun r h c => ?_) (Cert.Reference9Ideal.Value.run m' g')
  obtain ⟨r0, hr⟩ := h c
  obtain ⟨e0, e1⟩ := harg c
  refine ⟨r0.trans ((Cert.Reference9Ideal.Read.val_main_v8_eq _ _).trans ?_), hr⟩
  rw [e0, e1]
  exact (ext2 fun q b => ref_sums (a0 m c) (a1 m c) q b).trans (arr2 m c).symm

end Cert.Kernel9Ideal.Forget

end
-- ==== Proof.Forget.BackwardBody.lean ====
/- What a point of the forget gates' gradient leaves in its three buffers, as terms of the blocks it loads. -/
module

public import proofs.«01_k».proof.Proof.Gen.Kernel10Ideal.Frame
public import Idealize.ShloMosaic.Lib.Pipeline.Value

@[expose] public section

set_option maxRecDepth 65536

noncomputable section

namespace Cert.Kernel10Ideal.Forget

open Cert.Kernel10Ideal.Gen
open Idealize.ShloMosaic Idealize.ShloMosaic.TcCoe

variable {F : FTy → Type} [FloatOps F]

theorem hz2 : (![0, 0] : Fin 2 → Nat) = fun _ => 0 := funext fun a => by
  match a with
  | ⟨0, _⟩ => rfl
  | ⟨1, _⟩ => rfl

/-- The first column of what the points carry. -/
def first (x : Vec F S128x128 .f32) : Vec F S128x1 .f32 := View.ld x (Rect.unit (s := S128x128) ![0, 0] S128x1.size inb_S128x128_S128x1_0_0)

/-- The first column read back of a whole buffer stored. -/
theorem first_stored (v : View sig .tc .vmem S128x128 .f32) (w : Vec F S128x128 .f32) :
    v.readCov (Val := Elt F) [⟨Rect.unit (s := S128x128) ![0, 0] S128x128.size inb_S128x128_S128x128_0_0, w⟩] (Rect.unit (s := S128x128) ![0, 0] S128x1.size inb_S128x128_S128x1_0_0).toLoadRect = first w := by
  rw [View.readCov_eq_canon', View.canon_unit_zero (S := S128x128) hz2]
  rfl

section
variable (c : Dev nD) (i : grid0.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S512x128 .bf16) (harg5 : arg5.IsWhole) (arg6 : Memref sig .tc .vmem S1x128 .f32) (harg6 : arg6.IsWhole) (arg7 : Memref sig .tc .vmem S128x128 .f32) (harg7 : arg7.IsWhole)
  (x0 : Vec F S512x128 .f32) (x1 : Vec F S512x128 .f32) (x2 : Vec F S512x128 .f32) (x3 : Vec F S1x128 .f32) (xo5 : Vec F S1x128 .f32) (xs0 : Vec F S128x128 .f32)

/-- The rows' block the first point leaves. -/
theorem out_A_4 (hc0 : cond0_0 i) : out0_A_4 c i arg1 harg1 arg2 harg2 arg3 harg3 arg4 harg4 arg5 harg5 arg6 harg6 arg7 harg7 hc0 x0 x1 x2 x3
    = k0_pay1 (k0_pay7 x0 (first k0_pay3) x1 x3) x2 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg1.read_unread, harg2.read_unread, harg3.read_unread, harg4.read_unread, View.ld_unit_zero (S := S512x128) hz2, View.ld_unit_zero (S := S1x128) hz2, shapeCast_self]
  exact congrArg (fun z => k0_pay1 (k0_pay7 x0 z x1 x3) x2) (first_stored _ _)

/-- The bias's gradient the first point leaves. -/
theorem out_A_5 (hc0 : cond0_0 i) : out0_A_5 c i arg1 harg1 arg2 harg2 arg3 harg3 arg4 harg4 arg5 harg5 arg6 harg6 arg7 harg7 hc0 x0 x1 x2 x3
    = k0_pay2 (k0_pay7 x0 (first k0_pay3) x1 x3) k0_pay4 := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, View.ld_unit_zero (S := S512x128) hz2, View.ld_unit_zero (S := S1x128) hz2, shapeCast_self]
  exact congrArg (fun z => k0_pay2 (k0_pay7 x0 z x1 x3) k0_pay4) (first_stored _ _)

/-- What the first point carries on. -/
theorem sout_A (hc0 : cond0_0 i) : sout0_A_0 c i arg1 harg1 arg2 harg2 arg3 harg3 arg4 harg4 arg5 harg5 arg6 harg6 arg7 harg7 hc0 x0 x1 x2 x3
    = k0_pay6 x0 (first k0_pay3) := by
  unfold sout0_A_0
  rw [View.read_writes_eq_canon _ _ _ (scover0_A_0 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S128x128) hz2]
  simp only [View.readAt_eq_ld, harg1.read_unread, harg2.read_unread, harg3.read_unread, harg4.read_unread, View.ld_unit_zero (S := S512x128) hz2, View.ld_unit_zero (S := S1x128) hz2, shapeCast_self]
  exact congrArg (k0_pay6 x0) (first_stored _ _)

/-- The rows' block a further point leaves. -/
theorem out_B_4 (hc0 : ¬cond0_0 i) : out0_B_4 c i arg1 harg1 arg2 harg2 arg3 harg3 arg4 harg4 arg5 harg5 arg6 harg6 arg7 harg7 hc0 x0 x1 x2 x3 xo5 xs0
    = k0_pay1 (k0_pay7 x0 (first xs0) x1 x3) x2 := by
  unfold out0_B_4
  rw [View.read_writes_eq_canon _ _ _ (cover0_B_4 c i arg1 harg1 arg2 harg2 arg3 harg3 arg4 harg4 arg5 harg5 arg6 harg6 arg7 harg7 hc0 x0 x1 x2 x3 xo5 xs0)]
  unfold kernelRun0_B
  dsimp only
  sl_unfold_words
  rw [View.canon_unit_zero hz2]
  simp only [View.readAt_eq_ld, harg1.read_unread, harg2.read_unread, harg3.read_unread, harg4.read_unread, harg6.read_unread, harg7.read_unread, View.ld_unit_zero (S := S512x128) hz2, View.ld_unit_zero (S := S1x128) hz2, shapeCast_self]
  rfl

/-- The bias's gradient a further point leaves. -/
theorem out_B_5 (hc0 : ¬cond0_0 i) : out0_B_5 c i arg1 harg1 arg2 harg2 arg3 harg3 arg4 harg4 arg5 harg5 arg6 harg6 arg7 harg7 hc0 x0 x1 x2 x3 xo5 xs0
    = k0_pay2 (k0_pay7 x0 (first xs0) x1 x3) xo5 := by
  unfold out0_B_5
  rw [View.read_writes_eq_canon _ _ _ (cover0_B_5 c i arg1 harg1 arg2 harg2 arg3 harg3 arg4 harg4 arg5 harg5 arg6 harg6 arg7 harg7 hc0 x0 x1 x2 x3 xo5 xs0)]
  unfold kernelRun0_B
  dsimp only
  sl_unfold_words
  rw [View.canon_unit_zero hz2]
  simp only [View.readAt_eq_ld, harg1.read_unread, harg2.read_unread, harg3.read_unread, harg4.read_unread, harg6.read_unread, harg7.read_unread, View.ld_unit_zero (S := S512x128) hz2, View.ld_unit_zero (S := S1x128) hz2, shapeCast_self]
  rfl

/-- What a further point carries on. -/
theorem sout_B (hc0 : ¬cond0_0 i) : sout0_B_0 c i arg1 harg1 arg2 harg2 arg3 harg3 arg4 harg4 arg5 harg5 arg6 harg6 arg7 harg7 hc0 x0 x1 x2 x3 xo5 xs0
    = k0_pay6 x0 (first xs0) := by
  unfold sout0_B_0
  rw [View.read_writes_eq_canon _ _ _ (scover0_B_0 c i arg1 harg1 arg2 harg2 arg3 harg3 arg4 harg4 arg5 harg5 arg6 harg6 arg7 harg7 hc0 x0 x1 x2 x3 xo5 xs0)]
  unfold kernelRun0_B
  dsimp only
  sl_unfold_words
  rw [View.canon_unit_zero hz2]
  simp only [View.readAt_eq_ld, harg1.read_unread, harg2.read_unread, harg3.read_unread, harg4.read_unread, harg6.read_unread, harg7.read_unread, View.ld_unit_zero (S := S512x128) hz2, View.ld_unit_zero (S := S1x128) hz2, shapeCast_self]
  rfl

end

section
variable (m : (ℓ : Loc nD τ sig) → Buf (Elt F) ℓ) (c : Dev nD)

/-- What the first point leaves in its three buffers. -/
theorem outs_first (t : Fin cfg0.N) (h0 : t.val % 16 = 0) :
    outsAt0 m c t.val t.isLt = (k0_pay1 (k0_pay7 (iblk m c 0 t) (first k0_pay3) (iblk m c 1 t) (iblk m c 3 t)) (iblk m c 2 t),
      k0_pay2 (k0_pay7 (iblk m c 0 t) (first k0_pay3) (iblk m c 1 t) (iblk m c 3 t)) k0_pay4,
      k0_pay6 (iblk m c 0 t) (first k0_pay3)) :=
  (outsAt0_A m c t h0).trans (by rw [out_A_4, out_A_5, sout_A])

/-- What any other point leaves in its three buffers. -/
theorem outs_next (t : Fin cfg0.N) (h0 : ¬t.val % 16 = 0) :
    outsAt0 m c t.val t.isLt = (k0_pay1 (k0_pay7 (iblk m c 0 t) (first (outsAt0 m c (t.val - 1) (Nat.lt_of_le_of_lt (Nat.sub_le ..) t.isLt)).2.2) (iblk m c 1 t) (iblk m c 3 t)) (iblk m c 2 t),
      k0_pay2 (k0_pay7 (iblk m c 0 t) (first (outsAt0 m c (t.val - 1) (Nat.lt_of_le_of_lt (Nat.sub_le ..) t.isLt)).2.2) (iblk m c 1 t) (iblk m c 3 t)) (outsAt0 m c (t.val - 1) (Nat.lt_of_le_of_lt (Nat.sub_le ..) t.isLt)).2.1,
      k0_pay6 (iblk m c 0 t) (first (outsAt0 m c (t.val - 1) (Nat.lt_of_le_of_lt (Nat.sub_le ..) t.isLt)).2.2)) :=
  (outsAt0_B m c t h0).trans (by rw [out_B_4, out_B_5, sout_B])

end

end Cert.Kernel10Ideal.Forget

end
-- ==== Proof.Forget.Backward.lean ====
/- The gradient of the forget gates: the launch's two arrays at the ideal values, and that they are the derivative the
   reference takes of the running sums of the gates' logarithms. -/
module

public import proofs.«01_k».proof.Defs
public import proofs.«01_k».proof.Proof.Real
public import proofs.«01_k».proof.Proof.Forget.Base
public import proofs.«01_k».proof.Proof.Forget.BackwardBody
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit.Geometry

@[expose] public section

set_option maxRecDepth 16384

noncomputable section

namespace Cert.Kernel10Ideal.Forget

open Cert.Kernel10Ideal.Gen Cert.Kernel10Ideal.Value Cert.Forget
open Cert.Input (row row_val Columns)
open Cert.Product (pair ext2)
open Idealize.ShloMosaic Idealize.ShloMosaic.TcCoe Idealize.ShloMosaic.ValueIdx
open scoped BigOperators

/-! ## The body at an element -/

/-- A column laid along every row reads its row's element. -/
theorem along {A B : ℕ} (v : FVec Ideal ⟨2, ![A, 1]⟩ .f32) (h : (⟨2, ![A, 1]⟩ : Shape).Broadcasts ⟨2, ![A, B]⟩) (a : Fin A) (b : Fin B) :
    broadcastTo ⟨2, ![A, B]⟩ v h (ix2 a b) = v (ix2 a (0 : Fin 1)) :=
  broadcastTo_apply v h (ix2 a b) (ix2 a (0 : Fin 1)) fun ax => by
    match ax with
    | ⟨0, _⟩ =>
      by_cases hA : A = 1
      · subst hA
        have := a.isLt
        show a.val = 0
        omega
      · exact (if_neg hA).symm
    | ⟨1, _⟩ => exact (if_pos rfl).symm

theorem columns : Columns dot_S128x512_S512x512_S128x512_1_0_0_1_n_n := ⟨rfl, rfl, fun _ _ _ => ⟨⟨rfl, rfl⟩, rfl, rfl⟩⟩

/-- The derivative of a gate's logarithm. -/
def slope {M : ℕ} (s : FVec Ideal ⟨2, ![M, 128]⟩ .f32) (y : FVec Ideal S1x128 .f32) (b : Fin 128) (q : Fin M) : EReal :=
  Ideal.logistic (-(s (ix2 q b) + y (ix2 (0 : Fin 1) b)))

section
variable (x s d : FVec Ideal S512x128 .f32) (y v : FVec Ideal S1x128 .f32) (z : FVec Ideal S128x1 .f32)

/-- The sums from a row on, a lane to a row. -/
theorem pay5_apply (j : Fin 128) (i : Fin 512) :
    k0_pay5 (F := Ideal) x z (ix2 j i) = (∑ k : Fin 512, if i.val ≤ k.val then x (ix2 k j) else 0) + z (ix2 j (0 : Fin 1)) := by
  unfold k0_pay5
  refine congrArg₂ (· + ·) ((product_apply _ columns _ _ _ j i).trans (Finset.sum_congr rfl fun k _ => ?_)) (along z _ j i)
  exact (congrArg₂ (· * ·) (transpose_ix2_apply x _ j k) (triangle_apply _ _ _ k i)).trans (mul_one_or_zero _ _)

/-- What a point carries on: its rows' sum and what it was handed. -/
theorem pay6_apply (j : Fin 128) :
    k0_pay6 (F := Ideal) x z (ix2 j (0 : Fin 128)) = (∑ k : Fin 512, x (ix2 k j)) + z (ix2 j (0 : Fin 1)) := by
  unfold k0_pay6
  rw [shapeCast_self, along, shapeCast_self, slice2_axis1_apply 0 _ _ j (0 : Fin 1) (0 : Fin 512) rfl, pay5_apply]
  exact congrArg (· + _) (Finset.sum_congr rfl fun k _ => if_pos (Nat.zero_le _))

/-- The gates' gradient: the sums from a row on times the slope, in the gates' lanes. -/
theorem pay7_apply (a : Fin 512) (b : Fin 128) :
    k0_pay7 (F := Ideal) x z s y (ix2 a b) = if 16 ≤ b.val ∧ b.val < 32
      then ((∑ k : Fin 512, if a.val ≤ k.val then x (ix2 k b) else 0) + z (ix2 b (0 : Fin 1))) * slope s y b a else 0 := by
  unfold k0_pay7
  show Scalar.select (IntOp.cmpi .sge (iota .tc S512x128 32 [1] iota_S512x128_d1_w32 (ix2 a b)) 16#32 &&& IntOp.cmpi .slt (iota .tc S512x128 32 [1] iota_S512x128_d1_w32 (ix2 a b)) 32#32) _ _ = _
  rw [iota_single_apply, show (IntOp.cmpi .sge (BitVec.ofNat 32 (ix2 a b (1 : Fin 2)).val) 16#32 &&& IntOp.cmpi .slt (BitVec.ofNat 32 (ix2 a b (1 : Fin 2)).val) 32#32) = _ from lane_word b]
  by_cases hc : 16 ≤ b.val ∧ b.val < 32
  · rw [if_pos hc, if_pos hc]
    have hz : addf s (broadcastTo S512x128 y broadcasts_S1x128_S512x128) (ix2 a b) = s (ix2 a b) + y (ix2 (0 : Fin 1) b) :=
      congrArg (s (ix2 a b) + ·) (broadcastTo_1b_ab_apply y _ a b)
    show transpose S512x128 [1, 0] (k0_pay5 (F := Ideal) x z) transposes_S128x512_p1_0_S512x128 (ix2 a b)
      * Ideal.logistic (Ideal.ofBits .f32 0x00000000#32 - addf s (broadcastTo S512x128 y broadcasts_S1x128_S512x128) (ix2 a b)) = _
    rw [hz, Ideal.ofBits_zero_f32, zero_sub, show transpose S512x128 [1, 0] (k0_pay5 (F := Ideal) x z) transposes_S128x512_p1_0_S512x128 (ix2 a b) = _ from transpose_ix2_apply _ _ a b, pay5_apply]
    rfl
  · rw [if_neg hc, if_neg hc]
    exact Ideal.ofBits_zero_f32

theorem pay1_apply (a : Fin 512) (b : Fin 128) : k0_pay1 (F := Ideal) x d (ix2 a b) = x (ix2 a b) + d (ix2 a b) := rfl

/-- The sum over a block's rows, added to what the points before left. -/
theorem pay2_apply (b : Fin 128) : k0_pay2 (F := Ideal) x v (ix2 (0 : Fin 1) b) = v (ix2 (0 : Fin 1) b) + ∑ k : Fin 512, x (ix2 k b) := by
  unfold k0_pay2
  rw [shapeCast_self]
  refine congrArg (v (ix2 (0 : Fin 1) b) + ·) ?_
  refine (shapeCast_apply _ _ _ (ix1 b) (by rw [Shape.rowMajor_val_one, Shape.rowMajor_val_two]; show b.val = 0 * 128 + b.val; omega)).trans ?_
  refine (Ideal.multiReduction_add_single x _ _ _ _ (ix1 b)).trans (Finset.sum_congr rfl fun k _ => ?_)
  exact congrArg x (funext fun c => Fin.ext (by match c with | ⟨0, _⟩ => rfl | ⟨1, _⟩ => rfl))

theorem pay3_apply (i : S128x128.Idx) : k0_pay3 (F := Ideal) i = 0 := by
  unfold k0_pay3
  rw [shapeCast_self]
  exact Ideal.ofBits_zero_f32

theorem pay4_apply (i : S1x128.Idx) : k0_pay4 (F := Ideal) i = 0 := Ideal.ofBits_zero_f32

theorem first_apply (w : FVec Ideal S128x128 .f32) (j : Fin 128) : first (F := Ideal) w (ix2 j (0 : Fin 1)) = w (ix2 j (0 : Fin 128)) :=
  congrArg w (funext fun c => Fin.ext (by
    match c with
    | ⟨0, _⟩ => show 0 + 1 * j.val = j.val; omega
    | ⟨1, _⟩ => rfl))

end

/-! ## The launch -/

section
variable (m : (ℓ : Loc nD τ sig) → Buf (Elt Ideal) ℓ) (c : Dev nD)

def a0 : FVec Ideal S8192x128 .f32 := m ((c : Thread nD τ).loc main_arg0)
def a1 : FVec Ideal S8192x128 .f32 := m ((c : Thread nD τ).loc main_arg1)
def a2 : FVec Ideal S8192x128 .f32 := m ((c : Thread nD τ).loc main_arg2)
def a3 : FVec Ideal S1x128 .f32 := m ((c : Thread nD τ).loc main_arg3)

theorem at0 : ∀ t : Fin grid0.N, cc0_transform_0 (grid0.coords t) = ![15 - t.val, 0] := by decide +kernel

/-- Where an element of a row block lies in its array: the blocks are taken from the last. -/
theorem emb0 (t : Fin grid0.N) (a : Fin 512) (b : Fin 128) : ((cfg0.win 0).rect t).emb (ix2 a b) = (ix2 (row (15 - t.val) a) b : S8192x128.Idx) := funext fun x => Fin.ext (by
  have ht : t.val < 16 := lt_of_lt_of_eq t.isLt N_0
  refine ((cfg0.win 0).rect_emb_val t (ix2 a b) x).trans ?_
  show cc0_transform_0 (grid0.coords t) x * _ + _ = _
  rw [at0]
  match x with
  | ⟨0, _⟩ => refine Eq.trans ?_ (row_val _ (by omega) a).symm; show (15 - t.val) * 512 + a.val = _; omega
  | ⟨1, _⟩ => show 0 * 128 + b.val = b.val; omega)

theorem emb3 (t : Fin grid0.N) (i : S1x128.Idx) : ((cfg0.win 3).rect t).emb i = i := funext fun x => Fin.ext (by
  refine ((cfg0.win 3).rect_emb_val t i x).trans ?_
  match x with
  | ⟨0, _⟩ => show 0 * 1 + (i 0).val = (i 0).val; omega
  | ⟨1, _⟩ => show 0 * 128 + (i 1).val = (i 1).val; omega)

theorem blk0 (t : Fin grid0.N) (a : Fin 512) (b : Fin 128) : iblk m c 0 t (ix2 a b) = a0 m c (ix2 (row (15 - t.val) a) b) := congrArg (V m c main_arg0) (emb0 t a b)
theorem blk1 (t : Fin grid0.N) (a : Fin 512) (b : Fin 128) : iblk m c 1 t (ix2 a b) = a1 m c (ix2 (row (15 - t.val) a) b) := congrArg (V m c main_arg1) (emb0 t a b)
theorem blk2 (t : Fin grid0.N) (a : Fin 512) (b : Fin 128) : iblk m c 2 t (ix2 a b) = a2 m c (ix2 (row (15 - t.val) a) b) := congrArg (V m c main_arg2) (emb0 t a b)
theorem blk3 (t : Fin grid0.N) : iblk m c 3 t = a3 m c := funext fun i => congrArg (V m c main_arg3) (emb3 t i)

/-- The gradient of the running sums in a lane, row by row. -/
def lane (b : Fin 128) (q : Fin 8192) : EReal := a0 m c (ix2 q b)

end

/-- The gradient of a gate: what comes of the rows from its own on, times the slope, in the gates' lanes. -/
def grad (x0 x1 : FVec Ideal S8192x128 .f32) (x3 : FVec Ideal S1x128 .f32) (b : Fin 128) (q : Fin 8192) : EReal :=
  if 16 ≤ b.val ∧ b.val < 32 then since (fun p => x0 (ix2 p b)) q * slope x1 x3 b q else 0

section
variable (m : (ℓ : Loc nD τ sig) → Buf (Elt Ideal) ℓ) (c : Dev nD)

/-- What a point hands on: the sum of the blocks from its own on. -/
theorem carried (j : Fin 128) : ∀ (n : ℕ) (hn : n < cfg0.N), (outsAt0 m c n hn).2.2 (ix2 j (0 : Fin 128)) = after (lane m c j) (n + 1)
  | 0, hn => by
    rw [outs_first m c ⟨0, hn⟩ rfl, after_succ]
    refine (pay6_apply _ _ j).trans (congrArg₂ (· + ·) (Finset.sum_congr rfl fun k _ => blk0 m c ⟨0, hn⟩ k j) ?_)
    rw [first_apply, pay3_apply]
    rfl
  | n + 1, hn => by
    have hN : n + 1 < 16 := lt_of_lt_of_eq hn N_0
    rw [outs_next m c ⟨n + 1, hn⟩ (by show ¬ (n + 1) % 16 = 0; omega), after_succ]
    refine (pay6_apply _ _ j).trans (congrArg₂ (· + ·) (Finset.sum_congr rfl fun k _ => blk0 m c ⟨n + 1, hn⟩ k j) ?_)
    rw [first_apply]
    exact carried j n (by omega)

/-- The gates' gradient at a point, from a column that holds the blocks after its own. -/
theorem part (t : Fin grid0.N) (z : FVec Ideal S128x1 .f32) (a : Fin 512) (b : Fin 128) (hz : z (ix2 b (0 : Fin 1)) = after (lane m c b) t.val) :
    k0_pay7 (F := Ideal) (iblk m c 0 t) z (iblk m c 1 t) (iblk m c 3 t) (ix2 a b) = grad (a0 m c) (a1 m c) (a3 m c) b (row (15 - t.val) a) := by
  have ht : t.val < 16 := lt_of_lt_of_eq t.isLt N_0
  refine (pay7_apply _ _ _ _ a b).trans ?_
  unfold grad
  refine if_congr Iff.rfl (congrArg₂ (· * ·) ?_ ?_) rfl
  · refine Eq.trans ?_ (since_row (lane m c b) t.val ht a).symm
    exact congrArg₂ (· + ·) (Finset.sum_congr rfl fun k _ => if_congr Iff.rfl (blk0 m c t k b) rfl) hz
  · unfold slope
    rw [blk1, blk3]

theorem zero_column (b : Fin 128) : first (F := Ideal) (k0_pay3 (F := Ideal)) (ix2 b (0 : Fin 1)) = after (lane m c b) 0 := by
  rw [first_apply, pay3_apply]
  rfl

/-- The block of rows after a point. -/
theorem after4 (t : Fin grid0.N) (a : Fin 512) (b : Fin 128) :
    (outsAt0 m c t.val t.isLt).1 (ix2 a b) = grad (a0 m c) (a1 m c) (a3 m c) b (row (15 - t.val) a) + a2 m c (ix2 (row (15 - t.val) a) b) := by
  have ht : t.val < 16 := lt_of_lt_of_eq t.isLt N_0
  by_cases h0 : t.val % 16 = 0
  · rw [outs_first m c t h0]
    refine congrArg₂ (· + ·) (part m c t _ a b ?_) (blk2 m c t a b)
    rw [show t.val = 0 by omega]
    exact zero_column m c b
  · rw [outs_next m c t h0]
    refine congrArg₂ (· + ·) (part m c t _ a b ?_) (blk2 m c t a b)
    rw [first_apply, carried, show t.val - 1 + 1 = t.val by omega]

/-- The bias's gradient after a point: the sum of the blocks from its own on. -/
theorem after5 (b : Fin 128) : ∀ (n : ℕ) (hn : n < cfg0.N),
    (outsAt0 m c n hn).2.1 (ix2 (0 : Fin 1) b) = after (grad (a0 m c) (a1 m c) (a3 m c) b) (n + 1)
  | 0, hn => by
    rw [outs_first m c ⟨0, hn⟩ rfl, after_succ]
    refine ((pay2_apply _ _ b).trans (congrArg₂ (· + ·) ?_ (Finset.sum_congr rfl fun k _ => part m c ⟨0, hn⟩ _ k b (zero_column m c b)))).trans (add_comm _ _)
    rw [pay4_apply]
    rfl
  | n + 1, hn => by
    have hN : n + 1 < 16 := lt_of_lt_of_eq hn N_0
    rw [outs_next m c ⟨n + 1, hn⟩ (by show ¬ (n + 1) % 16 = 0; omega), after_succ]
    refine ((pay2_apply _ _ b).trans (congrArg₂ (· + ·) ?_ (Finset.sum_congr rfl fun k _ => part m c ⟨n + 1, hn⟩ _ k b ?_))).trans (add_comm _ _)
    · exact after5 b n (by omega)
    · rw [first_apply]
      exact carried m c b n (by omega)

/-- The launch's first array: the gates' gradient beside the gradient of the steps. -/
theorem arr4 : (dats m 0 c).arrAt 4 cfg0.N = fun i => grad (a0 m c) (a1 m c) (a3 m c) (i 1) (i 0) + a2 m c i := by
  refine (dats m 0 c).arrAt_eq_of_covers 4 _ (by decide +kernel) fun t hf y => ?_
  obtain ⟨a, b, rfl⟩ : ∃ (a : Fin 512) (b : Fin 128), y = ix2 a b := ⟨y 0, y 1, pair _⟩
  show (dats m 0 c).after 4 t (ix2 a b) = (fun i : S8192x128.Idx => grad (a0 m c) (a1 m c) (a3 m c) (i 1) (i 0) + a2 m c i) (((cfg0.win 4).rect t).emb (ix2 a b))
  rw [show ((cfg0.win 4).rect t).emb (ix2 a b) = (ix2 (row (15 - t.val) a) b : S8192x128.Idx) from emb0 t a b, after0_4]
  exact after4 m c t a b

/-- The launch's second array: the bias's gradient. -/
theorem arr5 : (dats m 0 c).arrAt 5 cfg0.N = fun i => ∑ q : Fin 8192, grad (a0 m c) (a1 m c) (a3 m c) (i 1) q := by
  refine (dats m 0 c).arrAt_eq_of_covers 5 _ (by decide +kernel) fun t hf y => ?_
  obtain ⟨a, b, rfl⟩ : ∃ (a : Fin 1) (b : Fin 128), y = ix2 a b := ⟨y 0, y 1, pair _⟩
  obtain rfl : a = 0 := Fin.ext (Nat.lt_one_iff.1 a.isLt)
  have ht : t.val < 16 := lt_of_lt_of_eq t.isLt N_0
  have hl := (flush0_5 t).1 hf
  show (dats m 0 c).after 5 t (ix2 (0 : Fin 1) b) = (fun i : S1x128.Idx => ∑ q : Fin 8192, grad (a0 m c) (a1 m c) (a3 m c) (i 1) q) (((cfg0.win 5).rect t).emb (ix2 (0 : Fin 1) b))
  rw [show ((cfg0.win 5).rect t).emb (ix2 (0 : Fin 1) b) = (ix2 (0 : Fin 1) b : S1x128.Idx) from emb3 t _, after0_5]
  refine (after5 m c b t.val t.isLt).trans ?_
  rw [show t.val + 1 = 16 by omega]
  exact after_all _

end

/-! ## The reference -/

section
open Cert.Reference10Ideal.Read
variable (x0 x1 x2 : FVec Ideal S8192x128 .f32) (x3 : FVec Ideal S1x128 .f32)

theorem top_f32 : Ideal.ofBits .f32 0x7F800000#32 = (⊤ : EReal) := by
  simp [Ideal.ofBits, Ideal.ieee]

/-- The choice the derivative makes at an infinity. -/
theorem select_rep (y : EReal) : Scalar.select (FloatOps.cmpf (F := Ideal) (φ := .f32) .oeq y (Ideal.ofBits .f32 0x7F800000#32)) (Ideal.ofBits .f32 0x00000000#32) y = rep y := by
  rw [top_f32, Ideal.ofBits_zero_f32]
  unfold rep
  by_cases h : y = ⊤
  · rw [if_pos h, show FloatOps.cmpf (F := Ideal) (φ := .f32) .oeq y ⊤ = 1#1 from congrArg BitVec.ofBool (decide_eq_true h)]
    rfl
  · rw [if_neg h, show FloatOps.cmpf (F := Ideal) (φ := .f32) .oeq y ⊤ = 0#1 from congrArg BitVec.ofBool (decide_eq_false h)]
    rfl

/-- A raw gate with its bias, its sign changed. -/
theorem ref_raw (q : Fin 8192) (b : Fin 16) (l : Fin 128) (hl : l.val = 16 + b.val) :
    val_main_call0_v0 (F := Ideal) x1 x3 (ix2 q b) = -(x1 (ix2 q l) + x3 (ix2 (0 : Fin 1) l)) := by
  rw [val_main_call0_v0_apply, val_main_v5_apply, val_main_v0_apply, val_main_v4_apply, val_main_v3_apply, val_main_v2_apply, val_main_v1_apply]
  refine congrArg Neg.neg (congrArg₂ (· + ·) (congrArg x1 ((pair _).trans (congrArg (ix2 q) (Fin.ext hl.symm)))) (congrArg x3 ((pair _).trans (congrArg (ix2 (0 : Fin 1)) (Fin.ext ?_)))))
  have := b.isLt
  show 16 + b.val % 16 = l.val
  omega

/-- The logarithm, its sign changed. -/
theorem ref_soft (q : Fin 8192) (b : Fin 16) :
    val_main_call0_v1_0 (F := Ideal) x1 x3 (ix2 q b) = soft (val_main_call0_v0 (F := Ideal) x1 x3 (ix2 q b)) := by
  rw [val_main_call0_v1_0_apply, val_main_call0_call0_v4_apply,
    show FloatOps.cmpf (F := Ideal) .une (val_main_call0_call0_v3 (F := Ideal) x1 x3 (ix2 q b)) (val_main_call0_call0_v3 (F := Ideal) x1 x3 (ix2 q b)) = 0#1 from
    congrArg BitVec.ofBool (decide_eq_false fun h => h rfl), val_main_call0_call0_v11_apply, val_main_call0_call0_v1_apply, val_main_call0_call0_v10_apply,
    val_main_call0_call0_v9_apply, val_main_call0_call0_v8_apply, val_main_call0_call0_v7_apply, val_main_call0_call0_v3_apply, val_main_call0_call0_v2_apply,
    val_main_call0_call0_v0_apply, val_main_call0_call0_cst_apply, show FloatOps.ofBits (F := Ideal) .f32 0x00000000#32 = (0 : EReal) from Ideal.ofBits_zero_f32]
  generalize val_main_call0_v0 (F := Ideal) x1 x3 (ix2 q b) = y
  show max y 0 + Ideal.log1p (Ideal.exp (-(max (y - 0) (-(y - 0))))) = soft y
  rw [sub_zero]
  rfl

/-- The slope, which the derivative takes as the exponential of a difference. -/
theorem ref_slope (q : Fin 8192) (b : Fin 16) (l : Fin 128) (hl : l.val = 16 + b.val) :
    val_main_v6_1 (F := Ideal) x1 x3 (ix2 q b) = slope x1 x3 l q := by
  unfold slope
  rw [← ref_raw x1 x3 q b l hl, ← gate_eq, ← ref_soft, ← select_rep, ← select_rep (val_main_call0_v1_0 (F := Ideal) x1 x3 (ix2 q b))]
  rfl

/-- The gates' gradient. -/
theorem ref_grad (q : Fin 8192) (b : Fin 16) (l : Fin 128) (hl : l.val = 16 + b.val) :
    val_main_v10 (F := Ideal) x0 x1 x3 (ix2 q b) = grad x0 x1 x3 l q := by
  have hb := b.isLt
  have hw : val_main_v9 (F := Ideal) x0 (ix2 q b) = since (fun p => x0 (ix2 p l)) q := by
    unfold val_main_v9
    refine (window_since _ _ (fun i => Ideal.ofBits_zero_f32) _ _ q b).trans (congrArg (since · q) (funext fun p => ?_))
    exact (val_main_v8_apply _ _).trans (congrArg x0 ((pair _).trans (congrArg (ix2 p) (Fin.ext hl.symm))))
  unfold grad
  rw [if_pos (by omega), val_main_v10_apply, val_main_call3_v1_apply, val_main_call3_v0_apply, hw, ref_slope x1 x3 q b l hl]
  show -(-(since _ q) * _) = _
  rw [EReal.neg_mul, neg_neg]

/-- The reference's first array. -/
theorem ref_rows (q : Fin 8192) (b : Fin 128) : val_main_v16 (F := Ideal) x0 x1 x2 x3 (ix2 q b) = grad x0 x1 x3 b q + x2 (ix2 q b) := by
  rw [val_main_v16_apply, val_main_v15_apply]
  refine congrArg (· + x2 (ix2 q b)) ?_
  unfold val_main_v14
  refine (pad_lanes _ _ (fun _ => Ideal.ofBits_zero_f32) _ _ q b).trans ?_
  unfold lanes
  by_cases hc : 16 ≤ b.val ∧ b.val < 32
  · rw [dif_pos hc]
    exact ref_grad x0 x1 x3 q _ b (by show b.val = 16 + (b.val - 16); omega)
  · rw [dif_neg hc]
    unfold grad
    rw [if_neg hc]

/-- The reference's second array. -/
theorem ref_bias (a : Fin 1) (b : Fin 128) : val_main_v18 (F := Ideal) x0 x1 x3 (ix2 a b) = ∑ q : Fin 8192, grad x0 x1 x3 b q := by
  unfold val_main_v18
  refine (pad_lanes _ _ (fun _ => Ideal.ofBits_zero_f32) _ _ a b).trans ?_
  unfold lanes
  by_cases hc : 16 ≤ b.val ∧ b.val < 32
  · rw [dif_pos hc]
    show val_main_v17 (F := Ideal) x0 x1 x3 (ix2 a (⟨b.val - 16, by omega⟩ : Fin 16)) = _
    rw [val_main_v17_apply, val_main_v13_apply, show ∀ i, val_main_cst_0 (F := Ideal) i = 0 from fun _ => Ideal.ofBits_zero_f32, zero_add, Fin.sum_univ_one,
      val_main_v12_apply, val_main_v11_apply, show ∀ i, val_main_cst (F := Ideal) i = 0 from fun _ => Ideal.ofBits_zero_f32, zero_add]
    refine Finset.sum_congr rfl fun q _ => ?_
    refine (congrArg (val_main_v10 (F := Ideal) x0 x1 x3) ((pair _).trans (congrArg (ix2 q) (Fin.ext ?_)))).trans
      (ref_grad x0 x1 x3 q (⟨b.val - 16, by omega⟩ : Fin 16) b (by show b.val = 16 + (b.val - 16); omega))
    show 0 * 16 + (b.val - 16) = b.val - 16
    omega
  · rw [dif_neg hc]
    refine (Finset.sum_eq_zero fun q _ => ?_).symm
    unfold grad
    rw [if_neg hc]

end

/-- The frame of the reference: every execution ends, the arguments unchanged; it has no semaphore. -/
theorem frame_ref : Cert.quiescent_Reference10Ideal (hReference10Ideal := Cert.Reference10Ideal.Gen.facts) := fun m g _ =>
  (θ_run _ _ _).mono (fun r h => ⟨fun c => (h c).2.2, sem_eq_zero_of_no_sems rfl r.2⟩) (Cert.Reference10Ideal.Value.run m g)

/-- Both programs end with equal results, whose common values are the kernel's arrays. -/
theorem algebraic : Cert.algebraic_Kernel10Ideal_Reference10Ideal (hKernel10Ideal := Cert.Kernel10Ideal.Gen.facts)
    (hReference10Ideal := Cert.Reference10Ideal.Gen.facts) := by
  intro m g m' g' _ harg
  refine ⟨_, _, Value.run_blocks m g, ?_⟩
  refine (θ_run _ _ _).mono (fun r h c => ?_) (Cert.Reference10Ideal.Value.run m' g')
  obtain ⟨r0, r1, hr⟩ := h c
  obtain ⟨e0, e1, e2, e3⟩ := harg c
  refine ⟨r0.trans ((Cert.Reference10Ideal.Read.val_main_v16_eq _ _).trans ?_), r1.trans ((Cert.Reference10Ideal.Read.val_main_v18_eq _ _).trans ?_), hr⟩
  · rw [e0, e1, e2, e3]
    exact (ext2 fun q b => ref_rows (a0 m c) (a1 m c) (a2 m c) (a3 m c) q b).trans (arr4 m c).symm
  · rw [e0, e1, e3]
    exact (ext2 fun a b => ref_bias (a0 m c) (a1 m c) (a3 m c) a b).trans (arr5 m c).symm

end Cert.Kernel10Ideal.Forget

end
-- ==== Proof.Update.Conv.lean ====
/- The optimiser's step on the convolution's weights: the launch's arrays at the ideal values are the reference's,
   element by element. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384

noncomputable section

namespace Cert.Kernel11Ideal.Update

open Cert.Kernel11Ideal.Gen Cert.Kernel11Ideal.Value
open Idealize.ShloMosaic Idealize.ShloMosaic.TcCoe
open Cert.Reference11Ideal.Read

section
variable (g w m v : FVec Ideal S4x384 .f32)

/-- The first moment: 0.9 m + 0.1 g. -/
theorem ref_moment : val_main_v4 (F := Ideal) g m = G5 g m := funext fun _ => rfl

/-- The second moment: 0.999 v + 0.001 g². -/
theorem ref_square : val_main_v10 (F := Ideal) g v = G6 g v := funext fun _ => rfl

/-- The update: the first moment over the root of the second, each freed of its bias, with the weight's decay. -/
theorem ref_update : val_main_v23 (F := Ideal) g w m v = G4 w g m v := funext fun _ => rfl

end

/-- The frame of the reference: every execution ends, the arguments unchanged; it has no semaphore. -/
theorem frame_ref : Cert.quiescent_Reference11Ideal (hReference11Ideal := Cert.Reference11Ideal.Gen.facts) := fun m g _ =>
  (θ_run _ _ _).mono (fun r h => ⟨fun c => (h c).2.2.2, sem_eq_zero_of_no_sems rfl r.2⟩) (Cert.Reference11Ideal.Value.run m g)

/-- Both programs end with equal results, whose common values are the kernel's arrays. -/
theorem algebraic : Cert.algebraic_Kernel11Ideal_Reference11Ideal (hKernel11Ideal := Cert.Kernel11Ideal.Gen.facts)
    (hReference11Ideal := Cert.Reference11Ideal.Gen.facts) := by
  intro m g m' g' _ harg
  refine ⟨_, _, _, Value.run m g, ?_⟩
  refine (θ_run _ _ _).mono (fun r h c => ?_) (Cert.Reference11Ideal.Value.run m' g')
  obtain ⟨r0, r1, r2, hr⟩ := h c
  obtain ⟨e0, e1, e2, e3⟩ := harg c
  refine ⟨r0.trans ((val_main_v23_eq _ _ _ _).trans ?_), r1.trans ((val_main_v4_eq _ _).trans ?_), r2.trans ((val_main_v10_eq _ _).trans ?_), hr⟩
  · rw [e0, e1, e2, e3]
    exact ref_update _ _ _ _
  · rw [e0, e2]
    exact ref_moment _ _
  · rw [e0, e3]
    exact ref_square _ _

end Cert.Kernel11Ideal.Update

end
-- ==== Proof.Update.Base.lean ====
/- The sum of a stack of matrices, read off the members that a launch's body loads one by one. -/
module

public import proofs.«01_k».proof.Proof.Product.Base
public import Idealize.ShloMosaic.Lib.Pipeline.Value
public import Idealize.ShloMosaic.Lib.Pipeline.FrameBody

@[expose] public section

noncomputable section

namespace Cert.Update

open Idealize.ShloMosaic Idealize.ShloMosaic.ValueIdx
open scoped BigOperators

variable {N A B : ℕ} {φ : FTy}

/-- What a load of the member at the offset `o` of a stack reads. -/
def part (x : FVec Ideal ⟨3, ![N, A, B]⟩ φ) (o : ℕ)
    (h : ∀ i, (![o, 0, 0] : Fin 3 → ℕ) i + (![1, A, B] : Fin 3 → ℕ) i ≤ (![N, A, B] : Fin 3 → ℕ) i) : FVec Ideal ⟨3, ![1, A, B]⟩ φ :=
  fun j => x ((Rect.unit (s := ⟨3, ![N, A, B]⟩) ![o, 0, 0] ![1, A, B] h).idx j)

/-- The member `k` of a stack, loaded and laid out as a matrix. -/
theorem member (x : FVec Ideal ⟨3, ![N, A, B]⟩ φ) (k : Fin N)
    (h : ∀ i, (![k.val, 0, 0] : Fin 3 → ℕ) i + (![1, A, B] : Fin 3 → ℕ) i ≤ (![N, A, B] : Fin 3 → ℕ) i)
    (hc : (⟨3, ![1, A, B]⟩ : Shape).ShapeCasts ⟨2, ![A, B]⟩) (a : Fin A) (b : Fin B) :
    shapeCast ⟨2, ![A, B]⟩ (part x k.val h) hc (ix2 a b) = x (ix3 k a b) := by
  refine (shapeCast_apply _ hc _ (ix3 (0 : Fin 1) a b) (by
    rw [Shape.rowMajor_val_three, Shape.rowMajor_val_two]
    show (0 * A + a.val) * B + b.val = a.val * B + b.val
    rw [Nat.zero_mul, Nat.zero_add])).trans ?_
  refine congrArg x (funext fun i => Fin.ext ?_)
  match i with
  | ⟨0, _⟩ => show k.val + 1 * 0 = k.val; omega
  | ⟨1, _⟩ => show 0 + 1 * a.val = a.val; omega
  | ⟨2, _⟩ => show 0 + 1 * b.val = b.val; omega

/-- The sum of a stack's members. -/
def total (x : FVec Ideal ⟨3, ![N, A, B]⟩ φ) (i : (⟨2, ![A, B]⟩ : Shape).Idx) : EReal := ∑ k : Fin N, (x (ix3 k (i 0) (i 1)) : EReal)

/-- The four members of a block, added one after another, are the sum of the stack's members in the block's row `p`. -/
theorem four {M : ℕ} (x : FVec Ideal ⟨3, ![4, A, B]⟩ φ) (X : FVec Ideal ⟨3, ![4, M, B]⟩ φ) (h0 h1 h2 h3)
    (hc : (⟨3, ![1, A, B]⟩ : Shape).ShapeCasts ⟨2, ![A, B]⟩) (a : Fin A) (b : Fin B)
    (i : (⟨2, ![M, B]⟩ : Shape).Idx) (hx : ∀ k : Fin 4, x (ix3 k a b) = X (ix3 k (i 0) (i 1))) :
    ((shapeCast ⟨2, ![A, B]⟩ (part x 0 h0) hc (ix2 a b)
      + shapeCast ⟨2, ![A, B]⟩ (part x 1 h1) hc (ix2 a b)
      + shapeCast ⟨2, ![A, B]⟩ (part x 2 h2) hc (ix2 a b)
      + shapeCast ⟨2, ![A, B]⟩ (part x 3 h3) hc (ix2 a b) : EReal)) = total X i := by
  unfold total
  rw [Fin.sum_univ_four]
  exact congrArg₂ (· + ·) (congrArg₂ (· + ·) (congrArg₂ (· + ·) ((member x 0 h0 hc a b).trans (hx 0)) ((member x 1 h1 hc a b).trans (hx 1)))
    ((member x 2 h2 hc a b).trans (hx 2))) ((member x 3 h3 hc a b).trans (hx 3))

end Cert.Update

end
-- ==== Proof.Update.Small.lean ====
/- The optimiser's step on the small weights, whose gradients are first summed over the devices: the launch's arrays
   at the ideal values are the reference's. -/
module

public import proofs.«01_k».proof.Defs
public import proofs.«01_k».proof.Proof.Update.Base
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

namespace Cert.Kernel12Ideal.Update

open Cert.Kernel12Ideal.Gen Cert.Kernel12Ideal.Value Cert.Update
open Cert.Product (pair ext2)
open Idealize.ShloMosaic Idealize.ShloMosaic.TcCoe Idealize.ShloMosaic.ValueIdx
open Cert.Reference12Ideal.Read
open scoped BigOperators

section
variable (s : FVec Ideal S8x96x128 .f32) (w m v : FVec Ideal S96x128 .f32)

/-- The gradient the body adds up is the sum over the devices. -/
theorem body_sum (a : Fin 96) (b : Fin 128) : k0_pay6 (F := Ideal) s w m v (ix2 a b) = ∑ k : Fin 8, (s (ix3 k a b) : EReal) := by
  rw [Fin.sum_univ_eight]
  have e := fun (k : Fin 8) h => member s k h shapeCasts_S1x96x128_S96x128 a b
  exact congrArg₂ (· + ·) (congrArg₂ (· + ·) (congrArg₂ (· + ·) (congrArg₂ (· + ·) (congrArg₂ (· + ·) (congrArg₂ (· + ·) (congrArg₂ (· + ·)
    (e 0 inb_S8x96x128_S1x96x128_0_0_0) (e 1 inb_S8x96x128_S1x96x128_1_0_0)) (e 2 inb_S8x96x128_S1x96x128_2_0_0)) (e 3 inb_S8x96x128_S1x96x128_3_0_0))
    (e 4 inb_S8x96x128_S1x96x128_4_0_0)) (e 5 inb_S8x96x128_S1x96x128_5_0_0)) (e 6 inb_S8x96x128_S1x96x128_6_0_0)) (e 7 inb_S8x96x128_S1x96x128_7_0_0)

/-- The reference's gradient is that sum. -/
theorem ref_sum : val_main_v0 (F := Ideal) s = G4 s w m v := ext2 fun a b => by
  refine (val_main_v0_apply s (ix2 a b)).trans ((congrArg (· + _) (show val_main_cst (F := Ideal) _ = 0 from Ideal.ofBits_zero_f32)).trans ?_)
  refine (zero_add _).trans ((Finset.sum_congr rfl fun k _ => congrArg s (funext fun x => ?_)).trans (body_sum s w m v a b).symm)
  match x with
  | ⟨0, _⟩ => rfl
  | ⟨1, _⟩ => rfl
  | ⟨2, _⟩ => rfl

/-- The moment's share: 0.9 m. -/
theorem body_share (i : S96x128.Idx) : k0_pay7 (F := Ideal) s w m v i = FloatOps.mulf (F := Ideal) (Scalar.ofBits .f32 0x3F666666#32) (m i) := by
  unfold k0_pay7
  rw [View.ld_unit_zero hz4]
  rfl

/-- The first moment: 0.9 m + 0.1 g. -/
theorem ref_moment : val_main_v5 (F := Ideal) s m = G6 s w m v := funext fun i => by
  unfold G6 k0_pay1
  rw [val_main_v5_apply, val_main_v4_apply, ref_sum s w m v]
  exact congrArg (FloatOps.addf (F := Ideal) · _) (body_share s w m v i).symm

/-- The second moment: 0.999 v + 0.001 g². -/
theorem ref_square : val_main_v11 (F := Ideal) s v = G7 s w m v := funext fun i => by
  unfold G7 k0_pay2
  rw [val_main_v11_apply, val_main_v10_apply, val_main_v8_apply, ref_sum s w m v]
  rfl

/-- The update: the first moment over the root of the second, each freed of its bias, with the weight's decay. -/
theorem ref_update : val_main_v24 (F := Ideal) s w m v = G5 s w m v := funext fun i => by
  rw [val_main_v24_apply, val_main_v22_apply, val_main_v19_apply, val_main_v18_apply, val_main_v16_apply, val_main_v15_apply, val_main_v13_apply,
    ref_moment s w m v, ref_square s w m v]
  rfl

end

/-- The frame of the reference: every execution ends, the arguments unchanged; it has no semaphore. -/
theorem frame_ref : Cert.quiescent_Reference12Ideal (hReference12Ideal := Cert.Reference12Ideal.Gen.facts) := fun m g _ =>
  (θ_run _ _ _).mono (fun r h => ⟨fun c => (h c).2.2.2.2, sem_eq_zero_of_no_sems rfl r.2⟩) (Cert.Reference12Ideal.Value.run m g)

/-- Both programs end with equal results, whose common values are the kernel's arrays. -/
theorem algebraic : Cert.algebraic_Kernel12Ideal_Reference12Ideal (hKernel12Ideal := Cert.Kernel12Ideal.Gen.facts)
    (hReference12Ideal := Cert.Reference12Ideal.Gen.facts) := by
  intro m g m' g' _ harg
  refine ⟨_, _, _, _, Value.run m g, ?_⟩
  refine (θ_run _ _ _).mono (fun r h c => ?_) (Cert.Reference12Ideal.Value.run m' g')
  obtain ⟨r0, r1, r2, r3, hr⟩ := h c
  obtain ⟨e0, e1, e2, e3⟩ := harg c
  refine ⟨r0.trans ((val_main_v0_eq _).trans ?_), r1.trans ((val_main_v24_eq _ _ _ _).trans ?_), r2.trans ((val_main_v5_eq _ _).trans ?_),
    r3.trans ((val_main_v11_eq _ _).trans ?_), hr⟩
  · rw [e0]
    exact ref_sum _ _ _ _
  · rw [e0, e1, e2, e3]
    exact ref_update _ _ _ _
  · rw [e0, e2]
    exact ref_moment _ _ _ _
  · rw [e0, e3]
    exact ref_square _ _ _ _

end Cert.Kernel12Ideal.Update

end
-- ==== Proof.Update.Parts.lean ====
/- The sums of the weights' gradients over the chips: the launch's arrays at the ideal values are the reference's. -/
module

public import proofs.«01_k».proof.Defs
public import proofs.«01_k».proof.Proof.Update.Base
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit.Geometry

@[expose] public section

set_option maxRecDepth 16384

noncomputable section

namespace Cert.Kernel13Ideal.Update

open Cert.Kernel13Ideal.Gen Cert.Kernel13Ideal.Value Cert.Update
open Cert.Product (pair ext2)
open Idealize.ShloMosaic Idealize.ShloMosaic.TcCoe Idealize.ShloMosaic.ValueIdx
open scoped BigOperators

/-- An index of a stack by its coordinates. -/
theorem triple {N A B : ℕ} (i : (⟨3, ![N, A, B]⟩ : Shape).Idx) : i = ix3 (i 0) (i 1) (i 2) := funext fun a => by
  match a with
  | ⟨0, _⟩ => rfl
  | ⟨1, _⟩ => rfl
  | ⟨2, _⟩ => rfl

theorem zeros : (![0, 0] : Fin 2 → ℕ) = fun _ => 0 := funext fun a => by fin_cases a <;> rfl

/-- The blocks a point reads: the same rows of every member. -/
theorem at_in : ∀ t : Fin grid0.N, cc0_transform_0 (grid0.coords t) = ![0, t.val, 0] ∧ cc0_transform_1 (grid0.coords t) = ![0, t.val, 0]
    ∧ cc0_transform_2 (grid0.coords t) = ![0, t.val, 0] ∧ cc0_transform_3 (grid0.coords t) = ![0, t.val, 0] := by decide +kernel

/-- The blocks it writes: those rows. -/
theorem at_out : ∀ t : Fin grid0.N, cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] := by decide +kernel

/-- Where an element of a block lies in the first array. -/
theorem emb0 (t : Fin cfg0.N) (k : Fin 4) (a : Fin 64) (b : Fin 1672) : ((cfg0.win 0).rect t).emb (ix3 k a b)
    = (ix3 k (((cfg0.win 4).rect t).emb (ix2 a b) (0 : Fin 2)) (((cfg0.win 4).rect t).emb (ix2 a b) (1 : Fin 2)) : S4x512x1672.Idx) := funext fun x => Fin.ext (by
  refine ((cfg0.win 0).rect_emb_val t (ix3 k a b) x).trans ?_
  show cc0_transform_0 (grid0.coords t) x * _ + _ = _
  rw [(at_in t).1]
  match x with
  | ⟨0, _⟩ => show 0 * 4 + k.val = k.val; omega
  | ⟨1, _⟩ => exact ((((cfg0.win 4).rect_emb_val t (ix2 a b) (0 : Fin 2)).trans (congrArg (· * 64 + a.val) (congrFun (at_out t).1 (0 : Fin 2))))).symm
  | ⟨2, _⟩ => exact ((((cfg0.win 4).rect_emb_val t (ix2 a b) (1 : Fin 2)).trans (congrArg (· * 1672 + b.val) (congrFun (at_out t).1 (1 : Fin 2))))).symm)

/-- Where an element of a block lies in the second array. -/
theorem emb1 (t : Fin cfg0.N) (k : Fin 4) (a : Fin 32) (b : Fin 1024) : ((cfg0.win 1).rect t).emb (ix3 k a b)
    = (ix3 k (((cfg0.win 5).rect t).emb (ix2 a b) (0 : Fin 2)) (((cfg0.win 5).rect t).emb (ix2 a b) (1 : Fin 2)) : S4x256x1024.Idx) := funext fun x => Fin.ext (by
  refine ((cfg0.win 1).rect_emb_val t (ix3 k a b) x).trans ?_
  show cc0_transform_1 (grid0.coords t) x * _ + _ = _
  rw [(at_in t).2.1]
  match x with
  | ⟨0, _⟩ => show 0 * 4 + k.val = k.val; omega
  | ⟨1, _⟩ => exact ((((cfg0.win 5).rect_emb_val t (ix2 a b) (0 : Fin 2)).trans (congrArg (· * 32 + a.val) (congrFun (at_out t).2.1 (0 : Fin 2))))).symm
  | ⟨2, _⟩ => exact ((((cfg0.win 5).rect_emb_val t (ix2 a b) (1 : Fin 2)).trans (congrArg (· * 1024 + b.val) (congrFun (at_out t).2.1 (1 : Fin 2))))).symm)

/-- Where an element of a block lies in the third array. -/
theorem emb2 (t : Fin cfg0.N) (k : Fin 4) (a : Fin 16) (b : Fin 1024) : ((cfg0.win 2).rect t).emb (ix3 k a b)
    = (ix3 k (((cfg0.win 6).rect t).emb (ix2 a b) (0 : Fin 2)) (((cfg0.win 6).rect t).emb (ix2 a b) (1 : Fin 2)) : S4x128x1024.Idx) := funext fun x => Fin.ext (by
  refine ((cfg0.win 2).rect_emb_val t (ix3 k a b) x).trans ?_
  show cc0_transform_2 (grid0.coords t) x * _ + _ = _
  rw [(at_in t).2.2.1]
  match x with
  | ⟨0, _⟩ => show 0 * 4 + k.val = k.val; omega
  | ⟨1, _⟩ => exact ((((cfg0.win 6).rect_emb_val t (ix2 a b) (0 : Fin 2)).trans (congrArg (· * 16 + a.val) (congrFun (at_out t).2.2.1 (0 : Fin 2))))).symm
  | ⟨2, _⟩ => exact ((((cfg0.win 6).rect_emb_val t (ix2 a b) (1 : Fin 2)).trans (congrArg (· * 1024 + b.val) (congrFun (at_out t).2.2.1 (1 : Fin 2))))).symm)

/-- Where an element of a block lies in the fourth array. -/
theorem emb3 (t : Fin cfg0.N) (k : Fin 4) (a : Fin 16) (b : Fin 256) : ((cfg0.win 3).rect t).emb (ix3 k a b)
    = (ix3 k (((cfg0.win 7).rect t).emb (ix2 a b) (0 : Fin 2)) (((cfg0.win 7).rect t).emb (ix2 a b) (1 : Fin 2)) : S4x128x256.Idx) := funext fun x => Fin.ext (by
  refine ((cfg0.win 3).rect_emb_val t (ix3 k a b) x).trans ?_
  show cc0_transform_3 (grid0.coords t) x * _ + _ = _
  rw [(at_in t).2.2.2]
  match x with
  | ⟨0, _⟩ => show 0 * 4 + k.val = k.val; omega
  | ⟨1, _⟩ => exact ((((cfg0.win 7).rect_emb_val t (ix2 a b) (0 : Fin 2)).trans (congrArg (· * 16 + a.val) (congrFun (at_out t).2.2.2 (0 : Fin 2))))).symm
  | ⟨2, _⟩ => exact ((((cfg0.win 7).rect_emb_val t (ix2 a b) (1 : Fin 2)).trans (congrArg (· * 256 + b.val) (congrFun (at_out t).2.2.2 (1 : Fin 2))))).symm)

section
variable (m : (ℓ : Loc nD τ sig) → Buf (Elt Ideal) ℓ) (c : Dev nD)

/-! ### The launch's arrays: the sums of the chips' parts -/

theorem arr4 : (dats m 0 c).arrAt 4 cfg0.N = total (φ := .bf16) (V m c main_arg0) := by
  refine (dats m 0 c).arrAt_eq_of_covers 4 _ (by decide +kernel) fun t hf y => ?_
  obtain ⟨a, b, rfl⟩ : ∃ (a : Fin 64) (b : Fin 1672), y = ix2 a b := ⟨y 0, y 1, pair _⟩
  show (dats m 0 c).after 4 t (ix2 a b) = total (φ := .bf16) (V m c main_arg0) (((cfg0.win 4).rect t).emb (ix2 a b))
  rw [after0_4]
  unfold out0_4
  rw [View.canon_unit_zero zeros]
  exact four (iblk m c 0 t : FVec Ideal S4x64x1672 .bf16) _ _ _ _ _ _ a b _ fun k => congrArg (V m c main_arg0) (emb0 t k a b)

theorem arr5 : (dats m 0 c).arrAt 5 cfg0.N = total (φ := .bf16) (V m c main_arg1) := by
  refine (dats m 0 c).arrAt_eq_of_covers 5 _ (by decide +kernel) fun t hf y => ?_
  obtain ⟨a, b, rfl⟩ : ∃ (a : Fin 32) (b : Fin 1024), y = ix2 a b := ⟨y 0, y 1, pair _⟩
  show (dats m 0 c).after 5 t (ix2 a b) = total (φ := .bf16) (V m c main_arg1) (((cfg0.win 5).rect t).emb (ix2 a b))
  rw [after0_5]
  unfold out0_5
  rw [View.canon_unit_zero zeros]
  exact four (iblk m c 1 t : FVec Ideal S4x32x1024 .bf16) _ _ _ _ _ _ a b _ fun k => congrArg (V m c main_arg1) (emb1 t k a b)

theorem arr6 : (dats m 0 c).arrAt 6 cfg0.N = total (φ := .bf16) (V m c main_arg2) := by
  refine (dats m 0 c).arrAt_eq_of_covers 6 _ (by decide +kernel) fun t hf y => ?_
  obtain ⟨a, b, rfl⟩ : ∃ (a : Fin 16) (b : Fin 1024), y = ix2 a b := ⟨y 0, y 1, pair _⟩
  show (dats m 0 c).after 6 t (ix2 a b) = total (φ := .bf16) (V m c main_arg2) (((cfg0.win 6).rect t).emb (ix2 a b))
  rw [after0_6]
  unfold out0_6
  rw [View.canon_unit_zero zeros]
  exact four (iblk m c 2 t : FVec Ideal S4x16x1024 .bf16) _ _ _ _ _ _ a b _ fun k => congrArg (V m c main_arg2) (emb2 t k a b)

theorem arr7 : (dats m 0 c).arrAt 7 cfg0.N = total (φ := .bf16) (V m c main_arg3) := by
  refine (dats m 0 c).arrAt_eq_of_covers 7 _ (by decide +kernel) fun t hf y => ?_
  obtain ⟨a, b, rfl⟩ : ∃ (a : Fin 16) (b : Fin 256), y = ix2 a b := ⟨y 0, y 1, pair _⟩
  show (dats m 0 c).after 7 t (ix2 a b) = total (φ := .bf16) (V m c main_arg3) (((cfg0.win 7).rect t).emb (ix2 a b))
  rw [after0_7]
  unfold out0_7
  rw [View.canon_unit_zero zeros]
  exact four (iblk m c 3 t : FVec Ideal S4x16x256 .bf16) _ _ _ _ _ _ a b _ fun k => congrArg (V m c main_arg3) (emb3 t k a b)

end

/-! ## The reference -/

open Cert.Reference13Ideal.Read

/-! Each of its sums, from zero, is the sum of the stack's members. -/

theorem ref1 (x : FVec Ideal S4x512x1672 .bf16) : val_main_v1 (F := Ideal) x = total x := funext fun i =>
  (val_main_v1_apply x i).trans ((congrArg (· + _) (show val_main_cst (F := Ideal) _ = 0 from Ideal.ofBits_zero_f32)).trans ((zero_add _).trans
    (Finset.sum_congr rfl fun k _ => congrArg x (triple _))))

theorem ref3 (x : FVec Ideal S4x256x1024 .bf16) : val_main_v3 (F := Ideal) x = total x := funext fun i =>
  (val_main_v3_apply x i).trans ((congrArg (· + _) (show val_main_cst_0 (F := Ideal) _ = 0 from Ideal.ofBits_zero_f32)).trans ((zero_add _).trans
    (Finset.sum_congr rfl fun k _ => congrArg x (triple _))))

theorem ref5 (x : FVec Ideal S4x128x1024 .bf16) : val_main_v5 (F := Ideal) x = total x := funext fun i =>
  (val_main_v5_apply x i).trans ((congrArg (· + _) (show val_main_cst_1 (F := Ideal) _ = 0 from Ideal.ofBits_zero_f32)).trans ((zero_add _).trans
    (Finset.sum_congr rfl fun k _ => congrArg x (triple _))))

theorem ref7 (x : FVec Ideal S4x128x256 .bf16) : val_main_v7 (F := Ideal) x = total x := funext fun i =>
  (val_main_v7_apply x i).trans ((congrArg (· + _) (show val_main_cst_2 (F := Ideal) _ = 0 from Ideal.ofBits_zero_f32)).trans ((zero_add _).trans
    (Finset.sum_congr rfl fun k _ => congrArg x (triple _))))

/-- The frame of the reference: every execution ends, the arguments unchanged; it has no semaphore. -/
theorem frame_ref : Cert.quiescent_Reference13Ideal (hReference13Ideal := Cert.Reference13Ideal.Gen.facts) := fun m g _ =>
  (θ_run _ _ _).mono (fun r h => ⟨fun c => (h c).2.2.2.2, sem_eq_zero_of_no_sems rfl r.2⟩) (Cert.Reference13Ideal.Value.run m g)

/-- Both programs end with equal results, whose common values are the kernel's arrays. -/
theorem algebraic : Cert.algebraic_Kernel13Ideal_Reference13Ideal (hKernel13Ideal := Cert.Kernel13Ideal.Gen.facts)
    (hReference13Ideal := Cert.Reference13Ideal.Gen.facts) := by
  intro m g m' g' _ harg
  refine ⟨_, _, _, _, Value.run_blocks m g, ?_⟩
  refine (θ_run _ _ _).mono (fun r h c => ?_) (Cert.Reference13Ideal.Value.run m' g')
  obtain ⟨r0, r1, r2, r3, hr⟩ := h c
  obtain ⟨e0, e1, e2, e3⟩ := harg c
  refine ⟨r0.trans ((val_main_v1_eq _).trans ?_), r1.trans ((val_main_v3_eq _).trans ?_), r2.trans ((val_main_v5_eq _).trans ?_),
    r3.trans ((val_main_v7_eq _).trans ?_), hr⟩
  · rw [e0]
    exact (ref1 _).trans (arr4 m c).symm
  · rw [e1]
    exact (ref3 _).trans (arr5 m c).symm
  · rw [e2]
    exact (ref5 _).trans (arr6 m c).symm
  · rw [e3]
    exact (ref7 _).trans (arr7 m c).symm

end Cert.Kernel13Ideal.Update

end
-- ==== Proof.lean ====
module

public import proofs.«01_k».proof.Defs
public import proofs.«01_k».proof.Proof.Kernel.Frame
public import proofs.«01_k».proof.Proof.KernelIdeal.Run
public import proofs.«01_k».proof.Proof.Ref.Base
public import proofs.«01_k».proof.Proof.Algebraic
public import proofs.«01_k».proof.Proof.Product.Rows1024x1024
public import proofs.«01_k».proof.Proof.Product.Rows2048x1024
public import proofs.«01_k».proof.Proof.Product.Rows1024x1536
public import proofs.«01_k».proof.Proof.Product.Rows256x1024
public import proofs.«01_k».proof.Proof.Product.Rows1024x128
public import proofs.«01_k».proof.Proof.Input.Forward
public import proofs.«01_k».proof.Proof.Input.Backward
public import proofs.«01_k».proof.Proof.Forget.Sums
public import proofs.«01_k».proof.Proof.Forget.Backward
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Update.Conv
public import proofs.«01_k».proof.Proof.Update.Small
public import proofs.«01_k».proof.Proof.Update.Parts
public import proofs.«01_k».proof.Proof.Gen.Pre_finite
public import Idealize.ShloMosaic.Adequacy
public import Idealize.ShloMosaic.Init

@[expose] public section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.Gen.facts,
    fun m g _ => Cert.Kernel.Att.frame m g, fun m g _ => Cert.KernelIdeal.Att.frame m g, fun m g _ => Cert.KernelIdeal.Att.frame m g,
    fun m g _ => Cert.ReferenceIdeal.Att.frame m g, fun m g _ => Cert.ReferenceIdeal.Att.frame m g,
    fun m g _ => Cert.Kernel2.Gen.frame m g, fun m g _ => Cert.Kernel2Ideal.Gen.frame m g, Cert.Kernel2Ideal.Product.frame_ref,
    fun m g _ => Cert.Kernel3.Gen.frame m g, fun m g _ => Cert.Kernel3Ideal.Gen.frame m g, Cert.Kernel3Ideal.Product.frame_ref,
    fun m g _ => Cert.Kernel4.Gen.frame m g, fun m g _ => Cert.Kernel4Ideal.Gen.frame m g, Cert.Kernel4Ideal.Product.frame_ref,
    fun m g _ => Cert.Kernel5.Gen.frame m g, fun m g _ => Cert.Kernel5Ideal.Gen.frame m g, Cert.Kernel5Ideal.Product.frame_ref,
    fun m g _ => Cert.Kernel6.Gen.frame m g, fun m g _ => Cert.Kernel6Ideal.Gen.frame m g, Cert.Kernel6Ideal.Product.frame_ref,
    fun m g _ => Cert.Kernel7.Gen.frame m g, fun m g _ => Cert.Kernel7Ideal.Gen.frame m g, Cert.Kernel7Ideal.Input.frame_ref,
    fun m g _ => Cert.Kernel8.Gen.frame m g, fun m g _ => Cert.Kernel8Ideal.Gen.frame m g, Cert.Kernel8Ideal.Input.frame_ref,
    fun m g _ => Cert.Kernel9.Gen.frame m g, fun m g _ => Cert.Kernel9Ideal.Gen.frame m g, Cert.Kernel9Ideal.Forget.frame_ref,
    fun m g _ => Cert.Kernel10.Gen.frame m g, fun m g _ => Cert.Kernel10Ideal.Gen.frame m g, Cert.Kernel10Ideal.Forget.frame_ref,
    fun m g _ => Cert.Kernel11.Gen.frame m g, fun m g _ => Cert.Kernel11Ideal.Gen.frame m g, Cert.Kernel11Ideal.Update.frame_ref,
    fun m g _ => Cert.Kernel12.Gen.frame m g, fun m g _ => Cert.Kernel12Ideal.Gen.frame m g, Cert.Kernel12Ideal.Update.frame_ref,
    fun m g _ => Cert.Kernel13.Gen.frame m g, fun m g _ => Cert.Kernel13Ideal.Gen.frame m g, Cert.Kernel13Ideal.Update.frame_ref,
    IdealRules.named_const.statement Cert.KernelIdeal.κ "mask" .f32 0xF149F2CA#32 ⊥ rfl, Cert.Att.algebraic,
    trivial, Cert.Kernel2Ideal.Product.algebraic,
    trivial, Cert.Kernel3Ideal.Product.algebraic,
    trivial, Cert.Kernel4Ideal.Product.algebraic,
    trivial, Cert.Kernel5Ideal.Product.algebraic,
    trivial, Cert.Kernel6Ideal.Product.algebraic,
    trivial, Cert.Kernel7Ideal.Input.algebraic,
    trivial, Cert.Kernel8Ideal.Input.algebraic,
    trivial, Cert.Kernel9Ideal.Forget.algebraic,
    trivial, Cert.Kernel10Ideal.Forget.algebraic,
    trivial, Cert.Kernel11Ideal.Update.algebraic,
    trivial, Cert.Kernel12Ideal.Update.algebraic,
    trivial, Cert.Kernel13Ideal.Update.algebraic⟩

end Cert.Proof

end
